-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def preserves_Kernel_KernelIdeal : Prop :=
  IdealRules.named_const.Statement Cert.KernelIdeal.κ "scale_log2" .f32 0x3E16C740#32 (((3424635 / 33554432) * (Real.log 2)⁻¹ : ℝ) : EReal)
  ∧ IdealRules.named_const.Statement Cert.KernelIdeal.κ "neg" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v51_0)) (v1 : (c : Dev Cert.KernelIdeal.nD) → Buf (Elt Ideal) ((c.tc : Thread Cert.KernelIdeal.nD Cert.KernelIdeal.τ).loc Cert.KernelIdeal.main_v51_1)) (v2 : (c : Dev Cert.KernelIdeal.nD) → Buf (Elt Ideal) ((c.tc : Thread Cert.KernelIdeal.nD Cert.KernelIdeal.τ).loc Cert.KernelIdeal.main_v51_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51_0) = v0 c
          ∧ r.2.mem ((c.tc : Thread Cert.KernelIdeal.nD Cert.KernelIdeal.τ).loc Cert.KernelIdeal.main_v51_1) = v1 c
          ∧ r.2.mem ((c.tc : Thread Cert.KernelIdeal.nD Cert.KernelIdeal.τ).loc Cert.KernelIdeal.main_v51_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)) (v3 : (c : Dev Cert.Kernel2Ideal.nD) → Buf (Elt Ideal) ((c.tc : Thread Cert.Kernel2Ideal.nD Cert.Kernel2Ideal.τ).loc Cert.Kernel2Ideal.main_v4_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_v4_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v69) = v0 c
          ∧ r.2.mem ((c.tc : Thread Cert.Reference2Ideal.nD Cert.Reference2Ideal.τ).loc Cert.Reference2Ideal.main_v70) = v1 c
          ∧ r.2.mem ((c.tc : Thread Cert.Reference2Ideal.nD Cert.Reference2Ideal.τ).loc Cert.Reference2Ideal.main_v71) = v2 c
          ∧ r.2.mem ((c.tc : Thread Cert.Reference2Ideal.nD Cert.Reference2Ideal.τ).loc Cert.Reference2Ideal.main_v72) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)) (v3 : (c : Dev Cert.Kernel6Ideal.nD) → Buf (Elt Ideal) ((c.tc : Thread Cert.Kernel6Ideal.nD Cert.Kernel6Ideal.τ).loc Cert.Kernel6Ideal.main_v4_3)) (v4 : (c : Dev Cert.Kernel6Ideal.nD) → Buf (Elt Ideal) ((c.tc : Thread Cert.Kernel6Ideal.nD Cert.Kernel6Ideal.τ).loc Cert.Kernel6Ideal.main_v4_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_v4_3) = v3 c
          ∧ r.2.mem ((c.tc : Thread Cert.Kernel6Ideal.nD Cert.Kernel6Ideal.τ).loc Cert.Kernel6Ideal.main_v4_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v80) = v0 c
          ∧ r.2.mem ((c.tc : Thread Cert.Reference6Ideal.nD Cert.Reference6Ideal.τ).loc Cert.Reference6Ideal.main_v81) = v1 c
          ∧ r.2.mem ((c.tc : Thread Cert.Reference6Ideal.nD Cert.Reference6Ideal.τ).loc Cert.Reference6Ideal.main_v82) = v2 c
          ∧ r.2.mem ((c.tc : Thread Cert.Reference6Ideal.nD Cert.Reference6Ideal.τ).loc Cert.Reference6Ideal.main_v83) = v3 c
          ∧ r.2.mem ((c.tc : Thread Cert.Reference6Ideal.nD Cert.Reference6Ideal.τ).loc Cert.Reference6Ideal.main_v84) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v20)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v20) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v8)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel9 : Cert.Kernel9.Facts) (hKernel9Ideal : Cert.Kernel9Ideal.Facts) (hReference9Ideal : Cert.Reference9Ideal.Facts) (hPre_finite : Cert.Pre_finite.Facts) (hPre_finite2 : Cert.Pre_finite2.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel9_Kernel9Ideal
    ∧ algebraic_Kernel9Ideal_Reference9Ideal (hKernel9Ideal := hKernel9Ideal) (hReference9Ideal := hReference9Ideal)
-- ==== Pre_finite.lean ====
abbrev S4096x8x96 : Shape := ⟨3, ![4096, 8, 96]⟩
abbrev S4096x8x64 : Shape := ⟨3, ![4096, 8, 64]⟩
abbrev S_ : Shape := ⟨0, ![]⟩

class Facts : Prop where
  bcast_S_S4096x8x96 : S_.BroadcastsInDim S4096x8x96 (![] : Fin 0 → Fin S4096x8x96.rank)
  reducesTo_S4096x8x96_S_d0_1_2 : S4096x8x96.ReducesTo [0, 1, 2] S_
  h_S_ : 0 < S_.numel
  bcast_S_S4096x8x64 : S_.BroadcastsInDim S4096x8x64 (![] : Fin 0 → Fin S4096x8x64.rank)
  reducesTo_S4096x8x64_S_d0_1_2 : S4096x8x64.ReducesTo [0, 1, 2] S_

variable [Facts]

def fn_part1 {F : FTy → Type} [FloatOps F] (main_v13 : IVec S_ 1) (main_v16 : IVec S4096x8x64 1) : IVec S_ 1 :=
  let main_c_5 : IVec S_ 1 := constantI S_ 1 1#1
  let main_v17 : IVec S_ 1 := (fun x v => Host.reduce IntOp.andi x v reducesTo_S4096x8x64_S_d0_1_2 h_S_) main_v16 main_c_5
  let main_v18 : IVec S_ 1 := andi main_v13 main_v17
  main_v18

def fn {F : FTy → Type} [FloatOps F] (main_arg0 : FVec F S4096x8x96 .f32) (main_arg1 : FVec F S4096x8x96 .f32) (main_arg2 : FVec F S4096x8x64 .f32) (main_arg3 : FVec F S4096x8x64 .f32) : IVec S_ 1 :=
  let main_v0 : FVec F S4096x8x96 .f32 := Host.absf main_arg0
  let main_cst : FVec F S_ .f32 := constant S_ .f32 0x7F800000#32
  let main_v1 : FVec F S4096x8x96 .f32 := broadcastInDim S4096x8x96 ![] bcast_S_S4096x8x96 main_cst
  let main_v2 : IVec S4096x8x96 1 := cmpf .olt main_v0 main_v1
  let main_c : IVec S_ 1 := constantI S_ 1 1#1
  let main_v3 : IVec S_ 1 := (fun x v => Host.reduce IntOp.andi x v reducesTo_S4096x8x96_S_d0_1_2 h_S_) main_v2 main_c
  let main_v4 : FVec F S4096x8x96 .f32 := Host.absf main_arg1
  let main_cst_0 : FVec F S_ .f32 := constant S_ .f32 0x7F800000#32
  let main_v5 : FVec F S4096x8x96 .f32 := broadcastInDim S4096x8x96 ![] bcast_S_S4096x8x96 main_cst_0
  let main_v6 : IVec S4096x8x96 1 := cmpf .olt main_v4 main_v5
  let main_c_1 : IVec S_ 1 := constantI S_ 1 1#1
  let main_v7 : IVec S_ 1 := (fun x v => Host.reduce IntOp.andi x v reducesTo_S4096x8x96_S_d0_1_2 h_S_) main_v6 main_c_1
  let main_v8 : IVec S_ 1 := andi main_v3 main_v7
  let main_v9 : FVec F S4096x8x64 .f32 := Host.absf main_arg2
  let main_cst_2 : FVec F S_ .f32 := constant S_ .f32 0x7F800000#32
  let main_v10 : FVec F S4096x8x64 .f32 := broadcastInDim S4096x8x64 ![] bcast_S_S4096x8x64 main_cst_2
  let main_v11 : IVec S4096x8x64 1 := cmpf .olt main_v9 main_v10
  let main_c_3 : IVec S_ 1 := constantI S_ 1 1#1
  let main_v12 : IVec S_ 1 := (fun x v => Host.reduce IntOp.andi x v reducesTo_S4096x8x64_S_d0_1_2 h_S_) main_v11 main_c_3
  let main_v13 : IVec S_ 1 := andi main_v8 main_v12
  let main_v14 : FVec F S4096x8x64 .f32 := Host.absf main_arg3
  let main_cst_4 : FVec F S_ .f32 := constant S_ .f32 0x7F800000#32
  let main_v15 : FVec F S4096x8x64 .f32 := broadcastInDim S4096x8x64 ![] bcast_S_S4096x8x64 main_cst_4
  let main_v16 : IVec S4096x8x64 1 := cmpf .olt main_v14 main_v15
  fn_part1 (F := F) main_v13 main_v16
-- ==== Pre_finite2.lean ====
abbrev S4096x5632 : Shape := ⟨2, ![4096, 5632]⟩
abbrev S1024x5632 : Shape := ⟨2, ![1024, 5632]⟩
abbrev S4096x1024 : Shape := ⟨2, ![4096, 1024]⟩
abbrev S1024 : Shape := ⟨1, ![1024]⟩
abbrev S_ : Shape := ⟨0, ![]⟩

class Facts : Prop where
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4096x5632 .f32) (main_arg1 : FVec F S1024x5632 .f32) (main_arg2 : FVec F S4096x1024 .f32) (main_arg3 : FVec F S4096x1024 .f32) (main_arg4 : FVec F S1024 .f32) : IVec S_ 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_c : IVec S_ 1 := constantI S_ 1 1#1
  let main_v3 : IVec S_ 1 := (fun x v => Host.reduce IntOp.andi x v reducesTo_S4096x5632_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Pre_finite6.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4096x2816 .f32) (main_arg1 : FVec F S2816x1024 .f32) (main_arg2 : FVec F S4096x1024 .f32) (main_arg3 : FVec F S4096x1024 .f32) (main_arg4 : FVec F S1024 .f32) (main_arg5 : FVec F S1024 .f32) : IVec S_ 1 :=
  let main_v0 : FVec F S4096x1024 .f32 := Host.absf main_arg3
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg4
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg5
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S4096x8x96 : Shape := ⟨3, ![4096, 8, 96]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S8x4096x64 : Shape := ⟨3, ![8, 4096, 64]⟩
abbrev S8x4096x128 : Shape := ⟨3, ![8, 4096, 128]⟩
abbrev S8x4096x96 : Shape := ⟨3, ![8, 4096, 96]⟩
abbrev S1x4096x128 : Shape := ⟨3, ![1, 4096, 128]⟩
abbrev S1024x128 : Shape := ⟨2, ![1024, 128]⟩
abbrev S4096x128 : Shape := ⟨2, ![4096, 128]⟩
abbrev S1x1024x128 : Shape := ⟨3, ![1, 1024, 128]⟩
abbrev S1024 : Shape := ⟨1, ![1024]⟩
abbrev S1024x1 : Shape := ⟨2, ![1024, 1]⟩
abbrev S1x256x128 : Shape := ⟨3, ![1, 256, 128]⟩
abbrev S256x128 : Shape := ⟨2, ![256, 128]⟩
abbrev S256x256 : Shape := ⟨2, ![256, 256]⟩
abbrev S512x128 : Shape := ⟨2, ![512, 128]⟩
abbrev S256x512 : Shape := ⟨2, ![256, 512]⟩
abbrev S768x128 : Shape := ⟨2, ![768, 128]⟩
abbrev S256x768 : Shape := ⟨2, ![256, 768]⟩
abbrev S256x1024 : Shape := ⟨2, ![256, 1024]⟩
abbrev S1x256x1 : Shape := ⟨3, ![1, 256, 1]⟩
abbrev S256x1 : Shape := ⟨2, ![256, 1]⟩
abbrev S1x512x128 : Shape := ⟨3, ![1, 512, 128]⟩
abbrev S512x1024 : Shape := ⟨2, ![512, 1024]⟩
abbrev S1x512x1 : Shape := ⟨3, ![1, 512, 1]⟩
abbrev S512x1 : Shape := ⟨2, ![512, 1]⟩

abbrev nBuf : Space → Nat
  | .hbm => 79
  | .vmem => 21
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x8x64, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S4096, .i32⟩
  | .hbm, ⟨9, _⟩ => ⟨S4096x1, .i32⟩
  | .hbm, ⟨10, _⟩ => ⟨S1x4096, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S1x4096x4096, .i1⟩
  | .hbm, ⟨15, _⟩ => ⟨S_, .f32⟩
  | .hbm, ⟨16, _⟩ => ⟨S_, .f32⟩
  | .hbm, ⟨17, _⟩ => ⟨S8x4096x4096, .i1⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096, .f32⟩
  | .hbm, ⟨22, _⟩ => ⟨S_, .f32⟩
  | .hbm, ⟨23, _⟩ => ⟨S8x4096, .f32⟩
  | .hbm, ⟨24, _⟩ => ⟨S8x4096, .f32⟩
  | .hbm, ⟨25, _⟩ => ⟨S8x4096x1, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S_, .f32⟩
  | .hbm, ⟨30, _⟩ => ⟨S8x4096, .f32⟩
  | .hbm, ⟨31, _⟩ => ⟨S8x4096x1, .f32⟩
  | .hbm, ⟨32, _⟩ => ⟨S8x4096x4096, .f32⟩
  | .hbm, ⟨33, _⟩ => ⟨S8x4096x4096, .f32⟩
  | .hbm, ⟨34, _⟩ => ⟨S8x64x4096, .f32⟩
  | .hbm, ⟨35, _⟩ => ⟨S4096x8x64, .f32⟩
  | .hbm, ⟨36, _⟩ => ⟨S8x4096x64, .f32⟩
  | .hbm, ⟨37, _⟩ => ⟨S_, .i32⟩
  | .hbm, ⟨38, _⟩ => ⟨S_, .f32⟩
  | .hbm, ⟨39, _⟩ => ⟨S8x4096x128, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S8x4096x4096, .f32⟩
  | .hbm, ⟨44, _⟩ => ⟨S8x4096x4096, .f32⟩
  | .hbm, ⟨45, _⟩ => ⟨S8x4096x4096, .f32⟩
  | .hbm, ⟨46, _⟩ => ⟨S_, .f32⟩
  | .hbm, ⟨47, _⟩ => ⟨S8x4096, .f32⟩
  | .hbm, ⟨48, _⟩ => ⟨S8x4096x1, .f32⟩
  | .hbm, ⟨49, _⟩ => ⟨S8x4096x1, .f32⟩
  | .hbm, ⟨50, _⟩ => ⟨S8x4096x1, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S8x4096x1, .f32⟩
  | .hbm, ⟨55, _⟩ => ⟨S8x4096x1, .f32⟩
  | .hbm, ⟨56, _⟩ => ⟨S8x4096x128, .f32⟩
  | .hbm, ⟨57, _⟩ => ⟨S8x4096x96, .f32⟩
  | .hbm, ⟨58, _⟩ => ⟨S_, .i32⟩
  | .hbm, ⟨59, _⟩ => ⟨S_, .f32⟩
  | .hbm, ⟨60, _⟩ => ⟨S8x4096x128, .f32⟩
  | .hbm, ⟨61, _⟩ => ⟨S8x4096x128, .bf16⟩
  | .hbm, ⟨62, _⟩ => ⟨S8x4096x96, .f32⟩
  | .hbm, ⟨63, _⟩ => ⟨S_, .i32⟩
  | .hbm, ⟨64, _⟩ => ⟨S_, .f32⟩
  | .hbm, ⟨65, _⟩ => ⟨S8x4096x128, .f32⟩
  | .hbm, ⟨66, _⟩ => ⟨S8x4096x128, .bf16⟩
  | .hbm, ⟨67, _⟩ => ⟨S8x4096x64, .f32⟩
  | .hbm, ⟨68, _⟩ => ⟨S_, .i32⟩
  | .hbm, ⟨69, _⟩ => ⟨S_, .f32⟩
  | .hbm, ⟨70, _⟩ => ⟨S8x4096x128, .f32⟩
  | .hbm, ⟨71, _⟩ => ⟨S8x4096x128, .bf16⟩
  | .hbm, ⟨72, _⟩ => ⟨S8x4096x64, .f32⟩
  | .hbm, ⟨73, _⟩ => ⟨S_, .i32⟩
  | .hbm, ⟨74, _⟩ => ⟨S_, .f32⟩
  | .hbm, ⟨75, _⟩ => ⟨S8x4096x128, .f32⟩
  | .hbm, ⟨76, _⟩ => ⟨S8x4096x128, .f32⟩
  | .hbm, ⟨77, _⟩ => ⟨S8x4096x128, .f32⟩
  | .hbm, ⟨78, _⟩ => ⟨S8x4096x128, .f32⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .f32⟩
  | .local _ .vmem, ⟨7, _⟩ => ⟨S1x4096x128, .f32⟩
  | .local _ .vmem, ⟨8, _⟩ => ⟨S1x4096x128, .f32⟩
  | .local _ .vmem, ⟨9, _⟩ => ⟨S1x4096x128, .f32⟩
  | .local _ .vmem, ⟨10, _⟩ => ⟨S1x4096x128, .f32⟩
  | .local _ .vmem, ⟨11, _⟩ => ⟨S1x4096x128, .f32⟩
  | .local _ .vmem, ⟨12, _⟩ => ⟨S1x4096x128, .f32⟩
  | .local _ .vmem, ⟨13, _⟩ => ⟨S1x4096x128, .f32⟩
  | .local _ .vmem, ⟨14, _⟩ => ⟨S1x4096x128, .f32⟩
  | .local _ .vmem, ⟨15, _⟩ => ⟨S1x4096x128, .f32⟩
  | .local _ .vmem, ⟨16, _⟩ => ⟨S1x4096x128, .f32⟩
  | .local _ .vmem, ⟨17, _⟩ => ⟨S1x4096x128, .f32⟩
  | .local _ .vmem, ⟨18, _⟩ => ⟨S4096x1, .f32⟩
  | .local _ .vmem, ⟨19, _⟩ => ⟨S1024x128, .f32⟩
  | .local _ .vmem, ⟨20, _⟩ => ⟨S1024x128, .f32⟩
  | _, _ => ⟨S4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c : Ref sig .tc := ⟨.hbm, 37, rfl⟩
abbrev main_call1_v0 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_7 : Ref sig .tc := ⟨.hbm, 58, rfl⟩
abbrev main_call2_v0 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_8 : Ref sig .tc := ⟨.hbm, 63, rfl⟩
abbrev main_call3_v0 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_call4_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_call5_v0 : Ref sig .tc := ⟨.hbm, 74, rfl⟩
abbrev main_v50 : Ref sig .tc := ⟨.hbm, 75, rfl⟩
abbrev main_v51_0 : Ref sig .tc := ⟨.hbm, 76, rfl⟩
abbrev main_v51_1 : Ref sig .tc := ⟨.hbm, 77, rfl⟩
abbrev main_v51_2 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c1024_i32 : BitVec 32 := 1024#32
  let v6 : BitVec 32 := Scalar.muli arg13 c1024_i32
  v6
def k0_off1 (k0_t1 : Fin k0_t1_loop.trips) : Fin 3 → Nat :=
  let c0_7 : Index := 0#32
  let c0_i32 : BitVec 32 := 0#32
  let c1_i32 : BitVec 32 := 1#32
  let arg13 : BitVec 32 := Scf.iv c0_i32 c1_i32 k0_t1
  let c1024_i32 : BitVec 32 := 1024#32
  let v6 : BitVec 32 := Scalar.muli arg13 c1024_i32
  let v7 : BitVec 32 := v6
  let v8 : Index := Scalar.indexCast v7
  let c0_8 : Index := 0#32
  ![0, v8.toNat, 0]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c1024_i32 : BitVec 32 := 1024#32
  let v6 : BitVec 32 := Scalar.muli arg13 c1024_i32
  let v7 : BitVec 32 := v6
  let v17 : Index := Scalar.indexCast v7
  let c0_12 : Index := 0#32
  ![v17.toNat, 0]
@[reducible] def k0_t2_loop : Scf.Loop 32 :=
  let c0_i32_3 : BitVec 32 := 0#32
  let c4_i32_4 : BitVec 32 := 4#32
  let v5 : BitVec 32 := Scalar.addi c0_i32_3 c4_i32_4
  let c1_i32_5 : BitVec 32 := 1#32
  ⟨c0_i32_3, v5, c1_i32_5⟩
def k0_mult2 (k0_t2 : Fin k0_t2_loop.trips) : BitVec 32 :=
  let c0_i32_3 : BitVec 32 := 0#32
  let c1_i32_5 : BitVec 32 := 1#32
  let arg13 : BitVec 32 := Scf.iv c0_i32_3 c1_i32_5 k0_t2
  let c1024_i32 : BitVec 32 := 1024#32
  let v6 : BitVec 32 := Scalar.muli arg13 c1024_i32
  v6
def k0_off3 (k0_t2 : Fin k0_t2_loop.trips) : Fin 3 → Nat :=
  let c0_7 : Index := 0#32
  let c0_i32_3 : BitVec 32 := 0#32
  let c1_i32_5 : BitVec 32 := 1#32
  let arg13 : BitVec 32 := Scf.iv c0_i32_3 c1_i32_5 k0_t2
  let c1024_i32 : BitVec 32 := 1024#32
  let v6 : BitVec 32 := Scalar.muli arg13 c1024_i32
  let v7 : BitVec 32 := v6
  let v8 : Index := Scalar.indexCast v7
  let c0_8 : Index := 0#32
  ![0, v8.toNat, 0]
def k0_mult3 (k0_t2 : Fin k0_t2_loop.trips) : BitVec 32 :=
  let c0_i32_3 : BitVec 32 := 0#32
  let c1_i32_5 : BitVec 32 := 1#32
  let arg13 : BitVec 32 := Scf.iv c0_i32_3 c1_i32_5 k0_t2
  let c1024_i32_17 : BitVec 32 := 1024#32
  let v22 : BitVec 32 := Scalar.muli arg13 c1024_i32_17
  let c0_i32_18 : BitVec 32 := 0#32
  let v23 : BitVec 32 := Scalar.addi v22 c0_i32_18
  v23
def k0_mult4 (k0_t2 : Fin k0_t2_loop.trips) : BitVec 32 :=
  let c0_i32_3 : BitVec 32 := 0#32
  let c1_i32_5 : BitVec 32 := 1#32
  let arg13 : BitVec 32 := Scf.iv c0_i32_3 c1_i32_5 k0_t2
  let c1024_i32_19 : BitVec 32 := 1024#32
  let v25 : BitVec 32 := Scalar.muli arg13 c1024_i32_19
  let c256_i32 : BitVec 32 := 256#32
  let v26 : BitVec 32 := Scalar.addi v25 c256_i32
  v26
def k0_mult5 (k0_t2 : Fin k0_t2_loop.trips) : BitVec 32 :=
  let c0_i32_3 : BitVec 32 := 0#32
  let c1_i32_5 : BitVec 32 := 1#32
  let arg13 : BitVec 32 := Scf.iv c0_i32_3 c1_i32_5 k0_t2
  let c1024_i32_20 : BitVec 32 := 1024#32
  let v28 : BitVec 32 := Scalar.muli arg13 c1024_i32_20
  let c512_i32 : BitVec 32 := 512#32
  let v29 : BitVec 32 := Scalar.addi v28 c512_i32
  v29
def k0_mult6 (k0_t2 : Fin k0_t2_loop.trips) : BitVec 32 :=
  let c0_i32_3 : BitVec 32 := 0#32
  let c1_i32_5 : BitVec 32 := 1#32
  let arg13 : BitVec 32 := Scf.iv c0_i32_3 c1_i32_5 k0_t2
  let c1024_i32_21 : BitVec 32 := 1024#32
  let v31 : BitVec 32 := Scalar.muli arg13 c1024_i32_21
  let c768_i32 : BitVec 32 := 768#32
  let v32 : BitVec 32 := Scalar.addi v31 c768_i32
  v32
def k0_off4 (k0_t2 : Fin k0_t2_loop.trips) (c0_i32_18 : BitVec 32) : Fin 3 → Nat :=
  let c0_22 : Index := 0#32
  let c0_i32_3 : BitVec 32 := 0#32
  let c1_i32_5 : BitVec 32 := 1#32
  let arg13 : BitVec 32 := Scf.iv c0_i32_3 c1_i32_5 k0_t2
  let c1024_i32_17 : BitVec 32 := 1024#32
  let v22 : BitVec 32 := Scalar.muli arg13 c1024_i32_17
  let v23 : BitVec 32 := Scalar.addi v22 c0_i32_18
  let v24 : BitVec 32 := v23
  let v34 : Index := Scalar.indexCast v24
  let c0_23 : Index := 0#32
  ![0, v34.toNat, 0]
def k0_off5 (k0_t2 : Fin k0_t2_loop.trips) (c0_i32_18 : BitVec 32) : Fin 3 → Nat :=
  let c0_52 : Index := 0#32
  let c0_i32_3 : BitVec 32 := 0#32
  let c1_i32_5 : BitVec 32 := 1#32
  let arg13 : BitVec 32 := Scf.iv c0_i32_3 c1_i32_5 k0_t2
  let c1024_i32_17 : BitVec 32 := 1024#32
  let v22 : BitVec 32 := Scalar.muli arg13 c1024_i32_17
  let v23 : BitVec 32 := Scalar.addi v22 c0_i32_18
  let v24 : BitVec 32 := v23
  let v91 : Index := Scalar.indexCast v24
  let c0_53 : Index := 0#32
  ![0, v91.toNat, 0]
def k0_off6 (k0_t2 : Fin k0_t2_loop.trips) (c0_i32_18 : BitVec 32) : Fin 2 → Nat :=
  let c0_i32_3 : BitVec 32 := 0#32
  let c1_i32_5 : BitVec 32 := 1#32
  let arg13 : BitVec 32 := Scf.iv c0_i32_3 c1_i32_5 k0_t2
  let c1024_i32_17 : BitVec 32 := 1024#32
  let v22 : BitVec 32 := Scalar.muli arg13 c1024_i32_17
  let v23 : BitVec 32 := Scalar.addi v22 c0_i32_18
  let v24 : BitVec 32 := v23
  let v104 : Index := Scalar.indexCast v24
  let c0_59 : Index := 0#32
  ![v104.toNat, 0]
@[reducible] def k0_t3_loop (k0_t2 : Fin k0_t2_loop.trips) : Scf.Loop 32 :=
  let c0_i32_3 : BitVec 32 := 0#32
  let c1_i32_5 : BitVec 32 := 1#32
  let arg13 : BitVec 32 := Scf.iv c0_i32_3 c1_i32_5 k0_t2
  let c1_i32_134 : BitVec 32 := 1#32
  let v259 : BitVec 32 := Scalar.addi arg13 c1_i32_134
  let c4_i32_136 : BitVec 32 := 4#32
  let v260 : BitVec 32 := Scalar.subi c4_i32_136 v259
  let c1_i32_137 : BitVec 32 := 1#32
  let v262 : BitVec 32 := Scalar.divsi v260 c1_i32_137
  let v263 : BitVec 32 := Scalar.muli v262 c1_i32_137
  let v264 : BitVec 32 := Scalar.addi v259 v263
  let c1_i32_138 : BitVec 32 := 1#32
  ⟨v259, v264, c1_i32_138⟩
def k0_mult7 (k0_t2 : Fin k0_t2_loop.trips) (k0_t3 : Fin (k0_t3_loop k0_t2).trips) : BitVec 32 :=
  let c0_i32_3 : BitVec 32 := 0#32
  let c1_i32_5 : BitVec 32 := 1#32
  let arg13 : BitVec 32 := Scf.iv c0_i32_3 c1_i32_5 k0_t2
  let c1_i32_134 : BitVec 32 := 1#32
  let v259 : BitVec 32 := Scalar.addi arg13 c1_i32_134
  let c1_i32_138 : BitVec 32 := 1#32
  let arg14 : BitVec 32 := Scf.iv v259 c1_i32_138 k0_t3
  let c1024_i32_148 : BitVec 32 := 1024#32
  let v275 : BitVec 32 := Scalar.muli arg14 c1024_i32_148
  let c0_i32_149 : BitVec 32 := 0#32
  let v276 : BitVec 32 := Scalar.addi v275 c0_i32_149
  v276
def k0_mult8 (k0_t2 : Fin k0_t2_loop.trips) (k0_t3 : Fin (k0_t3_loop k0_t2).trips) : BitVec 32 :=
  let c0_i32_3 : BitVec 32 := 0#32
  let c1_i32_5 : BitVec 32 := 1#32
  let arg13 : BitVec 32 := Scf.iv c0_i32_3 c1_i32_5 k0_t2
  let c1_i32_134 : BitVec 32 := 1#32
  let v259 : BitVec 32 := Scalar.addi arg13 c1_i32_134
  let c1_i32_138 : BitVec 32 := 1#32
  let arg14 : BitVec 32 := Scf.iv v259 c1_i32_138 k0_t3
  let c1024_i32_150 : BitVec 32 := 1024#32
  let v278 : BitVec 32 := Scalar.muli arg14 c1024_i32_150
  let c512_i32_151 : BitVec 32 := 512#32
  let v279 : BitVec 32 := Scalar.addi v278 c512_i32_151
  v279
def k0_off7 (k0_t2 : Fin k0_t2_loop.trips) (k0_t3 : Fin (k0_t3_loop k0_t2).trips) (c0_i32_149 : BitVec 32) : Fin 3 → Nat :=
  let c0_152 : Index := 0#32
  let c0_i32_3 : BitVec 32 := 0#32
  let c1_i32_5 : BitVec 32 := 1#32
  let arg13 : BitVec 32 := Scf.iv c0_i32_3 c1_i32_5 k0_t2
  let c1_i32_134 : BitVec 32 := 1#32
  let v259 : BitVec 32 := Scalar.addi arg13 c1_i32_134
  let c1_i32_138 : BitVec 32 := 1#32
  let arg14 : BitVec 32 := Scf.iv v259 c1_i32_138 k0_t3
  let c1024_i32_148 : BitVec 32 := 1024#32
  let v275 : BitVec 32 := Scalar.muli arg14 c1024_i32_148
  let v276 : BitVec 32 := Scalar.addi v275 c0_i32_149
  let v277 : BitVec 32 := v276
  let v281 : Index := Scalar.indexCast v277
  let c0_153 : Index := 0#32
  ![0, v281.toNat, 0]
def k0_off8 (k0_t2 : Fin k0_t2_loop.trips) (k0_t3 : Fin (k0_t3_loop k0_t2).trips) (c0_i32_149 : BitVec 32) : Fin 3 → Nat :=
  let c0_166 : Index := 0#32
  let c0_i32_3 : BitVec 32 := 0#32
  let c1_i32_5 : BitVec 32 := 1#32
  let arg13 : BitVec 32 := Scf.iv c0_i32_3 c1_i32_5 k0_t2
  let c1_i32_134 : BitVec 32 := 1#32
  let v259 : BitVec 32 := Scalar.addi arg13 c1_i32_134
  let c1_i32_138 : BitVec 32 := 1#32
  let arg14 : BitVec 32 := Scf.iv v259 c1_i32_138 k0_t3
  let c1024_i32_148 : BitVec 32 := 1024#32
  let v275 : BitVec 32 := Scalar.muli arg14 c1024_i32_148
  let v276 : BitVec 32 := Scalar.addi v275 c0_i32_149
  let v277 : BitVec 32 := v276
  let v303 : Index := Scalar.indexCast v277
  let c0_167 : Index := 0#32
  ![0, v303.toNat, 0]
def k0_off9 (k0_t2 : Fin k0_t2_loop.trips) (k0_t3 : Fin (k0_t3_loop k0_t2).trips) (c0_i32_149 : BitVec 32) : Fin 2 → Nat :=
  let c0_i32_3 : BitVec 32 := 0#32
  let c1_i32_5 : BitVec 32 := 1#32
  let arg13 : BitVec 32 := Scf.iv c0_i32_3 c1_i32_5 k0_t2
  let c1_i32_134 : BitVec 32 := 1#32
  let v259 : BitVec 32 := Scalar.addi arg13 c1_i32_134
  let c1_i32_138 : BitVec 32 := 1#32
  let arg14 : BitVec 32 := Scf.iv v259 c1_i32_138 k0_t3
  let c1024_i32_148 : BitVec 32 := 1024#32
  let v275 : BitVec 32 := Scalar.muli arg14 c1024_i32_148
  let v276 : BitVec 32 := Scalar.addi v275 c0_i32_149
  let v277 : BitVec 32 := v276
  let v316 : Index := Scalar.indexCast v277
  let c0_173 : Index := 0#32
  ![v316.toNat, 0]
@[reducible] def k0_t4_loop (k0_t2 : Fin k0_t2_loop.trips) : Scf.Loop 32 :=
  let c0_i32_3 : BitVec 32 := 0#32
  let c1_i32_5 : BitVec 32 := 1#32
  let arg13 : BitVec 32 := Scf.iv c0_i32_3 c1_i32_5 k0_t2
  let c1_i32_134 : BitVec 32 := 1#32
  let v259 : BitVec 32 := Scalar.addi arg13 c1_i32_134
  let c4_i32_136 : BitVec 32 := 4#32
  let v260 : BitVec 32 := Scalar.subi c4_i32_136 v259
  let c1_i32_137 : BitVec 32 := 1#32
  let v262 : BitVec 32 := Scalar.divsi v260 c1_i32_137
  let v263 : BitVec 32 := Scalar.muli v262 c1_i32_137
  let v264 : BitVec 32 := Scalar.addi v259 v263
  let v261 : BitVec 32 := Scalar.addi v259 v260
  let c1_i32_139 : BitVec 32 := 1#32
  ⟨v264, v261, c1_i32_139⟩
def k0_mult9 (k0_t2 : Fin k0_t2_loop.trips) (k0_t4 : Fin (k0_t4_loop k0_t2).trips) : BitVec 32 :=
  let c0_i32_3 : BitVec 32 := 0#32
  let c1_i32_5 : BitVec 32 := 1#32
  let arg13 : BitVec 32 := Scf.iv c0_i32_3 c1_i32_5 k0_t2
  let c1_i32_134 : BitVec 32 := 1#32
  let v259 : BitVec 32 := Scalar.addi arg13 c1_i32_134
  let c4_i32_136 : BitVec 32 := 4#32
  let v260 : BitVec 32 := Scalar.subi c4_i32_136 v259
  let c1_i32_137 : BitVec 32 := 1#32
  let v262 : BitVec 32 := Scalar.divsi v260 c1_i32_137
  let v263 : BitVec 32 := Scalar.muli v262 c1_i32_137
  let v264 : BitVec 32 := Scalar.addi v259 v263
  let c1_i32_139 : BitVec 32 := 1#32
  let arg14 : BitVec 32 := Scf.iv v264 c1_i32_139 k0_t4
  let c1024_i32_148 : BitVec 32 := 1024#32
  let v275 : BitVec 32 := Scalar.muli arg14 c1024_i32_148
  let c0_i32_149 : BitVec 32 := 0#32
  let v276 : BitVec 32 := Scalar.addi v275 c0_i32_149
  v276
def k0_mult10 (k0_t2 : Fin k0_t2_loop.trips) (k0_t4 : Fin (k0_t4_loop k0_t2).trips) : BitVec 32 :=
  let c0_i32_3 : BitVec 32 := 0#32
  let c1_i32_5 : BitVec 32 := 1#32
  let arg13 : BitVec 32 := Scf.iv c0_i32_3 c1_i32_5 k0_t2
  let c1_i32_134 : BitVec 32 := 1#32
  let v259 : BitVec 32 := Scalar.addi arg13 c1_i32_134
  let c4_i32_136 : BitVec 32 := 4#32
  let v260 : BitVec 32 := Scalar.subi c4_i32_136 v259
  let c1_i32_137 : BitVec 32 := 1#32
  let v262 : BitVec 32 := Scalar.divsi v260 c1_i32_137
  let v263 : BitVec 32 := Scalar.muli v262 c1_i32_137
  let v264 : BitVec 32 := Scalar.addi v259 v263
  let c1_i32_139 : BitVec 32 := 1#32
  let arg14 : BitVec 32 := Scf.iv v264 c1_i32_139 k0_t4
  let c1024_i32_150 : BitVec 32 := 1024#32
  let v278 : BitVec 32 := Scalar.muli arg14 c1024_i32_150
  let c512_i32_151 : BitVec 32 := 512#32
  let v279 : BitVec 32 := Scalar.addi v278 c512_i32_151
  v279
def k0_off10 (k0_t2 : Fin k0_t2_loop.trips) (k0_t4 : Fin (k0_t4_loop k0_t2).trips) (c0_i32_149 : BitVec 32) : Fin 3 → Nat :=
  let c0_152 : Index := 0#32
  let c0_i32_3 : BitVec 32 := 0#32
  let c1_i32_5 : BitVec 32 := 1#32
  let arg13 : BitVec 32 := Scf.iv c0_i32_3 c1_i32_5 k0_t2
  let c1_i32_134 : BitVec 32 := 1#32
  let v259 : BitVec 32 := Scalar.addi arg13 c1_i32_134
  let c4_i32_136 : BitVec 32 := 4#32
  let v260 : BitVec 32 := Scalar.subi c4_i32_136 v259
  let c1_i32_137 : BitVec 32 := 1#32
  let v262 : BitVec 32 := Scalar.divsi v260 c1_i32_137
  let v263 : BitVec 32 := Scalar.muli v262 c1_i32_137
  let v264 : BitVec 32 := Scalar.addi v259 v263
  let c1_i32_139 : BitVec 32 := 1#32
  let arg14 : BitVec 32 := Scf.iv v264 c1_i32_139 k0_t4
  let c1024_i32_148 : BitVec 32 := 1024#32
  let v275 : BitVec 32 := Scalar.muli arg14 c1024_i32_148
  let v276 : BitVec 32 := Scalar.addi v275 c0_i32_149
  let v277 : BitVec 32 := v276
  let v281 : Index := Scalar.indexCast v277
  let c0_153 : Index := 0#32
  ![0, v281.toNat, 0]
def k0_off11 (k0_t2 : Fin k0_t2_loop.trips) (k0_t4 : Fin (k0_t4_loop k0_t2).trips) (c0_i32_149 : BitVec 32) : Fin 3 → Nat :=
  let c0_166 : Index := 0#32
  let c0_i32_3 : BitVec 32 := 0#32
  let c1_i32_5 : BitVec 32 := 1#32
  let arg13 : BitVec 32 := Scf.iv c0_i32_3 c1_i32_5 k0_t2
  let c1_i32_134 : BitVec 32 := 1#32
  let v259 : BitVec 32 := Scalar.addi arg13 c1_i32_134
  let c4_i32_136 : BitVec 32 := 4#32
  let v260 : BitVec 32 := Scalar.subi c4_i32_136 v259
  let c1_i32_137 : BitVec 32 := 1#32
  let v262 : BitVec 32 := Scalar.divsi v260 c1_i32_137
  let v263 : BitVec 32 := Scalar.muli v262 c1_i32_137
  let v264 : BitVec 32 := Scalar.addi v259 v263
  let c1_i32_139 : BitVec 32 := 1#32
  let arg14 : BitVec 32 := Scf.iv v264 c1_i32_139 k0_t4
  let c1024_i32_148 : BitVec 32 := 1024#32
  let v275 : BitVec 32 := Scalar.muli arg14 c1024_i32_148
  let v276 : BitVec 32 := Scalar.addi v275 c0_i32_149
  let v277 : BitVec 32 := v276
  let v303 : Index := Scalar.indexCast v277
  let c0_167 : Index := 0#32
  ![0, v303.toNat, 0]
def k0_off12 (k0_t2 : Fin k0_t2_loop.trips) (k0_t4 : Fin (k0_t4_loop k0_t2).trips) (c0_i32_149 : BitVec 32) : Fin 2 → Nat :=
  let c0_i32_3 : BitVec 32 := 0#32
  let c1_i32_5 : BitVec 32 := 1#32
  let arg13 : BitVec 32 := Scf.iv c0_i32_3 c1_i32_5 k0_t2
  let c1_i32_134 : BitVec 32 := 1#32
  let v259 : BitVec 32 := Scalar.addi arg13 c1_i32_134
  let c4_i32_136 : BitVec 32 := 4#32
  let v260 : BitVec 32 := Scalar.subi c4_i32_136 v259
  let c1_i32_137 : BitVec 32 := 1#32
  let v262 : BitVec 32 := Scalar.divsi v260 c1_i32_137
  let v263 : BitVec 32 := Scalar.muli v262 c1_i32_137
  let v264 : BitVec 32 := Scalar.addi v259 v263
  let c1_i32_139 : BitVec 32 := 1#32
  let arg14 : BitVec 32 := Scf.iv v264 c1_i32_139 k0_t4
  let c1024_i32_148 : BitVec 32 := 1024#32
  let v275 : BitVec 32 := Scalar.muli arg14 c1024_i32_148
  let v276 : BitVec 32 := Scalar.addi v275 c0_i32_149
  let v277 : BitVec 32 := v276
  let v316 : Index := Scalar.indexCast v277
  let c0_173 : Index := 0#32
  ![v316.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "neg" => some ⊥
  | "scale_log2" => some (((3424635 / 33554432) * (Real.log 2)⁻¹ : ℝ) : EReal)
  | _ => none
-- ==== ReferenceIdeal.lean ====
abbrev S4096x8x96 : Shape := ⟨3, ![4096, 8, 96]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S8x4096x96 : Shape := ⟨3, ![8, 4096, 96]⟩
abbrev S8x4096x128 : Shape := ⟨3, ![8, 4096, 128]⟩
abbrev S8x4096x64 : Shape := ⟨3, ![8, 4096, 64]⟩

abbrev nBuf : Space → Nat
  | .hbm => 102
  | .vmem => 0
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x8x64, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S4096, .i32⟩
  | .hbm, ⟨9, _⟩ => ⟨S4096x1, .i32⟩
  | .hbm, ⟨10, _⟩ => ⟨S1x4096, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S1x4096x4096, .i1⟩
  | .hbm, ⟨15, _⟩ => ⟨S_, .f32⟩
  | .hbm, ⟨16, _⟩ => ⟨S_, .f32⟩
  | .hbm, ⟨17, _⟩ => ⟨S8x4096x4096, .i1⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S8x4096x4096, .f32⟩
  | .hbm, ⟨26, _⟩ => ⟨S8x4096x4096, .i1⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S_, .f32⟩
  | .hbm, ⟨31, _⟩ => ⟨S8x4096, .f32⟩
  | .hbm, ⟨32, _⟩ => ⟨S8x4096, .f32⟩
  | .hbm, ⟨33, _⟩ => ⟨S_, .f32⟩
  | .hbm, ⟨34, _⟩ => ⟨S8x4096, .f32⟩
  | .hbm, ⟨35, _⟩ => ⟨S8x4096, .i1⟩
  | .hbm, ⟨36, _⟩ => ⟨S_, .f32⟩
  | .hbm, ⟨37, _⟩ => ⟨S8x4096, .f32⟩
  | .hbm, ⟨38, _⟩ => ⟨S8x4096, .i1⟩
  | .hbm, ⟨39, _⟩ => ⟨S_, .f32⟩
  | .hbm, ⟨40, _⟩ => ⟨S8x4096, .f32⟩
  | .hbm, ⟨41, _⟩ => ⟨S_, .f32⟩
  | .hbm, ⟨42, _⟩ => ⟨S8x4096, .f32⟩
  | .hbm, ⟨43, _⟩ => ⟨S_, .f32⟩
  | .hbm, ⟨44, _⟩ => ⟨S8x4096, .f32⟩
  | .hbm, ⟨45, _⟩ => ⟨S8x4096, .f32⟩
  | .hbm, ⟨46, _⟩ => ⟨S8x4096, .f32⟩
  | .hbm, ⟨47, _⟩ => ⟨S8x4096x1, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S8x4096x4096, .f32⟩
  | .hbm, ⟨55, _⟩ => ⟨S8x4096x4096, .f32⟩
  | .hbm, ⟨56, _⟩ => ⟨S8x4096x1, .f32⟩
  | .hbm, ⟨57, _⟩ => ⟨S_, .f32⟩
  | .hbm, ⟨58, _⟩ => ⟨S8x4096x1, .f32⟩
  | .hbm, ⟨59, _⟩ => ⟨S8x4096x1, .f32⟩
  | .hbm, ⟨60, _⟩ => ⟨S8x64x4096, .f32⟩
  | .hbm, ⟨61, _⟩ => ⟨S4096x8x64, .f32⟩
  | .hbm, ⟨62, _⟩ => ⟨S8x64x4096, .f32⟩
  | .hbm, ⟨63, _⟩ => ⟨S8x4096x4096, .f32⟩
  | .hbm, ⟨64, _⟩ => ⟨S8x64x4096, .f32⟩
  | .hbm, ⟨65, _⟩ => ⟨S4096x8x64, .f32⟩
  | .hbm, ⟨66, _⟩ => ⟨S8x4096x4096, .f32⟩
  | .hbm, ⟨67, _⟩ => ⟨S8x4096x4096, .f32⟩
  | .hbm, ⟨68, _⟩ => ⟨S8x4096x4096, .f32⟩
  | .hbm, ⟨69, _⟩ => ⟨S_, .f32⟩
  | .hbm, ⟨70, _⟩ => ⟨S8x4096, .f32⟩
  | .hbm, ⟨71, _⟩ => ⟨S8x4096x1, .f32⟩
  | .hbm, ⟨72, _⟩ => ⟨S8x4096x1, .f32⟩
  | .hbm, ⟨73, _⟩ => ⟨S8x4096x4096, .f32⟩
  | .hbm, ⟨74, _⟩ => ⟨S8x4096x4096, .f32⟩
  | .hbm, ⟨75, _⟩ => ⟨S_, .f32⟩
  | .hbm, ⟨76, _⟩ => ⟨S8x4096, .f32⟩
  | .hbm, ⟨77, _⟩ => ⟨S8x4096x4096, .f32⟩
  | .hbm, ⟨78, _⟩ => ⟨S8x4096x4096, .f32⟩
  | .hbm, ⟨79, _⟩ => ⟨S8x4096x4096, .f32⟩
  | .hbm, ⟨80, _⟩ => ⟨S_, .f32⟩
  | .hbm, ⟨81, _⟩ => ⟨S8x4096x4096, .f32⟩
  | .hbm, ⟨82, _⟩ => ⟨S8x4096x4096, .f32⟩
  | .hbm, ⟨83, _⟩ => ⟨S_, .f32⟩
  | .hbm, ⟨84, _⟩ => ⟨S8x4096x4096, .f32⟩
  | .hbm, ⟨85, _⟩ => ⟨S8x4096x4096, .f32⟩
  | .hbm, ⟨86, _⟩ => ⟨S8x4096x96, .f32⟩
  | .hbm, ⟨87, _⟩ => ⟨S4096x8x96, .f32⟩
  | .hbm, ⟨88, _⟩ => ⟨S8x4096x96, .f32⟩
  | .hbm, ⟨89, _⟩ => ⟨S4096x8x96, .f32⟩
  | .hbm, ⟨90, _⟩ => ⟨S8x4096x96, .f32⟩
  | .hbm, ⟨91, _⟩ => ⟨S_, .i32⟩
  | .hbm, ⟨92, _⟩ => ⟨S_, .f32⟩
  | .hbm, ⟨93, _⟩ => ⟨S8x4096x128, .f32⟩
  | .hbm, ⟨94, _⟩ => ⟨S8x4096x96, .f32⟩
  | .hbm, ⟨95, _⟩ => ⟨S_, .i32⟩
  | .hbm, ⟨96, _⟩ => ⟨S_, .f32⟩
  | .hbm, ⟨97, _⟩ => ⟨S8x4096x128, .f32⟩
  | .hbm, ⟨98, _⟩ => ⟨S8x4096x64, .f32⟩
  | .hbm, ⟨99, _⟩ => ⟨S_, .i32⟩
  | .hbm, ⟨100, _⟩ => ⟨S_, .f32⟩
  | .hbm, ⟨101, _⟩ => ⟨S8x4096x128, .f32⟩
  | _, _ => ⟨S4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_call3_v0 : Ref sig .tc := ⟨.hbm, 96, rfl⟩
abbrev main_v67 : Ref sig .tc := ⟨.hbm, 97, rfl⟩
abbrev main_v68 : Ref sig .tc := ⟨.hbm, 98, rfl⟩
abbrev main_c_15 : Ref sig .tc := ⟨.hbm, 99, rfl⟩
abbrev main_call4_v0 : Ref sig .tc := ⟨.hbm, 100, rfl⟩
abbrev main_v69 : Ref sig .tc := ⟨.hbm, 101, rfl⟩

abbrev nD : Nat := 1
abbrev τ : Topo := Topo.v7x

variable {F : FTy → Type} [FloatOps F]
-- ==== Kernel2.lean ====
abbrev S4096x5632 : Shape := ⟨2, ![4096, 5632]⟩
abbrev S1024x5632 : Shape := ⟨2, ![1024, 5632]⟩
abbrev S4096x1024 : Shape := ⟨2, ![4096, 1024]⟩
abbrev S1024 : Shape := ⟨1, ![1024]⟩
abbrev S5632x1024 : Shape := ⟨2, ![5632, 1024]⟩
abbrev S1x1024 : Shape := ⟨2, ![1, 1024]⟩
abbrev S256x5632 : Shape := ⟨2, ![256, 5632]⟩
abbrev S256x1024 : Shape := ⟨2, ![256, 1024]⟩
abbrev S256 : Shape := ⟨1, ![256]⟩
abbrev S256x1 : Shape := ⟨2, ![256, 1]⟩

abbrev nBuf : Space → Nat
  | .hbm => 13
  | .vmem => 14
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S4096x5632, .bf16⟩
  | .hbm, ⟨6, _⟩ => ⟨S5632x1024, .f32⟩
  | .hbm, ⟨7, _⟩ => ⟨S5632x1024, .bf16⟩
  | .hbm, ⟨8, _⟩ => ⟨S1x1024, .f32⟩
  | .hbm, ⟨9, _⟩ => ⟨S4096x1024, .f32⟩
  | .hbm, ⟨10, _⟩ => ⟨S4096x1024, .bf16⟩
  | .hbm, ⟨11, _⟩ => ⟨S1x1024, .f32⟩
  | .hbm, ⟨12, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S5632x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S1x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S4096x5632 : Shape := ⟨2, ![4096, 5632]⟩
abbrev S1024x5632 : Shape := ⟨2, ![1024, 5632]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 99
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x5632, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S4096x1, .f32⟩
  | .hbm, ⟨72, _⟩ => ⟨S4096x1024, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S_, .f32⟩
  | .hbm, ⟨80, _⟩ => ⟨S4096, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S4096x1024, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096, .f32⟩
  | .hbm, ⟨94, _⟩ => ⟨S4096x1024, .f32⟩
  | .hbm, ⟨95, _⟩ => ⟨S4096x1024, .f32⟩
  | .hbm, ⟨96, _⟩ => ⟨S4096x1024, .bf16⟩
  | .hbm, ⟨97, _⟩ => ⟨S1x1024, .f32⟩
  | .hbm, ⟨98, _⟩ => ⟨S1x1024, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_cst_13 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_cst_16 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_17 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_18 : Ref sig .tc := ⟨.hbm, 89, rfl⟩
abbrev main_v65 : Ref sig .tc := ⟨.hbm, 90, rfl⟩
abbrev main_v66 : Ref sig .tc := ⟨.hbm, 91, rfl⟩
abbrev main_cst_19 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩

abbrev nD : Nat := 1
abbrev τ : Topo := Topo.v7x

variable {F : FTy → Type} [FloatOps F]
-- ==== Kernel3.lean ====
abbrev S4096x5632 : Shape := ⟨2, ![4096, 5632]⟩
abbrev S4096x1024 : Shape := ⟨2, ![4096, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S4096x1024, .f32⟩
  | .hbm, ⟨2, _⟩ => ⟨S4096x5632, .bf16⟩
  | .hbm, ⟨3, _⟩ => ⟨S4096x1024, .bf16⟩
  | .hbm, ⟨4, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x5632 : Shape := ⟨2, ![4096, 5632]⟩
abbrev S4096x1024 : Shape := ⟨2, ![4096, 1024]⟩
abbrev S_ : Shape := ⟨0, ![]⟩
abbrev S5632x1024 : Shape := ⟨2, ![5632, 1024]⟩
abbrev S1024x5632 : Shape := ⟨2, ![1024, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x1024, .f32⟩
  | .hbm, ⟨2, _⟩ => ⟨S_, .f32⟩
  | .hbm, ⟨3, _⟩ => ⟨S5632x1024, .f32⟩
  | .hbm, ⟨4, _⟩ => ⟨S1024x5632, .f32⟩
  | .hbm, ⟨5, _⟩ => ⟨S4096x5632, .f32⟩
  | .hbm, ⟨6, _⟩ => ⟨S5632x1024, .f32⟩
  | .hbm, ⟨7, _⟩ => ⟨S1024x5632, .f32⟩
  | .hbm, ⟨8, _⟩ => ⟨S5632x1024, .f32⟩
  | .hbm, ⟨9, _⟩ => ⟨S5632x1024, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1024x2816 : Shape := ⟨2, ![1024, 2816]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S4096x1024, .bf16⟩
  | .hbm, ⟨3, _⟩ => ⟨S2816x1024, .bf16⟩
  | .hbm, ⟨4, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S1024x2816, .bf16⟩
  | .local _ .vmem, ⟨4, _⟩ => ⟨S1024x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S_, .f32⟩
  | .hbm, ⟨3, _⟩ => ⟨S4096x2816, .f32⟩
  | .hbm, ⟨4, _⟩ => ⟨S4096x1024, .f32⟩
  | .hbm, ⟨5, _⟩ => ⟨S4096x2816, .f32⟩
  | .hbm, ⟨6, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 15
  | .vmem => 16
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S4096x2816, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S1x128, .f32⟩
  | .hbm, ⟨13, _⟩ => ⟨S1x1024, .f32⟩
  | .hbm, ⟨14, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x128, .f32⟩
  | .local _ .vmem, ⟨14, _⟩ => ⟨S1x1024, .f32⟩
  | .local _ .vmem, ⟨15, _⟩ => ⟨S1x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference6Ideal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 118
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S4096, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S_, .f32⟩
  | .hbm, ⟨74, _⟩ => ⟨S1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S4096x1024, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S4096x1024, .f32⟩
  | .hbm, ⟨88, _⟩ => ⟨S4096x1024, .f32⟩
  | .hbm, ⟨89, _⟩ => ⟨S4096x1, .f32⟩
  | .hbm, ⟨90, _⟩ => ⟨S4096x1024, .f32⟩
  | .hbm, ⟨91, _⟩ => ⟨S_, .f32⟩
  | .hbm, ⟨92, _⟩ => ⟨S4096, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S_, .f32⟩
  | .hbm, ⟨103, _⟩ => ⟨S4096, .f32⟩
  | .hbm, ⟨104, _⟩ => ⟨S4096x1, .f32⟩
  | .hbm, ⟨105, _⟩ => ⟨S4096x1024, .f32⟩
  | .hbm, ⟨106, _⟩ => ⟨S4096x1, .f32⟩
  | .hbm, ⟨107, _⟩ => ⟨S_, .f32⟩
  | .hbm, ⟨108, _⟩ => ⟨S4096x1, .f32⟩
  | .hbm, ⟨109, _⟩ => ⟨S4096x1, .f32⟩
  | .hbm, ⟨110, _⟩ => ⟨S_, .f32⟩
  | .hbm, ⟨111, _⟩ => ⟨S4096, .f32⟩
  | .hbm, ⟨112, _⟩ => ⟨S4096x1024, .f32⟩
  | .hbm, ⟨113, _⟩ => ⟨S4096x1024, .f32⟩
  | .hbm, ⟨114, _⟩ => ⟨S4096x1024, .bf16⟩
  | .hbm, ⟨115, _⟩ => ⟨S1x128, .f32⟩
  | .hbm, ⟨116, _⟩ => ⟨S1x1024, .f32⟩
  | .hbm, ⟨117, _⟩ => ⟨S1x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_cst_12 : Ref sig .tc := ⟨.hbm, 61, rfl⟩
abbrev main_cst_13 : Ref sig .tc := ⟨.hbm, 62, rfl⟩
abbrev main_v42 : Ref sig .tc := ⟨.hbm, 63, rfl⟩
abbrev main_v43 : Ref sig .tc := ⟨.hbm, 64, rfl⟩
abbrev main_cst_14 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_15 : Ref sig .tc := ⟨.hbm, 70, rfl⟩
abbrev main_v48 : Ref sig .tc := ⟨.hbm, 71, rfl⟩
abbrev main_v49 : Ref sig .tc := ⟨.hbm, 72, rfl⟩
abbrev main_cst_16 : Ref sig .tc := ⟨.hbm, 73, rfl⟩
abbrev main_v50 : Ref sig .tc := ⟨.hbm, 74, rfl⟩
abbrev main_v51 : Ref sig .tc := ⟨.hbm, 75, rfl⟩
abbrev main_cst_17 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_18 : Ref sig .tc := ⟨.hbm, 81, rfl⟩
abbrev main_v56 : Ref sig .tc := ⟨.hbm, 82, rfl⟩
abbrev main_v57 : Ref sig .tc := ⟨.hbm, 83, rfl⟩
abbrev main_cst_19 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_20 : Ref sig .tc := ⟨.hbm, 91, rfl⟩
abbrev main_v64 : Ref sig .tc := ⟨.hbm, 92, rfl⟩
abbrev main_v65 : Ref sig .tc := ⟨.hbm, 93, rfl⟩
abbrev main_cst_21 : Ref sig .tc := ⟨.hbm, 94, rfl⟩
abbrev main_v66 : Ref sig .tc := ⟨.hbm, 95, rfl⟩
abbrev main_v67 : Ref sig .tc := ⟨.hbm, 96, rfl⟩
abbrev main_cst_22 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_23 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_24 : Ref sig .tc := ⟨.hbm, 107, rfl⟩
abbrev main_v76 : Ref sig .tc := ⟨.hbm, 108, rfl⟩
abbrev main_v77 : Ref sig .tc := ⟨.hbm, 109, rfl⟩
abbrev main_cst_25 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩

abbrev nD : Nat := 1
abbrev τ : Topo := Topo.v7x

variable {F : FTy → Type} [FloatOps F]
-- ==== Kernel7.lean ====
abbrev S4096x1952 : Shape := ⟨2, ![4096, 1952]⟩
abbrev S1024x1952 : Shape := ⟨2, ![1024, 1952]⟩
abbrev S4096x1024 : Shape := ⟨2, ![4096, 1024]⟩
abbrev S4096x384 : Shape := ⟨2, ![4096, 384]⟩
abbrev S_ : Shape := ⟨0, ![]⟩
abbrev S4096x64 : Shape := ⟨2, ![4096, 64]⟩
abbrev S4096x32 : Shape := ⟨2, ![4096, 32]⟩
abbrev S4096x512 : Shape := ⟨2, ![4096, 512]⟩
abbrev S1952x1024 : Shape := ⟨2, ![1952, 1024]⟩
abbrev S384x1024 : Shape := ⟨2, ![384, 1024]⟩
abbrev S64x1024 : Shape := ⟨2, ![64, 1024]⟩
abbrev S32x1024 : Shape := ⟨2, ![32, 1024]⟩
abbrev S1536x1024 : Shape := ⟨2, ![1536, 1024]⟩
abbrev S2048x1024 : Shape := ⟨2, ![2048, 1024]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 28
  | .vmem => 13
  | .smem => 0
  | _ => 0

abbrev bufTy : (tb : Table) → Fin (tcTables nBuf tb) → BufTy
  | .hbm, ⟨0, _⟩ => ⟨S4096x1952, .f32⟩
  | .hbm, ⟨1, _⟩ => ⟨S1024x1952, .f32⟩
  | .hbm, ⟨2, _⟩ => ⟨S4096x1024, .f32⟩
  | .hbm, ⟨3, _⟩ => ⟨S4096x384, .f32⟩
  | .hbm, ⟨4, _⟩ => ⟨S_, .f32⟩
  | .hbm, ⟨5, _⟩ => ⟨S4096x64, .f32⟩
  | .hbm, ⟨6, _⟩ => ⟨S4096x32, .f32⟩
  | .hbm, ⟨7, _⟩ => ⟨S_, .f32⟩
  | .hbm, ⟨8, _⟩ => ⟨S4096x32, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x512, .bf16⟩
  | .hbm, ⟨14, _⟩ => ⟨S4096x512, .bf16⟩
  | .hbm, ⟨15, _⟩ => ⟨S4096x512, .bf16⟩
  | .hbm, ⟨16, _⟩ => ⟨S4096x512, .bf16⟩
  | .hbm, ⟨17, _⟩ => ⟨S1952x1024, .f32⟩
  | .hbm, ⟨18, _⟩ => ⟨S384x1024, .f32⟩
  | .hbm, ⟨19, _⟩ => ⟨S_, .f32⟩
  | .hbm, ⟨20, _⟩ => ⟨S64x1024, .f32⟩
  | .hbm, ⟨21, _⟩ => ⟨S32x1024, .f32⟩
  | .hbm, ⟨22, _⟩ => ⟨S_, .f32⟩
  | .hbm, ⟨23, _⟩ => ⟨S32x1024, .f32⟩
  | .hbm, ⟨24, _⟩ => ⟨S1536x1024, .f32⟩
  | .hbm, ⟨25, _⟩ => ⟨S2048x1024, .f32⟩
  | .hbm, ⟨26, _⟩ => ⟨S2048x1024, .bf16⟩
  | .hbm, ⟨27, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S2048x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4096x1952, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S4096x1952 : Shape := ⟨2, ![4096, 1952]⟩
abbrev S1024x1952 : Shape := ⟨2, ![1024, 1952]⟩
abbrev S4096x1024 : Shape := ⟨2, ![4096, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x1952, .f32⟩
  | .hbm, ⟨1, _⟩ => ⟨S1024x1952, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x1952, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | _, _ => ⟨S4096x1952, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel9.lean ====
abbrev S4096x1024 : Shape := ⟨2, ![4096, 1024]⟩
abbrev S1024x1952 : Shape := ⟨2, ![1024, 1952]⟩
abbrev S1952x1024 : Shape := ⟨2, ![1952, 1024]⟩
abbrev S384x1024 : Shape := ⟨2, ![384, 1024]⟩
abbrev S_ : Shape := ⟨0, ![]⟩
abbrev S64x1024 : Shape := ⟨2, ![64, 1024]⟩
abbrev S32x1024 : Shape := ⟨2, ![32, 1024]⟩
abbrev S1536x1024 : Shape := ⟨2, ![1536, 1024]⟩
abbrev S2048x1024 : Shape := ⟨2, ![2048, 1024]⟩
abbrev S4096x2048 : Shape := ⟨2, ![4096, 2048]⟩
abbrev S1024x1024 : Shape := ⟨2, ![1024, 1024]⟩
abbrev S1024x2048 : Shape := ⟨2, ![1024, 2048]⟩

abbrev nBuf : Space → Nat
  | .hbm => 13
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1952, .f32⟩
  | .hbm, ⟨2, _⟩ => ⟨S1952x1024, .f32⟩
  | .hbm, ⟨3, _⟩ => ⟨S384x1024, .f32⟩
  | .hbm, ⟨4, _⟩ => ⟨S_, .f32⟩
  | .hbm, ⟨5, _⟩ => ⟨S64x1024, .f32⟩
  | .hbm, ⟨6, _⟩ => ⟨S32x1024, .f32⟩
  | .hbm, ⟨7, _⟩ => ⟨S_, .f32⟩
  | .hbm, ⟨8, _⟩ => ⟨S32x1024, .f32⟩
  | .hbm, ⟨9, _⟩ => ⟨S1536x1024, .f32⟩
  | .hbm, ⟨10, _⟩ => ⟨S2048x1024, .f32⟩
  | .hbm, ⟨11, _⟩ => ⟨S2048x1024, .bf16⟩
  | .hbm, ⟨12, _⟩ => ⟨S4096x2048, .f32⟩
  | .local _ .vmem, ⟨0, _⟩ => ⟨S1024x1024, .f32⟩
  | .local _ .vmem, ⟨1, _⟩ => ⟨S1024x1024, .f32⟩
  | .local _ .vmem, ⟨2, _⟩ => ⟨S2048x1024, .bf16⟩
  | .local _ .vmem, ⟨3, _⟩ => ⟨S1024x2048, .f32⟩
  | .local _ .vmem, ⟨4, _⟩ => ⟨S1024x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x1952 : Shape := ⟨2, ![1024, 1952]⟩
abbrev S4096x1952 : Shape := ⟨2, ![4096, 1952]⟩
abbrev S4096x384 : Shape := ⟨2, ![4096, 384]⟩
abbrev S_ : Shape := ⟨0, ![]⟩
abbrev S4096x64 : Shape := ⟨2, ![4096, 64]⟩
abbrev S4096x32 : Shape := ⟨2, ![4096, 32]⟩
abbrev S4096x1536 : Shape := ⟨2, ![4096, 1536]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1952, .f32⟩
  | .hbm, ⟨2, _⟩ => ⟨S4096x1952, .f32⟩
  | .hbm, ⟨3, _⟩ => ⟨S4096x384, .f32⟩
  | .hbm, ⟨4, _⟩ => ⟨S_, .f32⟩
  | .hbm, ⟨5, _⟩ => ⟨S4096x64, .f32⟩
  | .hbm, ⟨6, _⟩ => ⟨S4096x32, .f32⟩
  | .hbm, ⟨7, _⟩ => ⟨S_, .f32⟩
  | .hbm, ⟨8, _⟩ => ⟨S4096x32, .f32⟩
  | .hbm, ⟨9, _⟩ => ⟨S4096x1536, .f32⟩
  | .hbm, ⟨10, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.KernelIdeal.Loop.lean ====
/- The loop over key blocks of the latent attention's backward call (`KernelIdeal`): one trip of it at a symbolic key block,
   and the invariant by which a run of the body goes through the loop. -/
module

public import proofs.«01_k».proof.Proof.Gen.KernelIdeal
public import proofs.«01_k».proof.Proof.Gen.KernelIdeal.Skeleton
public import proofs.«01_k».proof.Proof.Gen.KernelIdeal.Loops

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄K" => MT nD τ sig Unit (Elt F) ℕ (UR sig nD τ) ℕ

/-- What one key block's trip holds: the six inputs it only reads (queries, keys, values, the row sums' scratch, the
   logarithms of the row sums and the output's gradient) at their contents, and the five buffers it writes (the three
   gradients and the two accumulators) at any contents. -/
abbrev Hold (c : Dev nD) (arg1 : Memref sig .tc .vmem S1x4096x128 .bf16) (arg2 : Memref sig .tc .vmem S1x4096x128 .bf16) (arg3 : Memref sig .tc .vmem S1x4096x128 .bf16) (arg5 : Memref sig .tc .vmem S1x4096x128 .f32) (arg6 : Memref sig .tc .vmem S1x4096x128 .f32) (arg10 : Memref sig .tc .vmem S4096x1 .f32) (arg7 : Memref sig .tc .vmem S1x4096x128 .f32) (arg8 : Memref sig .tc .vmem S1x4096x128 .f32) (arg9 : Memref sig .tc .vmem S1x4096x128 .f32) (arg11 : Memref sig .tc .vmem S1024x128 .f32) (arg12 : Memref sig .tc .vmem S1024x128 .f32) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X10 : BufTy.Contents (Elt F) arg10.view.ty) (f7 : BufTy.Contents (Elt F) arg7.view.ty) (f8 : BufTy.Contents (Elt F) arg8.view.ty) (f9 : BufTy.Contents (Elt F) arg9.view.ty) (f11 : BufTy.Contents (Elt F) arg11.view.ty) (f12 : BufTy.Contents (Elt F) arg12.view.ty) : sProp 𝕄K :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg10.view.loc (c : Thread nD τ) ↦[arg10.view.set]{fullShare} X10) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg11.view.loc (c : Thread nD τ) ↦[arg11.view.set]{fullShare} f11) ∗ (arg12.view.loc (c : Thread nD τ) ↦[arg12.view.set]{fullShare} f12))

/-- One trip of the loop over key blocks, at a symbolic block `k`: the pieces it writes into the three gradients, as
   functions of what the trip finds in the queries' gradient. The two accumulators are zeroed by every trip before it
   reads them, so a trip takes them at any contents and leaves them at some. -/
@[irreducible] def trip (c : Dev nD) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S4096x1 .f32) (harg10 : arg10.IsWhole) (arg11 : Memref sig .tc .vmem S1024x128 .f32) (harg11 : arg11.IsWhole) (arg12 : Memref sig .tc .vmem S1024x128 .f32) (harg12 : arg12.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X10 : BufTy.Contents (Elt F) arg10.view.ty) (k : Fin k0_t2_loop.trips) :
    Σ' (L7 : BufTy.Contents (Elt F) arg7.view.ty → List (View.Piece (Elt F) S1x4096x128 .f32)) (L8 : BufTy.Contents (Elt F) arg7.view.ty → List (View.Piece (Elt F) S1x4096x128 .f32)),
      { L9 : BufTy.Contents (Elt F) arg7.view.ty → List (View.Piece (Elt F) S1x4096x128 .f32) // ∀ (f7 : BufTy.Contents (Elt F) arg7.view.ty) (f8 : BufTy.Contents (Elt F) arg8.view.ty) (f9 : BufTy.Contents (Elt F) arg9.view.ty) (f11 : BufTy.Contents (Elt F) arg11.view.ty) (f12 : BufTy.Contents (Elt F) arg12.view.ty),
        Hold (F := F) c arg1 arg2 arg3 arg5 arg6 arg10 arg7 arg8 arg9 arg11 arg12 X1 X2 X3 X5 X6 X10 f7 f8 f9 f11 f12
        ⊢ wp frame (wpE (defs₀ (F := F)) Variants.none (c : Thread nD τ) none) Set.univ (k0_t2_body (F := F) i arg1 harg1 arg2 harg2 arg3 harg3 arg4 harg4 arg5 harg5 arg6 harg6 arg7 harg7 arg8 harg8 arg9 harg9 arg10 harg10 arg11 harg11 arg12 harg12 k PUnit.unit)
            (fun _ => iprop(∃ g11 g12, Hold (F := F) c arg1 arg2 arg3 arg5 arg6 arg10 arg7 arg8 arg9 arg11 arg12 X1 X2 X3 X5 X6 X10 (arg7.view.writes (Elt F) f7 (L7 f7)) (arg8.view.writes (Elt F) f8 (L8 f7)) (arg9.view.writes (Elt F) f9 (L9 f7)) g11 g12)) } := by
  have hk : k.val < 4 := Nat.lt_of_lt_of_le k.isLt k0_t2_abs.2.1
  refine ⟨?_, ?_, ?_, fun f7 f8 f9 f11 f12 => ?run⟩
  case run =>
    unfold k0_t2_body
    iintro ⟨H1, H2, H3, H5, H6, H10, H7, H8, H9, H11, H12⟩
    sl_exec
    sl_step
    iexists _, _
    sl_close

/-- Trip `k`'s pieces in front of those of the trips before it, per gradient; past the last trip nothing is added. -/
@[irreducible] def step (c : Dev nD) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S4096x1 .f32) (harg10 : arg10.IsWhole) (arg11 : Memref sig .tc .vmem S1024x128 .f32) (harg11 : arg11.IsWhole) (arg12 : Memref sig .tc .vmem S1024x128 .f32) (harg12 : arg12.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X10 : BufTy.Contents (Elt F) arg10.view.ty) (G7 : BufTy.Contents (Elt F) arg7.view.ty) (k : ℕ) (prev : List (View.Piece (Elt F) S1x4096x128 .f32) × List (View.Piece (Elt F) S1x4096x128 .f32) × List (View.Piece (Elt F) S1x4096x128 .f32)) : List (View.Piece (Elt F) S1x4096x128 .f32) × List (View.Piece (Elt F) S1x4096x128 .f32) × List (View.Piece (Elt F) S1x4096x128 .f32) :=
  if h : k < k0_t2_loop.trips then
    ((trip (F := F) c i arg1 harg1 arg2 harg2 arg3 harg3 arg4 harg4 arg5 harg5 arg6 harg6 arg7 harg7 arg8 harg8 arg9 harg9 arg10 harg10 arg11 harg11 arg12 harg12 X1 X2 X3 X5 X6 X10 ⟨k, h⟩).1 (arg7.view.writes (Elt F) G7 prev.1) ++ prev.1,
     (trip (F := F) c i arg1 harg1 arg2 harg2 arg3 harg3 arg4 harg4 arg5 harg5 arg6 harg6 arg7 harg7 arg8 harg8 arg9 harg9 arg10 harg10 arg11 harg11 arg12 harg12 X1 X2 X3 X5 X6 X10 ⟨k, h⟩).2.1 (arg7.view.writes (Elt F) G7 prev.1) ++ prev.2.1,
     (trip (F := F) c i arg1 harg1 arg2 harg2 arg3 harg3 arg4 harg4 arg5 harg5 arg6 harg6 arg7 harg7 arg8 harg8 arg9 harg9 arg10 harg10 arg11 harg11 arg12 harg12 X1 X2 X3 X5 X6 X10 ⟨k, h⟩).2.2.1 (arg7.view.writes (Elt F) G7 prev.1) ++ prev.2.2)
  else prev

/-- The pieces of the trips before `k`, last first, per gradient (queries, keys, values); the queries' gradient holds `G7`
   at the loop's entry, and each trip's pieces are those at what the trips before it left there. -/
def pieces (c : Dev nD) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S4096x1 .f32) (harg10 : arg10.IsWhole) (arg11 : Memref sig .tc .vmem S1024x128 .f32) (harg11 : arg11.IsWhole) (arg12 : Memref sig .tc .vmem S1024x128 .f32) (harg12 : arg12.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X10 : BufTy.Contents (Elt F) arg10.view.ty) (G7 : BufTy.Contents (Elt F) arg7.view.ty) : ℕ → List (View.Piece (Elt F) S1x4096x128 .f32) × List (View.Piece (Elt F) S1x4096x128 .f32) × List (View.Piece (Elt F) S1x4096x128 .f32)
  | 0 => ([], [], [])
  | k + 1 => step (F := F) c i arg1 harg1 arg2 harg2 arg3 harg3 arg4 harg4 arg5 harg5 arg6 harg6 arg7 harg7 arg8 harg8 arg9 harg9 arg10 harg10 arg11 harg11 arg12 harg12 X1 X2 X3 X5 X6 X10 G7 k (pieces c i arg1 harg1 arg2 harg2 arg3 harg3 arg4 harg4 arg5 harg5 arg6 harg6 arg7 harg7 arg8 harg8 arg9 harg9 arg10 harg10 arg11 harg11 arg12 harg12 X1 X2 X3 X5 X6 X10 G7 k)

theorem pieces_succ (c : Dev nD) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S4096x1 .f32) (harg10 : arg10.IsWhole) (arg11 : Memref sig .tc .vmem S1024x128 .f32) (harg11 : arg11.IsWhole) (arg12 : Memref sig .tc .vmem S1024x128 .f32) (harg12 : arg12.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X10 : BufTy.Contents (Elt F) arg10.view.ty) (G7 : BufTy.Contents (Elt F) arg7.view.ty) (k : Fin k0_t2_loop.trips) :
    pieces (F := F) c i arg1 harg1 arg2 harg2 arg3 harg3 arg4 harg4 arg5 harg5 arg6 harg6 arg7 harg7 arg8 harg8 arg9 harg9 arg10 harg10 arg11 harg11 arg12 harg12 X1 X2 X3 X5 X6 X10 G7 (k.val + 1)
      = ((trip (F := F) c i arg1 harg1 arg2 harg2 arg3 harg3 arg4 harg4 arg5 harg5 arg6 harg6 arg7 harg7 arg8 harg8 arg9 harg9 arg10 harg10 arg11 harg11 arg12 harg12 X1 X2 X3 X5 X6 X10 k).1 (arg7.view.writes (Elt F) G7 (pieces (F := F) c i arg1 harg1 arg2 harg2 arg3 harg3 arg4 harg4 arg5 harg5 arg6 harg6 arg7 harg7 arg8 harg8 arg9 harg9 arg10 harg10 arg11 harg11 arg12 harg12 X1 X2 X3 X5 X6 X10 G7 k.val).1) ++ (pieces (F := F) c i arg1 harg1 arg2 harg2 arg3 harg3 arg4 harg4 arg5 harg5 arg6 harg6 arg7 harg7 arg8 harg8 arg9 harg9 arg10 harg10 arg11 harg11 arg12 harg12 X1 X2 X3 X5 X6 X10 G7 k.val).1,
         (trip (F := F) c i arg1 harg1 arg2 harg2 arg3 harg3 arg4 harg4 arg5 harg5 arg6 harg6 arg7 harg7 arg8 harg8 arg9 harg9 arg10 harg10 arg11 harg11 arg12 harg12 X1 X2 X3 X5 X6 X10 k).2.1 (arg7.view.writes (Elt F) G7 (pieces (F := F) c i arg1 harg1 arg2 harg2 arg3 harg3 arg4 harg4 arg5 harg5 arg6 harg6 arg7 harg7 arg8 harg8 arg9 harg9 arg10 harg10 arg11 harg11 arg12 harg12 X1 X2 X3 X5 X6 X10 G7 k.val).1) ++ (pieces (F := F) c i arg1 harg1 arg2 harg2 arg3 harg3 arg4 harg4 arg5 harg5 arg6 harg6 arg7 harg7 arg8 harg8 arg9 harg9 arg10 harg10 arg11 harg11 arg12 harg12 X1 X2 X3 X5 X6 X10 G7 k.val).2.1,
         (trip (F := F) c i arg1 harg1 arg2 harg2 arg3 harg3 arg4 harg4 arg5 harg5 arg6 harg6 arg7 harg7 arg8 harg8 arg9 harg9 arg10 harg10 arg11 harg11 arg12 harg12 X1 X2 X3 X5 X6 X10 k).2.2.1 (arg7.view.writes (Elt F) G7 (pieces (F := F) c i arg1 harg1 arg2 harg2 arg3 harg3 arg4 harg4 arg5 harg5 arg6 harg6 arg7 harg7 arg8 harg8 arg9 harg9 arg10 harg10 arg11 harg11 arg12 harg12 X1 X2 X3 X5 X6 X10 G7 k.val).1) ++ (pieces (F := F) c i arg1 harg1 arg2 harg2 arg3 harg3 arg4 harg4 arg5 harg5 arg6 harg6 arg7 harg7 arg8 harg8 arg9 harg9 arg10 harg10 arg11 harg11 arg12 harg12 X1 X2 X3 X5 X6 X10 G7 k.val).2.2) := by
  rw [pieces.eq_2]; unfold step; exact dif_pos k.isLt

/-- What holds before trip `k`: the inputs at their contents, the three gradients with the pieces so far written, the two accumulators at
   anything. -/
abbrev inv (c : Dev nD) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S4096x1 .f32) (harg10 : arg10.IsWhole) (arg11 : Memref sig .tc .vmem S1024x128 .f32) (harg11 : arg11.IsWhole) (arg12 : Memref sig .tc .vmem S1024x128 .f32) (harg12 : arg12.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X10 : BufTy.Contents (Elt F) arg10.view.ty) (G7 : BufTy.Contents (Elt F) arg7.view.ty) (G8 : BufTy.Contents (Elt F) arg8.view.ty) (G9 : BufTy.Contents (Elt F) arg9.view.ty) (k : ℕ) (_u : PUnit) : sProp 𝕄K :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg10.view.loc (c : Thread nD τ) ↦[arg10.view.set]{fullShare} X10) ∗ (∃ f, (arg7.view.loc (c : Thread nD τ) ↦[arg7.view.set]{fullShare} f) ∗ ⌜f = arg7.view.writes (Elt F) G7 (pieces (F := F) c i arg1 harg1 arg2 harg2 arg3 harg3 arg4 harg4 arg5 harg5 arg6 harg6 arg7 harg7 arg8 harg8 arg9 harg9 arg10 harg10 arg11 harg11 arg12 harg12 X1 X2 X3 X5 X6 X10 G7 k).1⌝)
    ∗ (∃ f, (arg8.view.loc (c : Thread nD τ) ↦[arg8.view.set]{fullShare} f) ∗ ⌜f = arg8.view.writes (Elt F) G8 (pieces (F := F) c i arg1 harg1 arg2 harg2 arg3 harg3 arg4 harg4 arg5 harg5 arg6 harg6 arg7 harg7 arg8 harg8 arg9 harg9 arg10 harg10 arg11 harg11 arg12 harg12 X1 X2 X3 X5 X6 X10 G7 k).2.1⌝)
    ∗ (∃ f, (arg9.view.loc (c : Thread nD τ) ↦[arg9.view.set]{fullShare} f) ∗ ⌜f = arg9.view.writes (Elt F) G9 (pieces (F := F) c i arg1 harg1 arg2 harg2 arg3 harg3 arg4 harg4 arg5 harg5 arg6 harg6 arg7 harg7 arg8 harg8 arg9 harg9 arg10 harg10 arg11 harg11 arg12 harg12 X1 X2 X3 X5 X6 X10 G7 k).2.2⌝)
    ∗ (∃ f, (arg11.view.loc (c : Thread nD τ) ↦[arg11.view.set]{fullShare} f))
    ∗ (∃ f, (arg12.view.loc (c : Thread nD τ) ↦[arg12.view.set]{fullShare} f)))

set_option warn.classDefReducibility false in
/-- The loop over key blocks, by its invariant: after it the three gradients hold every trip's pieces. -/
@[sl_loop] def loopInv (c : Dev nD) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S4096x1 .f32) (harg10 : arg10.IsWhole) (arg11 : Memref sig .tc .vmem S1024x128 .f32) (harg11 : arg11.IsWhole) (arg12 : Memref sig .tc .vmem S1024x128 .f32) (harg12 : arg12.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X10 : BufTy.Contents (Elt F) arg10.view.ty) (G7 : BufTy.Contents (Elt F) arg7.view.ty) (G8 : BufTy.Contents (Elt F) arg8.view.ty) (G9 : BufTy.Contents (Elt F) arg9.view.ty) :
    LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 where
  inv := inv (F := F) c i arg1 harg1 arg2 harg2 arg3 harg3 arg4 harg4 arg5 harg5 arg6 harg6 arg7 harg7 arg8 harg8 arg9 harg9 arg10 harg10 arg11 harg11 arg12 harg12 X1 X2 X3 X5 X6 X10 G7 G8 G9
  step k acc := by
    iintro ⟨H1, H2, H3, H5, H6, H10, ⟨%f7, H7, %h7⟩, ⟨%f8, H8, %h8⟩, ⟨%f9, H9, %h9⟩, ⟨%f11, H11⟩, ⟨%f12, H12⟩⟩
    iapply (wp_wand_r Idealize.ShloMosaic.frame (wpE (defs₀ (F := F)) Variants.none (c : Thread nD τ) none) Set.univ)
    isplitl [H1 H2 H3 H5 H6 H10 H7 H8 H9 H11 H12]
    · iapply ((trip (F := F) c i arg1 harg1 arg2 harg2 arg3 harg3 arg4 harg4 arg5 harg5 arg6 harg6 arg7 harg7 arg8 harg8 arg9 harg9 arg10 harg10 arg11 harg11 arg12 harg12 X1 X2 X3 X5 X6 X10 k).2.2.2 f7 f8 f9 f11 f12)
      isplitl [H1]; · iexact H1
      isplitl [H2]; · iexact H2
      isplitl [H3]; · iexact H3
      isplitl [H5]; · iexact H5
      isplitl [H6]; · iexact H6
      isplitl [H10]; · iexact H10
      isplitl [H7]; · iexact H7
      isplitl [H8]; · iexact H8
      isplitl [H9]; · iexact H9
      isplitl [H11]; · iexact H11
      iexact H12
    · iintro %_ ⟨%g11, %g12, H1, H2, H3, H5, H6, H10, H7, H8, H9, H11, H12⟩
      isplitl [H1]; · iexact H1
      isplitl [H2]; · iexact H2
      isplitl [H3]; · iexact H3
      isplitl [H5]; · iexact H5
      isplitl [H6]; · iexact H6
      isplitl [H10]; · iexact H10
      rw [pieces_succ]
      isplitl [H7]
      · iexists _; isplitl [H7]; · iexact H7
        ipureintro; rw [h7, ← View.writes_append]
      isplitl [H8]
      · iexists _; isplitl [H8]; · iexact H8
        ipureintro; rw [h7, h8, ← View.writes_append]
      isplitl [H9]
      · iexists _; isplitl [H9]; · iexact H9
        ipureintro; rw [h7, h9, ← View.writes_append]
      isplitl [H11]; · iexists _; iexact H11
      iexists _; iexact H12

end Cert.Proof.KernelIdeal

end
-- ==== Proof.KernelIdeal.Body.lean ====
/- The whole body of the latent attention's backward call (`KernelIdeal`), run once for any core, any grid point and any contents. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.KernelIdeal.Loop

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄K" => MT nD τ sig Unit (Elt F) ℕ (UR sig nD τ) ℕ

theorem trips1 : k0_t1_loop.trips = 4 := by decide +kernel
theorem trips2 : k0_t2_loop.trips = 4 := by decide +kernel

/-- What one trip of the row-sum loop writes: the row sums of its 1024 rows. -/
theorem rowTrip_eq (c : Dev nD) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S4096x1 .f32) (harg10 : arg10.IsWhole) (arg11 : Memref sig .tc .vmem S1024x128 .f32) (harg11 : arg11.IsWhole) (arg12 : Memref sig .tc .vmem S1024x128 .f32) (harg12 : arg12.IsWhole) (X4 : BufTy.Contents (Elt F) arg4.view.ty) (X6 : BufTy.Contents (Elt F) arg6.view.ty) (k : Fin k0_t1_loop.trips) :
    (trip_k0_t1 (F := F) Variants.none c none i arg1 harg1 arg2 harg2 arg3 harg3 arg4 harg4 arg5 harg5 arg6 harg6 arg7 harg7 arg8 harg8 arg9 harg9 arg10 harg10 arg11 harg11 arg12 harg12 X4 X6 k).1
      = [⟨Rect.unit (s := S4096x1) (k0_off2 k) S1024x1.size (k0_off2_inb k),
          k0_pay2 (arg6.view.readAt (Elt F) (Rect.unit (s := S1x4096x128) (k0_off1 k) S1x1024x128.size (k0_off1_inb k)).toLoadRect X6)
            (arg4.view.readAt (Elt F) (Rect.unit (s := S1x4096x128) (k0_off1 k) S1x1024x128.size (k0_off1_inb k)).toLoadRect X4)⟩] := by
  unfold trip_k0_t1; rfl

/-- After `n` trips the row sums' scratch is written in its first `1024 n` rows. -/
theorem rows_cover (c : Dev nD) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S4096x1 .f32) (harg10 : arg10.IsWhole) (arg11 : Memref sig .tc .vmem S1024x128 .f32) (harg11 : arg11.IsWhole) (arg12 : Memref sig .tc .vmem S1024x128 .f32) (harg12 : arg12.IsWhole) (X4 : BufTy.Contents (Elt F) arg4.view.ty) (X6 : BufTy.Contents (Elt F) arg6.view.ty) (y : S4096x1.Idx) :
    ∀ n : ℕ, n ≤ 4 → (y 0).val < 1024 * n → ∃ p ∈ pb_k0_t1 (F := F) Variants.none c none i arg1 harg1 arg2 harg2 arg3 harg3 arg4 harg4 arg5 harg5 arg6 harg6 arg7 harg7 arg8 harg8 arg9 harg9 arg10 harg10 arg11 harg11 arg12 harg12 X4 X6 n, y ∈ p.1.set
  | 0, _, h => absurd h (by omega)
  | n + 1, hn, h => by
    have hlt : n < k0_t1_loop.trips := by rw [trips1]; omega
    rw [pb_k0_t1_succ (F := F) Variants.none c none i arg1 harg1 arg2 harg2 arg3 harg3 arg4 harg4 arg5 harg5 arg6 harg6 arg7 harg7 arg8 harg8 arg9 harg9 arg10 harg10 arg11 harg11 arg12 harg12 X4 X6 ⟨n, hlt⟩]
    by_cases hy : (y 0).val < 1024 * n
    · obtain ⟨p, hp, hm⟩ := rows_cover c i arg1 harg1 arg2 harg2 arg3 harg3 arg4 harg4 arg5 harg5 arg6 harg6 arg7 harg7 arg8 harg8 arg9 harg9 arg10 harg10 arg11 harg11 arg12 harg12 X4 X6 y n (by omega) hy
      exact ⟨p, List.mem_append_right _ hp, hm⟩
    · refine ⟨_, List.mem_append_left _ (by unfold tripL_k0_t1; rw [rowTrip_eq]; exact List.mem_singleton.mpr rfl), ?_⟩
      refine (Rect.mem_set_unit (inb := k0_off2_inb ⟨n, hlt⟩)).mpr fun a => ?_
      have h1 : (y 1).val < 1 := (y 1).isLt
      rw [k0_off2_eq]
      match a with
      | ⟨0, _⟩ => exact ⟨by show 1024 * n ≤ (y 0).val; omega, by show (y 0).val < 1024 * n + 1024; omega⟩
      | ⟨1, _⟩ => exact ⟨Nat.zero_le _, by show (y 1).val < 0 + 1; omega⟩

/-- The row sums' scratch after the loop, whatever it held before. -/
theorem rows_any (c : Dev nD) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S4096x1 .f32) (harg10 : arg10.IsWhole) (arg11 : Memref sig .tc .vmem S1024x128 .f32) (harg11 : arg11.IsWhole) (arg12 : Memref sig .tc .vmem S1024x128 .f32) (harg12 : arg12.IsWhole) (X4 : BufTy.Contents (Elt F) arg4.view.ty) (X6 : BufTy.Contents (Elt F) arg6.view.ty) (f : BufTy.Contents (Elt F) arg10.view.ty) :
    arg10.view.writes (Elt F) f (pb_k0_t1 (F := F) Variants.none c none i arg1 harg1 arg2 harg2 arg3 harg3 arg4 harg4 arg5 harg5 arg6 harg6 arg7 harg7 arg8 harg8 arg9 harg9 arg10 harg10 arg11 harg11 arg12 harg12 X4 X6 (Scf.trips k0_t1_loop.lb k0_t1_loop.ub k0_t1_loop.st))
      = arg10.view.writes (Elt F) arg10.view.junk (pb_k0_t1 (F := F) Variants.none c none i arg1 harg1 arg2 harg2 arg3 harg3 arg4 harg4 arg5 harg5 arg6 harg6 arg7 harg7 arg8 harg8 arg9 harg9 arg10 harg10 arg11 harg11 arg12 harg12 X4 X6 4) := by
  rw [show Scf.trips k0_t1_loop.lb k0_t1_loop.ub k0_t1_loop.st = 4 from trips1]
  refine harg10.read_bijective.1 (View.read_writes_of_cover _ _ _ _ _ fun y => rows_cover c i arg1 harg1 arg2 harg2 arg3 harg3 arg4 harg4 arg5 harg5 arg6 harg6 arg7 harg7 arg8 harg8 arg9 harg9 arg10 harg10 arg11 harg11 arg12 harg12 X4 X6 y 4 le_rfl (y 0).isLt)

/-- What the body holds: as one trip, with the attention's output beside. -/
abbrev HoldB (c : Dev nD) (arg1 : Memref sig .tc .vmem S1x4096x128 .bf16) (arg2 : Memref sig .tc .vmem S1x4096x128 .bf16) (arg3 : Memref sig .tc .vmem S1x4096x128 .bf16) (arg4 : Memref sig .tc .vmem S1x4096x128 .f32) (arg5 : Memref sig .tc .vmem S1x4096x128 .f32) (arg6 : Memref sig .tc .vmem S1x4096x128 .f32) (arg7 : Memref sig .tc .vmem S1x4096x128 .f32) (arg8 : Memref sig .tc .vmem S1x4096x128 .f32) (arg9 : Memref sig .tc .vmem S1x4096x128 .f32) (arg10 : Memref sig .tc .vmem S4096x1 .f32) (arg11 : Memref sig .tc .vmem S1024x128 .f32) (arg12 : Memref sig .tc .vmem S1024x128 .f32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) : sProp 𝕄K :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))

/-- The whole body: from the six inputs at their contents and the outputs and scratch at anything, it ends with the inputs
   unchanged and the three gradients holding every trip's pieces. The row sums it keeps in scratch and what it starts the
   queries' gradient at are the run's own finds. -/
@[irreducible] def bodyRun (c : Dev nD) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S4096x1 .f32) (harg10 : arg10.IsWhole) (arg11 : Memref sig .tc .vmem S1024x128 .f32) (harg11 : arg11.IsWhole) (arg12 : Memref sig .tc .vmem S1024x128 .f32) (harg12 : arg12.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) :
    Σ' (Y7 : BufTy.Contents (Elt F) arg7.view.ty) (L8 : List (View.Piece (Elt F) S1x4096x128 .f32)), { L9 : List (View.Piece (Elt F) S1x4096x128 .f32) // ∀ (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty),
        HoldB (F := F) c arg1 arg2 arg3 arg4 arg5 arg6 arg7 arg8 arg9 arg10 arg11 arg12 X1 X2 X3 X4 X5 X6 f7 f8 f9 f10 f11 f12
        ⊢ wp frame (wpE (defs₀ (F := F)) Variants.none (c : Thread nD τ) none) Set.univ (cc0_mla_attn_bwd (F := F) i arg1 harg1 arg2 harg2 arg3 harg3 arg4 harg4 arg5 harg5 arg6 harg6 arg7 harg7 arg8 harg8 arg9 harg9 arg10 harg10 arg11 harg11 arg12 harg12)
            (fun _ => iprop(∃ g10 g11 g12, HoldB (F := F) c arg1 arg2 arg3 arg4 arg5 arg6 arg7 arg8 arg9 arg10 arg11 arg12 X1 X2 X3 X4 X5 X6
              Y7 (arg8.view.writes (Elt F) f8 L8) (arg9.view.writes (Elt F) f9 L9) g10 g11 g12)) } := by
  refine ⟨?_, ?_, ?_, fun f7 f8 f9 f10 f11 f12 => ?run⟩
  case run =>
    rw [cc0_mla_attn_bwd_eq_skeleton]; unfold cc0_mla_attn_bwd_skel
    iintro ⟨H1, H2, H3, H4, H5, H6, H7, H8, H9, H10, H11, H12⟩
    sl_exec
    sl_step
    rw [rows_any c i arg1 harg1 arg2 harg2 arg3 harg3 arg4 harg4 arg5 harg5 arg6 harg6 arg7 harg7 arg8 harg8 arg9 harg9 arg10 harg10 arg11 harg11 arg12 harg12 X4 X6 f10]
    iexists _, _, _
    sl_close

/-- The row sums' scratch as the loop over key blocks finds it. -/
def sums (c : Dev nD) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S4096x1 .f32) (harg10 : arg10.IsWhole) (arg11 : Memref sig .tc .vmem S1024x128 .f32) (harg11 : arg11.IsWhole) (arg12 : Memref sig .tc .vmem S1024x128 .f32) (harg12 : arg12.IsWhole) (X4 : BufTy.Contents (Elt F) arg4.view.ty) (X6 : BufTy.Contents (Elt F) arg6.view.ty) : BufTy.Contents (Elt F) arg10.view.ty :=
  arg10.view.writes (Elt F) arg10.view.junk (pb_k0_t1 (F := F) Variants.none c none i arg1 harg1 arg2 harg2 arg3 harg3 arg4 harg4 arg5 harg5 arg6 harg6 arg7 harg7 arg8 harg8 arg9 harg9 arg10 harg10 arg11 harg11 arg12 harg12 X4 X6 4)

/-- The queries' gradient as the loop over key blocks finds it: zero. -/
def zeros (arg7 : Memref sig .tc .vmem S1x4096x128 .f32) : BufTy.Contents (Elt F) arg7.view.ty :=
  arg7.view.writes (Elt F) arg7.view.junk [⟨Rect.unit (s := S1x4096x128) ![0, 0, 0] S1x4096x128.size (by decide), k0_pay1⟩]

/-- What the run leaves in the three gradients: the four trips' pieces, from the row sums and from zero. -/
theorem bodyRun_eq (c : Dev nD) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S4096x1 .f32) (harg10 : arg10.IsWhole) (arg11 : Memref sig .tc .vmem S1024x128 .f32) (harg11 : arg11.IsWhole) (arg12 : Memref sig .tc .vmem S1024x128 .f32) (harg12 : arg12.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) :
    (bodyRun (F := F) c i arg1 harg1 arg2 harg2 arg3 harg3 arg4 harg4 arg5 harg5 arg6 harg6 arg7 harg7 arg8 harg8 arg9 harg9 arg10 harg10 arg11 harg11 arg12 harg12 X1 X2 X3 X4 X5 X6).1 = arg7.view.writes (Elt F) (zeros arg7) (pieces (F := F) c i arg1 harg1 arg2 harg2 arg3 harg3 arg4 harg4 arg5 harg5 arg6 harg6 arg7 harg7 arg8 harg8 arg9 harg9 arg10 harg10 arg11 harg11 arg12 harg12 X1 X2 X3 X5 X6 (sums c i arg1 harg1 arg2 harg2 arg3 harg3 arg4 harg4 arg5 harg5 arg6 harg6 arg7 harg7 arg8 harg8 arg9 harg9 arg10 harg10 arg11 harg11 arg12 harg12 X4 X6) (zeros arg7) 4).1
      ∧ (bodyRun (F := F) c i arg1 harg1 arg2 harg2 arg3 harg3 arg4 harg4 arg5 harg5 arg6 harg6 arg7 harg7 arg8 harg8 arg9 harg9 arg10 harg10 arg11 harg11 arg12 harg12 X1 X2 X3 X4 X5 X6).2.1 = (pieces (F := F) c i arg1 harg1 arg2 harg2 arg3 harg3 arg4 harg4 arg5 harg5 arg6 harg6 arg7 harg7 arg8 harg8 arg9 harg9 arg10 harg10 arg11 harg11 arg12 harg12 X1 X2 X3 X5 X6 (sums c i arg1 harg1 arg2 harg2 arg3 harg3 arg4 harg4 arg5 harg5 arg6 harg6 arg7 harg7 arg8 harg8 arg9 harg9 arg10 harg10 arg11 harg11 arg12 harg12 X4 X6) (zeros arg7) 4).2.1
      ∧ (bodyRun (F := F) c i arg1 harg1 arg2 harg2 arg3 harg3 arg4 harg4 arg5 harg5 arg6 harg6 arg7 harg7 arg8 harg8 arg9 harg9 arg10 harg10 arg11 harg11 arg12 harg12 X1 X2 X3 X4 X5 X6).2.2.1 = (pieces (F := F) c i arg1 harg1 arg2 harg2 arg3 harg3 arg4 harg4 arg5 harg5 arg6 harg6 arg7 harg7 arg8 harg8 arg9 harg9 arg10 harg10 arg11 harg11 arg12 harg12 X1 X2 X3 X5 X6 (sums c i arg1 harg1 arg2 harg2 arg3 harg3 arg4 harg4 arg5 harg5 arg6 harg6 arg7 harg7 arg8 harg8 arg9 harg9 arg10 harg10 arg11 harg11 arg12 harg12 X4 X6) (zeros arg7) 4).2.2 := by
  unfold bodyRun
  dsimp only
  rw [show Scf.trips k0_t2_loop.lb k0_t2_loop.ub k0_t2_loop.st = 4 from trips2, View.writes_append]
  exact ⟨rfl, rfl, rfl⟩

/-- A trip writes its 1024 rows of the keys' gradient. -/
theorem trip_keys (c : Dev nD) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S4096x1 .f32) (harg10 : arg10.IsWhole) (arg11 : Memref sig .tc .vmem S1024x128 .f32) (harg11 : arg11.IsWhole) (arg12 : Memref sig .tc .vmem S1024x128 .f32) (harg12 : arg12.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X10 : BufTy.Contents (Elt F) arg10.view.ty) (f7 : BufTy.Contents (Elt F) arg7.view.ty) (k : Fin k0_t2_loop.trips) :
    ∃ v, (trip (F := F) c i arg1 harg1 arg2 harg2 arg3 harg3 arg4 harg4 arg5 harg5 arg6 harg6 arg7 harg7 arg8 harg8 arg9 harg9 arg10 harg10 arg11 harg11 arg12 harg12 X1 X2 X3 X5 X6 X10 k).2.1 f7 = [⟨Rect.unit (s := S1x4096x128) (k0_off3 k) S1x1024x128.size (k0_off3_inb k), v⟩] := by
  unfold trip; exact ⟨_, rfl⟩

/-- A trip writes its 1024 rows of the values' gradient. -/
theorem trip_values (c : Dev nD) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S4096x1 .f32) (harg10 : arg10.IsWhole) (arg11 : Memref sig .tc .vmem S1024x128 .f32) (harg11 : arg11.IsWhole) (arg12 : Memref sig .tc .vmem S1024x128 .f32) (harg12 : arg12.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X10 : BufTy.Contents (Elt F) arg10.view.ty) (f7 : BufTy.Contents (Elt F) arg7.view.ty) (k : Fin k0_t2_loop.trips) :
    ∃ v, (trip (F := F) c i arg1 harg1 arg2 harg2 arg3 harg3 arg4 harg4 arg5 harg5 arg6 harg6 arg7 harg7 arg8 harg8 arg9 harg9 arg10 harg10 arg11 harg11 arg12 harg12 X1 X2 X3 X5 X6 X10 k).2.2.1 f7 = [⟨Rect.unit (s := S1x4096x128) (k0_off3 k) S1x1024x128.size (k0_off3_inb k), v⟩] := by
  unfold trip; exact ⟨_, rfl⟩

/-- Rows `1024 n` up to `1024 (n + 1)` lie in trip `n`'s rectangle. -/
theorem mem_block (k : Fin k0_t2_loop.trips) (y : S1x4096x128.Idx) (h₁ : 1024 * k.val ≤ (y 1).val) (h₂ : (y 1).val < 1024 * (k.val + 1)) :
    y ∈ (Rect.unit (s := S1x4096x128) (k0_off3 k) S1x1024x128.size (k0_off3_inb k)).set := by
  refine (Rect.mem_set_unit (inb := k0_off3_inb k)).mpr fun a => ?_
  have h0 : (y 0).val < 1 := (y 0).isLt
  have h2 : (y 2).val < 128 := (y 2).isLt
  rw [k0_off3_eq]
  match a with
  | ⟨0, _⟩ => exact ⟨Nat.zero_le _, by show (y 0).val < 0 + 1; omega⟩
  | ⟨1, _⟩ => exact ⟨by show 1024 * k.val ≤ (y 1).val; omega, by show (y 1).val < 1024 * k.val + 1024; omega⟩
  | ⟨2, _⟩ => exact ⟨Nat.zero_le _, by show (y 2).val < 0 + 128; omega⟩

/-- After `n` trips the first `1024 n` rows of the keys' and of the values' gradient are written. -/
theorem pieces_cover (c : Dev nD) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S4096x1 .f32) (harg10 : arg10.IsWhole) (arg11 : Memref sig .tc .vmem S1024x128 .f32) (harg11 : arg11.IsWhole) (arg12 : Memref sig .tc .vmem S1024x128 .f32) (harg12 : arg12.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X10 : BufTy.Contents (Elt F) arg10.view.ty) (G7 : BufTy.Contents (Elt F) arg7.view.ty) (y : S1x4096x128.Idx) :
    ∀ n : ℕ, n ≤ 4 → (y 1).val < 1024 * n →
      (∃ p ∈ (pieces (F := F) c i arg1 harg1 arg2 harg2 arg3 harg3 arg4 harg4 arg5 harg5 arg6 harg6 arg7 harg7 arg8 harg8 arg9 harg9 arg10 harg10 arg11 harg11 arg12 harg12 X1 X2 X3 X5 X6 X10 G7 n).2.1, y ∈ p.1.set) ∧ (∃ p ∈ (pieces (F := F) c i arg1 harg1 arg2 harg2 arg3 harg3 arg4 harg4 arg5 harg5 arg6 harg6 arg7 harg7 arg8 harg8 arg9 harg9 arg10 harg10 arg11 harg11 arg12 harg12 X1 X2 X3 X5 X6 X10 G7 n).2.2, y ∈ p.1.set)
  | 0, _, h => absurd h (by omega)
  | n + 1, hn, h => by
    have hlt : n < k0_t2_loop.trips := by rw [trips2]; omega
    rw [pieces_succ (F := F) c i arg1 harg1 arg2 harg2 arg3 harg3 arg4 harg4 arg5 harg5 arg6 harg6 arg7 harg7 arg8 harg8 arg9 harg9 arg10 harg10 arg11 harg11 arg12 harg12 X1 X2 X3 X5 X6 X10 G7 ⟨n, hlt⟩]
    by_cases hy : (y 1).val < 1024 * n
    · obtain ⟨⟨p, hp, hm⟩, q, hq, hm'⟩ := pieces_cover c i arg1 harg1 arg2 harg2 arg3 harg3 arg4 harg4 arg5 harg5 arg6 harg6 arg7 harg7 arg8 harg8 arg9 harg9 arg10 harg10 arg11 harg11 arg12 harg12 X1 X2 X3 X5 X6 X10 G7 y n (by omega) hy
      exact ⟨⟨p, List.mem_append_right _ hp, hm⟩, q, List.mem_append_right _ hq, hm'⟩
    · have hm := mem_block ⟨n, hlt⟩ y (Nat.le_of_not_lt hy) h
      generalize arg7.view.writes (Elt F) G7 _ = f7
      obtain ⟨v, hv⟩ := trip_keys (F := F) c i arg1 harg1 arg2 harg2 arg3 harg3 arg4 harg4 arg5 harg5 arg6 harg6 arg7 harg7 arg8 harg8 arg9 harg9 arg10 harg10 arg11 harg11 arg12 harg12 X1 X2 X3 X5 X6 X10 f7 ⟨n, hlt⟩
      obtain ⟨w, hw⟩ := trip_values (F := F) c i arg1 harg1 arg2 harg2 arg3 harg3 arg4 harg4 arg5 harg5 arg6 harg6 arg7 harg7 arg8 harg8 arg9 harg9 arg10 harg10 arg11 harg11 arg12 harg12 X1 X2 X3 X5 X6 X10 f7 ⟨n, hlt⟩
      rw [hv, hw]
      exact ⟨⟨_, List.mem_append_left _ (List.mem_singleton.mpr rfl), hm⟩, ⟨_, List.mem_append_left _ (List.mem_singleton.mpr rfl), hm⟩⟩

/-- The run writes every element of the keys' gradient. -/
theorem cover8 (c : Dev nD) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S4096x1 .f32) (harg10 : arg10.IsWhole) (arg11 : Memref sig .tc .vmem S1024x128 .f32) (harg11 : arg11.IsWhole) (arg12 : Memref sig .tc .vmem S1024x128 .f32) (harg12 : arg12.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (y : S1x4096x128.Idx) :
    ∃ p ∈ (bodyRun (F := F) c i arg1 harg1 arg2 harg2 arg3 harg3 arg4 harg4 arg5 harg5 arg6 harg6 arg7 harg7 arg8 harg8 arg9 harg9 arg10 harg10 arg11 harg11 arg12 harg12 X1 X2 X3 X4 X5 X6).2.1, y ∈ p.1.set := by
  rw [(bodyRun_eq (F := F) c i arg1 harg1 arg2 harg2 arg3 harg3 arg4 harg4 arg5 harg5 arg6 harg6 arg7 harg7 arg8 harg8 arg9 harg9 arg10 harg10 arg11 harg11 arg12 harg12 X1 X2 X3 X4 X5 X6).2.1]
  exact (pieces_cover _ _ arg1 harg1 arg2 harg2 arg3 harg3 arg4 harg4 arg5 harg5 arg6 harg6 arg7 harg7 arg8 harg8 arg9 harg9 arg10 harg10 arg11 harg11 arg12 harg12 _ _ _ _ _ _ _ y 4 le_rfl (y 1).isLt).1

/-- The run writes every element of the values' gradient. -/
theorem cover9 (c : Dev nD) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S4096x1 .f32) (harg10 : arg10.IsWhole) (arg11 : Memref sig .tc .vmem S1024x128 .f32) (harg11 : arg11.IsWhole) (arg12 : Memref sig .tc .vmem S1024x128 .f32) (harg12 : arg12.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (y : S1x4096x128.Idx) :
    ∃ p ∈ (bodyRun (F := F) c i arg1 harg1 arg2 harg2 arg3 harg3 arg4 harg4 arg5 harg5 arg6 harg6 arg7 harg7 arg8 harg8 arg9 harg9 arg10 harg10 arg11 harg11 arg12 harg12 X1 X2 X3 X4 X5 X6).2.2.1, y ∈ p.1.set := by
  rw [(bodyRun_eq (F := F) c i arg1 harg1 arg2 harg2 arg3 harg3 arg4 harg4 arg5 harg5 arg6 harg6 arg7 harg7 arg8 harg8 arg9 harg9 arg10 harg10 arg11 harg11 arg12 harg12 X1 X2 X3 X4 X5 X6).2.2]
  exact (pieces_cover _ _ arg1 harg1 arg2 harg2 arg3 harg3 arg4 harg4 arg5 harg5 arg6 harg6 arg7 harg7 arg8 harg8 arg9 harg9 arg10 harg10 arg11 harg11 arg12 harg12 _ _ _ _ _ _ _ y 4 le_rfl (y 1).isLt).2

end Cert.Proof.KernelIdeal

end
-- ==== Proof.KernelIdeal.Launch.lean ====
/- The launch of the latent attention's backward call (`KernelIdeal`): what the pipeline holds before and after the body at a
   head, the body's obligation there, the run of the whole program, and its frame. -/
module

public import proofs.«01_k».proof.Proof.KernelIdeal.Body
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The queries' gradient of head `t`: what the body's run leaves in its staging buffer. -/
def out0_6 (c : Dev nD) (t : Fin cfg0.N) : Vec F S1x4096x128 .f32 :=
  (win0_6.stage (cfg0.slots t 6)).view.read (Elt F) (bodyRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t))).1

/-- The keys' gradient of head `t`. -/
def out0_7 (c : Dev nD) (t : Fin cfg0.N) : Vec F S1x4096x128 .f32 :=
  (win0_7.stage (cfg0.slots t 7)).view.read (Elt F) ((win0_7.stage (cfg0.slots t 7)).view.writes (Elt F) (win0_7.stage (cfg0.slots t 7)).view.junk (bodyRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t))).2.1)

/-- The values' gradient of head `t`. -/
def out0_8 (c : Dev nD) (t : Fin cfg0.N) : Vec F S1x4096x128 .f32 :=
  (win0_8.stage (cfg0.slots t 8)).view.read (Elt F) ((win0_8.stage (cfg0.slots t 8)).view.writes (Elt F) (win0_8.stage (cfg0.slots t 8)).view.junk (bodyRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t))).2.2.1)

/-- The pipeline's proof data on core `c`: the arrays as the region finds them; after the body at head `t` each input's buffer
    at its block and each output's at the run's; the scratch at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 m c t
    | ⟨7, _⟩ => out0_7 m c t
    | ⟨8, _⟩ => out0_8 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 m c t := by dsimp only [dats]
theorem after0_7 (c : Dev nD) (t : Fin cfg0.N) : (dats m 0 c).after 7 t = out0_7 m c t := by dsimp only [dats]
theorem after0_8 (c : Dev nD) (t : Fin cfg0.N) : (dats m 0 c).after 8 t = out0_8 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at head `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any head: the inputs' buffers hold their blocks, so the run applies, from whatever the outputs' buffers and the
    scratch hold; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7, after0_8]
  rw [show (dats m 0 c).Φ t.succ = Pipeline.ΦA spec0 c from rfl, show (dats m 0 c).Φ t.castSucc = Pipeline.ΦA spec0 c from rfl]
  unfold Pipeline.ΦA
  rw [scopedRest0_eq]
  unfold out0_6 out0_7 out0_8
  unfold owns
  iintro ⟨⟨⟨⟨%s0, S0⟩, ⟨%s1, S1⟩, ⟨%s2, S2⟩⟩, Hg⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩⟩
  have e0' := (hstage0_0 ((cfg0.slots t 0).cast nbuf0_0)).eq_unread e0
  have e1' := (hstage0_1 ((cfg0.slots t 1).cast nbuf0_1)).eq_unread e1
  have e2' := (hstage0_2 ((cfg0.slots t 2).cast nbuf0_2)).eq_unread e2
  have e3' := (hstage0_3 ((cfg0.slots t 3).cast nbuf0_3)).eq_unread e3
  have e4' := (hstage0_4 ((cfg0.slots t 4).cast nbuf0_4)).eq_unread e4
  have e5' := (hstage0_5 ((cfg0.slots t 5).cast nbuf0_5)).eq_unread e5
  subst e0' e1' e2' e3' e4' e5'
  iapply (wp_wand_r Idealize.ShloMosaic.frame (wpE (defs₀ (F := F)) Variants.none (c : Thread nD τ) none) Set.univ)
  isplitl [H0 H1 H2 H3 H4 H5 H6 H7 H8 S0 S1 S2]
  · iapply ((bodyRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t))).2.2.2 f6 f7 f8 s0 s1 s2)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    rw [View.set_whole, View.set_whole, View.set_whole]
    isplitl [S0]; · iexact S0
    isplitl [S1]; · iexact S1
    iexact S2
  · iintro %_ ⟨%s0', %s1', %s2', H0, H1, H2, H3, H4, H5, H6, H7, H8, S0, S1, S2⟩
    isplitl [S0 S1 S2 Hg]
    · isplitl [S0 S1 S2]
      · rw [View.set_whole, View.set_whole, View.set_whole]
        isplitl [S0]; · iexists _; iexact S0
        isplitl [S1]; · iexists _; iexact S1
        iexists _; iexact S2
      · iexact Hg
    isplitl [Ho]; · iexact Ho
    isplitl [H0]
    · iexists _; isplitr
      swap; · iexact H0
      ipureintro; exact (hstage0_0 ((cfg0.slots t 0).cast nbuf0_0)).read_unread _
    isplitl [H1]
    · iexists _; isplitr
      swap; · iexact H1
      ipureintro; exact (hstage0_1 ((cfg0.slots t 1).cast nbuf0_1)).read_unread _
    isplitl [H2]
    · iexists _; isplitr
      swap; · iexact H2
      ipureintro; exact (hstage0_2 ((cfg0.slots t 2).cast nbuf0_2)).read_unread _
    isplitl [H3]
    · iexists _; isplitr
      swap; · iexact H3
      ipureintro; exact (hstage0_3 ((cfg0.slots t 3).cast nbuf0_3)).read_unread _
    isplitl [H4]
    · iexists _; isplitr
      swap; · iexact H4
      ipureintro; exact (hstage0_4 ((cfg0.slots t 4).cast nbuf0_4)).read_unread _
    isplitl [H5]
    · iexists _; isplitr
      swap; · iexact H5
      ipureintro; exact (hstage0_5 ((cfg0.slots t 5).cast nbuf0_5)).read_unread _
    isplitl [H6]
    · iexists _; isplitr
      swap; · iexact H6
      ipureintro; rfl
    isplitl [H7]
    · iexists _; isplitr
      swap; · iexact H7
      ipureintro; exact View.read_writes_of_cover _ _ _ _ _ (cover8 (F := F) _ _ _ _ _ _ _ _ _ _ _ _ _ _ _ _ _ _ _ _ _ _ _ _ _ _ _ _ _ _ _ _)
    iexists _; isplitr
    swap; · iexact H8
    ipureintro; exact View.read_writes_of_cover _ _ _ _ _ (cover9 (F := F) _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

/-- The pipeline's obligation of the body, at every head. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the whole program: every array of the call ends at what the proof data say, every other buffer as the call found
    it, and every counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.KernelIdeal

end
-- ==== Proof.KernelIdeal.Pay.lean ====
/- The stored values of the latent attention's backward call (`KernelIdeal`) at an index, over the extended reals: each
   strip of query rows against the first keys of a block, in terms of the block's rows of the queries, the keys, the
   values, the output's gradient, the logarithms of the row sums and the row sums of the gradient against the output. -/
module

public import proofs.«01_k».proof.Proof.Gen.KernelIdeal
public import proofs.«01_k».proof.Proof.Gen.KernelIdeal.Skeleton
public import Idealize.ShloMosaic.Lib.Pointwise
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

/-- The scale of the scores with the change of base, as the kernel has it. -/
def scaleLog2 : EReal := (((3424635 / 33554432) * (Real.log 2)⁻¹ : ℝ) : EReal)

/-- The scale of the scores. -/
def scale : EReal := Ideal.ofBits FTy.f32 0x3DD105EC#32

/-- The kernel's probability of key `j` in row `i`: the power of two of the masked, scaled score less the row's logarithm. -/
def prob (Q K : ℕ → Fin 128 → EReal) (L : ℕ → EReal) (i j : ℕ) : EReal :=
  Ideal.exp2 ((if j ≤ i then (∑ x, Q i x * K j x) * scaleLog2 else ⊥) - L i)

/-- The kernel's gradient of the score of key `j` in row `i`. -/
def dscore (Q K V D : ℕ → Fin 128 → EReal) (L T : ℕ → EReal) (i j : ℕ) : EReal :=
  prob Q K L i j * ((∑ x, D i x * V j x) - T i) * scale

/-- A key after the row has no probability. -/
theorem prob_of_lt (Q K : ℕ → Fin 128 → EReal) (L : ℕ → EReal) {i j : ℕ} (h : i < j) : prob Q K L i j = 0 := by
  rw [prob, if_neg (by omega), EReal.bot_sub]; rfl

/-- A key after the row has no gradient. -/
theorem dscore_of_lt (Q K V D : ℕ → Fin 128 → EReal) (L T : ℕ → EReal) {i j : ℕ} (h : i < j) :
    dscore Q K V D L T i j = 0 := by
  rw [dscore, prob_of_lt Q K L h, zero_mul, zero_mul]

theorem named_scale : Named.named (F := Ideal) (φ := .f32) κ "scale_log2" 0x3E16C740#32 = scaleLog2 :=
  IdealRules.named_const.ideal_named_scalar _ _ _ _ rfl

theorem named_neg : Named.named (F := Ideal) (φ := .f32) κ "neg" 0xF149F2CA#32 = (⊥ : EReal) :=
  IdealRules.named_const.ideal_named_scalar _ _ _ _ rfl

/-- The mask compares the row and the key as naturals. -/
theorem mask_select {α : Type} (r o j : ℕ) (hr : r < 1024) (ho : o < 1024) (hj : j < 1024) (a b : α) :
    Scalar.select (IntOp.cmpi .sge (IntOp.addi (BitVec.ofNat 32 r) (BitVec.ofNat 32 o)) (BitVec.ofNat 32 j)) a b
      = if j ≤ o + r then a else b := by
  have e : IntOp.addi (BitVec.ofNat 32 r) (BitVec.ofNat 32 o) = BitVec.ofNat 32 (o + r) := by
    rw [Nat.add_comm]; exact (BitVec.ofNat_add r o).symm
  rw [e, WordCmp.cmpi_sge_ofNat (by omega) (by omega), Scalar.select]
  by_cases h : j ≤ o + r <;> simp [h]

variable {Q K V D : ℕ → Fin 128 → EReal} {L T : ℕ → EReal} {b : ℕ}

/-- The probabilities of the strip at row 0 of a block. -/
theorem prob_0 {v10 : FVec Ideal S1024x128 .bf16} {q : FVec Ideal S256x128 .bf16} {v92 : Vec Ideal S1x256x1 .f32}
    (hq : ∀ r l, q (ix2 r l) = Q (b + (0 + r.val)) l) (hk : ∀ j l, v10 (ix2 j l) = K (b + j.val) l)
    (hL : ∀ r, v92 (ix3 0 r 0) = L (b + (0 + r.val))) (r : Fin 256) (j : Fin 256) :
    k0_pay55 (k0_pay47 v10 q) v92 (ix2 r j) = prob Q K L (b + (0 + r.val)) (b + j.val) := by
  simp only [Nat.zero_add] at *
  pointwise [k0_pay55, k0_pay47]
  rw [named_scale, named_neg, hL, mask_select r.val 0 j.val (by omega) (by omega) (by omega)]
  simp only [hq, hk]
  rw [prob]
  have e : (b + j.val ≤ b + (r.val)) ↔ (j.val ≤ 0 + r.val) := by omega
  simp only [e]; rfl

/-- The gradients of the scores of the strip at row 0 of a block. -/
theorem dscore_0 {v10 v13 : FVec Ideal S1024x128 .bf16} {q : FVec Ideal S256x128 .bf16} {d : Vec Ideal S1x256x128 .f32}
    {v92 : Vec Ideal S1x256x1 .f32} {v105 : Vec Ideal S256x1 .f32}
    (hq : ∀ r l, q (ix2 r l) = Q (b + (0 + r.val)) l) (hk : ∀ j l, v10 (ix2 j l) = K (b + j.val) l)
    (hv : ∀ j l, v13 (ix2 j l) = V (b + j.val) l) (hd : ∀ r l, d (ix3 0 r l) = D (b + (0 + r.val)) l)
    (hL : ∀ r, v92 (ix3 0 r 0) = L (b + (0 + r.val))) (hT : ∀ r, v105 (ix2 r 0) = T (b + (0 + r.val)))
    (r : Fin 256) (j : Fin 256) :
    k0_pay57 (k0_pay47 v10 q) (k0_pay51 v13 d) v92 v105 (ix2 r j) = dscore Q K V D L T (b + (0 + r.val)) (b + j.val) := by
  have h0 := prob_0 hq hk hL r j
  simp only [Nat.zero_add] at *
  pointwise [k0_pay57, k0_pay51, k0_pay43]
  rw [h0, hT]
  simp only [hd, hv]; rfl

/-- The probabilities of the strip at row 256 of a block. -/
theorem prob_256 {v10 : FVec Ideal S1024x128 .bf16} {q : FVec Ideal S256x128 .bf16} {v92 : Vec Ideal S1x256x1 .f32}
    (hq : ∀ r l, q (ix2 r l) = Q (b + (256 + r.val)) l) (hk : ∀ j l, v10 (ix2 j l) = K (b + j.val) l)
    (hL : ∀ r, v92 (ix3 0 r 0) = L (b + (256 + r.val))) (r : Fin 256) (j : Fin 512) :
    k0_pay60 (k0_pay48 v10 q) v92 (ix2 r j) = prob Q K L (b + (256 + r.val)) (b + j.val) := by
  pointwise [k0_pay60, k0_pay48]
  rw [named_scale, named_neg, hL, mask_select r.val 256 j.val (by omega) (by omega) (by omega)]
  simp only [hq, hk]
  rw [prob]
  have e : (b + j.val ≤ b + (256 + r.val)) ↔ (j.val ≤ 256 + r.val) := by omega
  simp only [e]; rfl

/-- The gradients of the scores of the strip at row 256 of a block. -/
theorem dscore_256 {v10 v13 : FVec Ideal S1024x128 .bf16} {q : FVec Ideal S256x128 .bf16} {d : FVec Ideal S256x128 .bf16}
    {v92 : Vec Ideal S1x256x1 .f32} {v105 : Vec Ideal S256x1 .f32}
    (hq : ∀ r l, q (ix2 r l) = Q (b + (256 + r.val)) l) (hk : ∀ j l, v10 (ix2 j l) = K (b + j.val) l)
    (hv : ∀ j l, v13 (ix2 j l) = V (b + j.val) l) (hd : ∀ r l, d (ix2 r l) = D (b + (256 + r.val)) l)
    (hL : ∀ r, v92 (ix3 0 r 0) = L (b + (256 + r.val))) (hT : ∀ r, v105 (ix2 r 0) = T (b + (256 + r.val)))
    (r : Fin 256) (j : Fin 512) :
    k0_pay62 (k0_pay48 v10 q) (k0_pay52 v13 d) v92 v105 (ix2 r j) = dscore Q K V D L T (b + (256 + r.val)) (b + j.val) := by
  pointwise [k0_pay62, k0_pay52]
  rw [prob_256 hq hk hL, hT]
  simp only [hd, hv]; rfl

/-- The probabilities of the strip at row 512 of a block. -/
theorem prob_512 {v10 : FVec Ideal S1024x128 .bf16} {q : Vec Ideal S1x256x128 .bf16} {v92 : Vec Ideal S1x256x1 .f32}
    (hq : ∀ r l, q (ix3 0 r l) = Q (b + (512 + r.val)) l) (hk : ∀ j l, v10 (ix2 j l) = K (b + j.val) l)
    (hL : ∀ r, v92 (ix3 0 r 0) = L (b + (512 + r.val))) (r : Fin 256) (j : Fin 768) :
    k0_pay65 (k0_pay49 v10 q) v92 (ix2 r j) = prob Q K L (b + (512 + r.val)) (b + j.val) := by
  pointwise [k0_pay65, k0_pay49, k0_pay41]
  rw [named_scale, named_neg, hL, mask_select r.val 512 j.val (by omega) (by omega) (by omega)]
  simp only [hq, hk]
  rw [prob]
  have e : (b + j.val ≤ b + (512 + r.val)) ↔ (j.val ≤ 512 + r.val) := by omega
  simp only [e]; rfl

/-- The gradients of the scores of the strip at row 512 of a block. -/
theorem dscore_512 {v10 v13 : FVec Ideal S1024x128 .bf16} {q : Vec Ideal S1x256x128 .bf16} {d : FVec Ideal S256x128 .bf16}
    {v92 : Vec Ideal S1x256x1 .f32} {v105 : Vec Ideal S256x1 .f32}
    (hq : ∀ r l, q (ix3 0 r l) = Q (b + (512 + r.val)) l) (hk : ∀ j l, v10 (ix2 j l) = K (b + j.val) l)
    (hv : ∀ j l, v13 (ix2 j l) = V (b + j.val) l) (hd : ∀ r l, d (ix2 r l) = D (b + (512 + r.val)) l)
    (hL : ∀ r, v92 (ix3 0 r 0) = L (b + (512 + r.val))) (hT : ∀ r, v105 (ix2 r 0) = T (b + (512 + r.val)))
    (r : Fin 256) (j : Fin 768) :
    k0_pay68 (k0_pay67 (k0_pay49 v10 q) (k0_pay53 v13 d) v92 v105) (ix2 r j) = dscore Q K V D L T (b + (512 + r.val)) (b + j.val) := by
  pointwise [k0_pay68, k0_pay67, k0_pay53]
  rw [prob_512 hq hk hL, hT]
  simp only [hd, hv]; rfl

/-- The probabilities of the strip at row 768 of a block. -/
theorem prob_768 {v10 : FVec Ideal S1024x128 .bf16} {q : Vec Ideal S1x256x128 .bf16} {v92 : Vec Ideal S1x256x1 .f32}
    (hq : ∀ r l, q (ix3 0 r l) = Q (b + (768 + r.val)) l) (hk : ∀ j l, v10 (ix2 j l) = K (b + j.val) l)
    (hL : ∀ r, v92 (ix3 0 r 0) = L (b + (768 + r.val))) (r : Fin 256) (j : Fin 1024) :
    k0_pay71 (k0_pay50 v10 q) v92 (ix2 r j) = prob Q K L (b + (768 + r.val)) (b + j.val) := by
  pointwise [k0_pay71, k0_pay50, k0_pay42]
  rw [named_scale, named_neg, hL, mask_select r.val 768 j.val (by omega) (by omega) (by omega)]
  simp only [hq, hk]
  rw [prob]
  have e : (b + j.val ≤ b + (768 + r.val)) ↔ (j.val ≤ 768 + r.val) := by omega
  simp only [e]; rfl

/-- The gradients of the scores of the strip at row 768 of a block. -/
theorem dscore_768 {v10 v13 : FVec Ideal S1024x128 .bf16} {q : Vec Ideal S1x256x128 .bf16} {d : FVec Ideal S256x128 .bf16}
    {v92 : Vec Ideal S1x256x1 .f32} {v105 : Vec Ideal S256x1 .f32}
    (hq : ∀ r l, q (ix3 0 r l) = Q (b + (768 + r.val)) l) (hk : ∀ j l, v10 (ix2 j l) = K (b + j.val) l)
    (hv : ∀ j l, v13 (ix2 j l) = V (b + j.val) l) (hd : ∀ r l, d (ix2 r l) = D (b + (768 + r.val)) l)
    (hL : ∀ r, v92 (ix3 0 r 0) = L (b + (768 + r.val))) (hT : ∀ r, v105 (ix2 r 0) = T (b + (768 + r.val)))
    (r : Fin 256) (j : Fin 1024) :
    k0_pay74 (k0_pay54 v13 d) (k0_pay71 (k0_pay50 v10 q) v92) v105 (ix2 r j) = dscore Q K V D L T (b + (768 + r.val)) (b + j.val) := by
  pointwise [k0_pay74, k0_pay54]
  rw [prob_768 hq hk hL, hT]
  simp only [hd, hv]; rfl

theorem pay56_apply (d : FVec Ideal S256x128 .bf16) (s : FVec Ideal S256x256 .f32) (y : Vec Ideal S1x256x1 .f32) (a : Vec Ideal S256x128 .f32) (j : Fin 256) (l : Fin 128) :
    k0_pay56 d s y a (ix2 j l) = a (ix2 j l) + ∑ x : Fin 256, k0_pay55 s y (ix2 x j) * d (ix2 x l) := by
  pointwise [k0_pay56]

theorem pay58_apply (q : FVec Ideal S256x128 .bf16) (s u : FVec Ideal S256x256 .f32) (y : Vec Ideal S1x256x1 .f32) (t : Vec Ideal S256x1 .f32) (a : Vec Ideal S256x128 .f32) (j : Fin 256) (l : Fin 128) :
    k0_pay58 q s u y t a (ix2 j l) = a (ix2 j l) + ∑ x : Fin 256, k0_pay57 s u y t (ix2 x j) * q (ix2 x l) := by
  pointwise [k0_pay58]

theorem pay59_apply (k : FVec Ideal S1024x128 .bf16) (p : FVec Ideal S256x256 .bf16) (a : Vec Ideal S1x256x128 .f32) (r : Fin 256) (l : Fin 128) :
    k0_pay59 k p a (ix3 0 r l) = a (ix3 0 r l) + ∑ x : Fin 256, p (ix2 r x) * k (ix2 ⟨x.val, by omega⟩ l) := by
  pointwise [k0_pay59]

theorem pay61_apply (d : FVec Ideal S256x128 .bf16) (s : FVec Ideal S256x512 .f32) (y : Vec Ideal S1x256x1 .f32) (a : Vec Ideal S512x128 .f32) (j : Fin 512) (l : Fin 128) :
    k0_pay61 d s y a (ix2 j l) = a (ix2 j l) + ∑ x : Fin 256, k0_pay60 s y (ix2 x j) * d (ix2 x l) := by
  pointwise [k0_pay61]

theorem pay63_apply (q : FVec Ideal S256x128 .bf16) (p : FVec Ideal S256x512 .bf16) (a : Vec Ideal S512x128 .f32) (j : Fin 512) (l : Fin 128) :
    k0_pay63 q p a (constant S512x128 .f32 0#32) (ix2 j l) = a (ix2 j l) + ∑ x : Fin 256, p (ix2 x j) * q (ix2 x l) := by
  pointwise [k0_pay63]

theorem pay64_apply (k : FVec Ideal S1024x128 .bf16) (p : FVec Ideal S256x512 .bf16) (a : Vec Ideal S1x256x128 .f32) (r : Fin 256) (l : Fin 128) :
    k0_pay64 k p a (ix3 0 r l) = a (ix3 0 r l) + ∑ x : Fin 512, p (ix2 r x) * k (ix2 ⟨x.val, by omega⟩ l) := by
  pointwise [k0_pay64]

theorem pay66_apply (d : FVec Ideal S256x128 .bf16) (s : FVec Ideal S256x768 .f32) (y : Vec Ideal S1x256x1 .f32) (a : Vec Ideal S768x128 .f32) (j : Fin 768) (l : Fin 128) :
    k0_pay66 d s y a (ix2 j l) = a (ix2 j l) + ∑ x : Fin 256, k0_pay65 s y (ix2 x j) * d (ix2 x l) := by
  pointwise [k0_pay66]

theorem pay69_apply (q : FVec Ideal S256x128 .bf16) (p : FVec Ideal S256x768 .f32) (a : Vec Ideal S768x128 .f32) (j : Fin 768) (l : Fin 128) :
    k0_pay69 q p a (ix2 j l) = a (ix2 j l) + ∑ x : Fin 256, k0_pay68 p (ix2 x j) * q (ix2 x l) := by
  pointwise [k0_pay69]

theorem pay70_apply (k : FVec Ideal S1024x128 .bf16) (p : FVec Ideal S256x768 .f32) (a : Vec Ideal S1x256x128 .f32) (r : Fin 256) (l : Fin 128) :
    k0_pay70 k p a (ix3 0 r l) = a (ix3 0 r l) + ∑ x : Fin 768, k0_pay68 p (ix2 r x) * k (ix2 ⟨x.val, by omega⟩ l) := by
  pointwise [k0_pay70]

theorem pay72_apply (d : FVec Ideal S256x128 .bf16) (s : FVec Ideal S256x1024 .f32) (y : Vec Ideal S1x256x1 .f32) (a : Vec Ideal S1024x128 .f32) (j : Fin 1024) (l : Fin 128) :
    k0_pay73 (k0_pay72 d s y a) (ix2 j l) = a (ix2 j l) + ∑ x : Fin 256, k0_pay71 s y (ix2 x j) * d (ix2 x l) := by
  pointwise [k0_pay73, k0_pay72]

theorem pay75_apply (q : FVec Ideal S256x128 .bf16) (u s : FVec Ideal S256x1024 .f32) (t : Vec Ideal S256x1 .f32) (a : Vec Ideal S1024x128 .f32) (j : Fin 1024) (l : Fin 128) :
    k0_pay75 q u s t a (ix2 j l) = a (ix2 j l) + ∑ x : Fin 256, k0_pay74 u s t (ix2 x j) * q (ix2 x l) := by
  pointwise [k0_pay75]

theorem pay76_apply (k : FVec Ideal S1024x128 .bf16) (u s : FVec Ideal S256x1024 .f32) (t : Vec Ideal S256x1 .f32) (a : Vec Ideal S1x256x128 .f32) (r : Fin 256) (l : Fin 128) :
    k0_pay76 k u s t a (ix3 0 r l) = a (ix3 0 r l) + ∑ x : Fin 1024, k0_pay74 u s t (ix2 r x) * k (ix2 x l) := by
  pointwise [k0_pay76]

/-- The probabilities of a half block of rows below the key block, the first half's. -/
theorem prob_lo {o : ℕ} {v10 : FVec Ideal S1024x128 .bf16} {q : Vec Ideal S1x512x128 .bf16} {y : Vec Ideal S1x512x1 .f32}
    (ho : 1024 ≤ o) (hq : ∀ r l, q (ix3 0 r l) = Q (b + (o + r.val)) l) (hk : ∀ j l, v10 (ix2 j l) = K (b + j.val) l)
    (hL : ∀ r, y (ix3 0 r 0) = L (b + (o + r.val))) (r : Fin 512) (j : Fin 1024) :
    k0_pay12 v10 q y (ix2 r j) = prob Q K L (b + (o + r.val)) (b + j.val) := by
  pointwise [k0_pay12, k0_pay5]
  rw [named_scale, hL, prob, if_pos (by omega)]
  simp only [hq, hk]; rfl

/-- The same of the second half. -/
theorem prob_hi {o : ℕ} {v10 : FVec Ideal S1024x128 .bf16} {q : Vec Ideal S1x512x128 .bf16} {y : Vec Ideal S1x512x1 .f32}
    (ho : 1024 ≤ o) (hq : ∀ r l, q (ix3 0 r l) = Q (b + (o + r.val)) l) (hk : ∀ j l, v10 (ix2 j l) = K (b + j.val) l)
    (hL : ∀ r, y (ix3 0 r 0) = L (b + (o + r.val))) (r : Fin 512) (j : Fin 1024) :
    k0_pay18 (k0_pay9 v10 q) y (ix2 r j) = prob Q K L (b + (o + r.val)) (b + j.val) := by
  pointwise [k0_pay18, k0_pay9, k0_pay6]
  rw [named_scale, hL, prob, if_pos (by omega)]
  simp only [hq, hk]; rfl

/-- The gradients of the scores of a half block of rows below the key block, the first half's. -/
theorem dscore_lo {o : ℕ} {v10 v13 : FVec Ideal S1024x128 .bf16} {q : Vec Ideal S1x512x128 .bf16} {d : Vec Ideal S1x512x128 .f32}
    {y : Vec Ideal S1x512x1 .f32} {t : Vec Ideal S512x1 .f32}
    (ho : 1024 ≤ o) (hq : ∀ r l, q (ix3 0 r l) = Q (b + (o + r.val)) l) (hk : ∀ j l, v10 (ix2 j l) = K (b + j.val) l)
    (hv : ∀ j l, v13 (ix2 j l) = V (b + j.val) l) (hd : ∀ r l, d (ix3 0 r l) = D (b + (o + r.val)) l)
    (hL : ∀ r, y (ix3 0 r 0) = L (b + (o + r.val))) (hT : ∀ r, t (ix2 r 0) = T (b + (o + r.val)))
    (r : Fin 512) (j : Fin 1024) :
    k0_pay15 (k0_pay10 v13 d) (k0_pay12 v10 q y) t (ix2 r j) = dscore Q K V D L T (b + (o + r.val)) (b + j.val) := by
  pointwise [k0_pay15, k0_pay10, k0_pay7]
  rw [prob_lo ho hq hk hL, hT]
  simp only [hd, hv]; rfl

/-- The same of the second half. -/
theorem dscore_hi {o : ℕ} {v10 v13 : FVec Ideal S1024x128 .bf16} {q : Vec Ideal S1x512x128 .bf16} {d : Vec Ideal S1x512x128 .f32}
    {y : Vec Ideal S1x512x1 .f32} {t : Vec Ideal S512x1 .f32}
    (ho : 1024 ≤ o) (hq : ∀ r l, q (ix3 0 r l) = Q (b + (o + r.val)) l) (hk : ∀ j l, v10 (ix2 j l) = K (b + j.val) l)
    (hv : ∀ j l, v13 (ix2 j l) = V (b + j.val) l) (hd : ∀ r l, d (ix3 0 r l) = D (b + (o + r.val)) l)
    (hL : ∀ r, y (ix3 0 r 0) = L (b + (o + r.val))) (hT : ∀ r, t (ix2 r 0) = T (b + (o + r.val)))
    (r : Fin 512) (j : Fin 1024) :
    k0_pay78 (k0_pay11 v13 d) (k0_pay18 (k0_pay9 v10 q) y) t (ix2 r j) = dscore Q K V D L T (b + (o + r.val)) (b + j.val) := by
  pointwise [k0_pay78, k0_pay11, k0_pay8]
  rw [prob_hi ho hq hk hL, hT]
  simp only [hd, hv]; rfl

theorem pay14_apply (d : FVec Ideal S512x128 .bf16) (a : Vec Ideal S1024x128 .f32) (p : FVec Ideal S512x1024 .bf16) (j : Fin 1024) (l : Fin 128) :
    k0_pay14 d a p (constant S1024x128 .f32 0#32) (ix2 j l) = a (ix2 j l) + ∑ x : Fin 512, p (ix2 x j) * d (ix2 x l) := by
  pointwise [k0_pay14]

theorem pay16_apply (q : FVec Ideal S512x128 .bf16) (u s : FVec Ideal S512x1024 .f32) (t : Vec Ideal S512x1 .f32) (a : Vec Ideal S1024x128 .f32) (j : Fin 1024) (l : Fin 128) :
    k0_pay16 q u s t a (ix2 j l) = a (ix2 j l) + ∑ x : Fin 512, k0_pay15 u s t (ix2 x j) * q (ix2 x l) := by
  pointwise [k0_pay16]

theorem pay17_apply (k : FVec Ideal S1024x128 .bf16) (u s : FVec Ideal S512x1024 .f32) (t : Vec Ideal S512x1 .f32) (a : Vec Ideal S1x512x128 .f32) (r : Fin 512) (l : Fin 128) :
    k0_pay17 k u s t a (ix3 0 r l) = a (ix3 0 r l) + ∑ x : Fin 1024, k0_pay15 u s t (ix2 r x) * k (ix2 x l) := by
  pointwise [k0_pay17]

theorem pay19_apply (d : FVec Ideal S512x128 .bf16) (s : FVec Ideal S512x1024 .f32) (y : Vec Ideal S1x512x1 .f32) (a : Vec Ideal S1024x128 .f32) (j : Fin 1024) (l : Fin 128) :
    k0_pay77 (k0_pay19 d s y a) (ix2 j l) = a (ix2 j l) + ∑ x : Fin 512, k0_pay18 s y (ix2 x j) * d (ix2 x l) := by
  pointwise [k0_pay77, k0_pay19]

theorem pay79_apply (q : FVec Ideal S512x128 .bf16) (u s : FVec Ideal S512x1024 .f32) (t : Vec Ideal S512x1 .f32) (a : Vec Ideal S1024x128 .f32) (j : Fin 1024) (l : Fin 128) :
    k0_pay79 q u s t a (ix2 j l) = a (ix2 j l) + ∑ x : Fin 512, k0_pay78 u s t (ix2 x j) * q (ix2 x l) := by
  pointwise [k0_pay79]

theorem pay80_apply (k : FVec Ideal S1024x128 .bf16) (u s : FVec Ideal S512x1024 .f32) (t : Vec Ideal S512x1 .f32) (a : Vec Ideal S1x512x128 .f32) (r : Fin 512) (l : Fin 128) :
    k0_pay80 k u s t a (ix3 0 r l) = a (ix3 0 r l) + ∑ x : Fin 1024, k0_pay78 u s t (ix2 r x) * k (ix2 x l) := by
  pointwise [k0_pay80]

theorem pay2_apply (d o : Vec Ideal S1x1024x128 .f32) (r : Fin 1024) :
    k0_pay2 d o (ix2 r 0) = ∑ x : Fin 128, d (ix3 0 r x) * o (ix3 0 r x) := by
  pointwise [k0_pay2]

theorem pay3_apply (a : Vec Ideal S1024x128 .f32) (r : Fin 1024) (l : Fin 128) :
    k0_pay3 a (ix3 0 r l) = a (ix2 r l) := by
  pointwise [k0_pay3]

theorem pay4_apply (a : Vec Ideal S1024x128 .f32) (r : Fin 1024) (l : Fin 128) :
    k0_pay4 a (ix3 0 r l) = a (ix2 r l) := by
  pointwise [k0_pay4]

end Cert.Proof.KernelIdeal

end
-- ==== Proof.KernelIdeal.Mem.lean ====
/- Reads of rows of a buffer, before and after pieces of whole rows are written: the arrays of 4096 rows (one plane of 128
   lanes) and the two accumulators of 1024 rows. -/
module

public import Idealize.ShloMosaic.Lib.Pointwise
public import Idealize.ShloMosaic.Lib.WritesUnit
public import Idealize.ShloMosaic.Lib.Pipeline.FrameBody
public import Idealize.ShloMosaic.PureOps.Ideal
public import Mathlib.Algebra.BigOperators.Fin
public import Mathlib.Algebra.BigOperators.Intervals

@[expose] public section

set_option maxRecDepth 16384

noncomputable section

namespace Cert.Proof.Rows

open Idealize.ShloMosaic Idealize.ShloMosaic.TcCoe Idealize.ShloMosaic.Tactic

variable {sig : RefSig} {κ : Kind} {sp : Space} {e : EltTy} {Val : EltTy → Type}

/-- Row `i` of an array of 4096 rows, by a natural number. -/
def row (x : (⟨3, ![1, 4096, 128]⟩ : Shape).Idx → EReal) (i : ℕ) (l : Fin 128) : EReal :=
  x (ix3 0 ⟨i % 4096, Nat.mod_lt _ (by omega)⟩ l)

/-- Entry `i` of a column of 4096 entries, by a natural number. -/
def col (x : (⟨2, ![4096, 1]⟩ : Shape).Idx → EReal) (i : ℕ) : EReal :=
  x (ix2 ⟨i % 4096, Nat.mod_lt _ (by omega)⟩ 0)

theorem row_of_lt (x : (⟨3, ![1, 4096, 128]⟩ : Shape).Idx → EReal) (i : Fin 4096) (l : Fin 128) :
    x (ix3 0 i l) = row x i.val l := by
  unfold row; congr 2; exact Fin.ext (Nat.mod_eq_of_lt i.isLt).symm

theorem col_of_lt (x : (⟨2, ![4096, 1]⟩ : Shape).Idx → EReal) (i : Fin 4096) : x (ix2 i 0) = col x i.val := by
  unfold col; congr 2; exact Fin.ext (Nat.mod_eq_of_lt i.isLt).symm

/-- A load of `m` rows from row `o`, the first `w` lanes of each. -/
theorem readAt_rows (v : View sig κ sp (⟨3, ![1, 4096, 128]⟩ : Shape) e) (f : v.ty.Contents Val) {off : Fin 3 → ℕ} {m w o : ℕ}
    (inb : ∀ a, off a + (![1, m, w] : Fin 3 → ℕ) a ≤ (![1, 4096, 128] : Fin 3 → ℕ) a) (ho : off = ![0, o, 0])
    (r : Fin m) (l : Fin w) (i : Fin 4096) (l' : Fin 128) (hi : i.val = o + r.val) (hl : l'.val = l.val) :
    v.readAt Val (Rect.unit (s := ⟨3, ![1, 4096, 128]⟩) off ![1, m, w] inb).toLoadRect f (ix3 0 r l)
      = v.read Val f (ix3 0 i l') := by
  subst ho
  rw [View.readAt_apply]; congr 1
  funext a; apply Fin.ext
  fin_cases a
  · rfl
  · show o + 1 * r.val = i.val; omega
  · show 0 + 1 * l.val = l'.val; omega

/-- A load of `m` entries of a column from entry `o`. -/
theorem readAt_col (v : View sig κ sp (⟨2, ![4096, 1]⟩ : Shape) e) (f : v.ty.Contents Val) {off : Fin 2 → ℕ} {m o : ℕ}
    (inb : ∀ a, off a + (![m, 1] : Fin 2 → ℕ) a ≤ (![4096, 1] : Fin 2 → ℕ) a) (ho : off = ![o, 0])
    (r : Fin m) (i : Fin 4096) (hi : i.val = o + r.val) :
    v.readAt Val (Rect.unit (s := ⟨2, ![4096, 1]⟩) off ![m, 1] inb).toLoadRect f (ix2 r 0)
      = v.read Val f (ix2 i 0) := by
  subst ho
  rw [View.readAt_apply]; congr 1
  funext a; apply Fin.ext
  fin_cases a
  · show o + 1 * r.val = i.val; omega
  · rfl

/-- A load of the first `m` rows of an accumulator. -/
theorem readAt_acc (v : View sig κ sp (⟨2, ![1024, 128]⟩ : Shape) e) (f : v.ty.Contents Val) {m : ℕ}
    (inb : ∀ a, (![0, 0] : Fin 2 → ℕ) a + (![m, 128] : Fin 2 → ℕ) a ≤ (![1024, 128] : Fin 2 → ℕ) a)
    (r : Fin m) (l : Fin 128) (j : Fin 1024) (hj : j.val = r.val) :
    v.readAt Val (Rect.unit (s := ⟨2, ![1024, 128]⟩) ![0, 0] ![m, 128] inb).toLoadRect f (ix2 r l)
      = v.read Val f (ix2 j l) := by
  rw [View.readAt_apply]; congr 1
  funext a; apply Fin.ext
  fin_cases a
  · show 0 + 1 * r.val = j.val; omega
  · show 0 + 1 * l.val = l.val; omega

/-- After rows `o` to `o + m` are written, a row among them is the piece's. -/
theorem read_rows_hit (v : View sig κ sp (⟨3, ![1, 4096, 128]⟩ : Shape) e) (f : v.ty.Contents Val) {off : Fin 3 → ℕ} {m o : ℕ}
    (inb : ∀ a, off a + (![1, m, 128] : Fin 3 → ℕ) a ≤ (![1, 4096, 128] : Fin 3 → ℕ) a) (ho : off = ![0, o, 0])
    (w : (⟨3, ![1, m, 128]⟩ : Shape).Idx → Val e) (H : List (View.Piece Val (⟨3, ![1, 4096, 128]⟩ : Shape) e))
    (i : Fin 4096) (l : Fin 128) (r : Fin m) (hi : i.val = o + r.val) :
    v.read Val (v.writes Val f (⟨Rect.unit (s := ⟨3, ![1, 4096, 128]⟩) off ![1, m, 128] inb, w⟩ :: H)) (ix3 0 i l)
      = w (ix3 0 r l) := by
  refine View.read_writes_cons_unit_of_mem v f inb w H (ix3 0 i l) (ix3 0 r l) ho fun a => ?_
  fin_cases a
  · rfl
  · show i.val = o + r.val; exact hi
  · show l.val = 0 + l.val; omega

/-- A row not among them is as it was. -/
theorem read_rows_miss (v : View sig κ sp (⟨3, ![1, 4096, 128]⟩ : Shape) e) (f : v.ty.Contents Val) {off : Fin 3 → ℕ} {m o : ℕ}
    (inb : ∀ a, off a + (![1, m, 128] : Fin 3 → ℕ) a ≤ (![1, 4096, 128] : Fin 3 → ℕ) a) (ho : off = ![0, o, 0])
    (w : (⟨3, ![1, m, 128]⟩ : Shape).Idx → Val e) (H : List (View.Piece Val (⟨3, ![1, 4096, 128]⟩ : Shape) e))
    (i : Fin 4096) (l : Fin 128) (hi : i.val < o ∨ o + m ≤ i.val) :
    v.read Val (v.writes Val f (⟨Rect.unit (s := ⟨3, ![1, 4096, 128]⟩) off ![1, m, 128] inb, w⟩ :: H)) (ix3 0 i l)
      = v.read Val (v.writes Val f H) (ix3 0 i l) :=
  View.read_writes_cons_unit_of_not_mem v f inb w H (ix3 0 i l) ho 1 hi

/-- After a whole accumulator is written it holds the piece. -/
theorem acc_read (v : View sig κ sp (⟨2, ![1024, 128]⟩ : Shape) e) (f : v.ty.Contents Val)
    (inb : ∀ a, (![0, 0] : Fin 2 → ℕ) a + (![1024, 128] : Fin 2 → ℕ) a ≤ (![1024, 128] : Fin 2 → ℕ) a)
    (w : (⟨2, ![1024, 128]⟩ : Shape).Idx → Val e) (H : List (View.Piece Val (⟨2, ![1024, 128]⟩ : Shape) e))
    (r : Fin 1024) (l : Fin 128) (j : Fin 1024) (hj : j.val = r.val) :
    v.read Val (v.writes Val f (⟨Rect.unit (s := ⟨2, ![1024, 128]⟩) ![0, 0] ![1024, 128] inb, w⟩ :: H)) (ix2 j l) = w (ix2 r l) := by
  refine View.read_writes_cons_unit_of_mem v f inb w H (ix2 j l) (ix2 r l) rfl fun a => ?_
  fin_cases a
  · show j.val = 0 + r.val; omega
  · show l.val = 0 + l.val; omega

/-- What rows `o` to `o + m` of an accumulated array hold once a piece adding `δ` to them is written over pieces that left
    them alone. -/
theorem rows_add (v : View sig κ sp (⟨3, ![1, 4096, 128]⟩ : Shape) .f32) (f : v.ty.Contents (Elt Ideal)) {off : Fin 3 → ℕ} {m o a : ℕ}
    (inb : ∀ a, off a + (![1, m, 128] : Fin 3 → ℕ) a ≤ (![1, 4096, 128] : Fin 3 → ℕ) a) (ho : off = ![0, o, 0])
    (w : (⟨3, ![1, m, 128]⟩ : Shape).Idx → Ideal .f32) (H : List (View.Piece (Elt Ideal) (⟨3, ![1, 4096, 128]⟩ : Shape) .f32))
    (g : Fin 4096 → Fin 128 → EReal) (δ : ℕ → Fin 128 → EReal)
    (hH : ∀ i l, v.read (Elt Ideal) (v.writes (Elt Ideal) f H) (ix3 0 i l) = if a ≤ i.val ∧ i.val < o then g i l + δ i l else g i l)
    (hw : ∀ (r : Fin m) l (i : Fin 4096), i.val = o + r.val → w (ix3 0 r l) = g i l + δ (o + r.val) l) (hao : a ≤ o) (i : Fin 4096) (l : Fin 128) :
    v.read (Elt Ideal) (v.writes (Elt Ideal) f (⟨Rect.unit (s := ⟨3, ![1, 4096, 128]⟩) off ![1, m, 128] inb, w⟩ :: H)) (ix3 0 i l)
      = if a ≤ i.val ∧ i.val < o + m then g i l + δ i l else g i l := by
  by_cases hi : o ≤ i.val ∧ i.val < o + m
  · rw [read_rows_hit v f inb ho w H i l ⟨i.val - o, by omega⟩ (by show i.val = o + (i.val - o); omega),
      hw _ l i (by show i.val = o + (i.val - o); omega), if_pos ⟨by omega, hi.2⟩]
    have : o + (i.val - o) = i.val := by omega
    rw [this]
  · rw [read_rows_miss v f inb ho w H i l (by omega), hH]
    have : (a ≤ i.val ∧ i.val < o) ↔ (a ≤ i.val ∧ i.val < o + m) := by omega
    simp only [this]

/-- What an accumulator holds once a piece over its first `n` rows adds rows `o` to `o + m`'s terms, where the later rows
    get nothing from them. -/
theorem acc_add (v : View sig κ sp (⟨2, ![1024, 128]⟩ : Shape) .f32) (f : v.ty.Contents (Elt Ideal)) {n m o : ℕ}
    (inb : ∀ a, (![0, 0] : Fin 2 → ℕ) a + (![n, 128] : Fin 2 → ℕ) a ≤ (![1024, 128] : Fin 2 → ℕ) a)
    (w : (⟨2, ![n, 128]⟩ : Shape).Idx → Ideal .f32) (H : List (View.Piece (Elt Ideal) (⟨2, ![1024, 128]⟩ : Shape) .f32))
    (t : ℕ → ℕ → Fin 128 → EReal)
    (hH : ∀ j l, v.read (Elt Ideal) (v.writes (Elt Ideal) f H) (ix2 j l) = ∑ i ∈ Finset.range o, t i j.val l)
    (hw : ∀ (r : Fin n) l (j : Fin 1024), j.val = r.val →
      w (ix2 r l) = v.read (Elt Ideal) (v.writes (Elt Ideal) f H) (ix2 j l) + ∑ x : Fin m, t (o + x.val) r.val l)
    (hz : ∀ i < o + m, ∀ j l, n ≤ j → j < 1024 → t i j l = 0) (j : Fin 1024) (l : Fin 128) :
    v.read (Elt Ideal) (v.writes (Elt Ideal) f (⟨Rect.unit (s := ⟨2, ![1024, 128]⟩) ![0, 0] ![n, 128] inb, w⟩ :: H)) (ix2 j l)
      = ∑ i ∈ Finset.range (o + m), t i j.val l := by
  by_cases hj : j.val < n
  · have e := View.read_writes_cons_unit_of_mem v f inb w H (ix2 j l) (ix2 ⟨j.val, hj⟩ l) rfl fun a => by
      fin_cases a
      · show j.val = 0 + j.val; omega
      · show l.val = 0 + l.val; omega
    rw [e, hw _ l j rfl, hH, Finset.sum_range_add, Finset.sum_range (fun x => t (o + x) j.val l)]
  · rw [View.read_writes_cons_unit_of_not_mem v f inb w H (ix2 j l) rfl 0 (Or.inr (by show 0 + n ≤ j.val; omega)), hH,
      Finset.sum_eq_zero fun i hi => hz i (by have := Finset.mem_range.1 hi; omega) _ _ (by omega) j.isLt,
      Finset.sum_eq_zero fun i hi => hz i (Finset.mem_range.1 hi) _ _ (by omega) j.isLt]

end Cert.Proof.Rows

end
-- ==== Proof.KernelIdeal.Half.lean ====
/- The loop over the blocks of query rows below a key block, over the extended reals (`KernelIdeal`): what one trip adds to
   the queries' gradient and to the two accumulators, and what the whole loop adds. -/
module

public import proofs.«01_k».proof.Proof.KernelIdeal.Pay
public import proofs.«01_k».proof.Proof.KernelIdeal.Mem
public import proofs.«01_k».proof.Proof.KernelIdeal.Loop

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

open Rows

variable {K V : ℕ → Fin 128 → EReal}

theorem trips3 : ∀ t : Fin k0_t2_loop.trips, 1024 * t.val + 1024 + 1024 * (k0_t3_loop t).trips = 4096 := by decide +kernel

theorem pay5_apply (q : Vec Ideal S1x512x128 .bf16) (r : Fin 512) (l : Fin 128) : k0_pay5 q (ix2 r l) = q (ix3 0 r l) := by
  pointwise [k0_pay5]

theorem pay6_apply (q : Vec Ideal S1x512x128 .bf16) (r : Fin 512) (l : Fin 128) : k0_pay6 q (ix2 r l) = q (ix3 0 r l) := by
  pointwise [k0_pay6]

theorem pay7_apply (d : Vec Ideal S1x512x128 .f32) (r : Fin 512) (l : Fin 128) : k0_pay7 d (ix2 r l) = d (ix3 0 r l) := by
  pointwise [k0_pay7]

theorem pay8_apply (d : Vec Ideal S1x512x128 .f32) (r : Fin 512) (l : Fin 128) : k0_pay8 d (ix2 r l) = d (ix3 0 r l) := by
  pointwise [k0_pay8]

theorem pay13_apply (v : FVec Ideal S1024x128 .bf16) (q : Vec Ideal S1x512x128 .bf16) (y : Vec Ideal S1x512x1 .f32) (r : Fin 512) (j : Fin 1024) :
    k0_pay13 v q y (ix2 r j) = k0_pay12 v q y (ix2 r j) := by
  pointwise [k0_pay13]

section Trip

variable (c : Dev nD) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S4096x1 .f32) (harg10 : arg10.IsWhole) (arg11 : Memref sig .tc .vmem S1024x128 .f32) (harg11 : arg11.IsWhole) (arg12 : Memref sig .tc .vmem S1024x128 .f32) (harg12 : arg12.IsWhole) (t : Fin k0_t2_loop.trips) (arg13 v7 : BitVec 32) (v10 v13 : FVec Ideal S1024x128 .bf16) (v33 : BitVec 32) (v45 : FVec Ideal S256x128 .bf16) (v83 v228 : FVec Ideal S256x1024 .f32) (v232 : FVec Ideal S1024x128 .f32) (v259 : BitVec 32) (X1 : BufTy.Contents (Elt Ideal) arg1.view.ty) (X5 : BufTy.Contents (Elt Ideal) arg5.view.ty) (X6 : BufTy.Contents (Elt Ideal) arg6.view.ty) (X10 : BufTy.Contents (Elt Ideal) arg10.view.ty) (k : Fin (k0_t3_loop t).trips)

include k in
theorem k_lt : 1024 * t.val + 1024 * k.val + 2048 ≤ 4096 := by
  have := trips3 t; have := k.isLt; omega

/-- The queries' rows a trip loads. -/
theorem q_rows (h : Fin 2) (inb) (r : Fin 512) (l : Fin 128) :
    arg1.view.readAt (Elt Ideal) (Rect.unit (s := S1x4096x128) (k0_off7 t k (BitVec.ofNat 32 (512 * h.val))) S1x512x128.size inb).toLoadRect X1 (ix3 0 r l)
      = row (arg1.view.read (Elt Ideal) X1) (1024 * t.val + ((1024 + 1024 * k.val + 512 * h.val) + r.val)) l := by
  have hl := k_lt t k
  rw [readAt_rows arg1.view X1 inb (k0_off7_eq t k h) r l ⟨1024 * t.val + ((1024 + 1024 * k.val + 512 * h.val) + r.val), by omega⟩ l
    (by show _ = _ + r.val; dsimp only; omega) rfl]
  exact row_of_lt _ _ _

/-- The rows of the output's gradient a trip loads. -/
theorem d_rows (h : Fin 2) (inb) (r : Fin 512) (l : Fin 128) :
    arg6.view.readAt (Elt Ideal) (Rect.unit (s := S1x4096x128) (k0_off7 t k (BitVec.ofNat 32 (512 * h.val))) S1x512x128.size inb).toLoadRect X6 (ix3 0 r l)
      = row (arg6.view.read (Elt Ideal) X6) (1024 * t.val + ((1024 + 1024 * k.val + 512 * h.val) + r.val)) l := by
  have hl := k_lt t k
  rw [readAt_rows arg6.view X6 inb (k0_off7_eq t k h) r l ⟨1024 * t.val + ((1024 + 1024 * k.val + 512 * h.val) + r.val), by omega⟩ l
    (by show _ = _ + r.val; dsimp only; omega) rfl]
  exact row_of_lt _ _ _

/-- The logarithms a trip loads. -/
theorem y_rows (h : Fin 2) (inb) (r : Fin 512) :
    arg5.view.readAt (Elt Ideal) (Rect.unit (s := S1x4096x128) (k0_off8 t k (BitVec.ofNat 32 (512 * h.val))) S1x512x1.size inb).toLoadRect X5 (ix3 0 r 0)
      = row (arg5.view.read (Elt Ideal) X5) (1024 * t.val + ((1024 + 1024 * k.val + 512 * h.val) + r.val)) 0 := by
  have hl := k_lt t k
  rw [readAt_rows arg5.view X5 inb (k0_off8_eq t k h) r 0 ⟨1024 * t.val + ((1024 + 1024 * k.val + 512 * h.val) + r.val), by omega⟩ 0
    (by show _ = _ + r.val; dsimp only; omega) rfl]
  exact row_of_lt _ _ _

/-- The row sums a trip loads. -/
theorem t_rows (h : Fin 2) (inb) (r : Fin 512) :
    arg10.view.readAt (Elt Ideal) (Rect.unit (s := S4096x1) (k0_off9 t k (BitVec.ofNat 32 (512 * h.val))) S512x1.size inb).toLoadRect X10 (ix2 r 0)
      = col (arg10.view.read (Elt Ideal) X10) (1024 * t.val + ((1024 + 1024 * k.val + 512 * h.val) + r.val)) := by
  have hl := k_lt t k
  rw [readAt_col arg10.view X10 inb (k0_off9_eq t k h) r ⟨1024 * t.val + ((1024 + 1024 * k.val + 512 * h.val) + r.val), by omega⟩
    (by show _ = _ + r.val; dsimp only; omega)]
  exact col_of_lt _ _

theorem half7_eq (f7 : BufTy.Contents (Elt Ideal) arg7.view.ty) (f11 : BufTy.Contents (Elt Ideal) arg11.view.ty) (f12 : BufTy.Contents (Elt Ideal) arg12.view.ty) :
    (trip_k0_t3 (F := Ideal) Variants.none c none i arg1 harg1 arg2 harg2 arg3 harg3 arg4 harg4 arg5 harg5 arg6 harg6 arg7 harg7 arg8 harg8 arg9 harg9 arg10 harg10 arg11 harg11 arg12 harg12 t arg13 v7 v10 v13 v33 v45 v83 v228 v232 v259 X1 X5 X6 X10 k).1 f7 f11 f12
      = [⟨Rect.unit (k0_off7 t k 512#32) S1x512x128.size (k0_off7_inb t k 1),
          k0_pay80 v10 (k0_pay11 v13 (arg6.view.readAt (Elt Ideal) (Rect.unit (s := S1x4096x128) (k0_off7 t k 512#32) S1x512x128.size (k0_off7_inb t k 1)).toLoadRect X6)) (k0_pay18 (k0_pay9 v10 (arg1.view.readAt (Elt Ideal) (Rect.unit (s := S1x4096x128) (k0_off7 t k 512#32) S1x512x128.size (k0_off7_inb t k 1)).toLoadRect X1)) (arg5.view.readAt (Elt Ideal) (Rect.unit (s := S1x4096x128) (k0_off8 t k 512#32) S1x512x1.size (k0_off8_inb t k 1)).toLoadRect X5)) (arg10.view.readAt (Elt Ideal) (Rect.unit (s := S4096x1) (k0_off9 t k 512#32) S512x1.size (k0_off9_inb t k 1)).toLoadRect X10) (arg7.view.readAt (Elt Ideal) (Rect.unit (s := S1x4096x128) (k0_off7 t k 512#32) S1x512x128.size (k0_off7_inb t k 1)).toLoadRect f7)⟩,
         ⟨Rect.unit (k0_off7 t k 0#32) S1x512x128.size (k0_off7_inb t k 0),
          k0_pay17 v10 (k0_pay10 v13 (arg6.view.readAt (Elt Ideal) (Rect.unit (s := S1x4096x128) (k0_off7 t k 0#32) S1x512x128.size (k0_off7_inb t k 0)).toLoadRect X6)) (k0_pay12 v10 (arg1.view.readAt (Elt Ideal) (Rect.unit (s := S1x4096x128) (k0_off7 t k 0#32) S1x512x128.size (k0_off7_inb t k 0)).toLoadRect X1) (arg5.view.readAt (Elt Ideal) (Rect.unit (s := S1x4096x128) (k0_off8 t k 0#32) S1x512x1.size (k0_off8_inb t k 0)).toLoadRect X5)) (arg10.view.readAt (Elt Ideal) (Rect.unit (s := S4096x1) (k0_off9 t k 0#32) S512x1.size (k0_off9_inb t k 0)).toLoadRect X10) (arg7.view.readAt (Elt Ideal) (Rect.unit (s := S1x4096x128) (k0_off7 t k 0#32) S1x512x128.size (k0_off7_inb t k 0)).toLoadRect f7)⟩] := by
  unfold trip_k0_t3
  rfl

theorem half11_eq (f7 : BufTy.Contents (Elt Ideal) arg7.view.ty) (f11 : BufTy.Contents (Elt Ideal) arg11.view.ty) (f12 : BufTy.Contents (Elt Ideal) arg12.view.ty) :
    (trip_k0_t3 (F := Ideal) Variants.none c none i arg1 harg1 arg2 harg2 arg3 harg3 arg4 harg4 arg5 harg5 arg6 harg6 arg7 harg7 arg8 harg8 arg9 harg9 arg10 harg10 arg11 harg11 arg12 harg12 t arg13 v7 v10 v13 v33 v45 v83 v228 v232 v259 X1 X5 X6 X10 k).2.1 f7 f11 f12 = [⟨Rect.unit (s := S1024x128) ![0, 0] S1024x128.size inb_S1024x128_S1024x128_0_0, k0_pay79 (k0_pay6 (arg1.view.readAt (Elt Ideal) (Rect.unit (s := S1x4096x128) (k0_off7 t k 512#32) S1x512x128.size (k0_off7_inb t k 1)).toLoadRect X1)) (k0_pay11 v13 (arg6.view.readAt (Elt Ideal) (Rect.unit (s := S1x4096x128) (k0_off7 t k 512#32) S1x512x128.size (k0_off7_inb t k 1)).toLoadRect X6)) (k0_pay18 (k0_pay9 v10 (arg1.view.readAt (Elt Ideal) (Rect.unit (s := S1x4096x128) (k0_off7 t k 512#32) S1x512x128.size (k0_off7_inb t k 1)).toLoadRect X1)) (arg5.view.readAt (Elt Ideal) (Rect.unit (s := S1x4096x128) (k0_off8 t k 512#32) S1x512x1.size (k0_off8_inb t k 1)).toLoadRect X5)) (arg10.view.readAt (Elt Ideal) (Rect.unit (s := S4096x1) (k0_off9 t k 512#32) S512x1.size (k0_off9_inb t k 1)).toLoadRect X10) (arg11.view.readCov [⟨Rect.unit (s := S1024x128) ![0, 0] S1024x128.size inb_S1024x128_S1024x128_0_0, (k0_pay16 (k0_pay5 (arg1.view.readAt (Elt Ideal) (Rect.unit (s := S1x4096x128) (k0_off7 t k 0#32) S1x512x128.size (k0_off7_inb t k 0)).toLoadRect X1)) (k0_pay10 v13 (arg6.view.readAt (Elt Ideal) (Rect.unit (s := S1x4096x128) (k0_off7 t k 0#32) S1x512x128.size (k0_off7_inb t k 0)).toLoadRect X6)) (k0_pay12 v10 (arg1.view.readAt (Elt Ideal) (Rect.unit (s := S1x4096x128) (k0_off7 t k 0#32) S1x512x128.size (k0_off7_inb t k 0)).toLoadRect X1) (arg5.view.readAt (Elt Ideal) (Rect.unit (s := S1x4096x128) (k0_off8 t k 0#32) S1x512x1.size (k0_off8_inb t k 0)).toLoadRect X5)) (arg10.view.readAt (Elt Ideal) (Rect.unit (s := S4096x1) (k0_off9 t k 0#32) S512x1.size (k0_off9_inb t k 0)).toLoadRect X10) (arg11.view.readAt (Elt Ideal) (Rect.unit (s := S1024x128) ![0, 0] S1024x128.size inb_S1024x128_S1024x128_0_0).toLoadRect f11))⟩] (Rect.unit (s := S1024x128) ![0, 0] S1024x128.size inb_S1024x128_S1024x128_0_0).toLoadRect)⟩, ⟨Rect.unit (s := S1024x128) ![0, 0] S1024x128.size inb_S1024x128_S1024x128_0_0, (k0_pay16 (k0_pay5 (arg1.view.readAt (Elt Ideal) (Rect.unit (s := S1x4096x128) (k0_off7 t k 0#32) S1x512x128.size (k0_off7_inb t k 0)).toLoadRect X1)) (k0_pay10 v13 (arg6.view.readAt (Elt Ideal) (Rect.unit (s := S1x4096x128) (k0_off7 t k 0#32) S1x512x128.size (k0_off7_inb t k 0)).toLoadRect X6)) (k0_pay12 v10 (arg1.view.readAt (Elt Ideal) (Rect.unit (s := S1x4096x128) (k0_off7 t k 0#32) S1x512x128.size (k0_off7_inb t k 0)).toLoadRect X1) (arg5.view.readAt (Elt Ideal) (Rect.unit (s := S1x4096x128) (k0_off8 t k 0#32) S1x512x1.size (k0_off8_inb t k 0)).toLoadRect X5)) (arg10.view.readAt (Elt Ideal) (Rect.unit (s := S4096x1) (k0_off9 t k 0#32) S512x1.size (k0_off9_inb t k 0)).toLoadRect X10) (arg11.view.readAt (Elt Ideal) (Rect.unit (s := S1024x128) ![0, 0] S1024x128.size inb_S1024x128_S1024x128_0_0).toLoadRect f11))⟩] := by
  unfold trip_k0_t3
  rfl

theorem half12_eq (f7 : BufTy.Contents (Elt Ideal) arg7.view.ty) (f11 : BufTy.Contents (Elt Ideal) arg11.view.ty) (f12 : BufTy.Contents (Elt Ideal) arg12.view.ty) :
    (trip_k0_t3 (F := Ideal) Variants.none c none i arg1 harg1 arg2 harg2 arg3 harg3 arg4 harg4 arg5 harg5 arg6 harg6 arg7 harg7 arg8 harg8 arg9 harg9 arg10 harg10 arg11 harg11 arg12 harg12 t arg13 v7 v10 v13 v33 v45 v83 v228 v232 v259 X1 X5 X6 X10 k).2.2.1 f7 f11 f12 = [⟨Rect.unit (s := S1024x128) ![0, 0] S1024x128.size inb_S1024x128_S1024x128_0_0, k0_pay77 (k0_pay19 (k0_pay8 (arg6.view.readAt (Elt Ideal) (Rect.unit (s := S1x4096x128) (k0_off7 t k 512#32) S1x512x128.size (k0_off7_inb t k 1)).toLoadRect X6)) (k0_pay9 v10 (arg1.view.readAt (Elt Ideal) (Rect.unit (s := S1x4096x128) (k0_off7 t k 512#32) S1x512x128.size (k0_off7_inb t k 1)).toLoadRect X1)) (arg5.view.readAt (Elt Ideal) (Rect.unit (s := S1x4096x128) (k0_off8 t k 512#32) S1x512x1.size (k0_off8_inb t k 1)).toLoadRect X5) (arg12.view.readCov [⟨Rect.unit (s := S1024x128) ![0, 0] S1024x128.size inb_S1024x128_S1024x128_0_0, (k0_pay14 (k0_pay7 (arg6.view.readAt (Elt Ideal) (Rect.unit (s := S1x4096x128) (k0_off7 t k 0#32) S1x512x128.size (k0_off7_inb t k 0)).toLoadRect X6)) (arg12.view.readAt (Elt Ideal) (Rect.unit (s := S1024x128) ![0, 0] S1024x128.size inb_S1024x128_S1024x128_0_0).toLoadRect f12) (k0_pay13 v10 (arg1.view.readAt (Elt Ideal) (Rect.unit (s := S1x4096x128) (k0_off7 t k 0#32) S1x512x128.size (k0_off7_inb t k 0)).toLoadRect X1) (arg5.view.readAt (Elt Ideal) (Rect.unit (s := S1x4096x128) (k0_off8 t k 0#32) S1x512x1.size (k0_off8_inb t k 0)).toLoadRect X5)) (constant S1024x128 .f32 0#32))⟩] (Rect.unit (s := S1024x128) ![0, 0] S1024x128.size inb_S1024x128_S1024x128_0_0).toLoadRect))⟩, ⟨Rect.unit (s := S1024x128) ![0, 0] S1024x128.size inb_S1024x128_S1024x128_0_0, (k0_pay14 (k0_pay7 (arg6.view.readAt (Elt Ideal) (Rect.unit (s := S1x4096x128) (k0_off7 t k 0#32) S1x512x128.size (k0_off7_inb t k 0)).toLoadRect X6)) (arg12.view.readAt (Elt Ideal) (Rect.unit (s := S1024x128) ![0, 0] S1024x128.size inb_S1024x128_S1024x128_0_0).toLoadRect f12) (k0_pay13 v10 (arg1.view.readAt (Elt Ideal) (Rect.unit (s := S1x4096x128) (k0_off7 t k 0#32) S1x512x128.size (k0_off7_inb t k 0)).toLoadRect X1) (arg5.view.readAt (Elt Ideal) (Rect.unit (s := S1x4096x128) (k0_off8 t k 0#32) S1x512x1.size (k0_off8_inb t k 0)).toLoadRect X5)) (constant S1024x128 .f32 0#32))⟩] := by
  unfold trip_k0_t3
  rfl

/-- A trip adds its rows' terms to the queries' gradient. -/
theorem half7 (f7 : BufTy.Contents (Elt Ideal) arg7.view.ty) (f11 : BufTy.Contents (Elt Ideal) arg11.view.ty) (f12 : BufTy.Contents (Elt Ideal) arg12.view.ty) (hk : ∀ j l, v10 (ix2 j l) = K (1024 * t.val + j.val) l)
    (hv : ∀ j l, v13 (ix2 j l) = V (1024 * t.val + j.val) l)
    (g : Fin 4096 → Fin 128 → EReal) (a : ℕ) (ha : a ≤ 1024 * t.val + (1024 + 1024 * k.val))
    (hf : ∀ i l, arg7.view.read (Elt Ideal) f7 (ix3 0 i l) = if a ≤ i.val ∧ i.val < 1024 * t.val + (1024 + 1024 * k.val)
      then g i l + ∑ j : Fin 1024, dscore (row (arg1.view.read (Elt Ideal) X1)) K V (row (arg6.view.read (Elt Ideal) X6)) (fun n => row (arg5.view.read (Elt Ideal) X5) n 0) (col (arg10.view.read (Elt Ideal) X10)) i.val (1024 * t.val + j.val) * K (1024 * t.val + j.val) l else g i l)
    (hg : ∀ i l, 1024 * t.val + (1024 + 1024 * k.val) ≤ i.val → arg7.view.read (Elt Ideal) f7 (ix3 0 i l) = g i l) (n : Fin 4096) (l : Fin 128) :
    arg7.view.read (Elt Ideal) (arg7.view.writes (Elt Ideal) f7 ((trip_k0_t3 (F := Ideal) Variants.none c none i arg1 harg1 arg2 harg2 arg3 harg3 arg4 harg4 arg5 harg5 arg6 harg6 arg7 harg7 arg8 harg8 arg9 harg9 arg10 harg10 arg11 harg11 arg12 harg12 t arg13 v7 v10 v13 v33 v45 v83 v228 v232 v259 X1 X5 X6 X10 k).1 f7 f11 f12)) (ix3 0 n l)
      = if a ≤ n.val ∧ n.val < 1024 * t.val + (1024 + 1024 * (k.val + 1))
        then g n l + ∑ j : Fin 1024, dscore (row (arg1.view.read (Elt Ideal) X1)) K V (row (arg6.view.read (Elt Ideal) X6)) (fun n => row (arg5.view.read (Elt Ideal) X5) n 0) (col (arg10.view.read (Elt Ideal) X10)) n.val (1024 * t.val + j.val) * K (1024 * t.val + j.val) l else g n l := by
  rw [half7_eq]
  have hl := k_lt t k
  have key : ∀ (h : Fin 2) (inb) (r : Fin 512) (l : Fin 128) (i : Fin 4096), i.val = 1024 * t.val + (1024 + 1024 * k.val + 512 * h.val) + r.val →
      arg7.view.readAt (Elt Ideal) (Rect.unit (s := S1x4096x128) (k0_off7 t k (BitVec.ofNat 32 (512 * h.val))) S1x512x128.size inb).toLoadRect f7 (ix3 0 r l) = g i l := by
    intro h inb r l i hi
    rw [readAt_rows arg7.view f7 inb (k0_off7_eq t k h) r l i l (by omega) rfl, hg i l (by omega)]
  refine (rows_add arg7.view f7 (a := a) (o := 1024 * t.val + (1024 + 1024 * k.val + 512)) (m := 512) (k0_off7_inb t k 1)
    ((k0_off7_eq t k 1).trans ?_) _ _ g
    (fun n l => ∑ j : Fin 1024, dscore (row (arg1.view.read (Elt Ideal) X1)) K V (row (arg6.view.read (Elt Ideal) X6)) (fun n => row (arg5.view.read (Elt Ideal) X5) n 0) (col (arg10.view.read (Elt Ideal) X10)) n (1024 * t.val + j.val) * K (1024 * t.val + j.val) l) (fun i l => ?_) (fun r l i hi => ?_) (by omega) n l).trans ?_
  · rw [show 1024 * t.val + 1024 * k.val + 512 * (1 : Fin 2).val + 1024 = 1024 * t.val + (1024 + 1024 * k.val + 512) by simp; omega]
  · refine rows_add arg7.view f7 (a := a) (o := 1024 * t.val + (1024 + 1024 * k.val)) (m := 512) (k0_off7_inb t k 0)
      ((k0_off7_eq t k 0).trans ?_) _ [] g (fun n l => ∑ j : Fin 1024, dscore (row (arg1.view.read (Elt Ideal) X1)) K V (row (arg6.view.read (Elt Ideal) X6)) (fun n => row (arg5.view.read (Elt Ideal) X5) n 0) (col (arg10.view.read (Elt Ideal) X10)) n (1024 * t.val + j.val) * K (1024 * t.val + j.val) l) hf
      (fun r l i hi => ?_) ha i l
    · rw [show 1024 * t.val + 1024 * k.val + 512 * (0 : Fin 2).val + 1024 = 1024 * t.val + (1024 + 1024 * k.val) by simp; omega]
    · refine (pay17_apply _ _ _ _ _ r l).trans (congrArg₂ (· + ·) (key 0 (k0_off7_inb t k 0) r l i (by simp; omega)) (Finset.sum_congr rfl fun x _ => ?_))
      refine (congrArg₂ (· * ·) (dscore_lo (b := 1024 * t.val) (L := (fun n => row (arg5.view.read (Elt Ideal) X5) n 0)) (o := 1024 + 1024 * k.val + 512 * (0 : Fin 2).val) (by omega) (q_rows arg1 t X1 k 0 _) hk hv (d_rows arg6 t X6 k 0 _) (y_rows arg5 t X5 k 0 _) (t_rows arg10 t X10 k 0 _) r x) (hk x l)).trans ?_
      rw [Nat.add_assoc (1024 * t.val)]
      rfl
  · refine (pay80_apply _ _ _ _ _ r l).trans (congrArg₂ (· + ·) (key 1 (k0_off7_inb t k 1) r l i (by simp; omega)) (Finset.sum_congr rfl fun x _ => ?_))
    refine (congrArg₂ (· * ·) (dscore_hi (b := 1024 * t.val) (L := (fun n => row (arg5.view.read (Elt Ideal) X5) n 0)) (o := 1024 + 1024 * k.val + 512 * (1 : Fin 2).val) (by omega) (q_rows arg1 t X1 k 1 _) hk hv (d_rows arg6 t X6 k 1 _) (y_rows arg5 t X5 k 1 _) (t_rows arg10 t X10 k 1 _) r x) (hk x l)).trans ?_
    rw [Nat.add_assoc (1024 * t.val)]
    rfl
  · rw [show 1024 * t.val + (1024 + 1024 * k.val + 512) + 512 = 1024 * t.val + (1024 + 1024 * (k.val + 1)) by omega]

/-- A trip adds its rows' terms to the keys' accumulator. -/
theorem half11 (f7 : BufTy.Contents (Elt Ideal) arg7.view.ty) (f11 : BufTy.Contents (Elt Ideal) arg11.view.ty) (f12 : BufTy.Contents (Elt Ideal) arg12.view.ty) (hk : ∀ j l, v10 (ix2 j l) = K (1024 * t.val + j.val) l)
    (hv : ∀ j l, v13 (ix2 j l) = V (1024 * t.val + j.val) l)
    (hf : ∀ j l, arg11.view.read (Elt Ideal) f11 (ix2 j l) = ∑ i ∈ Finset.range (1024 + 1024 * k.val), dscore (row (arg1.view.read (Elt Ideal) X1)) K V (row (arg6.view.read (Elt Ideal) X6)) (fun n => row (arg5.view.read (Elt Ideal) X5) n 0) (col (arg10.view.read (Elt Ideal) X10)) (1024 * t.val + i) (1024 * t.val + j.val) * (row (arg1.view.read (Elt Ideal) X1)) (1024 * t.val + i) l)
    (j : Fin 1024) (l : Fin 128) :
    arg11.view.read (Elt Ideal) (arg11.view.writes (Elt Ideal) f11 ((trip_k0_t3 (F := Ideal) Variants.none c none i arg1 harg1 arg2 harg2 arg3 harg3 arg4 harg4 arg5 harg5 arg6 harg6 arg7 harg7 arg8 harg8 arg9 harg9 arg10 harg10 arg11 harg11 arg12 harg12 t arg13 v7 v10 v13 v33 v45 v83 v228 v232 v259 X1 X5 X6 X10 k).2.1 f7 f11 f12)) (ix2 j l)
      = ∑ i ∈ Finset.range (1024 + 1024 * (k.val + 1)), dscore (row (arg1.view.read (Elt Ideal) X1)) K V (row (arg6.view.read (Elt Ideal) X6)) (fun n => row (arg5.view.read (Elt Ideal) X5) n 0) (col (arg10.view.read (Elt Ideal) X10)) (1024 * t.val + i) (1024 * t.val + j.val) * (row (arg1.view.read (Elt Ideal) X1)) (1024 * t.val + i) l := by
  rw [half11_eq, show 1024 + 1024 * (k.val + 1) = 1024 + 1024 * k.val + 512 + 512 by omega]
  have hl := k_lt t k
  refine acc_add arg11.view f11 (m := 512) inb_S1024x128_S1024x128_0_0 _ _ (fun i j l => dscore (row (arg1.view.read (Elt Ideal) X1)) K V (row (arg6.view.read (Elt Ideal) X6)) (fun n => row (arg5.view.read (Elt Ideal) X5) n 0) (col (arg10.view.read (Elt Ideal) X10)) (1024 * t.val + i) (1024 * t.val + j) * (row (arg1.view.read (Elt Ideal) X1)) (1024 * t.val + i) l)
    (fun j l => acc_add arg11.view f11 (m := 512) inb_S1024x128_S1024x128_0_0 _ [] (fun i j l => dscore (row (arg1.view.read (Elt Ideal) X1)) K V (row (arg6.view.read (Elt Ideal) X6)) (fun n => row (arg5.view.read (Elt Ideal) X5) n 0) (col (arg10.view.read (Elt Ideal) X10)) (1024 * t.val + i) (1024 * t.val + j) * (row (arg1.view.read (Elt Ideal) X1)) (1024 * t.val + i) l) hf (fun r l j hj => ?_) (fun i _ j l hj hj' => absurd hj' (by omega)) j l)
    (fun r l j hj => ?_) (fun i _ j l hj hj' => absurd hj' (by omega)) j l
  · refine (pay16_apply _ _ _ _ _ r l).trans (congrArg₂ (· + ·) (readAt_acc arg11.view f11 inb_S1024x128_S1024x128_0_0 r l j hj) (Finset.sum_congr rfl fun x _ => ?_))
    exact congrArg₂ (· * ·) (dscore_lo (b := 1024 * t.val) (L := (fun n => row (arg5.view.read (Elt Ideal) X5) n 0)) (o := 1024 + 1024 * k.val + 512 * (0 : Fin 2).val) (by omega) (q_rows arg1 t X1 k 0 _) hk hv (d_rows arg6 t X6 k 0 _) (y_rows arg5 t X5 k 0 _) (t_rows arg10 t X10 k 0 _) x r) ((pay5_apply _ x l).trans (q_rows arg1 t X1 k 0 _ x l))
  · refine (pay79_apply _ _ _ _ _ r l).trans (congrArg₂ (· + ·) ?_ (Finset.sum_congr rfl fun x _ => ?_))
    · exact (congrFun (View.readCov_cons_toLoadRect _ _ _ _) _).trans (acc_read arg11.view f11 _ _ _ r l j hj).symm
    · exact congrArg₂ (· * ·) (dscore_hi (b := 1024 * t.val) (L := (fun n => row (arg5.view.read (Elt Ideal) X5) n 0)) (o := 1024 + 1024 * k.val + 512 * (1 : Fin 2).val) (by omega) (q_rows arg1 t X1 k 1 _) hk hv (d_rows arg6 t X6 k 1 _) (y_rows arg5 t X5 k 1 _) (t_rows arg10 t X10 k 1 _) x r) ((pay6_apply _ x l).trans (q_rows arg1 t X1 k 1 _ x l))

/-- A trip adds its rows' terms to the values' accumulator. -/
theorem half12 (f7 : BufTy.Contents (Elt Ideal) arg7.view.ty) (f11 : BufTy.Contents (Elt Ideal) arg11.view.ty) (f12 : BufTy.Contents (Elt Ideal) arg12.view.ty) (hk : ∀ j l, v10 (ix2 j l) = K (1024 * t.val + j.val) l)
    (hv : ∀ j l, v13 (ix2 j l) = V (1024 * t.val + j.val) l)
    (hf : ∀ j l, arg12.view.read (Elt Ideal) f12 (ix2 j l) = ∑ i ∈ Finset.range (1024 + 1024 * k.val), prob (row (arg1.view.read (Elt Ideal) X1)) K (fun n => row (arg5.view.read (Elt Ideal) X5) n 0) (1024 * t.val + i) (1024 * t.val + j.val) * (row (arg6.view.read (Elt Ideal) X6)) (1024 * t.val + i) l)
    (j : Fin 1024) (l : Fin 128) :
    arg12.view.read (Elt Ideal) (arg12.view.writes (Elt Ideal) f12 ((trip_k0_t3 (F := Ideal) Variants.none c none i arg1 harg1 arg2 harg2 arg3 harg3 arg4 harg4 arg5 harg5 arg6 harg6 arg7 harg7 arg8 harg8 arg9 harg9 arg10 harg10 arg11 harg11 arg12 harg12 t arg13 v7 v10 v13 v33 v45 v83 v228 v232 v259 X1 X5 X6 X10 k).2.2.1 f7 f11 f12)) (ix2 j l)
      = ∑ i ∈ Finset.range (1024 + 1024 * (k.val + 1)), prob (row (arg1.view.read (Elt Ideal) X1)) K (fun n => row (arg5.view.read (Elt Ideal) X5) n 0) (1024 * t.val + i) (1024 * t.val + j.val) * (row (arg6.view.read (Elt Ideal) X6)) (1024 * t.val + i) l := by
  rw [half12_eq, show 1024 + 1024 * (k.val + 1) = 1024 + 1024 * k.val + 512 + 512 by omega]
  have hl := k_lt t k
  refine acc_add arg12.view f12 (m := 512) inb_S1024x128_S1024x128_0_0 _ _ (fun i j l => prob (row (arg1.view.read (Elt Ideal) X1)) K (fun n => row (arg5.view.read (Elt Ideal) X5) n 0) (1024 * t.val + i) (1024 * t.val + j) * (row (arg6.view.read (Elt Ideal) X6)) (1024 * t.val + i) l)
    (fun j l => acc_add arg12.view f12 (m := 512) inb_S1024x128_S1024x128_0_0 _ [] (fun i j l => prob (row (arg1.view.read (Elt Ideal) X1)) K (fun n => row (arg5.view.read (Elt Ideal) X5) n 0) (1024 * t.val + i) (1024 * t.val + j) * (row (arg6.view.read (Elt Ideal) X6)) (1024 * t.val + i) l) hf (fun r l j hj => ?_) (fun i _ j l hj hj' => absurd hj' (by omega)) j l)
    (fun r l j hj => ?_) (fun i _ j l hj hj' => absurd hj' (by omega)) j l
  · refine (pay14_apply _ _ _ r l).trans (congrArg₂ (· + ·) (readAt_acc arg12.view f12 inb_S1024x128_S1024x128_0_0 r l j hj) (Finset.sum_congr rfl fun x _ => ?_))
    exact congrArg₂ (· * ·) ((pay13_apply _ _ _ x r).trans (prob_lo (b := 1024 * t.val) (L := (fun n => row (arg5.view.read (Elt Ideal) X5) n 0)) (o := 1024 + 1024 * k.val + 512 * (0 : Fin 2).val) (by omega) (q_rows arg1 t X1 k 0 _) hk (y_rows arg5 t X5 k 0 _) x r)) ((pay7_apply _ x l).trans (d_rows arg6 t X6 k 0 _ x l))
  · refine (pay19_apply _ _ _ _ r l).trans (congrArg₂ (· + ·) ?_ (Finset.sum_congr rfl fun x _ => ?_))
    · exact (congrFun (View.readCov_cons_toLoadRect _ _ _ _) _).trans (acc_read arg12.view f12 _ _ _ r l j hj).symm
    · exact congrArg₂ (· * ·) (prob_hi (b := 1024 * t.val) (L := (fun n => row (arg5.view.read (Elt Ideal) X5) n 0)) (o := 1024 + 1024 * k.val + 512 * (1 : Fin 2).val) (by omega) (q_rows arg1 t X1 k 1 _) hk (y_rows arg5 t X5 k 1 _) x r)
        ((pay8_apply _ x l).trans (d_rows arg6 t X6 k 1 _ x l))

end Trip

/-- What the first `n` trips leave: rows `1024 t + 1024` to `1024 t + 1024 + 1024 n` have got their terms of the queries' gradient, and the
    accumulators theirs. -/
theorem half_loop (c : Dev nD) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S4096x1 .f32) (harg10 : arg10.IsWhole) (arg11 : Memref sig .tc .vmem S1024x128 .f32) (harg11 : arg11.IsWhole) (arg12 : Memref sig .tc .vmem S1024x128 .f32) (harg12 : arg12.IsWhole) (t : Fin k0_t2_loop.trips) (arg13 v7 : BitVec 32) (v10 v13 : FVec Ideal S1024x128 .bf16) (v33 : BitVec 32) (v45 : FVec Ideal S256x128 .bf16) (v83 v228 : FVec Ideal S256x1024 .f32) (v232 : FVec Ideal S1024x128 .f32) (v259 : BitVec 32) (X1 : BufTy.Contents (Elt Ideal) arg1.view.ty) (X5 : BufTy.Contents (Elt Ideal) arg5.view.ty) (X6 : BufTy.Contents (Elt Ideal) arg6.view.ty) (X10 : BufTy.Contents (Elt Ideal) arg10.view.ty) (f7 : BufTy.Contents (Elt Ideal) arg7.view.ty) (f11 : BufTy.Contents (Elt Ideal) arg11.view.ty) (f12 : BufTy.Contents (Elt Ideal) arg12.view.ty) (hk : ∀ j l, v10 (ix2 j l) = K (1024 * t.val + j.val) l)
    (hv : ∀ j l, v13 (ix2 j l) = V (1024 * t.val + j.val) l)
    (g : Fin 4096 → Fin 128 → EReal) (a : ℕ) (ha : a ≤ 1024 * t.val + 1024)
    (h7 : ∀ i l, arg7.view.read (Elt Ideal) f7 (ix3 0 i l) = if a ≤ i.val ∧ i.val < 1024 * t.val + 1024
      then g i l + ∑ j : Fin 1024, dscore (row (arg1.view.read (Elt Ideal) X1)) K V (row (arg6.view.read (Elt Ideal) X6)) (fun n => row (arg5.view.read (Elt Ideal) X5) n 0) (col (arg10.view.read (Elt Ideal) X10)) i.val (1024 * t.val + j.val) * K (1024 * t.val + j.val) l else g i l)
    (h11 : ∀ j l, arg11.view.read (Elt Ideal) f11 (ix2 j l) = ∑ i ∈ Finset.range 1024, dscore (row (arg1.view.read (Elt Ideal) X1)) K V (row (arg6.view.read (Elt Ideal) X6)) (fun n => row (arg5.view.read (Elt Ideal) X5) n 0) (col (arg10.view.read (Elt Ideal) X10)) (1024 * t.val + i) (1024 * t.val + j.val) * (row (arg1.view.read (Elt Ideal) X1)) (1024 * t.val + i) l)
    (h12 : ∀ j l, arg12.view.read (Elt Ideal) f12 (ix2 j l) = ∑ i ∈ Finset.range 1024, prob (row (arg1.view.read (Elt Ideal) X1)) K (fun n => row (arg5.view.read (Elt Ideal) X5) n 0) (1024 * t.val + i) (1024 * t.val + j.val) * (row (arg6.view.read (Elt Ideal) X6)) (1024 * t.val + i) l)
    (n : ℕ) (hn : n ≤ (k0_t3_loop t).trips) :
    (∀ m l, arg7.view.read (Elt Ideal) (arg7.view.writes (Elt Ideal) f7 (pb_k0_t3 (F := Ideal) Variants.none c none i arg1 harg1 arg2 harg2 arg3 harg3 arg4 harg4 arg5 harg5 arg6 harg6 arg7 harg7 arg8 harg8 arg9 harg9 arg10 harg10 arg11 harg11 arg12 harg12 t arg13 v7 v10 v13 v33 v45 v83 v228 v232 v259 X1 X5 X6 X10 f7 f11 f12 n).1) (ix3 0 m l) = if a ≤ m.val ∧ m.val < 1024 * t.val + (1024 + 1024 * n)
      then g m l + ∑ j : Fin 1024, dscore (row (arg1.view.read (Elt Ideal) X1)) K V (row (arg6.view.read (Elt Ideal) X6)) (fun n => row (arg5.view.read (Elt Ideal) X5) n 0) (col (arg10.view.read (Elt Ideal) X10)) m.val (1024 * t.val + j.val) * K (1024 * t.val + j.val) l else g m l)
    ∧ (∀ j l, arg11.view.read (Elt Ideal) (arg11.view.writes (Elt Ideal) f11 (pb_k0_t3 (F := Ideal) Variants.none c none i arg1 harg1 arg2 harg2 arg3 harg3 arg4 harg4 arg5 harg5 arg6 harg6 arg7 harg7 arg8 harg8 arg9 harg9 arg10 harg10 arg11 harg11 arg12 harg12 t arg13 v7 v10 v13 v33 v45 v83 v228 v232 v259 X1 X5 X6 X10 f7 f11 f12 n).2.1) (ix2 j l)
        = ∑ i ∈ Finset.range (1024 + 1024 * n), dscore (row (arg1.view.read (Elt Ideal) X1)) K V (row (arg6.view.read (Elt Ideal) X6)) (fun n => row (arg5.view.read (Elt Ideal) X5) n 0) (col (arg10.view.read (Elt Ideal) X10)) (1024 * t.val + i) (1024 * t.val + j.val) * (row (arg1.view.read (Elt Ideal) X1)) (1024 * t.val + i) l)
    ∧ (∀ j l, arg12.view.read (Elt Ideal) (arg12.view.writes (Elt Ideal) f12 (pb_k0_t3 (F := Ideal) Variants.none c none i arg1 harg1 arg2 harg2 arg3 harg3 arg4 harg4 arg5 harg5 arg6 harg6 arg7 harg7 arg8 harg8 arg9 harg9 arg10 harg10 arg11 harg11 arg12 harg12 t arg13 v7 v10 v13 v33 v45 v83 v228 v232 v259 X1 X5 X6 X10 f7 f11 f12 n).2.2) (ix2 j l)
        = ∑ i ∈ Finset.range (1024 + 1024 * n), prob (row (arg1.view.read (Elt Ideal) X1)) K (fun n => row (arg5.view.read (Elt Ideal) X5) n 0) (1024 * t.val + i) (1024 * t.val + j.val) * (row (arg6.view.read (Elt Ideal) X6)) (1024 * t.val + i) l) := by
  induction n with
  | zero => exact ⟨h7, h11, h12⟩
  | succ n ih =>
    obtain ⟨i7, i11, i12⟩ := ih (by omega)
    have e := pb_k0_t3_succ (F := Ideal) Variants.none c none i arg1 harg1 arg2 harg2 arg3 harg3 arg4 harg4 arg5 harg5 arg6 harg6 arg7 harg7 arg8 harg8 arg9 harg9 arg10 harg10 arg11 harg11 arg12 harg12 t arg13 v7 v10 v13 v33 v45 v83 v228 v232 v259 X1 X5 X6 X10 f7 f11 f12 ⟨n, by omega⟩
    dsimp only at e
    rw [e]
    dsimp only
    rw [View.writes_append, View.writes_append, View.writes_append]
    exact ⟨fun m l => half7 c i arg1 harg1 arg2 harg2 arg3 harg3 arg4 harg4 arg5 harg5 arg6 harg6 arg7 harg7 arg8 harg8 arg9 harg9 arg10 harg10 arg11 harg11 arg12 harg12 t arg13 v7 v10 v13 v33 v45 v83 v228 v232 v259 X1 X5 X6 X10 ⟨n, by omega⟩ _ _ _ hk hv g a (by dsimp only; omega) i7 (fun m l h => (i7 m l).trans (if_neg (by dsimp only at h; omega))) m l,
      fun j l => half11 c i arg1 harg1 arg2 harg2 arg3 harg3 arg4 harg4 arg5 harg5 arg6 harg6 arg7 harg7 arg8 harg8 arg9 harg9 arg10 harg10 arg11 harg11 arg12 harg12 t arg13 v7 v10 v13 v33 v45 v83 v228 v232 v259 X1 X5 X6 X10 ⟨n, by omega⟩ _ _ _ hk hv i11 j l, fun j l => half12 c i arg1 harg1 arg2 harg2 arg3 harg3 arg4 harg4 arg5 harg5 arg6 harg6 arg7 harg7 arg8 harg8 arg9 harg9 arg10 harg10 arg11 harg11 arg12 harg12 t arg13 v7 v10 v13 v33 v45 v83 v228 v232 v259 X1 X5 X6 X10 ⟨n, by omega⟩ _ _ _ hk hv i12 j l⟩

end Cert.Proof.KernelIdeal

end
-- ==== Proof.KernelIdeal.Strip.lean ====
/- The four strips of a key block's own rows, over the extended reals (`KernelIdeal`): what they add to the queries' gradient
   and to the two accumulators. -/
module

public import proofs.«01_k».proof.Proof.KernelIdeal.Half

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

open Rows

theorem k_block (k : Fin k0_t2_loop.trips) : 1024 * k.val + 1024 ≤ 4096 := by
  have h : k.val < 4 := Nat.lt_of_lt_of_le k.isLt k0_t2_abs.2.1
  omega

/-- The keys of block `k`. -/
theorem key_rows (arg2 : Memref sig .tc .vmem S1x4096x128 .bf16) (X2 : BufTy.Contents (Elt Ideal) arg2.view.ty) (k : Fin k0_t2_loop.trips) (j : Fin 1024) (l : Fin 128) :
    trip.sl.v10 (F := Ideal) arg2 X2 k (ix2 j l) = (row (arg2.view.read (Elt Ideal) X2)) (1024 * k.val + j.val) l := by
  have hl := k_block k
  show k0_pay35 (F := Ideal) _ (ix2 j l) = _
  pointwise [k0_pay35]
  rw [readAt_rows arg2.view X2 _ (k0_off3_eq k) j l ⟨1024 * k.val + j.val, by omega⟩ l rfl rfl]
  exact row_of_lt _ _ _

/-- The values of block `k`. -/
theorem value_rows (arg3 : Memref sig .tc .vmem S1x4096x128 .bf16) (X3 : BufTy.Contents (Elt Ideal) arg3.view.ty) (k : Fin k0_t2_loop.trips) (j : Fin 1024) (l : Fin 128) :
    trip.sl.v13 (F := Ideal) arg3 X3 k (ix2 j l) = (row (arg3.view.read (Elt Ideal) X3)) (1024 * k.val + j.val) l := by
  have hl := k_block k
  show k0_pay36 (F := Ideal) _ (ix2 j l) = _
  pointwise [k0_pay36]
  rw [readAt_rows arg3.view X3 _ (k0_off3_eq k) j l ⟨1024 * k.val + j.val, by omega⟩ l rfl rfl]
  exact row_of_lt _ _ _

/-- The queries of a strip. -/
theorem sq_rows (arg1 : Memref sig .tc .vmem S1x4096x128 .bf16) (X1 : BufTy.Contents (Elt Ideal) arg1.view.ty) (k : Fin k0_t2_loop.trips) (h : Fin 4) (inb) (r : Fin 256) (l : Fin 128) :
    arg1.view.readAt (Elt Ideal) (Rect.unit (s := S1x4096x128) (k0_off4 k (BitVec.ofNat 32 (256 * h.val))) S1x256x128.size inb).toLoadRect X1 (ix3 0 r l)
      = row (arg1.view.read (Elt Ideal) X1) (1024 * k.val + (256 * h.val + r.val)) l := by
  have hl := k_block k
  rw [readAt_rows arg1.view X1 inb (k0_off4_eq k h) r l ⟨1024 * k.val + (256 * h.val + r.val), by omega⟩ l
    (by show _ = _ + r.val; dsimp only; omega) rfl]
  exact row_of_lt _ _ _

/-- The output's gradient of a strip. -/
theorem sd_rows (arg6 : Memref sig .tc .vmem S1x4096x128 .f32) (X6 : BufTy.Contents (Elt Ideal) arg6.view.ty) (k : Fin k0_t2_loop.trips) (h : Fin 4) (inb) (r : Fin 256) (l : Fin 128) :
    arg6.view.readAt (Elt Ideal) (Rect.unit (s := S1x4096x128) (k0_off4 k (BitVec.ofNat 32 (256 * h.val))) S1x256x128.size inb).toLoadRect X6 (ix3 0 r l)
      = row (arg6.view.read (Elt Ideal) X6) (1024 * k.val + (256 * h.val + r.val)) l := by
  have hl := k_block k
  rw [readAt_rows arg6.view X6 inb (k0_off4_eq k h) r l ⟨1024 * k.val + (256 * h.val + r.val), by omega⟩ l
    (by show _ = _ + r.val; dsimp only; omega) rfl]
  exact row_of_lt _ _ _

/-- The logarithms of a strip. -/
theorem sy_rows (arg5 : Memref sig .tc .vmem S1x4096x128 .f32) (X5 : BufTy.Contents (Elt Ideal) arg5.view.ty) (k : Fin k0_t2_loop.trips) (h : Fin 4) (inb) (r : Fin 256)  :
    arg5.view.readAt (Elt Ideal) (Rect.unit (s := S1x4096x128) (k0_off5 k (BitVec.ofNat 32 (256 * h.val))) S1x256x1.size inb).toLoadRect X5 (ix3 0 r 0)
      = row (arg5.view.read (Elt Ideal) X5) (1024 * k.val + (256 * h.val + r.val)) 0 := by
  have hl := k_block k
  rw [readAt_rows arg5.view X5 inb (k0_off5_eq k h) r 0 ⟨1024 * k.val + (256 * h.val + r.val), by omega⟩ 0
    (by show _ = _ + r.val; dsimp only; omega) rfl]
  exact row_of_lt _ _ _

/-- The row sums of a strip. -/
theorem st_rows (arg10 : Memref sig .tc .vmem S4096x1 .f32) (X10 : BufTy.Contents (Elt Ideal) arg10.view.ty) (k : Fin k0_t2_loop.trips) (h : Fin 4) (inb) (r : Fin 256) :
    arg10.view.readAt (Elt Ideal) (Rect.unit (s := S4096x1) (k0_off6 k (BitVec.ofNat 32 (256 * h.val))) S256x1.size inb).toLoadRect X10 (ix2 r 0)
      = col (arg10.view.read (Elt Ideal) X10) (1024 * k.val + (256 * h.val + r.val)) := by
  have hl := k_block k
  rw [readAt_col arg10.view X10 inb (k0_off6_eq k h) r ⟨1024 * k.val + (256 * h.val + r.val), by omega⟩
    (by show _ = _ + r.val; dsimp only; omega)]
  exact col_of_lt _ _

theorem zero_acc (j : Fin 1024) (l : Fin 128) : trip.sl.v17 (F := Ideal) (ix2 j l) = 0 := by
  show k0_pay37 (F := Ideal) (ix2 j l) = 0
  pointwise [k0_pay37]

theorem pay39_apply (q : Vec Ideal S1x256x128 .bf16) (r : Fin 256) (l : Fin 128) : k0_pay39 q (ix2 r l) = q (ix3 0 r l) := by
  pointwise [k0_pay39]

theorem pay40_apply (q : Vec Ideal S1x256x128 .bf16) (r : Fin 256) (l : Fin 128) : k0_pay40 q (ix2 r l) = q (ix3 0 r l) := by
  pointwise [k0_pay40]

theorem pay41_apply (q : Vec Ideal S1x256x128 .bf16) (r : Fin 256) (l : Fin 128) : k0_pay41 q (ix2 r l) = q (ix3 0 r l) := by
  pointwise [k0_pay41]

theorem pay42_apply (q : Vec Ideal S1x256x128 .bf16) (r : Fin 256) (l : Fin 128) : k0_pay42 q (ix2 r l) = q (ix3 0 r l) := by
  pointwise [k0_pay42]

theorem pay43_apply (d : Vec Ideal S1x256x128 .f32) (r : Fin 256) (l : Fin 128) : k0_pay43 d (ix2 r l) = d (ix3 0 r l) := by
  pointwise [k0_pay43]

theorem pay44_apply (d : Vec Ideal S1x256x128 .f32) (r : Fin 256) (l : Fin 128) : k0_pay44 d (ix2 r l) = d (ix3 0 r l) := by
  pointwise [k0_pay44]

theorem pay45_apply (d : Vec Ideal S1x256x128 .f32) (r : Fin 256) (l : Fin 128) : k0_pay45 d (ix2 r l) = d (ix3 0 r l) := by
  pointwise [k0_pay45]

theorem pay46_apply (d : Vec Ideal S1x256x128 .f32) (r : Fin 256) (l : Fin 128) : k0_pay46 d (ix2 r l) = d (ix3 0 r l) := by
  pointwise [k0_pay46]

section Trip

variable (arg1 arg2 arg3 : Memref sig .tc .vmem S1x4096x128 .bf16) (arg5 arg6 arg7 : Memref sig .tc .vmem S1x4096x128 .f32) (arg10 : Memref sig .tc .vmem S4096x1 .f32) (arg11 arg12 : Memref sig .tc .vmem S1024x128 .f32) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X10 : BufTy.Contents (Elt Ideal) arg10.view.ty) (k : Fin k0_t2_loop.trips)

/-- The keys' accumulator after strip 0. -/
theorem arg11_strip0 (j : Fin 1024) (l : Fin 128) :
    arg11.view.read (Elt Ideal) (arg11.view.writes (Elt Ideal) arg11.view.junk (trip.sl.H11_2 (F := Ideal) arg1 arg2 arg3 arg5 arg6 arg10 arg11 X1 X2 X3 X5 X6 X10 k)) (ix2 j l)
      = ∑ i ∈ Finset.range 256, dscore (row (arg1.view.read (Elt Ideal) X1)) (row (arg2.view.read (Elt Ideal) X2)) (row (arg3.view.read (Elt Ideal) X3)) (row (arg6.view.read (Elt Ideal) X6)) (fun n => row (arg5.view.read (Elt Ideal) X5) n 0) (col (arg10.view.read (Elt Ideal) X10)) (1024 * k.val + i) (1024 * k.val + j.val) * (row (arg1.view.read (Elt Ideal) X1)) (1024 * k.val + i) l := by
  refine acc_add arg11.view arg11.view.junk (n := 256) (m := 256) (o := 0) inb_S1024x128_S256x128_0_0 _ (trip.sl.H12_1 (F := Ideal))
    (fun i j l => dscore (row (arg1.view.read (Elt Ideal) X1)) (row (arg2.view.read (Elt Ideal) X2)) (row (arg3.view.read (Elt Ideal) X3)) (row (arg6.view.read (Elt Ideal) X6)) (fun n => row (arg5.view.read (Elt Ideal) X5) n 0) (col (arg10.view.read (Elt Ideal) X10)) (1024 * k.val + i) (1024 * k.val + j) * (row (arg1.view.read (Elt Ideal) X1)) (1024 * k.val + i) l) (fun j l => (acc_read arg11.view _ inb_S1024x128_S1024x128_0_0 _ [] j l j rfl).trans (zero_acc j l)) (fun r l j hj => ?_) (fun i hi j l hj _ => ?_) j l
  · exact (pay58_apply _ _ _ _ _ _ r l).trans (congrArg₂ (· + ·) (readAt_acc arg11.view _ inb_S1024x128_S256x128_0_0 r l j hj)
      (Finset.sum_congr rfl fun x _ => congrArg₂ (· * ·) (dscore_0 (b := 1024 * k.val) (L := (fun n => row (arg5.view.read (Elt Ideal) X5) n 0)) (fun r l => (pay39_apply _ r l).trans (sq_rows arg1 X1 k 0 _ r l)) (key_rows arg2 X2 k) (value_rows arg3 X3 k) (sd_rows arg6 X6 k 0 _) (sy_rows arg5 X5 k 0 _) (st_rows arg10 X10 k 0 _) x r) (((pay39_apply _ x l)).trans (sq_rows arg1 X1 k 0 _ x l))))
  · have e : dscore (row (arg1.view.read (Elt Ideal) X1)) (row (arg2.view.read (Elt Ideal) X2)) (row (arg3.view.read (Elt Ideal) X3)) (row (arg6.view.read (Elt Ideal) X6)) (fun n => row (arg5.view.read (Elt Ideal) X5) n 0) (col (arg10.view.read (Elt Ideal) X10)) (1024 * k.val + i) (1024 * k.val + j) * (row (arg1.view.read (Elt Ideal) X1)) (1024 * k.val + i) l = 0 := by rw [dscore_of_lt _ _ _ _ _ _ (by omega), zero_mul]
    exact e

/-- The keys' accumulator after strip 1. -/
theorem arg11_strip1 (j : Fin 1024) (l : Fin 128) :
    arg11.view.read (Elt Ideal) (arg11.view.writes (Elt Ideal) arg11.view.junk (trip.sl.H11_3 (F := Ideal) arg1 arg2 arg3 arg5 arg6 arg10 arg11 X1 X2 X3 X5 X6 X10 k)) (ix2 j l)
      = ∑ i ∈ Finset.range 512, dscore (row (arg1.view.read (Elt Ideal) X1)) (row (arg2.view.read (Elt Ideal) X2)) (row (arg3.view.read (Elt Ideal) X3)) (row (arg6.view.read (Elt Ideal) X6)) (fun n => row (arg5.view.read (Elt Ideal) X5) n 0) (col (arg10.view.read (Elt Ideal) X10)) (1024 * k.val + i) (1024 * k.val + j.val) * (row (arg1.view.read (Elt Ideal) X1)) (1024 * k.val + i) l := by
  refine acc_add arg11.view arg11.view.junk (n := 512) (m := 256) (o := 256) inb_S1024x128_S512x128_0_0 _ (trip.sl.H11_2 (F := Ideal) arg1 arg2 arg3 arg5 arg6 arg10 arg11 X1 X2 X3 X5 X6 X10 k)
    (fun i j l => dscore (row (arg1.view.read (Elt Ideal) X1)) (row (arg2.view.read (Elt Ideal) X2)) (row (arg3.view.read (Elt Ideal) X3)) (row (arg6.view.read (Elt Ideal) X6)) (fun n => row (arg5.view.read (Elt Ideal) X5) n 0) (col (arg10.view.read (Elt Ideal) X10)) (1024 * k.val + i) (1024 * k.val + j) * (row (arg1.view.read (Elt Ideal) X1)) (1024 * k.val + i) l) (arg11_strip0 arg1 arg2 arg3 arg5 arg6 arg10 arg11 X1 X2 X3 X5 X6 X10 k) (fun r l j hj => ?_) (fun i hi j l hj _ => ?_) j l
  · exact (pay63_apply _ _ _ r l).trans (congrArg₂ (· + ·) (readAt_acc arg11.view _ inb_S1024x128_S512x128_0_0 r l j hj)
      (Finset.sum_congr rfl fun x _ => congrArg₂ (· * ·) (dscore_256 (b := 1024 * k.val) (L := (fun n => row (arg5.view.read (Elt Ideal) X5) n 0)) (fun r l => (pay40_apply _ r l).trans (sq_rows arg1 X1 k 1 _ r l)) (key_rows arg2 X2 k) (value_rows arg3 X3 k) (fun r l => (pay44_apply _ r l).trans (sd_rows arg6 X6 k 1 _ r l)) (sy_rows arg5 X5 k 1 _) (st_rows arg10 X10 k 1 _) x r) (((pay40_apply _ x l)).trans (sq_rows arg1 X1 k 1 _ x l))))
  · have e : dscore (row (arg1.view.read (Elt Ideal) X1)) (row (arg2.view.read (Elt Ideal) X2)) (row (arg3.view.read (Elt Ideal) X3)) (row (arg6.view.read (Elt Ideal) X6)) (fun n => row (arg5.view.read (Elt Ideal) X5) n 0) (col (arg10.view.read (Elt Ideal) X10)) (1024 * k.val + i) (1024 * k.val + j) * (row (arg1.view.read (Elt Ideal) X1)) (1024 * k.val + i) l = 0 := by rw [dscore_of_lt _ _ _ _ _ _ (by omega), zero_mul]
    exact e

/-- The keys' accumulator after strip 2. -/
theorem arg11_strip2 (j : Fin 1024) (l : Fin 128) :
    arg11.view.read (Elt Ideal) (arg11.view.writes (Elt Ideal) arg11.view.junk (trip.sl.H11_4 (F := Ideal) arg1 arg2 arg3 arg5 arg6 arg10 arg11 X1 X2 X3 X5 X6 X10 k)) (ix2 j l)
      = ∑ i ∈ Finset.range 768, dscore (row (arg1.view.read (Elt Ideal) X1)) (row (arg2.view.read (Elt Ideal) X2)) (row (arg3.view.read (Elt Ideal) X3)) (row (arg6.view.read (Elt Ideal) X6)) (fun n => row (arg5.view.read (Elt Ideal) X5) n 0) (col (arg10.view.read (Elt Ideal) X10)) (1024 * k.val + i) (1024 * k.val + j.val) * (row (arg1.view.read (Elt Ideal) X1)) (1024 * k.val + i) l := by
  refine acc_add arg11.view arg11.view.junk (n := 768) (m := 256) (o := 512) inb_S1024x128_S768x128_0_0 _ (trip.sl.H11_3 (F := Ideal) arg1 arg2 arg3 arg5 arg6 arg10 arg11 X1 X2 X3 X5 X6 X10 k)
    (fun i j l => dscore (row (arg1.view.read (Elt Ideal) X1)) (row (arg2.view.read (Elt Ideal) X2)) (row (arg3.view.read (Elt Ideal) X3)) (row (arg6.view.read (Elt Ideal) X6)) (fun n => row (arg5.view.read (Elt Ideal) X5) n 0) (col (arg10.view.read (Elt Ideal) X10)) (1024 * k.val + i) (1024 * k.val + j) * (row (arg1.view.read (Elt Ideal) X1)) (1024 * k.val + i) l) (arg11_strip1 arg1 arg2 arg3 arg5 arg6 arg10 arg11 X1 X2 X3 X5 X6 X10 k) (fun r l j hj => ?_) (fun i hi j l hj _ => ?_) j l
  · exact (pay69_apply _ _ _ r l).trans (congrArg₂ (· + ·) (readAt_acc arg11.view _ inb_S1024x128_S768x128_0_0 r l j hj)
      (Finset.sum_congr rfl fun x _ => congrArg₂ (· * ·) (dscore_512 (b := 1024 * k.val) (L := (fun n => row (arg5.view.read (Elt Ideal) X5) n 0)) (sq_rows arg1 X1 k 2 _) (key_rows arg2 X2 k) (value_rows arg3 X3 k) (fun r l => (pay45_apply _ r l).trans (sd_rows arg6 X6 k 2 _ r l)) (sy_rows arg5 X5 k 2 _) (st_rows arg10 X10 k 2 _) x r) (((pay41_apply _ x l)).trans (sq_rows arg1 X1 k 2 _ x l))))
  · have e : dscore (row (arg1.view.read (Elt Ideal) X1)) (row (arg2.view.read (Elt Ideal) X2)) (row (arg3.view.read (Elt Ideal) X3)) (row (arg6.view.read (Elt Ideal) X6)) (fun n => row (arg5.view.read (Elt Ideal) X5) n 0) (col (arg10.view.read (Elt Ideal) X10)) (1024 * k.val + i) (1024 * k.val + j) * (row (arg1.view.read (Elt Ideal) X1)) (1024 * k.val + i) l = 0 := by rw [dscore_of_lt _ _ _ _ _ _ (by omega), zero_mul]
    exact e

/-- The keys' accumulator after strip 3. -/
theorem arg11_strip3 (j : Fin 1024) (l : Fin 128) :
    arg11.view.read (Elt Ideal) (arg11.view.writes (Elt Ideal) arg11.view.junk (trip.sl.H11_5 (F := Ideal) arg1 arg2 arg3 arg5 arg6 arg10 arg11 X1 X2 X3 X5 X6 X10 k)) (ix2 j l)
      = ∑ i ∈ Finset.range 1024, dscore (row (arg1.view.read (Elt Ideal) X1)) (row (arg2.view.read (Elt Ideal) X2)) (row (arg3.view.read (Elt Ideal) X3)) (row (arg6.view.read (Elt Ideal) X6)) (fun n => row (arg5.view.read (Elt Ideal) X5) n 0) (col (arg10.view.read (Elt Ideal) X10)) (1024 * k.val + i) (1024 * k.val + j.val) * (row (arg1.view.read (Elt Ideal) X1)) (1024 * k.val + i) l := by
  refine acc_add arg11.view arg11.view.junk (n := 1024) (m := 256) (o := 768) inb_S1024x128_S1024x128_0_0 _ (trip.sl.H11_4 (F := Ideal) arg1 arg2 arg3 arg5 arg6 arg10 arg11 X1 X2 X3 X5 X6 X10 k)
    (fun i j l => dscore (row (arg1.view.read (Elt Ideal) X1)) (row (arg2.view.read (Elt Ideal) X2)) (row (arg3.view.read (Elt Ideal) X3)) (row (arg6.view.read (Elt Ideal) X6)) (fun n => row (arg5.view.read (Elt Ideal) X5) n 0) (col (arg10.view.read (Elt Ideal) X10)) (1024 * k.val + i) (1024 * k.val + j) * (row (arg1.view.read (Elt Ideal) X1)) (1024 * k.val + i) l) (arg11_strip2 arg1 arg2 arg3 arg5 arg6 arg10 arg11 X1 X2 X3 X5 X6 X10 k) (fun r l j hj => ?_) (fun i hi j l hj _ => ?_) j l
  · exact (pay75_apply _ _ _ _ _ r l).trans (congrArg₂ (· + ·) (readAt_acc arg11.view _ inb_S1024x128_S1024x128_0_0 r l j hj)
      (Finset.sum_congr rfl fun x _ => congrArg₂ (· * ·) (dscore_768 (b := 1024 * k.val) (L := (fun n => row (arg5.view.read (Elt Ideal) X5) n 0)) (sq_rows arg1 X1 k 3 _) (key_rows arg2 X2 k) (value_rows arg3 X3 k) (fun r l => (pay46_apply _ r l).trans (sd_rows arg6 X6 k 3 _ r l)) (sy_rows arg5 X5 k 3 _) (st_rows arg10 X10 k 3 _) x r) (((pay42_apply _ x l)).trans (sq_rows arg1 X1 k 3 _ x l))))
  · have e : dscore (row (arg1.view.read (Elt Ideal) X1)) (row (arg2.view.read (Elt Ideal) X2)) (row (arg3.view.read (Elt Ideal) X3)) (row (arg6.view.read (Elt Ideal) X6)) (fun n => row (arg5.view.read (Elt Ideal) X5) n 0) (col (arg10.view.read (Elt Ideal) X10)) (1024 * k.val + i) (1024 * k.val + j) * (row (arg1.view.read (Elt Ideal) X1)) (1024 * k.val + i) l = 0 := by rw [dscore_of_lt _ _ _ _ _ _ (by omega), zero_mul]
    exact e

/-- The values' accumulator after strip 0. -/
theorem arg12_strip0 (j : Fin 1024) (l : Fin 128) :
    arg12.view.read (Elt Ideal) (arg12.view.writes (Elt Ideal) arg12.view.junk (trip.sl.H12_2 (F := Ideal) arg1 arg2 arg5 arg6 arg12 X1 X2 X5 X6 k)) (ix2 j l)
      = ∑ i ∈ Finset.range 256, prob (row (arg1.view.read (Elt Ideal) X1)) (row (arg2.view.read (Elt Ideal) X2)) (fun n => row (arg5.view.read (Elt Ideal) X5) n 0) (1024 * k.val + i) (1024 * k.val + j.val) * (row (arg6.view.read (Elt Ideal) X6)) (1024 * k.val + i) l := by
  refine acc_add arg12.view arg12.view.junk (n := 256) (m := 256) (o := 0) inb_S1024x128_S256x128_0_0 _ (trip.sl.H12_1 (F := Ideal))
    (fun i j l => prob (row (arg1.view.read (Elt Ideal) X1)) (row (arg2.view.read (Elt Ideal) X2)) (fun n => row (arg5.view.read (Elt Ideal) X5) n 0) (1024 * k.val + i) (1024 * k.val + j) * (row (arg6.view.read (Elt Ideal) X6)) (1024 * k.val + i) l) (fun j l => (acc_read arg12.view _ inb_S1024x128_S1024x128_0_0 _ [] j l j rfl).trans (zero_acc j l)) (fun r l j hj => ?_) (fun i hi j l hj _ => ?_) j l
  · exact (pay56_apply _ _ _ _ r l).trans (congrArg₂ (· + ·) (readAt_acc arg12.view _ inb_S1024x128_S256x128_0_0 r l j hj)
      (Finset.sum_congr rfl fun x _ => congrArg₂ (· * ·) (prob_0 (b := 1024 * k.val) (L := (fun n => row (arg5.view.read (Elt Ideal) X5) n 0)) (fun r l => (pay39_apply _ r l).trans (sq_rows arg1 X1 k 0 _ r l)) (key_rows arg2 X2 k) (sy_rows arg5 X5 k 0 _) x r) (((pay43_apply _ x l)).trans (sd_rows arg6 X6 k 0 _ x l))))
  · have e : prob (row (arg1.view.read (Elt Ideal) X1)) (row (arg2.view.read (Elt Ideal) X2)) (fun n => row (arg5.view.read (Elt Ideal) X5) n 0) (1024 * k.val + i) (1024 * k.val + j) * (row (arg6.view.read (Elt Ideal) X6)) (1024 * k.val + i) l = 0 := by rw [prob_of_lt _ _ _ (by omega), zero_mul]
    exact e

/-- The values' accumulator after strip 1. -/
theorem arg12_strip1 (j : Fin 1024) (l : Fin 128) :
    arg12.view.read (Elt Ideal) (arg12.view.writes (Elt Ideal) arg12.view.junk (trip.sl.H12_3 (F := Ideal) arg1 arg2 arg5 arg6 arg12 X1 X2 X5 X6 k)) (ix2 j l)
      = ∑ i ∈ Finset.range 512, prob (row (arg1.view.read (Elt Ideal) X1)) (row (arg2.view.read (Elt Ideal) X2)) (fun n => row (arg5.view.read (Elt Ideal) X5) n 0) (1024 * k.val + i) (1024 * k.val + j.val) * (row (arg6.view.read (Elt Ideal) X6)) (1024 * k.val + i) l := by
  refine acc_add arg12.view arg12.view.junk (n := 512) (m := 256) (o := 256) inb_S1024x128_S512x128_0_0 _ (trip.sl.H12_2 (F := Ideal) arg1 arg2 arg5 arg6 arg12 X1 X2 X5 X6 k)
    (fun i j l => prob (row (arg1.view.read (Elt Ideal) X1)) (row (arg2.view.read (Elt Ideal) X2)) (fun n => row (arg5.view.read (Elt Ideal) X5) n 0) (1024 * k.val + i) (1024 * k.val + j) * (row (arg6.view.read (Elt Ideal) X6)) (1024 * k.val + i) l) (arg12_strip0 arg1 arg2 arg5 arg6 arg12 X1 X2 X5 X6 k) (fun r l j hj => ?_) (fun i hi j l hj _ => ?_) j l
  · exact (pay61_apply _ _ _ _ r l).trans (congrArg₂ (· + ·) (readAt_acc arg12.view _ inb_S1024x128_S512x128_0_0 r l j hj)
      (Finset.sum_congr rfl fun x _ => congrArg₂ (· * ·) (prob_256 (b := 1024 * k.val) (L := (fun n => row (arg5.view.read (Elt Ideal) X5) n 0)) (fun r l => (pay40_apply _ r l).trans (sq_rows arg1 X1 k 1 _ r l)) (key_rows arg2 X2 k) (sy_rows arg5 X5 k 1 _) x r) (((pay44_apply _ x l)).trans (sd_rows arg6 X6 k 1 _ x l))))
  · have e : prob (row (arg1.view.read (Elt Ideal) X1)) (row (arg2.view.read (Elt Ideal) X2)) (fun n => row (arg5.view.read (Elt Ideal) X5) n 0) (1024 * k.val + i) (1024 * k.val + j) * (row (arg6.view.read (Elt Ideal) X6)) (1024 * k.val + i) l = 0 := by rw [prob_of_lt _ _ _ (by omega), zero_mul]
    exact e

/-- The values' accumulator after strip 2. -/
theorem arg12_strip2 (j : Fin 1024) (l : Fin 128) :
    arg12.view.read (Elt Ideal) (arg12.view.writes (Elt Ideal) arg12.view.junk (trip.sl.H12_4 (F := Ideal) arg1 arg2 arg5 arg6 arg12 X1 X2 X5 X6 k)) (ix2 j l)
      = ∑ i ∈ Finset.range 768, prob (row (arg1.view.read (Elt Ideal) X1)) (row (arg2.view.read (Elt Ideal) X2)) (fun n => row (arg5.view.read (Elt Ideal) X5) n 0) (1024 * k.val + i) (1024 * k.val + j.val) * (row (arg6.view.read (Elt Ideal) X6)) (1024 * k.val + i) l := by
  refine acc_add arg12.view arg12.view.junk (n := 768) (m := 256) (o := 512) inb_S1024x128_S768x128_0_0 _ (trip.sl.H12_3 (F := Ideal) arg1 arg2 arg5 arg6 arg12 X1 X2 X5 X6 k)
    (fun i j l => prob (row (arg1.view.read (Elt Ideal) X1)) (row (arg2.view.read (Elt Ideal) X2)) (fun n => row (arg5.view.read (Elt Ideal) X5) n 0) (1024 * k.val + i) (1024 * k.val + j) * (row (arg6.view.read (Elt Ideal) X6)) (1024 * k.val + i) l) (arg12_strip1 arg1 arg2 arg5 arg6 arg12 X1 X2 X5 X6 k) (fun r l j hj => ?_) (fun i hi j l hj _ => ?_) j l
  · exact (pay66_apply _ _ _ _ r l).trans (congrArg₂ (· + ·) (readAt_acc arg12.view _ inb_S1024x128_S768x128_0_0 r l j hj)
      (Finset.sum_congr rfl fun x _ => congrArg₂ (· * ·) (prob_512 (b := 1024 * k.val) (L := (fun n => row (arg5.view.read (Elt Ideal) X5) n 0)) (sq_rows arg1 X1 k 2 _) (key_rows arg2 X2 k) (sy_rows arg5 X5 k 2 _) x r) (((pay45_apply _ x l)).trans (sd_rows arg6 X6 k 2 _ x l))))
  · have e : prob (row (arg1.view.read (Elt Ideal) X1)) (row (arg2.view.read (Elt Ideal) X2)) (fun n => row (arg5.view.read (Elt Ideal) X5) n 0) (1024 * k.val + i) (1024 * k.val + j) * (row (arg6.view.read (Elt Ideal) X6)) (1024 * k.val + i) l = 0 := by rw [prob_of_lt _ _ _ (by omega), zero_mul]
    exact e

/-- The values' accumulator after strip 3. -/
theorem arg12_strip3 (j : Fin 1024) (l : Fin 128) :
    arg12.view.read (Elt Ideal) (arg12.view.writes (Elt Ideal) arg12.view.junk (trip.sl.H12_5 (F := Ideal) arg1 arg2 arg5 arg6 arg12 X1 X2 X5 X6 k)) (ix2 j l)
      = ∑ i ∈ Finset.range 1024, prob (row (arg1.view.read (Elt Ideal) X1)) (row (arg2.view.read (Elt Ideal) X2)) (fun n => row (arg5.view.read (Elt Ideal) X5) n 0) (1024 * k.val + i) (1024 * k.val + j.val) * (row (arg6.view.read (Elt Ideal) X6)) (1024 * k.val + i) l := by
  refine acc_add arg12.view arg12.view.junk (n := 1024) (m := 256) (o := 768) inb_S1024x128_S1024x128_0_0 _ (trip.sl.H12_4 (F := Ideal) arg1 arg2 arg5 arg6 arg12 X1 X2 X5 X6 k)
    (fun i j l => prob (row (arg1.view.read (Elt Ideal) X1)) (row (arg2.view.read (Elt Ideal) X2)) (fun n => row (arg5.view.read (Elt Ideal) X5) n 0) (1024 * k.val + i) (1024 * k.val + j) * (row (arg6.view.read (Elt Ideal) X6)) (1024 * k.val + i) l) (arg12_strip2 arg1 arg2 arg5 arg6 arg12 X1 X2 X5 X6 k) (fun r l j hj => ?_) (fun i hi j l hj _ => ?_) j l
  · exact (pay72_apply _ _ _ _ r l).trans (congrArg₂ (· + ·) (readAt_acc arg12.view _ inb_S1024x128_S1024x128_0_0 r l j hj)
      (Finset.sum_congr rfl fun x _ => congrArg₂ (· * ·) (prob_768 (b := 1024 * k.val) (L := (fun n => row (arg5.view.read (Elt Ideal) X5) n 0)) (sq_rows arg1 X1 k 3 _) (key_rows arg2 X2 k) (sy_rows arg5 X5 k 3 _) x r) (((pay46_apply _ x l)).trans (sd_rows arg6 X6 k 3 _ x l))))
  · have e : prob (row (arg1.view.read (Elt Ideal) X1)) (row (arg2.view.read (Elt Ideal) X2)) (fun n => row (arg5.view.read (Elt Ideal) X5) n 0) (1024 * k.val + i) (1024 * k.val + j) * (row (arg6.view.read (Elt Ideal) X6)) (1024 * k.val + i) l = 0 := by rw [prob_of_lt _ _ _ (by omega), zero_mul]
    exact e

/-- The four strips' pieces of the queries' gradient, last first. -/
def strips (f7 : BufTy.Contents (Elt Ideal) arg7.view.ty) : List (View.Piece (Elt Ideal) S1x4096x128 .f32) :=
  [⟨Rect.unit (s := S1x4096x128) (k0_off4 k 768#32) S1x256x128.size (k0_off4_inb k 3), k0_pay76 (trip.sl.v10 (F := Ideal) arg2 X2 k) (trip.sl.r_13 arg3 arg6 X3 X6 k) (trip.sl.r_17 arg1 arg2 arg5 X1 X2 X5 k) (arg10.view.readAt (Elt Ideal) (Rect.unit (s := S4096x1) (k0_off6 k 768#32) S256x1.size (k0_off6_inb k 3)).toLoadRect X10) (arg7.view.readAt (Elt Ideal) (Rect.unit (s := S1x4096x128) (k0_off4 k 768#32) S1x256x128.size (k0_off4_inb k 3)).toLoadRect f7)⟩,
   ⟨Rect.unit (s := S1x4096x128) (k0_off4 k 512#32) S1x256x128.size (k0_off4_inb k 2), k0_pay70 (trip.sl.v10 (F := Ideal) arg2 X2 k) (trip.sl.r_16 arg1 arg2 arg3 arg5 arg6 arg10 X1 X2 X3 X5 X6 X10 k) (arg7.view.readAt (Elt Ideal) (Rect.unit (s := S1x4096x128) (k0_off4 k 512#32) S1x256x128.size (k0_off4_inb k 2)).toLoadRect f7)⟩,
   ⟨Rect.unit (s := S1x4096x128) (k0_off4 k 256#32) S1x256x128.size (k0_off4_inb k 1), k0_pay64 (trip.sl.v10 (F := Ideal) arg2 X2 k) (trip.sl.r_15 arg1 arg2 arg3 arg5 arg6 arg10 X1 X2 X3 X5 X6 X10 k) (arg7.view.readAt (Elt Ideal) (Rect.unit (s := S1x4096x128) (k0_off4 k 256#32) S1x256x128.size (k0_off4_inb k 1)).toLoadRect f7)⟩,
   ⟨Rect.unit (s := S1x4096x128) (k0_off4 k 0#32) S1x256x128.size (k0_off4_inb k 0), k0_pay59 (trip.sl.v10 (F := Ideal) arg2 X2 k) (trip.sl.r_14 arg1 arg2 arg3 arg5 arg6 arg10 X1 X2 X3 X5 X6 X10 k) (arg7.view.readAt (Elt Ideal) (Rect.unit (s := S1x4096x128) (k0_off4 k 0#32) S1x256x128.size (k0_off4_inb k 0)).toLoadRect f7)⟩]

theorem sum_first (n : ℕ) (hn : n ≤ 1024) (f : ℕ → EReal) (hf : ∀ j, n ≤ j → f j = 0) : ∑ x : Fin n, f x.val = ∑ x : Fin 1024, f x.val := by
  rw [← Finset.sum_range, ← Finset.sum_range]
  exact Finset.sum_subset (fun x h => Finset.mem_range.2 (Nat.lt_of_lt_of_le (Finset.mem_range.1 h) hn)) fun x _ h => hf x (by simpa using h)

/-- What the strips add to the queries' gradient: for the block's own rows, the terms of the block's keys. -/
theorem strips_add (f7 : BufTy.Contents (Elt Ideal) arg7.view.ty) (i : Fin 4096) (l : Fin 128) :
    arg7.view.read (Elt Ideal) (arg7.view.writes (Elt Ideal) f7 (strips arg1 arg2 arg3 arg5 arg6 arg7 arg10 X1 X2 X3 X5 X6 X10 k f7)) (ix3 0 i l)
      = if 1024 * k.val ≤ i.val ∧ i.val < 1024 * k.val + 1024 then arg7.view.read (Elt Ideal) f7 (ix3 0 i l) + ∑ j : Fin 1024, dscore (row (arg1.view.read (Elt Ideal) X1)) (row (arg2.view.read (Elt Ideal) X2)) (row (arg3.view.read (Elt Ideal) X3)) (row (arg6.view.read (Elt Ideal) X6)) (fun n => row (arg5.view.read (Elt Ideal) X5) n 0) (col (arg10.view.read (Elt Ideal) X10)) i.val (1024 * k.val + j.val) * (row (arg2.view.read (Elt Ideal) X2)) (1024 * k.val + j.val) l else arg7.view.read (Elt Ideal) f7 (ix3 0 i l) := by
  have hl := k_block k
  have key : ∀ (h : Fin 4) (inb) (r : Fin 256) (l : Fin 128) (i : Fin 4096), i.val = 1024 * k.val + 256 * h.val + r.val →
      arg7.view.readAt (Elt Ideal) (Rect.unit (s := S1x4096x128) (k0_off4 k (BitVec.ofNat 32 (256 * h.val))) S1x256x128.size inb).toLoadRect f7 (ix3 0 r l)
        = arg7.view.read (Elt Ideal) f7 (ix3 0 i l) := fun h inb r l i hi =>
    readAt_rows arg7.view f7 inb (k0_off4_eq k h) r l i l hi rfl
  have tail : ∀ (n o : ℕ) (hn : n ≤ 1024) (r : Fin 256) (l : Fin 128), o + 256 = n →
      ∑ x : Fin n, dscore (row (arg1.view.read (Elt Ideal) X1)) (row (arg2.view.read (Elt Ideal) X2)) (row (arg3.view.read (Elt Ideal) X3)) (row (arg6.view.read (Elt Ideal) X6)) (fun n => row (arg5.view.read (Elt Ideal) X5) n 0) (col (arg10.view.read (Elt Ideal) X10)) (1024 * k.val + o + r.val) (1024 * k.val + x.val) * (row (arg2.view.read (Elt Ideal) X2)) (1024 * k.val + x.val) l
        = ∑ x : Fin 1024, dscore (row (arg1.view.read (Elt Ideal) X1)) (row (arg2.view.read (Elt Ideal) X2)) (row (arg3.view.read (Elt Ideal) X3)) (row (arg6.view.read (Elt Ideal) X6)) (fun n => row (arg5.view.read (Elt Ideal) X5) n 0) (col (arg10.view.read (Elt Ideal) X10)) (1024 * k.val + o + r.val) (1024 * k.val + x.val) * (row (arg2.view.read (Elt Ideal) X2)) (1024 * k.val + x.val) l := fun n o hn r l h =>
    sum_first n hn (fun x => dscore (row (arg1.view.read (Elt Ideal) X1)) (row (arg2.view.read (Elt Ideal) X2)) (row (arg3.view.read (Elt Ideal) X3)) (row (arg6.view.read (Elt Ideal) X6)) (fun n => row (arg5.view.read (Elt Ideal) X5) n 0) (col (arg10.view.read (Elt Ideal) X10)) (1024 * k.val + o + r.val) (1024 * k.val + x) * (row (arg2.view.read (Elt Ideal) X2)) (1024 * k.val + x) l) fun j hj => by
      have e : dscore (row (arg1.view.read (Elt Ideal) X1)) (row (arg2.view.read (Elt Ideal) X2)) (row (arg3.view.read (Elt Ideal) X3)) (row (arg6.view.read (Elt Ideal) X6)) (fun n => row (arg5.view.read (Elt Ideal) X5) n 0) (col (arg10.view.read (Elt Ideal) X10)) (1024 * k.val + o + r.val) (1024 * k.val + j) * (row (arg2.view.read (Elt Ideal) X2)) (1024 * k.val + j) l = 0 := by rw [dscore_of_lt _ _ _ _ _ _ (by omega), zero_mul]
      exact e
  unfold strips
  refine rows_add arg7.view f7 (a := 1024 * k.val) (o := 1024 * k.val + 768) (m := 256) (k0_off4_inb k 3) (k0_off4_eq k 3) _ _ (fun i l => arg7.view.read (Elt Ideal) f7 (ix3 0 i l)) (fun n l => ∑ j : Fin 1024, dscore (row (arg1.view.read (Elt Ideal) X1)) (row (arg2.view.read (Elt Ideal) X2)) (row (arg3.view.read (Elt Ideal) X3)) (row (arg6.view.read (Elt Ideal) X6)) (fun n => row (arg5.view.read (Elt Ideal) X5) n 0) (col (arg10.view.read (Elt Ideal) X10)) n (1024 * k.val + j.val) * (row (arg2.view.read (Elt Ideal) X2)) (1024 * k.val + j.val) l) (fun i l => ?_) (fun r l i hi => ?_) (by omega) i l
  · refine rows_add arg7.view f7 (a := 1024 * k.val) (o := 1024 * k.val + 512) (m := 256) (k0_off4_inb k 2) (k0_off4_eq k 2) _ _ (fun i l => arg7.view.read (Elt Ideal) f7 (ix3 0 i l)) (fun n l => ∑ j : Fin 1024, dscore (row (arg1.view.read (Elt Ideal) X1)) (row (arg2.view.read (Elt Ideal) X2)) (row (arg3.view.read (Elt Ideal) X3)) (row (arg6.view.read (Elt Ideal) X6)) (fun n => row (arg5.view.read (Elt Ideal) X5) n 0) (col (arg10.view.read (Elt Ideal) X10)) n (1024 * k.val + j.val) * (row (arg2.view.read (Elt Ideal) X2)) (1024 * k.val + j.val) l) (fun i l => ?_) (fun r l i hi => ?_) (by omega) i l
    · refine rows_add arg7.view f7 (a := 1024 * k.val) (o := 1024 * k.val + 256) (m := 256) (k0_off4_inb k 1) (k0_off4_eq k 1) _ _ (fun i l => arg7.view.read (Elt Ideal) f7 (ix3 0 i l)) (fun n l => ∑ j : Fin 1024, dscore (row (arg1.view.read (Elt Ideal) X1)) (row (arg2.view.read (Elt Ideal) X2)) (row (arg3.view.read (Elt Ideal) X3)) (row (arg6.view.read (Elt Ideal) X6)) (fun n => row (arg5.view.read (Elt Ideal) X5) n 0) (col (arg10.view.read (Elt Ideal) X10)) n (1024 * k.val + j.val) * (row (arg2.view.read (Elt Ideal) X2)) (1024 * k.val + j.val) l) (fun i l => ?_) (fun r l i hi => ?_) (by omega) i l
      · refine rows_add arg7.view f7 (a := 1024 * k.val) (o := 1024 * k.val + 0) (m := 256) (k0_off4_inb k 0) (k0_off4_eq k 0) _ [] (fun i l => arg7.view.read (Elt Ideal) f7 (ix3 0 i l)) (fun n l => ∑ j : Fin 1024, dscore (row (arg1.view.read (Elt Ideal) X1)) (row (arg2.view.read (Elt Ideal) X2)) (row (arg3.view.read (Elt Ideal) X3)) (row (arg6.view.read (Elt Ideal) X6)) (fun n => row (arg5.view.read (Elt Ideal) X5) n 0) (col (arg10.view.read (Elt Ideal) X10)) n (1024 * k.val + j.val) * (row (arg2.view.read (Elt Ideal) X2)) (1024 * k.val + j.val) l) (fun i l => (if_neg (by omega)).symm) (fun r l i hi => ?_) (by omega) i l
        refine (pay59_apply _ _ _ r l).trans (congrArg₂ (· + ·) (key 0 _ r l i hi) ((Finset.sum_congr rfl fun x _ => congrArg₂ (· * ·) (dscore_0 (b := 1024 * k.val) (L := (fun n => row (arg5.view.read (Elt Ideal) X5) n 0)) (fun r l => (pay39_apply _ r l).trans (sq_rows arg1 X1 k 0 _ r l)) (key_rows arg2 X2 k) (value_rows arg3 X3 k) (sd_rows arg6 X6 k 0 _) (sy_rows arg5 X5 k 0 _) (st_rows arg10 X10 k 0 _) r x) (key_rows arg2 X2 k ⟨x.val, by omega⟩ l)).trans ?_))
        rw [← Nat.add_assoc]
        exact tail 256 0 (by omega) r l rfl
      · refine (pay64_apply _ _ _ r l).trans (congrArg₂ (· + ·) (key 1 _ r l i hi) ((Finset.sum_congr rfl fun x _ => congrArg₂ (· * ·) (dscore_256 (b := 1024 * k.val) (L := (fun n => row (arg5.view.read (Elt Ideal) X5) n 0)) (fun r l => (pay40_apply _ r l).trans (sq_rows arg1 X1 k 1 _ r l)) (key_rows arg2 X2 k) (value_rows arg3 X3 k) (fun r l => (pay44_apply _ r l).trans (sd_rows arg6 X6 k 1 _ r l)) (sy_rows arg5 X5 k 1 _) (st_rows arg10 X10 k 1 _) r x) (key_rows arg2 X2 k ⟨x.val, by omega⟩ l)).trans ?_))
        rw [← Nat.add_assoc]
        exact tail 512 256 (by omega) r l rfl
    · refine (pay70_apply _ _ _ r l).trans (congrArg₂ (· + ·) (key 2 _ r l i hi) ((Finset.sum_congr rfl fun x _ => congrArg₂ (· * ·) (dscore_512 (b := 1024 * k.val) (L := (fun n => row (arg5.view.read (Elt Ideal) X5) n 0)) (sq_rows arg1 X1 k 2 _) (key_rows arg2 X2 k) (value_rows arg3 X3 k) (fun r l => (pay45_apply _ r l).trans (sd_rows arg6 X6 k 2 _ r l)) (sy_rows arg5 X5 k 2 _) (st_rows arg10 X10 k 2 _) r x) (key_rows arg2 X2 k ⟨x.val, by omega⟩ l)).trans ?_))
      rw [← Nat.add_assoc]
      exact tail 768 512 (by omega) r l rfl
  · refine (pay76_apply _ _ _ _ _ r l).trans (congrArg₂ (· + ·) (key 3 _ r l i hi) ((Finset.sum_congr rfl fun x _ => congrArg₂ (· * ·) (dscore_768 (b := 1024 * k.val) (L := (fun n => row (arg5.view.read (Elt Ideal) X5) n 0)) (sq_rows arg1 X1 k 3 _) (key_rows arg2 X2 k) (value_rows arg3 X3 k) (fun r l => (pay46_apply _ r l).trans (sd_rows arg6 X6 k 3 _ r l)) (sy_rows arg5 X5 k 3 _) (st_rows arg10 X10 k 3 _) r x) (key_rows arg2 X2 k x l)).trans ?_))
    rw [← Nat.add_assoc]

end Trip

end Cert.Proof.KernelIdeal

end
-- ==== Proof.KernelIdeal.TripVal.lean ====
/- One key block of the backward call, over the extended reals (`KernelIdeal`): what its trip adds to the queries' gradient and
   what it writes into the keys' and the values' gradients. -/
module

public import proofs.«01_k».proof.Proof.KernelIdeal.Strip

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

open Rows

theorem trips4 : ∀ t : Fin k0_t2_loop.trips, (k0_t4_loop t).trips = 0 := by decide +kernel

/-- The remainder loop runs no trip. -/
theorem rest_nil {c : Dev nD} {i : grid0.Coords} {arg1 : Memref sig .tc .vmem S1x4096x128 .bf16} {harg1 : arg1.IsWhole} {arg2 : Memref sig .tc .vmem S1x4096x128 .bf16} {harg2 : arg2.IsWhole} {arg3 : Memref sig .tc .vmem S1x4096x128 .bf16} {harg3 : arg3.IsWhole} {arg4 : Memref sig .tc .vmem S1x4096x128 .f32} {harg4 : arg4.IsWhole} {arg5 : Memref sig .tc .vmem S1x4096x128 .f32} {harg5 : arg5.IsWhole} {arg6 : Memref sig .tc .vmem S1x4096x128 .f32} {harg6 : arg6.IsWhole} {arg7 : Memref sig .tc .vmem S1x4096x128 .f32} {harg7 : arg7.IsWhole} {arg8 : Memref sig .tc .vmem S1x4096x128 .f32} {harg8 : arg8.IsWhole} {arg9 : Memref sig .tc .vmem S1x4096x128 .f32} {harg9 : arg9.IsWhole} {arg10 : Memref sig .tc .vmem S4096x1 .f32} {harg10 : arg10.IsWhole} {arg11 : Memref sig .tc .vmem S1024x128 .f32} {harg11 : arg11.IsWhole} {arg12 : Memref sig .tc .vmem S1024x128 .f32} {harg12 : arg12.IsWhole} {t : Fin k0_t2_loop.trips} {arg13 v7 : BitVec 32} {v10 v13 : FVec Ideal S1024x128 .bf16} {v33 : BitVec 32} {v45 : FVec Ideal S256x128 .bf16} {v83 v228 : FVec Ideal S256x1024 .f32} {v232 : FVec Ideal S1024x128 .f32} {v259 : BitVec 32} {X1 : BufTy.Contents (Elt Ideal) arg1.view.ty} {X5 : BufTy.Contents (Elt Ideal) arg5.view.ty} {X6 : BufTy.Contents (Elt Ideal) arg6.view.ty} {X10 : BufTy.Contents (Elt Ideal) arg10.view.ty} {f7 : BufTy.Contents (Elt Ideal) arg7.view.ty} {f11 : BufTy.Contents (Elt Ideal) arg11.view.ty} {f12 : BufTy.Contents (Elt Ideal) arg12.view.ty} {n : ℕ} (h : n = 0) :
    pb_k0_t4 (F := Ideal) Variants.none c none i arg1 harg1 arg2 harg2 arg3 harg3 arg4 harg4 arg5 harg5 arg6 harg6 arg7 harg7 arg8 harg8 arg9 harg9 arg10 harg10 arg11 harg11 arg12 harg12 t arg13 v7 v10 v13 v33 v45 v83 v228 v232 v259 X1 X5 X6 X10 f7 f11 f12 n = ([], [], []) := by
  subst h; rfl

section Trip

variable (c : Dev nD) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S4096x1 .f32) (harg10 : arg10.IsWhole) (arg11 : Memref sig .tc .vmem S1024x128 .f32) (harg11 : arg11.IsWhole) (arg12 : Memref sig .tc .vmem S1024x128 .f32) (harg12 : arg12.IsWhole) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X10 : BufTy.Contents (Elt Ideal) arg10.view.ty) (k : Fin k0_t2_loop.trips) (f7 : BufTy.Contents (Elt Ideal) arg7.view.ty)

/-- The pieces of the rows below the key block, after the strips'. -/
def below : List (View.Piece (Elt Ideal) S1x4096x128 .f32) × List (View.Piece (Elt Ideal) S1024x128 .f32) × List (View.Piece (Elt Ideal) S1024x128 .f32) :=
  pb_k0_t3 (F := Ideal) Variants.none c none i arg1 harg1 arg2 harg2 arg3 harg3 arg4 harg4 arg5 harg5 arg6 harg6 arg7 harg7 arg8 harg8 arg9 harg9 arg10 harg10 arg11 harg11 arg12 harg12 k (trip.sl.arg13 k) (trip.sl.v6 k) (trip.sl.v10 arg2 X2 k) (trip.sl.v13 arg3 X3 k) (trip.sl.v32 k) (trip.sl.r_1 arg1 X1 k) (trip.sl.r_13 arg3 arg6 X3 X6 k) (trip.sl.r_17 arg1 arg2 arg5 X1 X2 X5 k) (trip.sl.r_18 arg1 arg2 arg5 arg6 arg12 X1 X2 X5 X6 k) (trip.sl.v259 k) X1 X5 X6 X10 (arg7.view.writes (Elt Ideal) f7 (strips arg1 arg2 arg3 arg5 arg6 arg7 arg10 X1 X2 X3 X5 X6 X10 k f7)) (arg11.view.writes (Elt Ideal) arg11.view.junk (trip.sl.H11_5 (F := Ideal) arg1 arg2 arg3 arg5 arg6 arg10 arg11 X1 X2 X3 X5 X6 X10 k)) (arg12.view.writes (Elt Ideal) arg12.view.junk (trip.sl.H12_5 (F := Ideal) arg1 arg2 arg5 arg6 arg12 X1 X2 X5 X6 k)) (k0_t3_loop k).trips

theorem trip7_eq : (trip (F := Ideal) c i arg1 harg1 arg2 harg2 arg3 harg3 arg4 harg4 arg5 harg5 arg6 harg6 arg7 harg7 arg8 harg8 arg9 harg9 arg10 harg10 arg11 harg11 arg12 harg12 X1 X2 X3 X5 X6 X10 k).1 f7 = (below c i arg1 harg1 arg2 harg2 arg3 harg3 arg4 harg4 arg5 harg5 arg6 harg6 arg7 harg7 arg8 harg8 arg9 harg9 arg10 harg10 arg11 harg11 arg12 harg12 X1 X2 X3 X5 X6 X10 k f7).1 ++ (strips arg1 arg2 arg3 arg5 arg6 arg7 arg10 X1 X2 X3 X5 X6 X10 k f7) := by
  unfold trip
  dsimp only
  rw [rest_nil (trips4 k)]
  dsimp only [List.nil_append]
  rfl

theorem trip8_eq : (trip (F := Ideal) c i arg1 harg1 arg2 harg2 arg3 harg3 arg4 harg4 arg5 harg5 arg6 harg6 arg7 harg7 arg8 harg8 arg9 harg9 arg10 harg10 arg11 harg11 arg12 harg12 X1 X2 X3 X5 X6 X10 k).2.1 f7
    = [⟨Rect.unit (s := S1x4096x128) (k0_off3 k) S1x1024x128.size (k0_off3_inb k), k0_pay3 (arg11.view.readCov ((below c i arg1 harg1 arg2 harg2 arg3 harg3 arg4 harg4 arg5 harg5 arg6 harg6 arg7 harg7 arg8 harg8 arg9 harg9 arg10 harg10 arg11 harg11 arg12 harg12 X1 X2 X3 X5 X6 X10 k f7).2.1 ++ (trip.sl.H11_5 (F := Ideal) arg1 arg2 arg3 arg5 arg6 arg10 arg11 X1 X2 X3 X5 X6 X10 k)) (Rect.unit (s := S1024x128) ![0, 0] S1024x128.size inb_S1024x128_S1024x128_0_0).toLoadRect)⟩] := by
  unfold trip
  dsimp only
  unfold trip.sl.v265
  rw [rest_nil (trips4 k)]
  dsimp only [List.nil_append]
  rfl

theorem trip9_eq : (trip (F := Ideal) c i arg1 harg1 arg2 harg2 arg3 harg3 arg4 harg4 arg5 harg5 arg6 harg6 arg7 harg7 arg8 harg8 arg9 harg9 arg10 harg10 arg11 harg11 arg12 harg12 X1 X2 X3 X5 X6 X10 k).2.2.1 f7
    = [⟨Rect.unit (s := S1x4096x128) (k0_off3 k) S1x1024x128.size (k0_off3_inb k), k0_pay4 (arg12.view.readCov ((below c i arg1 harg1 arg2 harg2 arg3 harg3 arg4 harg4 arg5 harg5 arg6 harg6 arg7 harg7 arg8 harg8 arg9 harg9 arg10 harg10 arg11 harg11 arg12 harg12 X1 X2 X3 X5 X6 X10 k f7).2.2 ++ (trip.sl.H12_5 (F := Ideal) arg1 arg2 arg5 arg6 arg12 X1 X2 X5 X6 k)) (Rect.unit (s := S1024x128) ![0, 0] S1024x128.size inb_S1024x128_S1024x128_0_0).toLoadRect)⟩] := by
  unfold trip
  dsimp only
  unfold trip.sl.v270
  rw [rest_nil (trips4 k)]
  dsimp only [List.nil_append]
  rfl

/-- What the rows below the block leave. -/
theorem below_adds :
    (∀ m l, arg7.view.read (Elt Ideal) (arg7.view.writes (Elt Ideal) (arg7.view.writes (Elt Ideal) f7 (strips arg1 arg2 arg3 arg5 arg6 arg7 arg10 X1 X2 X3 X5 X6 X10 k f7)) (below c i arg1 harg1 arg2 harg2 arg3 harg3 arg4 harg4 arg5 harg5 arg6 harg6 arg7 harg7 arg8 harg8 arg9 harg9 arg10 harg10 arg11 harg11 arg12 harg12 X1 X2 X3 X5 X6 X10 k f7).1) (ix3 0 m l)
      = if 1024 * k.val ≤ m.val ∧ m.val < 1024 * k.val + (1024 + 1024 * (k0_t3_loop k).trips)
        then arg7.view.read (Elt Ideal) f7 (ix3 0 m l) + ∑ j : Fin 1024, dscore (row (arg1.view.read (Elt Ideal) X1)) (row (arg2.view.read (Elt Ideal) X2)) (row (arg3.view.read (Elt Ideal) X3)) (row (arg6.view.read (Elt Ideal) X6)) (fun n => row (arg5.view.read (Elt Ideal) X5) n 0) (col (arg10.view.read (Elt Ideal) X10)) m.val (1024 * k.val + j.val) * (row (arg2.view.read (Elt Ideal) X2)) (1024 * k.val + j.val) l else arg7.view.read (Elt Ideal) f7 (ix3 0 m l))
    ∧ (∀ j l, arg11.view.read (Elt Ideal) (arg11.view.writes (Elt Ideal) (arg11.view.writes (Elt Ideal) arg11.view.junk (trip.sl.H11_5 (F := Ideal) arg1 arg2 arg3 arg5 arg6 arg10 arg11 X1 X2 X3 X5 X6 X10 k)) (below c i arg1 harg1 arg2 harg2 arg3 harg3 arg4 harg4 arg5 harg5 arg6 harg6 arg7 harg7 arg8 harg8 arg9 harg9 arg10 harg10 arg11 harg11 arg12 harg12 X1 X2 X3 X5 X6 X10 k f7).2.1) (ix2 j l)
        = ∑ i ∈ Finset.range (1024 + 1024 * (k0_t3_loop k).trips), dscore (row (arg1.view.read (Elt Ideal) X1)) (row (arg2.view.read (Elt Ideal) X2)) (row (arg3.view.read (Elt Ideal) X3)) (row (arg6.view.read (Elt Ideal) X6)) (fun n => row (arg5.view.read (Elt Ideal) X5) n 0) (col (arg10.view.read (Elt Ideal) X10)) (1024 * k.val + i) (1024 * k.val + j.val) * (row (arg1.view.read (Elt Ideal) X1)) (1024 * k.val + i) l)
    ∧ (∀ j l, arg12.view.read (Elt Ideal) (arg12.view.writes (Elt Ideal) (arg12.view.writes (Elt Ideal) arg12.view.junk (trip.sl.H12_5 (F := Ideal) arg1 arg2 arg5 arg6 arg12 X1 X2 X5 X6 k)) (below c i arg1 harg1 arg2 harg2 arg3 harg3 arg4 harg4 arg5 harg5 arg6 harg6 arg7 harg7 arg8 harg8 arg9 harg9 arg10 harg10 arg11 harg11 arg12 harg12 X1 X2 X3 X5 X6 X10 k f7).2.2) (ix2 j l)
        = ∑ i ∈ Finset.range (1024 + 1024 * (k0_t3_loop k).trips), prob (row (arg1.view.read (Elt Ideal) X1)) (row (arg2.view.read (Elt Ideal) X2)) (fun n => row (arg5.view.read (Elt Ideal) X5) n 0) (1024 * k.val + i) (1024 * k.val + j.val) * (row (arg6.view.read (Elt Ideal) X6)) (1024 * k.val + i) l) := by
  unfold below
  have s11 := arg11_strip3 arg1 arg2 arg3 arg5 arg6 arg10 arg11 X1 X2 X3 X5 X6 X10 k
  have s12 := arg12_strip3 arg1 arg2 arg5 arg6 arg12 X1 X2 X5 X6 k
  have s7 := strips_add arg1 arg2 arg3 arg5 arg6 arg7 arg10 X1 X2 X3 X5 X6 X10 k f7
  exact half_loop (K := (row (arg2.view.read (Elt Ideal) X2))) (V := (row (arg3.view.read (Elt Ideal) X3))) c i arg1 harg1 arg2 harg2 arg3 harg3 arg4 harg4 arg5 harg5 arg6 harg6 arg7 harg7 arg8 harg8 arg9 harg9 arg10 harg10 arg11 harg11 arg12 harg12 k (trip.sl.arg13 k) (trip.sl.v6 k) (trip.sl.v10 arg2 X2 k) (trip.sl.v13 arg3 X3 k) (trip.sl.v32 k) (trip.sl.r_1 arg1 X1 k) (trip.sl.r_13 arg3 arg6 X3 X6 k) (trip.sl.r_17 arg1 arg2 arg5 X1 X2 X5 k) (trip.sl.r_18 arg1 arg2 arg5 arg6 arg12 X1 X2 X5 X6 k) (trip.sl.v259 k) X1 X5 X6 X10 (arg7.view.writes (Elt Ideal) f7 (strips arg1 arg2 arg3 arg5 arg6 arg7 arg10 X1 X2 X3 X5 X6 X10 k f7)) (arg11.view.writes (Elt Ideal) arg11.view.junk (trip.sl.H11_5 (F := Ideal) arg1 arg2 arg3 arg5 arg6 arg10 arg11 X1 X2 X3 X5 X6 X10 k)) (arg12.view.writes (Elt Ideal) arg12.view.junk (trip.sl.H12_5 (F := Ideal) arg1 arg2 arg5 arg6 arg12 X1 X2 X5 X6 k)) (key_rows arg2 X2 k) (value_rows arg3 X3 k)
    (fun i l => arg7.view.read (Elt Ideal) f7 (ix3 0 i l)) (1024 * k.val) (by omega) s7 s11 s12 (k0_t3_loop k).trips le_rfl

/-- A key block's trip adds its keys' terms to the queries' gradient. -/
theorem trip7 (n : Fin 4096) (l : Fin 128) :
    arg7.view.read (Elt Ideal) (arg7.view.writes (Elt Ideal) f7 ((trip (F := Ideal) c i arg1 harg1 arg2 harg2 arg3 harg3 arg4 harg4 arg5 harg5 arg6 harg6 arg7 harg7 arg8 harg8 arg9 harg9 arg10 harg10 arg11 harg11 arg12 harg12 X1 X2 X3 X5 X6 X10 k).1 f7)) (ix3 0 n l)
      = arg7.view.read (Elt Ideal) f7 (ix3 0 n l) + ∑ j : Fin 1024, dscore (row (arg1.view.read (Elt Ideal) X1)) (row (arg2.view.read (Elt Ideal) X2)) (row (arg3.view.read (Elt Ideal) X3)) (row (arg6.view.read (Elt Ideal) X6)) (fun n => row (arg5.view.read (Elt Ideal) X5) n 0) (col (arg10.view.read (Elt Ideal) X10)) n.val (1024 * k.val + j.val) * (row (arg2.view.read (Elt Ideal) X2)) (1024 * k.val + j.val) l := by
  have ht := trips3 k
  rw [trip7_eq, View.writes_append]
  refine ((below_adds c i arg1 harg1 arg2 harg2 arg3 harg3 arg4 harg4 arg5 harg5 arg6 harg6 arg7 harg7 arg8 harg8 arg9 harg9 arg10 harg10 arg11 harg11 arg12 harg12 X1 X2 X3 X5 X6 X10 k f7).1 n l).trans ?_
  have hn := n.isLt
  by_cases h : 1024 * k.val ≤ n.val
  · exact if_pos ⟨h, by omega⟩
  · rw [if_neg (by omega), Finset.sum_eq_zero, add_zero]
    intro j _
    rw [dscore_of_lt _ _ _ _ _ _ (by omega), zero_mul]

theorem sum_from (b m : ℕ) (h : b + m = 4096) (f : ℕ → EReal) (hf : ∀ i < b, f i = 0) :
    ∑ i ∈ Finset.range m, f (b + i) = ∑ i ∈ Finset.range 4096, f i := by
  rw [← h, Finset.sum_range_add, Finset.sum_eq_zero (s := Finset.range b) fun i hi => hf i (Finset.mem_range.1 hi), zero_add]

/-- It writes its keys' gradient. -/
theorem trip8 : ∃ w, (trip (F := Ideal) c i arg1 harg1 arg2 harg2 arg3 harg3 arg4 harg4 arg5 harg5 arg6 harg6 arg7 harg7 arg8 harg8 arg9 harg9 arg10 harg10 arg11 harg11 arg12 harg12 X1 X2 X3 X5 X6 X10 k).2.1 f7 = [⟨Rect.unit (s := S1x4096x128) (k0_off3 k) S1x1024x128.size (k0_off3_inb k), w⟩] ∧
    ∀ j l, w (ix3 0 j l) = ∑ i ∈ Finset.range 4096, dscore (row (arg1.view.read (Elt Ideal) X1)) (row (arg2.view.read (Elt Ideal) X2)) (row (arg3.view.read (Elt Ideal) X3)) (row (arg6.view.read (Elt Ideal) X6)) (fun n => row (arg5.view.read (Elt Ideal) X5) n 0) (col (arg10.view.read (Elt Ideal) X10)) i (1024 * k.val + j.val) * (row (arg1.view.read (Elt Ideal) X1)) i l := by
  refine ⟨_, trip8_eq c i arg1 harg1 arg2 harg2 arg3 harg3 arg4 harg4 arg5 harg5 arg6 harg6 arg7 harg7 arg8 harg8 arg9 harg9 arg10 harg10 arg11 harg11 arg12 harg12 X1 X2 X3 X5 X6 X10 k f7, fun j l => ?_⟩
  have ht := trips3 k
  rw [pay3_apply]
  refine ((readAt_acc arg11.view _ inb_S1024x128_S1024x128_0_0 j l j rfl).trans ?_).trans
    (sum_from (1024 * k.val) (1024 + 1024 * (k0_t3_loop k).trips) (by omega) (fun i => dscore (row (arg1.view.read (Elt Ideal) X1)) (row (arg2.view.read (Elt Ideal) X2)) (row (arg3.view.read (Elt Ideal) X3)) (row (arg6.view.read (Elt Ideal) X6)) (fun n => row (arg5.view.read (Elt Ideal) X5) n 0) (col (arg10.view.read (Elt Ideal) X10)) i (1024 * k.val + j.val) * (row (arg1.view.read (Elt Ideal) X1)) i l) fun i hi => ?_)
  · rw [View.writes_append]
    exact (below_adds c i arg1 harg1 arg2 harg2 arg3 harg3 arg4 harg4 arg5 harg5 arg6 harg6 arg7 harg7 arg8 harg8 arg9 harg9 arg10 harg10 arg11 harg11 arg12 harg12 X1 X2 X3 X5 X6 X10 k f7).2.1 j l
  · have e : dscore (row (arg1.view.read (Elt Ideal) X1)) (row (arg2.view.read (Elt Ideal) X2)) (row (arg3.view.read (Elt Ideal) X3)) (row (arg6.view.read (Elt Ideal) X6)) (fun n => row (arg5.view.read (Elt Ideal) X5) n 0) (col (arg10.view.read (Elt Ideal) X10)) i (1024 * k.val + j.val) * (row (arg1.view.read (Elt Ideal) X1)) i l = 0 := by rw [dscore_of_lt _ _ _ _ _ _ (by omega), zero_mul]
    exact e

/-- It writes its values' gradient. -/
theorem trip9 : ∃ w, (trip (F := Ideal) c i arg1 harg1 arg2 harg2 arg3 harg3 arg4 harg4 arg5 harg5 arg6 harg6 arg7 harg7 arg8 harg8 arg9 harg9 arg10 harg10 arg11 harg11 arg12 harg12 X1 X2 X3 X5 X6 X10 k).2.2.1 f7 = [⟨Rect.unit (s := S1x4096x128) (k0_off3 k) S1x1024x128.size (k0_off3_inb k), w⟩] ∧
    ∀ j l, w (ix3 0 j l) = ∑ i ∈ Finset.range 4096, prob (row (arg1.view.read (Elt Ideal) X1)) (row (arg2.view.read (Elt Ideal) X2)) (fun n => row (arg5.view.read (Elt Ideal) X5) n 0) i (1024 * k.val + j.val) * (row (arg6.view.read (Elt Ideal) X6)) i l := by
  refine ⟨_, trip9_eq c i arg1 harg1 arg2 harg2 arg3 harg3 arg4 harg4 arg5 harg5 arg6 harg6 arg7 harg7 arg8 harg8 arg9 harg9 arg10 harg10 arg11 harg11 arg12 harg12 X1 X2 X3 X5 X6 X10 k f7, fun j l => ?_⟩
  have ht := trips3 k
  rw [pay4_apply]
  refine ((readAt_acc arg12.view _ inb_S1024x128_S1024x128_0_0 j l j rfl).trans ?_).trans
    (sum_from (1024 * k.val) (1024 + 1024 * (k0_t3_loop k).trips) (by omega) (fun i => prob (row (arg1.view.read (Elt Ideal) X1)) (row (arg2.view.read (Elt Ideal) X2)) (fun n => row (arg5.view.read (Elt Ideal) X5) n 0) i (1024 * k.val + j.val) * (row (arg6.view.read (Elt Ideal) X6)) i l) fun i hi => ?_)
  · rw [View.writes_append]
    exact (below_adds c i arg1 harg1 arg2 harg2 arg3 harg3 arg4 harg4 arg5 harg5 arg6 harg6 arg7 harg7 arg8 harg8 arg9 harg9 arg10 harg10 arg11 harg11 arg12 harg12 X1 X2 X3 X5 X6 X10 k f7).2.2 j l
  · have e : prob (row (arg1.view.read (Elt Ideal) X1)) (row (arg2.view.read (Elt Ideal) X2)) (fun n => row (arg5.view.read (Elt Ideal) X5) n 0) i (1024 * k.val + j.val) * (row (arg6.view.read (Elt Ideal) X6)) i l = 0 := by rw [prob_of_lt _ _ _ (by omega), zero_mul]
    exact e

end Trip

end Cert.Proof.KernelIdeal

end
-- ==== Proof.KernelIdeal.BodyVal.lean ====
/- The whole body of the backward call, over the extended reals (`KernelIdeal`): the row sums it keeps, and the three gradients of a head
   as sums over rows and keys. -/
module

public import proofs.«01_k».proof.Proof.KernelIdeal.TripVal
public import proofs.«01_k».proof.Proof.KernelIdeal.Body

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

open Rows

/-- The row sums after `n` trips of their loop. -/
theorem rows_read (c : Dev nD) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S4096x1 .f32) (harg10 : arg10.IsWhole) (arg11 : Memref sig .tc .vmem S1024x128 .f32) (harg11 : arg11.IsWhole) (arg12 : Memref sig .tc .vmem S1024x128 .f32) (harg12 : arg12.IsWhole) (X4 : BufTy.Contents (Elt Ideal) arg4.view.ty) (X6 : BufTy.Contents (Elt Ideal) arg6.view.ty) : ∀ n : ℕ, n ≤ 4 → ∀ r : Fin 4096, r.val < 1024 * n →
    arg10.view.read (Elt Ideal) (arg10.view.writes (Elt Ideal) arg10.view.junk (pb_k0_t1 (F := Ideal) Variants.none c none i arg1 harg1 arg2 harg2 arg3 harg3 arg4 harg4 arg5 harg5 arg6 harg6 arg7 harg7 arg8 harg8 arg9 harg9 arg10 harg10 arg11 harg11 arg12 harg12 X4 X6 n)) (ix2 r 0)
      = ∑ x, (row (arg6.view.read (Elt Ideal) X6)) r.val x * (row (arg4.view.read (Elt Ideal) X4)) r.val x
  | 0, _, r, h => absurd h (by omega)
  | n + 1, hn, r, h => by
    have hlt : n < k0_t1_loop.trips := by rw [trips1]; omega
    rw [pb_k0_t1_succ (F := Ideal) Variants.none c none i arg1 harg1 arg2 harg2 arg3 harg3 arg4 harg4 arg5 harg5 arg6 harg6 arg7 harg7 arg8 harg8 arg9 harg9 arg10 harg10 arg11 harg11 arg12 harg12 X4 X6 ⟨n, hlt⟩]
    unfold tripL_k0_t1
    rw [rowTrip_eq]
    by_cases hr : r.val < 1024 * n
    · refine (View.read_writes_cons_unit_of_not_mem arg10.view _ (k0_off2_inb ⟨n, hlt⟩) _ _ (ix2 r 0) (k0_off2_eq ⟨n, hlt⟩) 0 (Or.inl hr)).trans ?_
      exact rows_read c i arg1 harg1 arg2 harg2 arg3 harg3 arg4 harg4 arg5 harg5 arg6 harg6 arg7 harg7 arg8 harg8 arg9 harg9 arg10 harg10 arg11 harg11 arg12 harg12 X4 X6 n (by omega) r hr
    · refine (View.read_writes_cons_unit_of_mem arg10.view _ (k0_off2_inb ⟨n, hlt⟩) _ _ (ix2 r 0) (ix2 ⟨r.val - 1024 * n, by omega⟩ 0) (k0_off2_eq ⟨n, hlt⟩) fun a => ?_).trans ?_
      · fin_cases a
        · show r.val = 1024 * n + (r.val - 1024 * n); omega
        · rfl
      · refine (pay2_apply _ _ _).trans (Finset.sum_congr rfl fun x _ => congrArg₂ (· * ·) ?_ ?_)
        · exact (readAt_rows arg6.view X6 _ (k0_off1_eq ⟨n, hlt⟩) _ x r x (by show r.val = 1024 * n + (r.val - 1024 * n); omega) rfl).trans (row_of_lt _ _ _)
        · exact (readAt_rows arg4.view X4 _ (k0_off1_eq ⟨n, hlt⟩) _ x r x (by show r.val = 1024 * n + (r.val - 1024 * n); omega) rfl).trans (row_of_lt _ _ _)

/-- The row sums' scratch holds every row's sum of products. -/
theorem sums_read (c : Dev nD) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S4096x1 .f32) (harg10 : arg10.IsWhole) (arg11 : Memref sig .tc .vmem S1024x128 .f32) (harg11 : arg11.IsWhole) (arg12 : Memref sig .tc .vmem S1024x128 .f32) (harg12 : arg12.IsWhole) (X4 : BufTy.Contents (Elt Ideal) arg4.view.ty) (X6 : BufTy.Contents (Elt Ideal) arg6.view.ty) :
    col (arg10.view.read (Elt Ideal) (sums (F := Ideal) c i arg1 harg1 arg2 harg2 arg3 harg3 arg4 harg4 arg5 harg5 arg6 harg6 arg7 harg7 arg8 harg8 arg9 harg9 arg10 harg10 arg11 harg11 arg12 harg12 X4 X6)) = (fun n => ∑ x, (row (arg6.view.read (Elt Ideal) X6)) n x * (row (arg4.view.read (Elt Ideal) X4)) n x) := by
  funext n
  have h := rows_read c i arg1 harg1 arg2 harg2 arg3 harg3 arg4 harg4 arg5 harg5 arg6 harg6 arg7 harg7 arg8 harg8 arg9 harg9 arg10 harg10 arg11 harg11 arg12 harg12 X4 X6 4 le_rfl ⟨n % 4096, Nat.mod_lt _ (by omega)⟩ (Nat.mod_lt _ (by omega))
  refine Eq.trans ?_ (h.trans ?_)
  · rfl
  · simp only [row, Nat.mod_mod]

theorem zeros_read (arg7 : Memref sig .tc .vmem S1x4096x128 .f32) (i : Fin 4096) (l : Fin 128) :
    arg7.view.read (Elt Ideal) (zeros (F := Ideal) arg7) (ix3 0 i l) = 0 := by
  unfold zeros
  refine (View.read_writes_cons_unit_of_mem arg7.view _ _ _ _ (ix3 0 i l) (ix3 0 i l) rfl fun a => ?_).trans ?_
  · fin_cases a <;> exact (Nat.zero_add _).symm
  · pointwise [k0_pay1]

section Loop

variable (c : Dev nD) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S4096x1 .f32) (harg10 : arg10.IsWhole) (arg11 : Memref sig .tc .vmem S1024x128 .f32) (harg11 : arg11.IsWhole) (arg12 : Memref sig .tc .vmem S1024x128 .f32) (harg12 : arg12.IsWhole) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X10 : BufTy.Contents (Elt Ideal) arg10.view.ty) (G7 : BufTy.Contents (Elt Ideal) arg7.view.ty)

/-- The queries' gradient after the first `n` key blocks. -/
theorem pieces7 : ∀ n : ℕ, n ≤ 4 → ∀ (m : Fin 4096) (l : Fin 128),
    arg7.view.read (Elt Ideal) (arg7.view.writes (Elt Ideal) G7 (pieces (F := Ideal) c i arg1 harg1 arg2 harg2 arg3 harg3 arg4 harg4 arg5 harg5 arg6 harg6 arg7 harg7 arg8 harg8 arg9 harg9 arg10 harg10 arg11 harg11 arg12 harg12 X1 X2 X3 X5 X6 X10 G7 n).1) (ix3 0 m l)
      = arg7.view.read (Elt Ideal) G7 (ix3 0 m l) + ∑ j ∈ Finset.range (1024 * n), dscore (row (arg1.view.read (Elt Ideal) X1)) (row (arg2.view.read (Elt Ideal) X2)) (row (arg3.view.read (Elt Ideal) X3)) (row (arg6.view.read (Elt Ideal) X6)) (fun n => row (arg5.view.read (Elt Ideal) X5) n 0) (col (arg10.view.read (Elt Ideal) X10)) m.val j * (row (arg2.view.read (Elt Ideal) X2)) j l
  | 0, _, m, l => by
    rw [Nat.mul_zero, Finset.range_zero, Finset.sum_empty, add_zero]
    rfl
  | n + 1, hn, m, l => by
    have hlt : n < k0_t2_loop.trips := by rw [trips2]; omega
    have e := pieces_succ (F := Ideal) c i arg1 harg1 arg2 harg2 arg3 harg3 arg4 harg4 arg5 harg5 arg6 harg6 arg7 harg7 arg8 harg8 arg9 harg9 arg10 harg10 arg11 harg11 arg12 harg12 X1 X2 X3 X5 X6 X10 G7 ⟨n, hlt⟩
    dsimp only at e
    rw [e]
    dsimp only
    rw [View.writes_append]
    refine (trip7 c i arg1 harg1 arg2 harg2 arg3 harg3 arg4 harg4 arg5 harg5 arg6 harg6 arg7 harg7 arg8 harg8 arg9 harg9 arg10 harg10 arg11 harg11 arg12 harg12 X1 X2 X3 X5 X6 X10 ⟨n, hlt⟩ _ m l).trans ?_
    rw [pieces7 n (by omega) m l, Nat.mul_succ, Finset.sum_range_add, add_assoc, Finset.sum_range (n := 1024)]

/-- The keys' gradient after the first `n` key blocks, in the rows they hold. -/
theorem pieces8 (f : BufTy.Contents (Elt Ideal) arg8.view.ty) : ∀ n : ℕ, n ≤ 4 → ∀ (j : Fin 4096) (l : Fin 128), j.val < 1024 * n →
    arg8.view.read (Elt Ideal) (arg8.view.writes (Elt Ideal) f (pieces (F := Ideal) c i arg1 harg1 arg2 harg2 arg3 harg3 arg4 harg4 arg5 harg5 arg6 harg6 arg7 harg7 arg8 harg8 arg9 harg9 arg10 harg10 arg11 harg11 arg12 harg12 X1 X2 X3 X5 X6 X10 G7 n).2.1) (ix3 0 j l) = ∑ i ∈ Finset.range 4096, dscore (row (arg1.view.read (Elt Ideal) X1)) (row (arg2.view.read (Elt Ideal) X2)) (row (arg3.view.read (Elt Ideal) X3)) (row (arg6.view.read (Elt Ideal) X6)) (fun n => row (arg5.view.read (Elt Ideal) X5) n 0) (col (arg10.view.read (Elt Ideal) X10)) i j.val * (row (arg1.view.read (Elt Ideal) X1)) i l
  | 0, _, j, l, h => absurd h (by omega)
  | n + 1, hn, j, l, h => by
    have hlt : n < k0_t2_loop.trips := by rw [trips2]; omega
    have e := pieces_succ (F := Ideal) c i arg1 harg1 arg2 harg2 arg3 harg3 arg4 harg4 arg5 harg5 arg6 harg6 arg7 harg7 arg8 harg8 arg9 harg9 arg10 harg10 arg11 harg11 arg12 harg12 X1 X2 X3 X5 X6 X10 G7 ⟨n, hlt⟩
    dsimp only at e
    rw [e]
    dsimp only
    obtain ⟨w, hw, hv⟩ := trip8 c i arg1 harg1 arg2 harg2 arg3 harg3 arg4 harg4 arg5 harg5 arg6 harg6 arg7 harg7 arg8 harg8 arg9 harg9 arg10 harg10 arg11 harg11 arg12 harg12 X1 X2 X3 X5 X6 X10 ⟨n, hlt⟩ (arg7.view.writes (Elt Ideal) G7 (pieces (F := Ideal) c i arg1 harg1 arg2 harg2 arg3 harg3 arg4 harg4 arg5 harg5 arg6 harg6 arg7 harg7 arg8 harg8 arg9 harg9 arg10 harg10 arg11 harg11 arg12 harg12 X1 X2 X3 X5 X6 X10 G7 n).1)
    rw [hw]
    by_cases hj : j.val < 1024 * n
    · refine (read_rows_miss arg8.view f (k0_off3_inb ⟨n, hlt⟩) (k0_off3_eq ⟨n, hlt⟩) w _ j l (Or.inl hj)).trans ?_
      exact pieces8 f n (by omega) j l hj
    · refine (read_rows_hit arg8.view f (k0_off3_inb ⟨n, hlt⟩) (k0_off3_eq ⟨n, hlt⟩) w _ j l ⟨j.val - 1024 * n, by omega⟩ (by show j.val = 1024 * n + (j.val - 1024 * n); omega)).trans ?_
      rw [hv]
      have : 1024 * n + (j.val - 1024 * n) = j.val := by omega
      dsimp only
      rw [this]

/-- The values' gradient after the first `n` key blocks, in the rows they hold. -/
theorem pieces9 (f : BufTy.Contents (Elt Ideal) arg9.view.ty) : ∀ n : ℕ, n ≤ 4 → ∀ (j : Fin 4096) (l : Fin 128), j.val < 1024 * n →
    arg9.view.read (Elt Ideal) (arg9.view.writes (Elt Ideal) f (pieces (F := Ideal) c i arg1 harg1 arg2 harg2 arg3 harg3 arg4 harg4 arg5 harg5 arg6 harg6 arg7 harg7 arg8 harg8 arg9 harg9 arg10 harg10 arg11 harg11 arg12 harg12 X1 X2 X3 X5 X6 X10 G7 n).2.2) (ix3 0 j l) = ∑ i ∈ Finset.range 4096, prob (row (arg1.view.read (Elt Ideal) X1)) (row (arg2.view.read (Elt Ideal) X2)) (fun n => row (arg5.view.read (Elt Ideal) X5) n 0) i j.val * (row (arg6.view.read (Elt Ideal) X6)) i l
  | 0, _, j, l, h => absurd h (by omega)
  | n + 1, hn, j, l, h => by
    have hlt : n < k0_t2_loop.trips := by rw [trips2]; omega
    have e := pieces_succ (F := Ideal) c i arg1 harg1 arg2 harg2 arg3 harg3 arg4 harg4 arg5 harg5 arg6 harg6 arg7 harg7 arg8 harg8 arg9 harg9 arg10 harg10 arg11 harg11 arg12 harg12 X1 X2 X3 X5 X6 X10 G7 ⟨n, hlt⟩
    dsimp only at e
    rw [e]
    dsimp only
    obtain ⟨w, hw, hv⟩ := trip9 c i arg1 harg1 arg2 harg2 arg3 harg3 arg4 harg4 arg5 harg5 arg6 harg6 arg7 harg7 arg8 harg8 arg9 harg9 arg10 harg10 arg11 harg11 arg12 harg12 X1 X2 X3 X5 X6 X10 ⟨n, hlt⟩ (arg7.view.writes (Elt Ideal) G7 (pieces (F := Ideal) c i arg1 harg1 arg2 harg2 arg3 harg3 arg4 harg4 arg5 harg5 arg6 harg6 arg7 harg7 arg8 harg8 arg9 harg9 arg10 harg10 arg11 harg11 arg12 harg12 X1 X2 X3 X5 X6 X10 G7 n).1)
    rw [hw]
    by_cases hj : j.val < 1024 * n
    · refine (read_rows_miss arg9.view f (k0_off3_inb ⟨n, hlt⟩) (k0_off3_eq ⟨n, hlt⟩) w _ j l (Or.inl hj)).trans ?_
      exact pieces9 f n (by omega) j l hj
    · refine (read_rows_hit arg9.view f (k0_off3_inb ⟨n, hlt⟩) (k0_off3_eq ⟨n, hlt⟩) w _ j l ⟨j.val - 1024 * n, by omega⟩ (by show j.val = 1024 * n + (j.val - 1024 * n); omega)).trans ?_
      rw [hv]
      have : 1024 * n + (j.val - 1024 * n) = j.val := by omega
      dsimp only
      rw [this]

end Loop

section Body

variable (c : Dev nD) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S4096x1 .f32) (harg10 : arg10.IsWhole) (arg11 : Memref sig .tc .vmem S1024x128 .f32) (harg11 : arg11.IsWhole) (arg12 : Memref sig .tc .vmem S1024x128 .f32) (harg12 : arg12.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)

/-- The queries' gradient of a head. -/
theorem body7 (m : Fin 4096) (l : Fin 128) :
    arg7.view.read (Elt Ideal) (bodyRun (F := Ideal) c i arg1 harg1 arg2 harg2 arg3 harg3 arg4 harg4 arg5 harg5 arg6 harg6 arg7 harg7 arg8 harg8 arg9 harg9 arg10 harg10 arg11 harg11 arg12 harg12 X1 X2 X3 X4 X5 X6).1 (ix3 0 m l) = ∑ j ∈ Finset.range 4096, dscore (row (arg1.view.read (Elt Ideal) X1)) (row (arg2.view.read (Elt Ideal) X2)) (row (arg3.view.read (Elt Ideal) X3)) (row (arg6.view.read (Elt Ideal) X6)) (fun n => row (arg5.view.read (Elt Ideal) X5) n 0) (fun n => ∑ x, (row (arg6.view.read (Elt Ideal) X6)) n x * (row (arg4.view.read (Elt Ideal) X4)) n x) m.val j * (row (arg2.view.read (Elt Ideal) X2)) j l := by
  rw [(bodyRun_eq (F := Ideal) c i arg1 harg1 arg2 harg2 arg3 harg3 arg4 harg4 arg5 harg5 arg6 harg6 arg7 harg7 arg8 harg8 arg9 harg9 arg10 harg10 arg11 harg11 arg12 harg12 X1 X2 X3 X4 X5 X6).1, pieces7 c i arg1 harg1 arg2 harg2 arg3 harg3 arg4 harg4 arg5 harg5 arg6 harg6 arg7 harg7 arg8 harg8 arg9 harg9 arg10 harg10 arg11 harg11 arg12 harg12 X1 X2 X3 X5 X6 _ _ 4 le_rfl m l, zeros_read, zero_add, sums_read]

/-- The keys' gradient of a head. -/
theorem body8 (f : BufTy.Contents (Elt Ideal) arg8.view.ty) (j : Fin 4096) (l : Fin 128) :
    arg8.view.read (Elt Ideal) (arg8.view.writes (Elt Ideal) f (bodyRun (F := Ideal) c i arg1 harg1 arg2 harg2 arg3 harg3 arg4 harg4 arg5 harg5 arg6 harg6 arg7 harg7 arg8 harg8 arg9 harg9 arg10 harg10 arg11 harg11 arg12 harg12 X1 X2 X3 X4 X5 X6).2.1) (ix3 0 j l) = ∑ i ∈ Finset.range 4096, dscore (row (arg1.view.read (Elt Ideal) X1)) (row (arg2.view.read (Elt Ideal) X2)) (row (arg3.view.read (Elt Ideal) X3)) (row (arg6.view.read (Elt Ideal) X6)) (fun n => row (arg5.view.read (Elt Ideal) X5) n 0) (fun n => ∑ x, (row (arg6.view.read (Elt Ideal) X6)) n x * (row (arg4.view.read (Elt Ideal) X4)) n x) i j.val * (row (arg1.view.read (Elt Ideal) X1)) i l := by
  rw [(bodyRun_eq (F := Ideal) c i arg1 harg1 arg2 harg2 arg3 harg3 arg4 harg4 arg5 harg5 arg6 harg6 arg7 harg7 arg8 harg8 arg9 harg9 arg10 harg10 arg11 harg11 arg12 harg12 X1 X2 X3 X4 X5 X6).2.1, pieces8 c i arg1 harg1 arg2 harg2 arg3 harg3 arg4 harg4 arg5 harg5 arg6 harg6 arg7 harg7 arg8 harg8 arg9 harg9 arg10 harg10 arg11 harg11 arg12 harg12 X1 X2 X3 X5 X6 _ _ f 4 le_rfl j l j.isLt, sums_read]

/-- The values' gradient of a head. -/
theorem body9 (f : BufTy.Contents (Elt Ideal) arg9.view.ty) (j : Fin 4096) (l : Fin 128) :
    arg9.view.read (Elt Ideal) (arg9.view.writes (Elt Ideal) f (bodyRun (F := Ideal) c i arg1 harg1 arg2 harg2 arg3 harg3 arg4 harg4 arg5 harg5 arg6 harg6 arg7 harg7 arg8 harg8 arg9 harg9 arg10 harg10 arg11 harg11 arg12 harg12 X1 X2 X3 X4 X5 X6).2.2.1) (ix3 0 j l) = ∑ i ∈ Finset.range 4096, prob (row (arg1.view.read (Elt Ideal) X1)) (row (arg2.view.read (Elt Ideal) X2)) (fun n => row (arg5.view.read (Elt Ideal) X5) n 0) i j.val * (row (arg6.view.read (Elt Ideal) X6)) i l := by
  rw [(bodyRun_eq (F := Ideal) c i arg1 harg1 arg2 harg2 arg3 harg3 arg4 harg4 arg5 harg5 arg6 harg6 arg7 harg7 arg8 harg8 arg9 harg9 arg10 harg10 arg11 harg11 arg12 harg12 X1 X2 X3 X4 X5 X6).2.2, pieces9 c i arg1 harg1 arg2 harg2 arg3 harg3 arg4 harg4 arg5 harg5 arg6 harg6 arg7 harg7 arg8 harg8 arg9 harg9 arg10 harg10 arg11 harg11 arg12 harg12 X1 X2 X3 X5 X6 _ _ f 4 le_rfl j l j.isLt]

end Body

end Cert.Proof.KernelIdeal

end
-- ==== Proof.Attn.lean ====
/- Causal attention of one head over the reals: the probabilities of a row from any shift of its scores, the gradients of the
   scores, the queries, the keys and the values, and the corresponding facts for extended reals that are real. -/
module

public import Idealize.ShloMosaic.Lib.Pointwise

@[expose] public section

set_option maxRecDepth 16384

noncomputable section

namespace Cert.Proof.Attn

open Idealize.ShloMosaic

/-! ## Extended reals that are real -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals. -/
theorem div_coe (x y : ℝ) (hy : y ≠ 0) : Ideal.div (x : EReal) (y : EReal) = ((x / y : ℝ) : EReal) := by
  have : (y : EReal) ≠ 0 := by exact_mod_cast hy
  rw [Ideal.div, if_neg this, div_eq_mul_inv, EReal.coe_mul, EReal.coe_inv]

/-- The exponential of a masked, shifted score. -/
theorem exp_masked (p : Prop) [Decidable p] (z M : ℝ) :
    Ideal.exp ((if p then (z : EReal) else ⊥) - (M : EReal)) = ((if p then Real.exp (z - M) else 0 : ℝ) : EReal) := by
  by_cases h : p
  · rw [if_pos h, if_pos h, ← EReal.coe_sub]; rfl
  · rw [if_neg h, if_neg h, EReal.bot_sub]; rfl

/-- The largest of finitely many extended reals, none of them the top and one of them real, is real. -/
theorem max_real {ι : Type} [Fintype ι] (f : ι → EReal) (h : ∀ i, f i ≠ ⊤) (i : ι) (hi : f i ≠ ⊥) :
    ∃ M : ℝ, Finset.fold max (⊥ : EReal) f Finset.univ = (M : EReal) := by
  have h1 : Finset.fold max (⊥ : EReal) f Finset.univ ≠ ⊤ :=
    ((Finset.fold_max_lt _).mpr ⟨bot_lt_top, fun x _ => lt_top_iff_ne_top.mpr (h x)⟩).ne
  have h2 : Finset.fold max (⊥ : EReal) f Finset.univ ≠ ⊥ :=
    ((Finset.lt_fold_max _).mpr (Or.inr ⟨i, Finset.mem_univ _, bot_lt_iff_ne_bot.mpr hi⟩)).ne'
  exact ⟨_, (EReal.coe_toReal h1 h2).symm⟩

/-- The real numbers `f` in the first `n` lanes, zeros after them. -/
def lane {n : ℕ} (f : Fin n → ℝ) (l : Fin 128) : EReal := if h : l.val < n then ((f ⟨l.val, h⟩ : ℝ) : EReal) else 0

theorem sum_lane {n : ℕ} (hn : n ≤ 128) (f g : Fin n → ℝ) :
    ∑ l, lane f l * lane g l = ((∑ x, f x * g x : ℝ) : EReal) := by
  rw [coe_sum]
  refine (Finset.sum_of_injOn (Fin.castLE hn) (Fin.castLE_injective hn).injOn (fun _ _ => Finset.mem_coe.mpr (Finset.mem_univ _)) (fun l _ hl => ?_) fun x _ => ?_).symm
  · have : ¬ l.val < n := fun h => hl ⟨⟨l.val, h⟩, Finset.mem_coe.mpr (Finset.mem_univ _), Fin.ext rfl⟩
    rw [lane, dif_neg this, zero_mul]
  · have : (Fin.castLE hn x).val < n := x.isLt
    rw [lane, lane, dif_pos this, dif_pos this, EReal.coe_mul]
    rfl

/-- A combination of rows with real coefficients, lane by lane. -/
theorem sum_coe_lane {ι : Type} (s : Finset ι) {n : ℕ} (a : ι → ℝ) (f : ι → Fin n → ℝ) (l : Fin 128) :
    ∑ i ∈ s, (a i : EReal) * lane (f i) l = lane (fun x => ∑ i ∈ s, a i * f i x) l := by
  by_cases h : l.val < n
  · rw [lane, dif_pos h, coe_sum]
    refine Finset.sum_congr rfl fun i _ => ?_
    rw [lane, dif_pos h, EReal.coe_mul]
  · rw [lane, dif_neg h]
    refine Finset.sum_eq_zero fun i _ => ?_
    rw [lane, dif_neg h, mul_zero]

/-! ## One head -/

/-- The scale of the scores, the single-precision number nearest `1 / √96`. -/
def c0 : ℝ := 3424635 / 33554432

theorem ofBits_c0 : Ideal.ofBits FTy.f32 0x3DD105EC#32 = (c0 : EReal) := by
  have : Ideal.ieee 8 23 0x3DD105EC#32 = (((1 : ℝ) * (2 ^ 23 + 5309932 : ℕ) * (2 : ℝ) ^ ((123 : ℤ) - 23 - 127) : ℝ) : EReal) := by
    unfold Ideal.ieee
    have h1 : ((0x3DD105EC#32).extractLsb' (8 + 23) 1 == 1#1) = false := by decide
    have h2 : ((0x3DD105EC#32).extractLsb' 23 8).toNat = 123 := by decide
    have h3 : ((0x3DD105EC#32).extractLsb' 0 23).toNat = 5309932 := by decide
    simp only [h1, h2, h3]
    norm_num
  rw [show Ideal.ofBits FTy.f32 0x3DD105EC#32 = Ideal.ieee 8 23 0x3DD105EC#32 from rfl, this, c0]
  congr 1
  norm_num

theorem zero_word : FloatOps.sitofp (F := Ideal) FTy.f32 0#32 = (0 : EReal) := by
  show (((0#32 : BitVec 32).toInt : ℝ) : EReal) = 0
  simp

theorem fill_word : Ideal.ofBits FTy.f32 0xFF800000#32 = (⊥ : EReal) := by
  rw [show Ideal.ofBits FTy.f32 0xFF800000#32 = Ideal.ieee 8 23 0xFF800000#32 from rfl]
  unfold Ideal.ieee
  have h1 : ((0xFF800000#32).extractLsb' (8 + 23) 1 == 1#1) = true := by decide
  have h2 : ((0xFF800000#32).extractLsb' 23 8).toNat = 255 := by decide
  have h3 : ((0xFF800000#32).extractLsb' 0 23).toNat = 0 := by decide
  simp only [h1, h2, h3]
  norm_num

section Head

variable (q k : Fin 4096 → Fin 96 → ℝ) (v d : Fin 4096 → Fin 64 → ℝ)

/-- The scaled score of key `j` in row `i`. -/
def logit (i j : Fin 4096) : ℝ := (∑ x, q i x * k j x) * c0

/-- The exponential of a score less `M`, zero for a key after the row. -/
def wt (M : ℝ) (i j : Fin 4096) : ℝ := if j.val ≤ i.val then Real.exp (logit q k i j - M) else 0

/-- The sum of a row's exponentials. -/
def tot (M : ℝ) (i : Fin 4096) : ℝ := ∑ j, wt q k M i j

/-- The probability of key `j` in row `i`. -/
def soft (i j : Fin 4096) : ℝ := wt q k 0 i j / tot q k 0 i

/-- The product of the output's gradient and a value. -/
def dprob (i j : Fin 4096) : ℝ := ∑ e, d i e * v j e

/-- The gradient of a score before its scale. -/
def dsoft (i j : Fin 4096) : ℝ := soft q k i j * (dprob v d i j - ∑ j', soft q k i j' * dprob v d i j') * c0

theorem wt_shift (M : ℝ) (i j : Fin 4096) : wt q k M i j = Real.exp (-M) * wt q k 0 i j := by
  unfold wt
  split
  · rw [← Real.exp_add]; congr 1; ring
  · rw [mul_zero]

theorem tot_shift (M : ℝ) (i : Fin 4096) : tot q k M i = Real.exp (-M) * tot q k 0 i := by
  unfold tot
  rw [Finset.mul_sum]
  exact Finset.sum_congr rfl fun j _ => wt_shift q k M i j

theorem tot_pos (M : ℝ) (i : Fin 4096) : 0 < tot q k M i := by
  refine Finset.sum_pos' (fun j _ => ?_) ⟨i, Finset.mem_univ _, ?_⟩
  · unfold wt; split
    · exact (Real.exp_pos _).le
    · exact le_rfl
  · unfold wt; rw [if_pos le_rfl]; exact Real.exp_pos _

/-- The probability does not depend on the shift. -/
theorem soft_shift (M : ℝ) (i j : Fin 4096) : wt q k M i j / tot q k M i = soft q k i j := by
  rw [wt_shift, tot_shift, soft, mul_div_mul_left _ _ (Real.exp_ne_zero _)]

/-- Nor does the logarithm of the row's sum. -/
theorem log_shift (M : ℝ) (i : Fin 4096) : M + Real.log (tot q k M i) = Real.log (tot q k 0 i) := by
  rw [tot_shift, Real.log_mul (Real.exp_ne_zero _) (tot_pos q k 0 i).ne', Real.log_exp]
  ring

/-- The gradient of a score as the quotient's rule gives it. -/
theorem dsoft_quotient (M : ℝ) (i j : Fin 4096) :
    (dprob v d i j / tot q k M i + -∑ j', dprob v d i j' * (1 / (tot q k M i * tot q k M i)) * wt q k M i j') * wt q k M i j * c0
      = dsoft q k v d i j := by
  have ht := (tot_pos q k M i).ne'
  have e : ∑ j', dprob v d i j' * (1 / (tot q k M i * tot q k M i)) * wt q k M i j' = (∑ j', soft q k i j' * dprob v d i j') / tot q k M i := by
    rw [Finset.sum_div]
    refine Finset.sum_congr rfl fun j' _ => ?_
    rw [← soft_shift q k M]
    field_simp
  rw [e, dsoft, ← soft_shift q k M]
  field_simp
  ring

/-- The row sum of the output's gradient against the output. -/
theorem delta_eq (i : Fin 4096) : ∑ e, d i e * (∑ j, soft q k i j * v j e) = ∑ j, soft q k i j * dprob v d i j := by
  simp only [dprob, Finset.mul_sum]
  rw [Finset.sum_comm]
  exact Finset.sum_congr rfl fun j _ => Finset.sum_congr rfl fun e _ => by ring

/-- The probability as the power of two the kernel takes. -/
theorem soft_exp2 (i j : Fin 4096) :
    (if j.val ≤ i.val then Real.rpow 2 ((∑ x, q i x * k j x) * (c0 * (Real.log 2)⁻¹) - Real.log (tot q k 0 i) / Real.log 2) else 0) = soft q k i j := by
  have hl : Real.log 2 ≠ 0 := (Real.log_pos (by norm_num)).ne'
  unfold soft wt
  by_cases h : j.val ≤ i.val
  · rw [if_pos h, if_pos h]
    refine (Real.rpow_def_of_pos (by norm_num) _).trans ?_
    rw [show Real.log 2 * ((∑ x, q i x * k j x) * (c0 * (Real.log 2)⁻¹) - Real.log (tot q k 0 i) / Real.log 2) = logit q k i j - Real.log (tot q k 0 i) by
      unfold logit; field_simp, Real.exp_sub, Real.exp_log (tot_pos q k 0 i), sub_zero]
  · rw [if_neg h, if_neg h, zero_div]

end Head

end Cert.Proof.Attn

end
-- ==== Proof.KernelIdeal.Head.lean ====
/- One head of the backward call (`KernelIdeal`) where its blocks are real: the kernel's probabilities, gradients of the scores and
   three sums are those of causal attention over the reals. -/
module

public import proofs.«01_k».proof.Proof.KernelIdeal.Pay
public import proofs.«01_k».proof.Proof.Attn

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

open Attn

section Head

variable (q k : Fin 4096 → Fin 96 → ℝ) (v d : Fin 4096 → Fin 64 → ℝ) (Q K V D O : ℕ → Fin 128 → EReal) (L : ℕ → EReal)
  (hQ : ∀ i : Fin 4096, Q i.val = lane (q i)) (hK : ∀ j : Fin 4096, K j.val = lane (k j))
  (hL : ∀ i : Fin 4096, L i.val = ((Real.log (tot q k 0 i) / Real.log 2 : ℝ) : EReal))

include hQ hK hL

theorem prob_real (i j : Fin 4096) : prob Q K L i.val j.val = ((soft q k i j : ℝ) : EReal) := by
  rw [prob, hQ, hK, hL, sum_lane (by omega), ← soft_exp2]
  by_cases h : j.val ≤ i.val
  · rw [if_pos h, if_pos h, scaleLog2, ← EReal.coe_mul, ← EReal.coe_sub]; rfl
  · rw [if_neg h, if_neg h, EReal.bot_sub]; rfl

variable (hV : ∀ j : Fin 4096, V j.val = lane (v j)) (hD : ∀ i : Fin 4096, D i.val = lane (d i))
  (hO : ∀ i : Fin 4096, O i.val = lane fun e => ∑ j, soft q k i j * v j e)

include hV hD hO

theorem dscore_real (i j : Fin 4096) :
    dscore Q K V D L (fun n => ∑ x, D n x * O n x) i.val j.val = ((dsoft q k v d i j : ℝ) : EReal) := by
  rw [dscore, prob_real q k Q K L hQ hK hL]
  rw [hD, hV, hO, sum_lane (by omega), sum_lane (by omega), delta_eq, scale, ofBits_c0, ← EReal.coe_sub, ← EReal.coe_mul, ← EReal.coe_mul]
  rfl

/-- The queries' gradient. -/
theorem dq_real (i : Fin 4096) (l : Fin 128) :
    ∑ j ∈ Finset.range 4096, dscore Q K V D L (fun n => ∑ x, D n x * O n x) i.val j * K j l = lane (fun x => ∑ j, dsoft q k v d i j * k j x) l := by
  rw [Finset.sum_range, ← sum_coe_lane]
  refine Finset.sum_congr rfl fun j _ => ?_
  rw [dscore_real q k v d Q K V D O L hQ hK hL hV hD hO, hK]

/-- The keys' gradient. -/
theorem dk_real (j : Fin 4096) (l : Fin 128) :
    ∑ i ∈ Finset.range 4096, dscore Q K V D L (fun n => ∑ x, D n x * O n x) i j.val * Q i l = lane (fun x => ∑ i, dsoft q k v d i j * q i x) l := by
  rw [Finset.sum_range, ← sum_coe_lane]
  refine Finset.sum_congr rfl fun i _ => ?_
  rw [dscore_real q k v d Q K V D O L hQ hK hL hV hD hO, hQ]

omit hV hO in
/-- The values' gradient. -/
theorem dv_real (j : Fin 4096) (l : Fin 128) :
    ∑ i ∈ Finset.range 4096, prob Q K L i j.val * D i l = lane (fun e => ∑ i, soft q k i j * d i e) l := by
  rw [Finset.sum_range, ← sum_coe_lane]
  refine Finset.sum_congr rfl fun i _ => ?_
  rw [prob_real q k Q K L hQ hK hL, hD]

end Head

end Cert.Proof.KernelIdeal

end
-- ==== Proof.KernelIdeal.Host.lean ====
/- The arrays the backward call reads (`KernelIdeal`), as the host's lines leave them: where the arguments are real, each is given by
   causal attention over the reals. -/
module

public import proofs.«01_k».proof.Proof.KernelIdeal.Head
public import proofs.«01_k».proof.Proof.Gen.KernelIdeal.Frame
public import Idealize.ShloMosaic.Lib.StableHlo.ReadAt

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

open Attn

/-- The row maxima. -/
def rowMax (x : FVec Ideal S8x4096x4096 .f32) : FVec Ideal S8x4096 .f32 :=
  Host.reduce FloatOps.maximumf x (constant S_ .f32 0xFF800000#32) reducesTo_S8x4096x4096_S8x4096_d2 h_S_

/-- An array of rows along the last dimension. -/
def along (x : FVec Ideal S8x4096 .f32) : FVec Ideal S8x4096x4096 .f32 :=
  broadcastInDim S8x4096x4096 ![0, 1, 2] bcast_S8x4096x1_S8x4096x4096_0_1_2 (broadcastInDim S8x4096x1 ![0, 1] bcast_S8x4096_S8x4096x1_0_1 x)

/-- The exponentials of an array less its rows' values. -/
def expo (x : FVec Ideal S8x4096x4096 .f32) (y : FVec Ideal S8x4096 .f32) : FVec Ideal S8x4096x4096 .f32 :=
  Host.exp (subf x (along y))

/-- The row sums. -/
def rowSum (x : FVec Ideal S8x4096x4096 .f32) : FVec Ideal S8x4096 .f32 :=
  Host.reduceAdd x (constant S_ .f32 0x00000000#32) reducesTo_S8x4096x4096_S8x4096_d2 h_S_

/-- The forward output, padded to 128 lanes. -/
def outOf (v : FVec Ideal S4096x8x64 .f32) (e : FVec Ideal S8x4096x4096 .f32) : FVec Ideal S8x4096x128 .f32 :=
  pad S8x4096x128 ![0, 0, 0] ![0, 0, 64] ![0, 0, 0]
    (transpose S8x4096x64 [1, 0, 2] (transpose S4096x8x64 [2, 0, 1]
      (Host.dotGeneral dot_S4096x8x64_S8x4096x4096_S8x64x4096_0_2_2_1_1_0 none v (Host.divf e (along (rowSum e)))) transposes_S8x64x4096_S4096x8x64_2_0_1)
      transposes_S4096x8x64_S8x4096x64_1_0_2)
    (sitofp .f32 (constantI S_ 32 0#32)) pads_S8x4096x64_S8x4096x128_000_000_0640 h_S_

/-- The rows' logarithms to base two, in every lane. -/
def lseOf (y : FVec Ideal S8x4096 .f32) (e : FVec Ideal S8x4096x4096 .f32) : FVec Ideal S8x4096x128 .f32 :=
  broadcastInDim S8x4096x128 ![0, 1, 2] bcast_S8x4096x1_S8x4096x128_0_1_2
    (Host.divf (addf (broadcastInDim S8x4096x1 ![0, 1] bcast_S8x4096_S8x4096x1_0_1 y) (Host.log (broadcastInDim S8x4096x1 ![0, 1] bcast_S8x4096_S8x4096x1_0_1 (rowSum e))))
      (broadcastInDim S8x4096x1 ![] bcast_S_S8x4096x1 (Host.log (constant S_ .f32 0x40000000#32))))

theorem rowMax_apply (x : FVec Ideal S8x4096x4096 .f32) (h : Fin 8) (i : Fin 4096) :
    rowMax x (ix2 h i) = Finset.fold max (⊥ : EReal) (fun j : Fin 4096 => x (ix3 h i j)) Finset.univ := by
  unfold rowMax
  pointwise
  rw [fill_word]

theorem expo_apply (x : FVec Ideal S8x4096x4096 .f32) (y : FVec Ideal S8x4096 .f32) (h : Fin 8) (i j : Fin 4096) :
    expo x y (ix3 h i j) = Ideal.exp (x (ix3 h i j) - y (ix2 h i)) := by
  unfold expo along
  pointwise

theorem rowSum_apply (x : FVec Ideal S8x4096x4096 .f32) (h : Fin 8) (i : Fin 4096) :
    rowSum x (ix2 h i) = ∑ j : Fin 4096, x (ix3 h i j) := by
  unfold rowSum
  pointwise

theorem outOf_apply (v : FVec Ideal S4096x8x64 .f32) (e : FVec Ideal S8x4096x4096 .f32) (h : Fin 8) (i : Fin 4096) (l : Fin 128) :
    outOf v e (ix3 h i l) = if hl : l.val < 64 then ∑ j : Fin 4096, v (ix3 j h ⟨l.val, hl⟩) * Ideal.div (e (ix3 h i j)) (rowSum e (ix2 h i)) else (0 : EReal) := by
  unfold outOf along
  pointwise
  rw [zero_word]

theorem lseOf_apply (y : FVec Ideal S8x4096 .f32) (e : FVec Ideal S8x4096x4096 .f32) (h : Fin 8) (i : Fin 4096) (l : Fin 128) :
    lseOf y e (ix3 h i l) = Ideal.div (y (ix2 h i) + Ideal.log (rowSum e (ix2 h i))) (Ideal.log (Ideal.ofBits FTy.f32 0x40000000#32)) := by
  unfold lseOf
  pointwise

theorem max_apply (z : FVec Ideal S8x4096 .f32) (h : Fin 8) (i : Fin 4096) :
    maximumf (broadcastInDim S8x4096 ![] bcast_S_S8x4096 (constant S_ .f32 0xFF800000#32)) z (ix2 h i) = z (ix2 h i) := by
  pointwise
  rw [fill_word]
  exact max_eq_right bot_le

theorem log_real (r : ℝ) (h : 0 < r) : Ideal.log (r : EReal) = ((Real.log r : ℝ) : EReal) := by
  show (if r ≤ 0 then (⊥ : EReal) else ((Real.log r : ℝ) : EReal)) = _
  rw [if_neg (not_le.2 h)]

theorem two_word : Ideal.ofBits FTy.f32 0x40000000#32 = ((2 : ℝ) : EReal) := by
  simp [Ideal.ofBits, Ideal.ieee, -EReal.coe_mul]; norm_num

section Row

variable (q k : Fin 4096 → Fin 96 → ℝ) (x : FVec Ideal S8x4096x4096 .f32) (h : Fin 8) (i : Fin 4096)
  (hx : ∀ j, x (ix3 h i j) = if j.val ≤ i.val then ((logit q k i j : ℝ) : EReal) else ⊥)

include hx

theorem rowMax_real : ∃ M : ℝ, rowMax x (ix2 h i) = (M : EReal) := by
  rw [rowMax_apply]
  refine max_real _ (fun j => ?_) i ?_
  · rw [hx]; split
    · exact EReal.coe_ne_top _
    · exact bot_ne_top
  · rw [hx, if_pos le_rfl]; exact EReal.coe_ne_bot _

variable (y : FVec Ideal S8x4096 .f32) (M : ℝ) (hy : y (ix2 h i) = (M : EReal))

include hy

theorem expo_real (j : Fin 4096) : expo x y (ix3 h i j) = ((wt q k M i j : ℝ) : EReal) := by
  rw [expo_apply, hx, hy, exp_masked]; rfl

theorem rowSum_real : rowSum (expo x y) (ix2 h i) = ((tot q k M i : ℝ) : EReal) := by
  rw [rowSum_apply, tot, coe_sum]
  exact Finset.sum_congr rfl fun j _ => expo_real q k x h i hx y M hy j

theorem lse_real (l : Fin 128) : lseOf y (expo x y) (ix3 h i l) = ((Real.log (tot q k 0 i) / Real.log 2 : ℝ) : EReal) := by
  rw [lseOf_apply, rowSum_real q k x h i hx y M hy, hy, two_word, log_real _ (tot_pos q k M i), log_real _ two_pos, ← EReal.coe_add, log_shift,
    div_coe _ _ (Real.log_pos one_lt_two).ne']

theorem out_real (v : FVec Ideal S4096x8x64 .f32) (a : Fin 4096 → Fin 64 → ℝ) (hv : ∀ j e, v (ix3 j h e) = ((a j e : ℝ) : EReal)) (l : Fin 128) :
    outOf v (expo x y) (ix3 h i l) = lane (fun e => ∑ j, soft q k i j * a j e) l := by
  rw [outOf_apply, lane]
  refine dite_congr rfl (fun hl => ?_) fun _ => rfl
  rw [coe_sum]
  refine Finset.sum_congr rfl fun j _ => ?_
  rw [expo_real q k x h i hx y M hy, rowSum_real q k x h i hx y M hy, hv, div_coe _ _ (tot_pos q k M i).ne', soft_shift, ← EReal.coe_mul, mul_comm]

end Row

section Reads

variable (m : (ℓ : Loc nD τ sig) → Buf (Elt Ideal) ℓ) (c : Dev nD)

theorem v25_eq : V m c main_v25 = outOf (m (c, Proc.tc.devRef main_arg2)) (expo (V m c main_v10) (maximumf (broadcastInDim S8x4096 ![] bcast_S_S8x4096 (constant S_ .f32 0xFF800000#32)) (rowMax (V m c main_v10)))) := by
  unfold V outOf expo rowMax along rowSum
  after_reads_simp
  clean_types
  try rfl

theorem v39_eq : V m c main_v39 = lseOf (rowMax (V m c main_v10)) (expo (V m c main_v10) (rowMax (V m c main_v10))) := by
  unfold V lseOf expo rowMax along rowSum
  after_reads_simp
  clean_types
  try rfl

variable (a0 a1 : Fin 8 → Fin 4096 → Fin 96 → ℝ) (a2 a3 : Fin 8 → Fin 4096 → Fin 64 → ℝ)

section Zero

variable (h0 : ∀ i h x, m (c, Proc.tc.devRef main_arg0) (ix3 i h x) = ((a0 h i x : ℝ) : EReal))

include h0

theorem v42_at (h : Fin 8) (i : Fin 4096) (l : Fin 128) : V m c main_v42 (ix3 h i l) = lane (a0 h i) l := by
  unfold V
  after_reads_at
  simp only [h0]
  rw [zero_word]
  rfl

end Zero

section One

variable (h1 : ∀ i h x, m (c, Proc.tc.devRef main_arg1) (ix3 i h x) = ((a1 h i x : ℝ) : EReal))

include h1

theorem v45_at (h : Fin 8) (i : Fin 4096) (l : Fin 128) : V m c main_v45 (ix3 h i l) = lane (a1 h i) l := by
  unfold V
  after_reads_at
  simp only [h1]
  rw [zero_word]
  rfl

variable (h0 : ∀ i h x, m (c, Proc.tc.devRef main_arg0) (ix3 i h x) = ((a0 h i x : ℝ) : EReal))

include h0

theorem v10_at (h : Fin 8) (i j : Fin 4096) :
    V m c main_v10 (ix3 h i j) = if j.val ≤ i.val then ((logit (a0 h) (a1 h) i j : ℝ) : EReal) else ⊥ := by
  unfold V
  after_reads_at
  rw [WordCmp.cmpi_sge_ofNat (by omega) (by omega)]
  simp only [h0, h1, ← EReal.coe_mul, ← coe_sum, ofBits_c0]
  by_cases hj : j.val ≤ i.val
  · rw [if_pos hj, decide_eq_true hj]; rfl
  · rw [if_neg hj, decide_eq_false hj]; exact fill_word

theorem v39_at (h : Fin 8) (i : Fin 4096) (l : Fin 128) :
    V m c main_v39 (ix3 h i l) = ((Real.log (tot (a0 h) (a1 h) 0 i) / Real.log 2 : ℝ) : EReal) := by
  obtain ⟨M, hM⟩ := rowMax_real (a0 h) (a1 h) (V m c main_v10) h i (v10_at m c a0 a1 h1 h0 h i)
  rw [v39_eq]
  exact lse_real (a0 h) (a1 h) (V m c main_v10) h i (v10_at m c a0 a1 h1 h0 h i) _ M hM l

variable (h2 : ∀ i h x, m (c, Proc.tc.devRef main_arg2) (ix3 i h x) = ((a2 h i x : ℝ) : EReal))

include h2

theorem v25_at (h : Fin 8) (i : Fin 4096) (l : Fin 128) :
    V m c main_v25 (ix3 h i l) = lane (fun e => ∑ j, soft (a0 h) (a1 h) i j * a2 h j e) l := by
  obtain ⟨M, hM⟩ := rowMax_real (a0 h) (a1 h) (V m c main_v10) h i (v10_at m c a0 a1 h1 h0 h i)
  rw [v25_eq]
  exact out_real (a0 h) (a1 h) (V m c main_v10) h i (v10_at m c a0 a1 h1 h0 h i) _ M ((max_apply _ h i).trans hM) _ (a2 h) (fun j e => h2 j h e) l

end One

section Two

variable (h2 : ∀ i h x, m (c, Proc.tc.devRef main_arg2) (ix3 i h x) = ((a2 h i x : ℝ) : EReal))

include h2

theorem v48_at (h : Fin 8) (i : Fin 4096) (l : Fin 128) : V m c main_v48 (ix3 h i l) = lane (a2 h i) l := by
  unfold V
  after_reads_at
  simp only [h2]
  rw [zero_word]
  rfl

end Two

section Three

variable (h3 : ∀ i h x, m (c, Proc.tc.devRef main_arg3) (ix3 i h x) = ((a3 h i x : ℝ) : EReal))

include h3

theorem v50_at (h : Fin 8) (i : Fin 4096) (l : Fin 128) : V m c main_v50 (ix3 h i l) = lane (a3 h i) l := by
  unfold V
  after_reads_at
  simp only [h3]
  rw [zero_word]
  rfl

end Three

end Reads

end Cert.Proof.KernelIdeal

end
-- ==== Proof.KernelIdeal.Out.lean ====
/- The backward call's result arrays (`KernelIdeal`): where the arguments are real, they are the gradients of causal attention over
   the reals, padded with zeros to 128 lanes. -/
module

public import proofs.«01_k».proof.Proof.KernelIdeal.BodyVal
public import proofs.«01_k».proof.Proof.KernelIdeal.Host
public import proofs.«01_k».proof.Proof.KernelIdeal.Launch
public import Idealize.ShloMosaic.Lib.Pipeline.ValueKit.Geometry

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

open Attn Rows

/-- The head of a grid point. -/
def hd (t : Fin cfg0.N) : Fin 8 := ⟨t.val, t.isLt⟩

theorem index_0 : ∀ t : Fin cfg0.N, win0_0.index t = ![t.val, 0, 0] := by
  exact (by decide +kernel : ∀ t : Fin grid0.N, win0_0.index t = ![t.val, 0, 0])

theorem index_1 : ∀ t : Fin cfg0.N, win0_1.index t = ![t.val, 0, 0] := by
  exact (by decide +kernel : ∀ t : Fin grid0.N, win0_1.index t = ![t.val, 0, 0])

theorem index_2 : ∀ t : Fin cfg0.N, win0_2.index t = ![t.val, 0, 0] := by
  exact (by decide +kernel : ∀ t : Fin grid0.N, win0_2.index t = ![t.val, 0, 0])

theorem index_3 : ∀ t : Fin cfg0.N, win0_3.index t = ![t.val, 0, 0] := by
  exact (by decide +kernel : ∀ t : Fin grid0.N, win0_3.index t = ![t.val, 0, 0])

theorem index_4 : ∀ t : Fin cfg0.N, win0_4.index t = ![t.val, 0, 0] := by
  exact (by decide +kernel : ∀ t : Fin grid0.N, win0_4.index t = ![t.val, 0, 0])

theorem index_5 : ∀ t : Fin cfg0.N, win0_5.index t = ![t.val, 0, 0] := by
  exact (by decide +kernel : ∀ t : Fin grid0.N, win0_5.index t = ![t.val, 0, 0])

theorem index_6 : ∀ t : Fin cfg0.N, win0_6.index t = ![t.val, 0, 0] := by
  exact (by decide +kernel : ∀ t : Fin grid0.N, win0_6.index t = ![t.val, 0, 0])

theorem index_7 : ∀ t : Fin cfg0.N, win0_7.index t = ![t.val, 0, 0] := by
  exact (by decide +kernel : ∀ t : Fin grid0.N, win0_7.index t = ![t.val, 0, 0])

theorem index_8 : ∀ t : Fin cfg0.N, win0_8.index t = ![t.val, 0, 0] := by
  exact (by decide +kernel : ∀ t : Fin grid0.N, win0_8.index t = ![t.val, 0, 0])

section Head

variable (c : Dev nD) (i : grid0.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x4096x128 .f32) (harg8 : arg8.IsWhole) (arg9 : Memref sig .tc .vmem S1x4096x128 .f32) (harg9 : arg9.IsWhole) (arg10 : Memref sig .tc .vmem S4096x1 .f32) (harg10 : arg10.IsWhole) (arg11 : Memref sig .tc .vmem S1024x128 .f32) (harg11 : arg11.IsWhole) (arg12 : Memref sig .tc .vmem S1024x128 .f32) (harg12 : arg12.IsWhole) (B1 B2 B3 : FVec Ideal S1x4096x128 .bf16) (B4 B5 B6 : FVec Ideal S1x4096x128 .f32)
  (q k : Fin 4096 → Fin 96 → ℝ) (v d : Fin 4096 → Fin 64 → ℝ)
  (hQ : ∀ i : Fin 4096, row B1 i.val = lane (q i)) (hK : ∀ j : Fin 4096, row B2 j.val = lane (k j))
  (hL : ∀ i : Fin 4096, row B5 i.val 0 = ((Real.log (tot q k 0 i) / Real.log 2 : ℝ) : EReal))
  (hV : ∀ j : Fin 4096, row B3 j.val = lane (v j)) (hD : ∀ i : Fin 4096, row B6 i.val = lane (d i))
  (hO : ∀ i : Fin 4096, row B4 i.val = lane fun e => ∑ j, soft q k i j * v j e)

include hQ hK hL hV hD hO

theorem head7 (n : Fin 4096) (l : Fin 128) :
    arg7.view.read (Elt Ideal) (bodyRun (F := Ideal) c i arg1 harg1 arg2 harg2 arg3 harg3 arg4 harg4 arg5 harg5 arg6 harg6 arg7 harg7 arg8 harg8 arg9 harg9 arg10 harg10 arg11 harg11 arg12 harg12 (harg1.unread B1) (harg2.unread B2) (harg3.unread B3) (harg4.unread B4) (harg5.unread B5) (harg6.unread B6)).1 (ix3 0 n l) = lane (fun x => ∑ j, dsoft q k v d n j * k j x) l := by
  rw [body7]
  simp only [Memref.IsWhole.read_unread]
  exact dq_real q k v d (row B1) (row B2) (row B3) (row B6) (row B4) (fun n => row B5 n 0) hQ hK hL hV hD hO n l

theorem head8 (f : BufTy.Contents (Elt Ideal) arg8.view.ty) (n : Fin 4096) (l : Fin 128) :
    arg8.view.read (Elt Ideal) (arg8.view.writes (Elt Ideal) f (bodyRun (F := Ideal) c i arg1 harg1 arg2 harg2 arg3 harg3 arg4 harg4 arg5 harg5 arg6 harg6 arg7 harg7 arg8 harg8 arg9 harg9 arg10 harg10 arg11 harg11 arg12 harg12 (harg1.unread B1) (harg2.unread B2) (harg3.unread B3) (harg4.unread B4) (harg5.unread B5) (harg6.unread B6)).2.1) (ix3 0 n l) = lane (fun x => ∑ j, dsoft q k v d j n * q j x) l := by
  rw [body8]
  simp only [Memref.IsWhole.read_unread]
  exact dk_real q k v d (row B1) (row B2) (row B3) (row B6) (row B4) (fun n => row B5 n 0) hQ hK hL hV hD hO n l

theorem head9 (f : BufTy.Contents (Elt Ideal) arg9.view.ty) (n : Fin 4096) (l : Fin 128) :
    arg9.view.read (Elt Ideal) (arg9.view.writes (Elt Ideal) f (bodyRun (F := Ideal) c i arg1 harg1 arg2 harg2 arg3 harg3 arg4 harg4 arg5 harg5 arg6 harg6 arg7 harg7 arg8 harg8 arg9 harg9 arg10 harg10 arg11 harg11 arg12 harg12 (harg1.unread B1) (harg2.unread B2) (harg3.unread B3) (harg4.unread B4) (harg5.unread B5) (harg6.unread B6)).2.2.1) (ix3 0 n l) = lane (fun e => ∑ j, soft q k j n * d j e) l := by
  rw [body9]
  simp only [Memref.IsWhole.read_unread]
  exact dv_real q k d (row B1) (row B2) (row B6) (fun n => row B5 n 0) hQ hK hL hD n l

end Head

section Arrays

variable (m : (ℓ : Loc nD τ sig) → Buf (Elt Ideal) ℓ) (c : Dev nD)

theorem block_0 (t : Fin cfg0.N) (i : Fin 4096) (l : Fin 128) : iblk m c 0 t (ix3 0 i l) = V m c main_v42 (ix3 (hd t) i l) := by
  blk_simp [iblk]
  blk_ext [index_0, hd]

theorem block_1 (t : Fin cfg0.N) (i : Fin 4096) (l : Fin 128) : iblk m c 1 t (ix3 0 i l) = V m c main_v45 (ix3 (hd t) i l) := by
  blk_simp [iblk]
  blk_ext [index_1, hd]

theorem block_2 (t : Fin cfg0.N) (i : Fin 4096) (l : Fin 128) : iblk m c 2 t (ix3 0 i l) = V m c main_v48 (ix3 (hd t) i l) := by
  blk_simp [iblk]
  blk_ext [index_2, hd]

theorem block_3 (t : Fin cfg0.N) (i : Fin 4096) (l : Fin 128) : iblk m c 3 t (ix3 0 i l) = V m c main_v25 (ix3 (hd t) i l) := by
  blk_simp [iblk]
  blk_ext [index_3, hd]

theorem block_4 (t : Fin cfg0.N) (i : Fin 4096) (l : Fin 128) : iblk m c 4 t (ix3 0 i l) = V m c main_v39 (ix3 (hd t) i l) := by
  blk_simp [iblk]
  blk_ext [index_4, hd]

theorem block_5 (t : Fin cfg0.N) (i : Fin 4096) (l : Fin 128) : iblk m c 5 t (ix3 0 i l) = V m c main_v50 (ix3 (hd t) i l) := by
  blk_simp [iblk]
  blk_ext [index_5, hd]

variable (a0 a1 : Fin 8 → Fin 4096 → Fin 96 → ℝ) (a2 a3 : Fin 8 → Fin 4096 → Fin 64 → ℝ)

/-- The queries' gradient, padded. -/
def gradQ (y : S8x4096x128.Idx) : EReal :=
  lane (fun x => ∑ j, dsoft (a0 (y 0)) (a1 (y 0)) (a2 (y 0)) (a3 (y 0)) (y 1) j * a1 (y 0) j x) (y 2)

/-- The keys' gradient, padded. -/
def gradK (y : S8x4096x128.Idx) : EReal :=
  lane (fun x => ∑ i, dsoft (a0 (y 0)) (a1 (y 0)) (a2 (y 0)) (a3 (y 0)) i (y 1) * a0 (y 0) i x) (y 2)

/-- The values' gradient, padded. -/
def gradV (y : S8x4096x128.Idx) : EReal :=
  lane (fun e => ∑ i, soft (a0 (y 0)) (a1 (y 0)) i (y 1) * a3 (y 0) i e) (y 2)

variable
  (h0 : ∀ i h x, m (c, Proc.tc.devRef main_arg0) (ix3 i h x) = ((a0 h i x : ℝ) : EReal))
  (h1 : ∀ i h x, m (c, Proc.tc.devRef main_arg1) (ix3 i h x) = ((a1 h i x : ℝ) : EReal))
  (h2 : ∀ i h x, m (c, Proc.tc.devRef main_arg2) (ix3 i h x) = ((a2 h i x : ℝ) : EReal))
  (h3 : ∀ i h x, m (c, Proc.tc.devRef main_arg3) (ix3 i h x) = ((a3 h i x : ℝ) : EReal))

include h0 h1 h2 h3

theorem rows_0 (t : Fin cfg0.N) (i : Fin 4096) : row (iblk m c 0 t) i.val = lane (a0 (hd t) i) := by
  funext l
  exact (row_of_lt (iblk m c 0 t) i l).symm.trans ((block_0 m c t i l).trans (v42_at m c a0 h0 (hd t) i l))

theorem rows_1 (t : Fin cfg0.N) (i : Fin 4096) : row (iblk m c 1 t) i.val = lane (a1 (hd t) i) := by
  funext l
  exact (row_of_lt (iblk m c 1 t) i l).symm.trans ((block_1 m c t i l).trans (v45_at m c a1 h1 (hd t) i l))

theorem rows_2 (t : Fin cfg0.N) (i : Fin 4096) : row (iblk m c 2 t) i.val = lane (a2 (hd t) i) := by
  funext l
  exact (row_of_lt (iblk m c 2 t) i l).symm.trans ((block_2 m c t i l).trans (v48_at m c a2 h2 (hd t) i l))

theorem rows_3 (t : Fin cfg0.N) (i : Fin 4096) : row (iblk m c 3 t) i.val = lane (fun e => ∑ j, soft (a0 (hd t)) (a1 (hd t)) i j * a2 (hd t) j e) := by
  funext l
  exact (row_of_lt (iblk m c 3 t) i l).symm.trans ((block_3 m c t i l).trans (v25_at m c a0 a1 a2 h1 h0 h2 (hd t) i l))

theorem rows_5 (t : Fin cfg0.N) (i : Fin 4096) : row (iblk m c 5 t) i.val = lane (a3 (hd t) i) := by
  funext l
  exact (row_of_lt (iblk m c 5 t) i l).symm.trans ((block_5 m c t i l).trans (v50_at m c a3 h3 (hd t) i l))

theorem rows_4 (t : Fin cfg0.N) (i : Fin 4096) : row (iblk m c 4 t) i.val 0 = ((Real.log (tot (a0 (hd t)) (a1 (hd t)) 0 i) / Real.log 2 : ℝ) : EReal) := by
  exact (row_of_lt (iblk m c 4 t) i 0).symm.trans ((block_4 m c t i 0).trans (v39_at m c a0 a1 h1 h0 (hd t) i 0))

theorem out_6 (t : Fin cfg0.N) (i : Fin 4096) (l : Fin 128) : out0_6 m c t (ix3 0 i l) = lane (fun x => ∑ j, dsoft (a0 (hd t)) (a1 (hd t)) (a2 (hd t)) (a3 (hd t)) i j * a1 (hd t) j x) l := by
  exact head7 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (a0 (hd t)) (a1 (hd t)) (a2 (hd t)) (a3 (hd t)) (rows_0 m c a0 a1 a2 a3 h0 h1 h2 h3 t) (rows_1 m c a0 a1 a2 a3 h0 h1 h2 h3 t) (rows_4 m c a0 a1 a2 a3 h0 h1 h2 h3 t) (rows_2 m c a0 a1 a2 a3 h0 h1 h2 h3 t) (rows_5 m c a0 a1 a2 a3 h0 h1 h2 h3 t) (rows_3 m c a0 a1 a2 a3 h0 h1 h2 h3 t) i l

theorem out_7 (t : Fin cfg0.N) (i : Fin 4096) (l : Fin 128) : out0_7 m c t (ix3 0 i l) = lane (fun x => ∑ n, dsoft (a0 (hd t)) (a1 (hd t)) (a2 (hd t)) (a3 (hd t)) n i * a0 (hd t) n x) l := by
  exact head8 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (a0 (hd t)) (a1 (hd t)) (a2 (hd t)) (a3 (hd t)) (rows_0 m c a0 a1 a2 a3 h0 h1 h2 h3 t) (rows_1 m c a0 a1 a2 a3 h0 h1 h2 h3 t) (rows_4 m c a0 a1 a2 a3 h0 h1 h2 h3 t) (rows_2 m c a0 a1 a2 a3 h0 h1 h2 h3 t) (rows_5 m c a0 a1 a2 a3 h0 h1 h2 h3 t) (rows_3 m c a0 a1 a2 a3 h0 h1 h2 h3 t) _ i l

theorem out_8 (t : Fin cfg0.N) (i : Fin 4096) (l : Fin 128) : out0_8 m c t (ix3 0 i l) = lane (fun e => ∑ n, soft (a0 (hd t)) (a1 (hd t)) n i * a3 (hd t) n e) l := by
  exact head9 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (a0 (hd t)) (a1 (hd t)) (a2 (hd t)) (a3 (hd t)) (rows_0 m c a0 a1 a2 a3 h0 h1 h2 h3 t) (rows_1 m c a0 a1 a2 a3 h0 h1 h2 h3 t) (rows_4 m c a0 a1 a2 a3 h0 h1 h2 h3 t) (rows_2 m c a0 a1 a2 a3 h0 h1 h2 h3 t) (rows_5 m c a0 a1 a2 a3 h0 h1 h2 h3 t) (rows_3 m c a0 a1 a2 a3 h0 h1 h2 h3 t) _ i l

theorem array_6 : (dats m 0 c).arrAt 6 cfg0.N = gradQ a0 a1 a2 a3 := by
  refine (dats m 0 c).arrAt_eq_of_covers 6 _ (by decide +kernel) fun t hf y => ?_
  blk_simp
  rw [after0_6]
  idx_vars y
  have hy : y0 = 0 := Subsingleton.elim _ _
  subst hy
  have e : ((cfg0.win 6).blk t).view.emb (ix3 0 y1 y2) = ix3 (hd t) y1 y2 := by
    blk_ext [index_6, hd]
  rw [e]
  exact out_6 m c a0 a1 a2 a3 h0 h1 h2 h3 t y1 y2

theorem array_7 : (dats m 0 c).arrAt 7 cfg0.N = gradK a0 a1 a2 a3 := by
  refine (dats m 0 c).arrAt_eq_of_covers 7 _ (by decide +kernel) fun t hf y => ?_
  blk_simp
  rw [after0_7]
  idx_vars y
  have hy : y0 = 0 := Subsingleton.elim _ _
  subst hy
  have e : ((cfg0.win 7).blk t).view.emb (ix3 0 y1 y2) = ix3 (hd t) y1 y2 := by
    blk_ext [index_7, hd]
  rw [e]
  exact out_7 m c a0 a1 a2 a3 h0 h1 h2 h3 t y1 y2

theorem array_8 : (dats m 0 c).arrAt 8 cfg0.N = gradV a0 a1 a3 := by
  refine (dats m 0 c).arrAt_eq_of_covers 8 _ (by decide +kernel) fun t hf y => ?_
  blk_simp
  rw [after0_8]
  idx_vars y
  have hy : y0 = 0 := Subsingleton.elim _ _
  subst hy
  have e : ((cfg0.win 8).blk t).view.emb (ix3 0 y1 y2) = ix3 (hd t) y1 y2 := by
    blk_ext [index_8, hd]
  rw [e]
  exact out_8 m c a0 a1 a2 a3 h0 h1 h2 h3 t y1 y2

end Arrays

end Cert.Proof.KernelIdeal

end
-- ==== Proof.Ref.lean ====
/- The reference (`ReferenceIdeal`): where its arguments are real, its results are the gradients of causal attention over the reals. -/
module

public import proofs.«01_k».proof.Proof.Attn
public import proofs.«01_k».proof.Proof.Gen.ReferenceIdeal.Read
public import Idealize.ShloMosaic.Lib.Pointwise
public import Idealize.ShloMosaic.Lib.WordCmp

@[expose] public section

set_option maxRecDepth 16384

noncomputable section

namespace Cert.Proof.ReferenceIdeal

open Cert.ReferenceIdeal Cert.ReferenceIdeal.Gen Cert.ReferenceIdeal.Read
open Idealize.ShloMosaic Idealize.ShloMosaic.TcCoe Idealize.ShloMosaic.Tactic

open Attn

section Rows

variable (x0 x1 : (⟨S4096x8x96, .f32⟩ : BufTy).Contents (Elt Ideal)) (a0 a1 : Fin 8 → Fin 4096 → Fin 96 → ℝ)
  (h0 : ∀ i h x, x0 (ix3 i h x) = ((a0 h i x : ℝ) : EReal)) (h1 : ∀ i h x, x1 (ix3 i h x) = ((a1 h i x : ℝ) : EReal))

theorem mask_at (h : Fin 8) (i j : Fin 4096) : val_main_v10_1 (F := Ideal) (ix3 h i j) = BitVec.ofBool (decide (j.val ≤ i.val)) := by
  unfold val_main_v10_1 val_main_v9 val_main_v8 val_main_v7 val_main_v6 val_main_v5 val_main_v4 val_main_v3
  pointwise
  rw [WordCmp.cmpi_sge_ofNat (by omega) (by omega)]

include h0 h1

theorem v10_at (h : Fin 8) (i j : Fin 4096) :
    val_main_v10_0 (F := Ideal) x0 x1 (ix3 h i j) = if j.val ≤ i.val then ((logit (a0 h) (a1 h) i j : ℝ) : EReal) else ⊥ := by
  rw [val_main_v10_0_apply, mask_at]
  have e : val_main_v2 (F := Ideal) x0 x1 (ix3 h i j) = ((logit (a0 h) (a1 h) i j : ℝ) : EReal) := by
    unfold val_main_v2 val_main_v1 val_main_v0 val_main_cst
    pointwise
    simp only [h0, h1, ← EReal.coe_mul, ← coe_sum, ofBits_c0]
    rfl
  rw [e]
  by_cases hj : j.val ≤ i.val
  · rw [if_pos hj, decide_eq_true hj]; rfl
  · rw [if_neg hj, decide_eq_false hj]; exact fill_word

theorem max_at (h : Fin 8) (i : Fin 4096) : ∃ M : ℝ, val_main_v18 (F := Ideal) x0 x1 (ix2 h i) = (M : EReal) := by
  have e : ∀ z : FVec Ideal S8x4096x4096 .f32,
      Host.reduce FloatOps.maximumf z (val_main_cst_1 (F := Ideal)) reducesTo_S8x4096x4096_S8x4096_d2 h_S_ (ix2 h i)
        = Finset.fold max (⊥ : EReal) (fun j : Fin 4096 => z (ix3 h i j)) Finset.univ := by
    intro z
    unfold val_main_cst_1
    pointwise
    rw [fill_word]
  have e' : ∀ z : FVec Ideal S8x4096 .f32, maximumf (val_main_v17 (F := Ideal)) z (ix2 h i) = z (ix2 h i) := by
    intro z
    unfold val_main_v17 val_main_cst_3
    pointwise
    rw [fill_word]
    exact max_eq_right bot_le
  rw [val_main_v18, e', val_main_v11, e]
  refine max_real _ (fun j => ?_) i ?_
  · rw [v10_at x0 x1 a0 a1 h0 h1]; split
    · exact EReal.coe_ne_top _
    · exact bot_ne_top
  · rw [v10_at x0 x1 a0 a1 h0 h1, if_pos le_rfl]; exact EReal.coe_ne_bot _

section Max

variable (h : Fin 8) (i : Fin 4096) (M : ℝ) (hM : val_main_v18 (F := Ideal) x0 x1 (ix2 h i) = (M : EReal))

include hM

theorem v31_at (j : Fin 4096) : val_main_v31 (F := Ideal) x0 x1 (ix3 h i j) = ((wt (a0 h) (a1 h) M i j : ℝ) : EReal) := by
  have e : val_main_v31 (F := Ideal) x0 x1 (ix3 h i j)
      = Ideal.exp ((val_main_v10_0 (F := Ideal) x0 x1 (ix3 h i j) : EReal) - (val_main_v18 (F := Ideal) x0 x1 (ix2 h i) : EReal)) := by
    unfold val_main_v31 val_main_v30 val_main_v29 val_main_v28
    generalize val_main_v10_0 (F := Ideal) x0 x1 = y
    generalize val_main_v18 (F := Ideal) x0 x1 = z
    pointwise
  rw [e, hM, v10_at x0 x1 a0 a1 h0 h1, exp_masked]
  rfl

theorem v33_at : val_main_v33 (F := Ideal) x0 x1 (ix3 h i 0) = ((tot (a0 h) (a1 h) M i : ℝ) : EReal) := by
  have e : val_main_v33 (F := Ideal) x0 x1 (ix3 h i 0) = (∑ j : Fin 4096, (val_main_v31 (F := Ideal) x0 x1 (ix3 h i j) : EReal) : EReal) := by
    unfold val_main_v33 val_main_v32 val_main_cst_9
    generalize val_main_v31 (F := Ideal) x0 x1 = y
    pointwise
  rw [e, tot, coe_sum]
  exact Finset.sum_congr rfl fun j _ => v31_at x0 x1 a0 a1 h0 h1 h i M hM j

omit hM in
theorem v35_at (j : Fin 4096) : val_main_v35 (F := Ideal) x0 x1 (ix3 h i j) = ((soft (a0 h) (a1 h) i j : ℝ) : EReal) := by
  obtain ⟨M, hM⟩ := max_at x0 x1 a0 a1 h0 h1 h i
  have e : val_main_v35 (F := Ideal) x0 x1 (ix3 h i j)
      = Ideal.div (val_main_v31 (F := Ideal) x0 x1 (ix3 h i j)) (val_main_v33 (F := Ideal) x0 x1 (ix3 h i 0)) := by
    unfold val_main_v35 val_main_v34
    generalize val_main_v31 (F := Ideal) x0 x1 = y
    generalize val_main_v33 (F := Ideal) x0 x1 = z
    pointwise
  rw [e, v31_at x0 x1 a0 a1 h0 h1 h i M hM, v33_at x0 x1 a0 a1 h0 h1 h i M hM, div_coe _ _ (tot_pos _ _ M i).ne', soft_shift]

end Max

end Rows

section Grad

variable (x0 x1 : (⟨S4096x8x96, .f32⟩ : BufTy).Contents (Elt Ideal)) (x2 x3 : (⟨S4096x8x64, .f32⟩ : BufTy).Contents (Elt Ideal))
  (a0 a1 : Fin 8 → Fin 4096 → Fin 96 → ℝ) (a2 a3 : Fin 8 → Fin 4096 → Fin 64 → ℝ)
  (h0 : ∀ i h x, x0 (ix3 i h x) = ((a0 h i x : ℝ) : EReal)) (h1 : ∀ i h x, x1 (ix3 i h x) = ((a1 h i x : ℝ) : EReal))
  (h2 : ∀ i h x, x2 (ix3 i h x) = ((a2 h i x : ℝ) : EReal)) (h3 : ∀ i h x, x3 (ix3 i h x) = ((a3 h i x : ℝ) : EReal))

include h0 h1 h3 in
/-- The values' gradient. -/
theorem v69_at (h : Fin 8) (j : Fin 4096) (l : Fin 128) :
    val_main_v69 (F := Ideal) x0 x1 x3 (ix3 h j l) = lane (fun e => ∑ i, soft (a0 h) (a1 h) i j * a3 h i e) l := by
  have e : val_main_v69 (F := Ideal) x0 x1 x3 (ix3 h j l)
      = (if hl : l.val < 64 then ∑ i : Fin 4096, (x3 (ix3 i h ⟨l.val, hl⟩) : EReal) * (val_main_v35 (F := Ideal) x0 x1 (ix3 h i j) : EReal) else (0 : EReal) : EReal) := by
    unfold val_main_v69 val_main_v68 val_main_v44 val_main_v43 val_main_v41 val_main_call4_v0 val_main_c_15
    generalize val_main_v35 (F := Ideal) x0 x1 = y
    pointwise
    rw [zero_word]
  rw [e, lane]
  refine dite_congr rfl (fun hl => ?_) fun _ => rfl
  rw [coe_sum]
  refine Finset.sum_congr rfl fun i _ => ?_
  rw [h3, v35_at x0 x1 a0 a1 h0 h1, ← EReal.coe_mul, mul_comm]

include h2 h3 in
theorem v42_at (h : Fin 8) (i j : Fin 4096) : val_main_v42 (F := Ideal) x2 x3 (ix3 h i j) = ((dprob (a2 h) (a3 h) i j : ℝ) : EReal) := by
  unfold val_main_v42 val_main_v41
  pointwise
  simp only [h2, h3, ← EReal.coe_mul, ← coe_sum]
  rfl

include h0 h1 h2 h3

theorem v50_at (h : Fin 8) (i : Fin 4096) (M : ℝ) (hM : val_main_v18 (F := Ideal) x0 x1 (ix2 h i) = (M : EReal)) :
    val_main_v50 (F := Ideal) x0 x1 x2 x3 (ix3 h i 0)
      = ((-∑ j, dprob (a2 h) (a3 h) i j * (1 / (tot (a0 h) (a1 h) M i * tot (a0 h) (a1 h) M i)) * wt (a0 h) (a1 h) M i j : ℝ) : EReal) := by
  have e : val_main_v50 (F := Ideal) x0 x1 x2 x3 (ix3 h i 0)
      = (-∑ j : Fin 4096, (val_main_v42 (F := Ideal) x2 x3 (ix3 h i j) : EReal)
          * Ideal.div (1 : ℝ) ((val_main_v33 (F := Ideal) x0 x1 (ix3 h i 0) : EReal) * (val_main_v33 (F := Ideal) x0 x1 (ix3 h i 0) : EReal))
          * (val_main_v31 (F := Ideal) x0 x1 (ix3 h i j) : EReal) : EReal) := by
    unfold val_main_v50 val_main_v49 val_main_v48 val_main_v47 val_main_v46 val_main_v45 val_main_v38 val_main_v37 val_main_v36 val_main_cst_10 val_main_cst_11
    generalize val_main_v42 (F := Ideal) x2 x3 = w
    generalize val_main_v31 (F := Ideal) x0 x1 = y
    generalize val_main_v33 (F := Ideal) x0 x1 = z
    pointwise
    rw [EReal.coe_one]
  rw [e, v33_at x0 x1 a0 a1 h0 h1 h i M hM, ← EReal.coe_mul, div_coe _ _ (mul_pos (tot_pos _ _ M i) (tot_pos _ _ M i)).ne', EReal.coe_neg, coe_sum]
  refine congrArg Neg.neg (Finset.sum_congr rfl fun j _ => ?_)
  rw [v42_at x2 x3 a2 a3 h2 h3, v31_at x0 x1 a0 a1 h0 h1 h i M hM, ← EReal.coe_mul, ← EReal.coe_mul]

theorem v59_at (h : Fin 8) (i j : Fin 4096) :
    val_main_v59 (F := Ideal) x0 x1 x2 x3 (ix3 h i j) = ((dsoft (a0 h) (a1 h) (a2 h) (a3 h) i j : ℝ) : EReal) := by
  obtain ⟨M, hM⟩ := max_at x0 x1 a0 a1 h0 h1 h i
  have e : val_main_v56 (F := Ideal) x0 x1 x2 x3 (ix3 h i j)
      = (Ideal.div (val_main_v42 (F := Ideal) x2 x3 (ix3 h i j)) (val_main_v33 (F := Ideal) x0 x1 (ix3 h i 0))
          + (val_main_v50 (F := Ideal) x0 x1 x2 x3 (ix3 h i 0) : EReal)) * (val_main_v31 (F := Ideal) x0 x1 (ix3 h i j) : EReal) := by
    unfold val_main_v56 val_main_v55 val_main_v54 val_main_v53 val_main_v52 val_main_v51 val_main_cst_12
    generalize val_main_v50 (F := Ideal) x0 x1 x2 x3 = v
    generalize val_main_v42 (F := Ideal) x2 x3 = w
    generalize val_main_v31 (F := Ideal) x0 x1 = y
    generalize val_main_v33 (F := Ideal) x0 x1 = z
    pointwise
    rw [Fin.sum_univ_one]
  rw [v42_at x2 x3 a2 a3 h2 h3, v33_at x0 x1 a0 a1 h0 h1 h i M hM, v50_at x0 x1 x2 x3 a0 a1 a2 a3 h0 h1 h2 h3 h i M hM,
    v31_at x0 x1 a0 a1 h0 h1 h i M hM, div_coe _ _ (tot_pos _ _ M i).ne', ← EReal.coe_add, ← EReal.coe_mul] at e
  have e' : val_main_v59 (F := Ideal) x0 x1 x2 x3 (ix3 h i j)
      = (Scalar.select (val_main_v10_1 (F := Ideal) (ix3 h i j)) (val_main_v56 (F := Ideal) x0 x1 x2 x3 (ix3 h i j) : EReal) 0 : EReal)
        * Ideal.ofBits FTy.f32 0x3DD105EC#32 := by
    unfold val_main_v59 val_main_v58 val_main_v57 val_main_call1_v0 val_main_call1_cst val_main_cst_13
    generalize val_main_v56 (F := Ideal) x0 x1 x2 x3 = v
    generalize val_main_v10_1 (F := Ideal) = w
    pointwise
  rw [e', e, mask_at, ofBits_c0, ← dsoft_quotient _ _ _ _ M]
  by_cases hj : j.val ≤ i.val
  · rw [decide_eq_true hj, EReal.coe_mul _ c0]; rfl
  · rw [decide_eq_false hj, show wt (a0 h) (a1 h) M i j = 0 from if_neg hj, mul_zero, zero_mul]
    exact zero_mul _

/-- The keys' gradient. -/
theorem v67_at (h : Fin 8) (j : Fin 4096) (l : Fin 128) :
    val_main_v67 (F := Ideal) x0 x1 x2 x3 (ix3 h j l) = lane (fun x => ∑ i, dsoft (a0 h) (a1 h) (a2 h) (a3 h) i j * a0 h i x) l := by
  have e : val_main_v67 (F := Ideal) x0 x1 x2 x3 (ix3 h j l)
      = (if hl : l.val < 96 then ∑ i : Fin 4096, (val_main_v59 (F := Ideal) x0 x1 x2 x3 (ix3 h i j) : EReal) * (x0 (ix3 i h ⟨l.val, hl⟩) : EReal) else (0 : EReal) : EReal) := by
    unfold val_main_v67 val_main_v66 val_main_v61 val_main_v60 val_main_call3_v0 val_main_c_14
    generalize val_main_v59 (F := Ideal) x0 x1 x2 x3 = y
    pointwise
    rw [zero_word]
  rw [e, lane]
  refine dite_congr rfl (fun hl => ?_) fun _ => rfl
  rw [coe_sum]
  refine Finset.sum_congr rfl fun i _ => ?_
  rw [h0, v59_at x0 x1 x2 x3 a0 a1 a2 a3 h0 h1 h2 h3, ← EReal.coe_mul]

/-- The queries' gradient. -/
theorem v65_at (h : Fin 8) (i : Fin 4096) (l : Fin 128) :
    val_main_v65 (F := Ideal) x0 x1 x2 x3 (ix3 h i l) = lane (fun x => ∑ j, dsoft (a0 h) (a1 h) (a2 h) (a3 h) i j * a1 h j x) l := by
  have e : val_main_v65 (F := Ideal) x0 x1 x2 x3 (ix3 h i l)
      = (if hl : l.val < 96 then ∑ j : Fin 4096, (val_main_v59 (F := Ideal) x0 x1 x2 x3 (ix3 h i j) : EReal) * (x1 (ix3 j h ⟨l.val, hl⟩) : EReal) else (0 : EReal) : EReal) := by
    unfold val_main_v65 val_main_v64 val_main_v63 val_main_v62 val_main_call2_v0 val_main_c
    generalize val_main_v59 (F := Ideal) x0 x1 x2 x3 = y
    pointwise
    rw [zero_word]
  rw [e, lane]
  refine dite_congr rfl (fun hl => ?_) fun _ => rfl
  rw [coe_sum]
  refine Finset.sum_congr rfl fun j _ => ?_
  rw [h1, v59_at x0 x1 x2 x3 a0 a1 a2 a3 h0 h1 h2 h3, ← EReal.coe_mul]

end Grad

end Cert.Proof.ReferenceIdeal

end
-- ==== Proof.Finite.lean ====
/- What the precondition gives: the printed predicate compares the size of every entry of the four arguments with
   infinity, so when it holds every entry is a real number. -/
module

public import proofs.«01_k».proof.Pre_finite
public import Idealize.ShloMosaic.PureOps.Ideal
public import Idealize.ShloMosaic.Lib.ReduceAll
public import Idealize.ShloMosaic.Lib.Decide

@[expose] public section

noncomputable section

open Idealize.ShloMosaic

namespace Cert.Proof.Finite

open Cert.Pre_finite

/-- The shape relations of the predicate's operations. -/
instance facts : Cert.Pre_finite.Facts where
  bcast_S_S4096x8x96 := by decide
  reducesTo_S4096x8x96_S_d0_1_2 := by decide
  h_S_ := by decide
  bcast_S_S4096x8x64 := by decide
  reducesTo_S4096x8x64_S_d0_1_2 := by decide

theorem top_word : Ideal.ofBits FTy.f32 0x7F800000#32 = (⊤ : EReal) := by
  simp [Ideal.ofBits, Ideal.ieee]

/-- A number whose size is below infinity is real. -/
theorem real_of_lt (x : EReal) (h : max x (-x) < ⊤) : x = ((x.toReal : ℝ) : EReal) := by
  refine (EReal.coe_toReal ?_ ?_).symm
  · rintro rfl; simp at h
  · rintro rfl; simp at h

/-- The comparison as the predicate prints it, at one entry. -/
theorem real_of_cmp (x : Ideal FTy.f32)
    (h : FloatOps.cmpf (F := Ideal) .olt (FloatOps.hostAbsf (F := Ideal) x) (FloatOps.ofBits (F := Ideal) FTy.f32 0x7F800000#32) = 1#1) :
    x = (((x : EReal).toReal : ℝ) : EReal) := by
  have h' : BitVec.ofBool (decide (max (x : EReal) (-(x : EReal)) < Ideal.ofBits FTy.f32 0x7F800000#32)) = 1#1 := h
  rw [top_word] at h'
  refine real_of_lt x ?_
  by_contra hn
  rw [decide_eq_false hn] at h'
  exact absurd h' (by decide)

theorem andi_one (a b : BitVec 1) : IntOp.andi a b = 1#1 ↔ a = 1#1 ∧ b = 1#1 := by
  revert a b; decide

/-- When the predicate holds, every entry of the four arguments is real. -/
theorem real (x0 x1 : FVec Ideal S4096x8x96 .f32) (x2 x3 : FVec Ideal S4096x8x64 .f32)
    (h : Cert.Pre_finite.fn (F := Ideal) x0 x1 x2 x3 = fun _ => 1#1) :
    (∀ i, x0 i = (((x0 i : EReal).toReal : ℝ) : EReal)) ∧ (∀ i, x1 i = (((x1 i : EReal).toReal : ℝ) : EReal))
      ∧ (∀ i, x2 i = (((x2 i : EReal).toReal : ℝ) : EReal)) ∧ (∀ i, x3 i = (((x3 i : EReal).toReal : ℝ) : EReal)) := by
  have e := congrFun h (fun a => a.elim0)
  have : Subsingleton S_.Idx := ⟨fun a b => funext fun k => k.elim0⟩
  simp only [Cert.Pre_finite.fn, Cert.Pre_finite.fn_part1, andi, andi_one] at e
  obtain ⟨⟨⟨e0, e1⟩, e2⟩, e3⟩ := e
  exact ⟨fun i => real_of_cmp _ (Host.reduce_andi_all _ _ _ _ _ e0 i), fun i => real_of_cmp _ (Host.reduce_andi_all _ _ _ _ _ e1 i),
    fun i => real_of_cmp _ (Host.reduce_andi_all _ _ _ _ _ e2 i), fun i => real_of_cmp _ (Host.reduce_andi_all _ _ _ _ _ e3 i)⟩

end Cert.Proof.Finite

end
-- ==== Proof.Row.lean ====
/- One row of the layer normalization over the reals: its centred entries, the reciprocal root of its spread, and the gradient of its
   entries, in the form the kernel computes it and in the form the reference's derivative takes. -/
module

public import proofs.«01_k».proof.Proof.Attn

@[expose] public section

noncomputable section

open Idealize.ShloMosaic

namespace Cert.Proof.Row

/-! ## The constants of the two programs, as real numbers -/

/-- The normalization's epsilon. -/
def small : ℝ := 2748779 / 274877906944

/-- The residual's factor. -/
def factor : ℝ := 623487 / 524288

theorem count_word : Ideal.ofBits FTy.f32 0x44800000#32 = ((1024 : ℝ) : EReal) := by
  simp [Ideal.ofBits, Ideal.ieee, -EReal.coe_mul]; norm_num

theorem small_word : Ideal.ofBits FTy.f32 0x3727C5AC#32 = (small : EReal) := by
  simp [Ideal.ofBits, Ideal.ieee, -EReal.coe_mul, small]; norm_num

theorem factor_word : Ideal.ofBits FTy.f32 0x3F9837F0#32 = (factor : EReal) := by
  simp [Ideal.ofBits, Ideal.ieee, -EReal.coe_mul, factor]; norm_num

theorem half_word : Ideal.ofBits FTy.f32 0xBF000000#32 = ((-(1 / 2) : ℝ) : EReal) := by
  simp [Ideal.ofBits, Ideal.ieee, -EReal.coe_mul]; norm_num

theorem two_word : Ideal.ofBits FTy.f32 0x40000000#32 = ((2 : ℝ) : EReal) := by
  simp [Ideal.ofBits, Ideal.ieee, -EReal.coe_mul]; norm_num

/-! ## The row -/

variable (z d : Fin 1024 → ℝ)

/-- An entry less the row's mean. -/
def centred (j : Fin 1024) : ℝ := z j - (∑ k, z k) / 1024

/-- The variance with the epsilon. -/
def spread : ℝ := (∑ k, centred z k * centred z k) / 1024 + small

/-- The reciprocal root of the spread. -/
def scale : ℝ := (Real.sqrt (spread z))⁻¹

/-- The gradient of the row's entries, from the gradient `d` of its normalized entries. -/
def gradient (j : Fin 1024) : ℝ :=
  scale z * ((d j - (∑ k, d k) / 1024) - centred z j * scale z * ((∑ k, d k * (centred z k * scale z)) / 1024))

theorem spread_pos : 0 < spread z := by
  have : 0 ≤ ∑ k, centred z k * centred z k := Finset.sum_nonneg fun k _ => mul_self_nonneg _
  unfold spread small
  positivity

theorem scale_coe : Ideal.rsqrt (spread z : EReal) = (scale z : EReal) := by
  rw [Ideal.rsqrt_coe, if_neg (spread_pos z).le.not_gt, if_neg (spread_pos z).ne', scale]

theorem scale_mul_self : scale z * scale z = (spread z)⁻¹ := by
  rw [scale, ← mul_inv, Real.mul_self_sqrt (spread_pos z).le]

theorem sum_centred : ∑ k, centred z k = 0 := by
  unfold centred
  rw [Finset.sum_sub_distrib, Finset.sum_const, Finset.card_univ, Fintype.card_fin, nsmul_eq_mul]
  push_cast
  ring

/-- The gradient as the derivative of the normalization leaves it. -/
theorem derivative (j : Fin 1024) :
    (d j * scale z + ((∑ k, centred z k * d k) * (-(1 / 2) * (scale z / spread z))) / 1024 * (2 * centred z j))
      + ((∑ k, -(d k * scale z)) + ∑ k, -(((∑ i, centred z i * d i) * (-(1 / 2) * (scale z / spread z))) / 1024 * (2 * centred z k))) / 1024
      = gradient z d j := by
  have e0 : ∀ q : ℝ, ∑ k, -(q * (2 * centred z k)) = 0 := fun q => by
    rw [Finset.sum_neg_distrib, ← Finset.mul_sum, ← Finset.mul_sum, sum_centred]; ring
  have e1 : ∑ k, -(d k * scale z) = -((∑ k, d k) * scale z) := by rw [Finset.sum_neg_distrib, Finset.sum_mul]
  have e2 : ∑ k, d k * (centred z k * scale z) = (∑ k, centred z k * d k) * scale z := by
    rw [Finset.sum_mul]; exact Finset.sum_congr rfl fun k _ => by ring
  rw [e0, e1, gradient, e2, div_eq_mul_inv (scale z), ← scale_mul_self]
  ring

/-! ## The row over the extended reals -/

section Extended

variable (x y : Fin 1024 → EReal)

/-- An entry less the row's mean. -/
def centre (j : Fin 1024) : EReal := x j - Ideal.div (∑ k, x k) (Ideal.ofBits FTy.f32 0x44800000#32)

/-- The variance with the epsilon. -/
def width : EReal := Ideal.div (∑ k, centre x k * centre x k) (Ideal.ofBits FTy.f32 0x44800000#32) + Ideal.ofBits FTy.f32 0x3727C5AC#32

/-- The reciprocal root of the variance with the epsilon. -/
def root : EReal := Ideal.rsqrt (width x)

/-- The gradient of the row's entries in the kernel's form, from the gradient `y` of its normalized entries. -/
def kernelForm (j : Fin 1024) : EReal :=
  root x * ((y j - Ideal.div (∑ k, y k) (Ideal.ofBits FTy.f32 0x44800000#32))
    - centre x j * root x * Ideal.div (∑ k, y k * (centre x k * root x)) (Ideal.ofBits FTy.f32 0x44800000#32))

/-- What the derivative of the variance brings to an entry. -/
def through (j : Fin 1024) : EReal :=
  Ideal.div ((∑ k, centre x k * y k) * (Ideal.ofBits FTy.f32 0xBF000000#32 * Ideal.div (root x) (width x))) (Ideal.ofBits FTy.f32 0x44800000#32)
    * (Ideal.ofBits FTy.f32 0x40000000#32 * centre x j)

/-- The gradient of the row's entries in the form of the derivative of the normalization. -/
def derivativeForm (j : Fin 1024) : EReal :=
  (y j * root x + through x y j)
    + Ideal.div ((∑ k, -(y k * root x)) + ∑ k, -(through x y k)) (Ideal.ofBits FTy.f32 0x44800000#32)

theorem real_or (v : EReal) : v = ⊥ ∨ v = ⊤ ∨ ∃ r : ℝ, v = (r : EReal) := by
  induction v with
  | bot => exact Or.inl rfl
  | top => exact Or.inr (Or.inl rfl)
  | coe r => exact Or.inr (Or.inr ⟨r, rfl⟩)

theorem mul_self_nonneg' (v : EReal) : 0 ≤ v * v := by
  rcases real_or v with h | h | ⟨r, h⟩
  · rw [h]; decide
  · rw [h]; decide
  · rw [h, ← EReal.coe_mul]; exact_mod_cast mul_self_nonneg r

/-- A row with an infinite entry has an infinite variance. -/
theorem root_infinite (j : Fin 1024) (h : x j = ⊥ ∨ x j = ⊤) : width x = ⊤ ∧ root x = 0 := by
  have e : centre x j * centre x j = ⊤ := by
    have : centre x j = ⊥ ∨ centre x j = ⊤ := by
      unfold centre
      generalize Ideal.div (∑ k, x k) (Ideal.ofBits FTy.f32 0x44800000#32) = v
      rcases h with h | h
      · rw [h, EReal.bot_sub]; exact Or.inl rfl
      · rw [h]
        rcases real_or v with hv | hv | ⟨r, hv⟩
        · rw [hv]; exact Or.inr rfl
        · rw [hv]; exact Or.inl rfl
        · rw [hv, EReal.top_sub_coe]; exact Or.inr rfl
    rcases this with h | h
    · rw [h]; rfl
    · rw [h]; rfl
  have s : ∑ k, centre x k * centre x k = ⊤ :=
    top_le_iff.mp (e ▸ Finset.single_le_sum (f := fun k => centre x k * centre x k) (fun k _ => mul_self_nonneg' _) (Finset.mem_univ j))
  have w : width x = ⊤ := by
    rw [width, s, count_word, small_word, Ideal.div, if_neg (by norm_num), ← EReal.coe_inv, EReal.top_mul_coe_of_pos (by norm_num), EReal.top_add_coe]
  exact ⟨w, by rw [root, w]; rfl⟩

theorem centre_coe (j : Fin 1024) : centre (fun k => (z k : EReal)) j = (centred z j : EReal) := by
  rw [centre, ← Attn.coe_sum, count_word, Attn.div_coe _ _ (by norm_num), ← EReal.coe_sub, centred]

theorem width_coe : width (fun k => (z k : EReal)) = (spread z : EReal) := by
  unfold width
  simp only [centre_coe, ← EReal.coe_mul, ← Attn.coe_sum]
  rw [count_word, small_word, Attn.div_coe _ _ (by norm_num), ← EReal.coe_add, spread]

theorem root_coe : root (fun k => (z k : EReal)) = (scale z : EReal) := by
  rw [root, width_coe, scale_coe]

theorem kernelForm_coe (j : Fin 1024) : kernelForm (fun k => (z k : EReal)) (fun k => (d k : EReal)) j = (gradient z d j : EReal) := by
  unfold kernelForm
  simp only [centre_coe, root_coe, ← EReal.coe_mul, ← Attn.coe_sum]
  rw [count_word, Attn.div_coe _ _ (by norm_num), Attn.div_coe _ _ (by norm_num)]
  simp only [← EReal.coe_mul, ← EReal.coe_sub]
  rfl

theorem through_coe (j : Fin 1024) : through (fun k => (z k : EReal)) (fun k => (d k : EReal)) j
    = ((((∑ k, centred z k * d k) * (-(1 / 2) * (scale z / spread z))) / 1024 * (2 * centred z j) : ℝ) : EReal) := by
  unfold through
  simp only [centre_coe, root_coe, width_coe, ← EReal.coe_mul, ← Attn.coe_sum]
  rw [count_word, half_word, two_word, Attn.div_coe _ _ (spread_pos z).ne', ← EReal.coe_mul, ← EReal.coe_mul, Attn.div_coe _ _ (by norm_num)]
  simp only [← EReal.coe_mul]

theorem derivativeForm_coe (j : Fin 1024) : derivativeForm (fun k => (z k : EReal)) (fun k => (d k : EReal)) j = (gradient z d j : EReal) := by
  unfold derivativeForm
  simp only [through_coe, root_coe, ← EReal.coe_mul, ← EReal.coe_neg, ← Attn.coe_sum, ← EReal.coe_add]
  rw [count_word, Attn.div_coe _ _ (by norm_num), ← EReal.coe_add, derivative]

/-- Where the gradient handed to the row is real, the two forms agree, whatever the row. -/
theorem forms (hy : ∀ k, ∃ r : ℝ, y k = (r : EReal)) (j : Fin 1024) : kernelForm x y j = derivativeForm x y j := by
  by_cases h : ∃ k, x k = ⊥ ∨ x k = ⊤
  · obtain ⟨k, hk⟩ := h
    obtain ⟨w, r⟩ := root_infinite x k hk
    have t : ∀ i, through x y i = 0 := fun i => by
      unfold through
      rw [r, w, count_word]
      simp [Ideal.div]
    unfold kernelForm derivativeForm
    simp only [t, r, zero_mul, mul_zero, neg_zero, Finset.sum_const_zero, add_zero]
    rw [count_word, Ideal.div, if_neg (by norm_num), zero_mul, add_zero]
  · have hx : ∀ k, ∃ r : ℝ, x k = (r : EReal) := fun k => by
      rcases real_or (x k) with h' | h' | h'
      · exact absurd ⟨k, Or.inl h'⟩ h
      · exact absurd ⟨k, Or.inr h'⟩ h
      · exact h'
    choose z hz using hx
    choose d hd using hy
    obtain rfl : x = fun k => (z k : EReal) := funext hz
    obtain rfl : y = fun k => (d k : EReal) := funext hd
    rw [kernelForm_coe, derivativeForm_coe]

end Extended

end Cert.Proof.Row

end
-- ==== Proof.NormForm.lean ====
/- The layer normalization's gradients, as functions of the arguments' arrays over the extended reals: the cotangent handed to the
   normalization, the normalized rows, and the three gradients. -/
module

public import proofs.«01_k».proof.Proof.Row
public import Idealize.ShloMosaic.Lib.Pipeline.ValueKit.Geometry
public import Idealize.ShloMosaic.Lib.Pointwise

@[expose] public section

noncomputable section

open Idealize.ShloMosaic

namespace Cert.Proof.Norm

abbrev Wide : Shape := ⟨2, ![4096, 5632]⟩
abbrev Weight : Shape := ⟨2, ![1024, 5632]⟩
abbrev Rows : Shape := ⟨2, ![4096, 1024]⟩
abbrev Gain : Shape := ⟨1, ![1024]⟩
abbrev Line : Shape := ⟨2, ![1, 1024]⟩

variable (x0 : Wide.Idx → EReal) (x1 : Weight.Idx → EReal) (x2 x3 : Rows.Idx → EReal) (x4 : Gain.Idx → EReal)

/-- The cotangent handed to the normalization: the up-projection's, and the residual's times its factor. -/
def handed (i : Fin 4096) (j : Fin 1024) : EReal :=
  (∑ k : Fin 5632, x0 (ix2 i k) * x1 (ix2 j k)) + Ideal.ofBits FTy.f32 0x3F9837F0#32 * x2 (ix2 i j)

/-- Row `i` of the normalization's input. -/
def row (i : Fin 4096) (k : Fin 1024) : EReal := x3 (ix2 i k)

/-- The normalized rows. -/
def normed (i : Fin 4096) (j : Fin 1024) : EReal := Row.centre (row x3 i) j * Row.root (row x3 i)

/-- The cotangent of the normalized rows. -/
def scaled (i : Fin 4096) (j : Fin 1024) : EReal := handed x0 x1 x2 i j * x4 (ix1 j)

/-- The gradient of the normalization's input. -/
def gradInput (y : Rows.Idx) : EReal := Row.kernelForm (row x3 (y 0)) (scaled x0 x1 x2 x4 (y 0)) (y 1)

/-- The gradient of the gain. -/
def gradGain (y : Line.Idx) : EReal := ∑ i, handed x0 x1 x2 i (y 1) * normed x3 i (y 1)

/-- The gradient of the offset. -/
def gradOffset (y : Line.Idx) : EReal := ∑ i, handed x0 x1 x2 i (y 1)

/-- Where the arguments are real, so is the cotangent of the normalized rows. -/
theorem scaled_real (h0 : ∀ i, x0 i = (((x0 i).toReal : ℝ) : EReal)) (h1 : ∀ i, x1 i = (((x1 i).toReal : ℝ) : EReal))
    (h2 : ∀ i, x2 i = (((x2 i).toReal : ℝ) : EReal)) (h4 : ∀ i, x4 i = (((x4 i).toReal : ℝ) : EReal)) (i : Fin 4096) (j : Fin 1024) :
    ∃ r : ℝ, scaled x0 x1 x2 x4 i j = (r : EReal) := by
  refine ⟨((∑ k : Fin 5632, (x0 (ix2 i k)).toReal * (x1 (ix2 j k)).toReal) + Row.factor * (x2 (ix2 i j)).toReal) * (x4 (ix1 j)).toReal, ?_⟩
  have e : (∑ k : Fin 5632, x0 (ix2 i k) * x1 (ix2 j k)) = ((∑ k : Fin 5632, (x0 (ix2 i k)).toReal * (x1 (ix2 j k)).toReal : ℝ) : EReal) := by
    rw [Attn.coe_sum]
    exact Finset.sum_congr rfl fun k _ => by rw [EReal.coe_mul, ← h0, ← h1]
  unfold scaled handed
  rw [e, h2 (ix2 i j), h4 (ix1 j), Row.factor_word, EReal.coe_mul, EReal.coe_add, EReal.coe_mul]
  simp only [EReal.toReal_coe]

end Cert.Proof.Norm

end
-- ==== Proof.NormRun.lean ====
/- The layer normalization's gradient kernel (`Kernel2Ideal`), one grid point: what it leaves in its four outputs, and its values read at
   an index. -/
module

public import proofs.«01_k».proof.Proof.NormForm
public import proofs.«01_k».proof.Proof.Gen.Kernel2Ideal.Value
public import Idealize.ShloMosaic.Lib.Tactic

@[expose] public section

set_option maxRecDepth 16384

noncomputable section

namespace Cert.Proof.Norm

open Cert.Kernel2Ideal Cert.Kernel2Ideal.Gen
open Idealize.ShloMosaic Idealize.ShloMosaic.TcCoe Idealize.ShloMosaic.Tactic Idealize.SL.Sem

theorem hz : (![0, 0] : Fin 2 → Nat) = fun _ => 0 := funext fun a => by fin_cases a <;> rfl

/-! ## What one grid point leaves -/

section Point

variable {F : FTy → Type} [FloatOps F]

/-- The first point leaves the gradient of its rows of the input. -/
theorem first_input (c : Dev nD) (i : grid0.Coords) (arg1 : Memref sig .tc .vmem S256x5632 .bf16) (harg1 : arg1.IsWhole) (arg2 : Memref sig .tc .vmem S5632x1024 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1x1024 .f32) (harg9 : arg9.IsWhole) (hc0 : cond0_0 i)
    (x0 : Vec F S256x5632 .bf16) (x1 : Vec F S5632x1024 .bf16) (x2 x3 : Vec F S256x1024 .f32) (x4 : Vec F S1x1024 .f32) : out0_A_5 c i arg1 harg1 arg2 harg2 arg3 harg3 arg4 harg4 arg5 harg5 arg6 harg6 arg7 harg7 arg8 harg8 arg9 harg9 hc0 x0 x1 x2 x3 x4 = k0_pay2 (k0_pay6 x0 x1 x2) (k0_pay8 x3) (k0_pay9 x3) x4 := by
  unfold out0_A_5
  rw [View.read_writes_eq_canon _ _ _ (cover0_A_5 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero (S := S256x1024) hz]
  simp only [View.readAt_eq_ld, harg1.read_unread, harg2.read_unread, harg3.read_unread, harg4.read_unread, harg5.read_unread, harg8.read_unread, harg9.read_unread, View.ld_unit_zero (S := S256x5632) hz, View.ld_unit_zero (S := S5632x1024) hz, View.ld_unit_zero (S := S256x1024) hz, View.ld_unit_zero (S := S1x1024) hz]

/-- The first point leaves the copy of that gradient. -/
theorem first_copy (c : Dev nD) (i : grid0.Coords) (arg1 : Memref sig .tc .vmem S256x5632 .bf16) (harg1 : arg1.IsWhole) (arg2 : Memref sig .tc .vmem S5632x1024 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1x1024 .f32) (harg9 : arg9.IsWhole) (hc0 : cond0_0 i)
    (x0 : Vec F S256x5632 .bf16) (x1 : Vec F S5632x1024 .bf16) (x2 x3 : Vec F S256x1024 .f32) (x4 : Vec F S1x1024 .f32) : out0_A_6 c i arg1 harg1 arg2 harg2 arg3 harg3 arg4 harg4 arg5 harg5 arg6 harg6 arg7 harg7 arg8 harg8 arg9 harg9 hc0 x0 x1 x2 x3 x4 = k0_pay3 (k0_pay6 x0 x1 x2) (k0_pay8 x3) (k0_pay9 x3) x4 := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero (S := S256x1024) hz]
  simp only [View.readAt_eq_ld, harg1.read_unread, harg2.read_unread, harg3.read_unread, harg4.read_unread, harg5.read_unread, harg8.read_unread, harg9.read_unread, View.ld_unit_zero (S := S256x5632) hz, View.ld_unit_zero (S := S5632x1024) hz, View.ld_unit_zero (S := S256x1024) hz, View.ld_unit_zero (S := S1x1024) hz]

/-- The first point leaves its part of the gain's gradient, added to zero. -/
theorem first_gain (c : Dev nD) (i : grid0.Coords) (arg1 : Memref sig .tc .vmem S256x5632 .bf16) (harg1 : arg1.IsWhole) (arg2 : Memref sig .tc .vmem S5632x1024 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1x1024 .f32) (harg9 : arg9.IsWhole) (hc0 : cond0_0 i)
    (x0 : Vec F S256x5632 .bf16) (x1 : Vec F S5632x1024 .bf16) (x2 x3 : Vec F S256x1024 .f32) (x4 : Vec F S1x1024 .f32) : out0_A_7 c i arg1 harg1 arg2 harg2 arg3 harg3 arg4 harg4 arg5 harg5 arg6 harg6 arg7 harg7 arg8 harg8 arg9 harg9 hc0 x0 x1 x2 x3 x4 = k0_pay10 x0 x1 x2 x3 k0_pay4 := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x1024) hz, View.readCov_unit_zero (S := S1x1024) _ hz]
  simp only [View.readAt_eq_ld, harg1.read_unread, harg2.read_unread, harg3.read_unread, harg4.read_unread, harg5.read_unread, harg8.read_unread, harg9.read_unread, View.ld_unit_zero (S := S256x5632) hz, View.ld_unit_zero (S := S5632x1024) hz, View.ld_unit_zero (S := S256x1024) hz, View.ld_unit_zero (S := S1x1024) hz]

/-- The first point leaves its part of the offset's gradient, added to zero. -/
theorem first_offset (c : Dev nD) (i : grid0.Coords) (arg1 : Memref sig .tc .vmem S256x5632 .bf16) (harg1 : arg1.IsWhole) (arg2 : Memref sig .tc .vmem S5632x1024 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1x1024 .f32) (harg9 : arg9.IsWhole) (hc0 : cond0_0 i)
    (x0 : Vec F S256x5632 .bf16) (x1 : Vec F S5632x1024 .bf16) (x2 x3 : Vec F S256x1024 .f32) (x4 : Vec F S1x1024 .f32) : out0_A_8 c i arg1 harg1 arg2 harg2 arg3 harg3 arg4 harg4 arg5 harg5 arg6 harg6 arg7 harg7 arg8 harg8 arg9 harg9 hc0 x0 x1 x2 x3 x4 = k0_pay1 (k0_pay6 x0 x1 x2) k0_pay5 := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x1024) hz, View.readCov_unit_zero (S := S1x1024) _ hz]
  simp only [View.readAt_eq_ld, harg1.read_unread, harg2.read_unread, harg3.read_unread, harg4.read_unread, harg5.read_unread, harg8.read_unread, harg9.read_unread, View.ld_unit_zero (S := S256x5632) hz, View.ld_unit_zero (S := S5632x1024) hz, View.ld_unit_zero (S := S256x1024) hz, View.ld_unit_zero (S := S1x1024) hz]

/-- A later point leaves the gradient of its rows of the input. -/
theorem later_input (c : Dev nD) (i : grid0.Coords) (arg1 : Memref sig .tc .vmem S256x5632 .bf16) (harg1 : arg1.IsWhole) (arg2 : Memref sig .tc .vmem S5632x1024 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1x1024 .f32) (harg9 : arg9.IsWhole) (hc0 : ¬cond0_0 i)
    (x0 : Vec F S256x5632 .bf16) (x1 : Vec F S5632x1024 .bf16) (x2 x3 : Vec F S256x1024 .f32) (x4 : Vec F S1x1024 .f32) (xo7 xo8 : Vec F S1x1024 .f32) : out0_B_5 c i arg1 harg1 arg2 harg2 arg3 harg3 arg4 harg4 arg5 harg5 arg6 harg6 arg7 harg7 arg8 harg8 arg9 harg9 hc0 x0 x1 x2 x3 x4 xo7 xo8 = k0_pay2 (k0_pay6 x0 x1 x2) (k0_pay8 x3) (k0_pay9 x3) x4 := by
  unfold out0_B_5
  rw [View.read_writes_eq_canon _ _ _ (cover0_B_5 c i arg1 harg1 arg2 harg2 arg3 harg3 arg4 harg4 arg5 harg5 arg6 harg6 arg7 harg7 arg8 harg8 arg9 harg9 hc0 x0 x1 x2 x3 x4 xo7 xo8)]
  unfold kernelRun0_B
  dsimp only
  sl_unfold_words
  rw [View.canon_unit_zero (S := S256x1024) hz]
  simp only [View.readAt_eq_ld, harg1.read_unread, harg2.read_unread, harg3.read_unread, harg4.read_unread, harg5.read_unread, harg8.read_unread, harg9.read_unread, View.ld_unit_zero (S := S256x5632) hz, View.ld_unit_zero (S := S5632x1024) hz, View.ld_unit_zero (S := S256x1024) hz, View.ld_unit_zero (S := S1x1024) hz]

/-- A later point leaves the copy of that gradient. -/
theorem later_copy (c : Dev nD) (i : grid0.Coords) (arg1 : Memref sig .tc .vmem S256x5632 .bf16) (harg1 : arg1.IsWhole) (arg2 : Memref sig .tc .vmem S5632x1024 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1x1024 .f32) (harg9 : arg9.IsWhole) (hc0 : ¬cond0_0 i)
    (x0 : Vec F S256x5632 .bf16) (x1 : Vec F S5632x1024 .bf16) (x2 x3 : Vec F S256x1024 .f32) (x4 : Vec F S1x1024 .f32) (xo7 xo8 : Vec F S1x1024 .f32) : out0_B_6 c i arg1 harg1 arg2 harg2 arg3 harg3 arg4 harg4 arg5 harg5 arg6 harg6 arg7 harg7 arg8 harg8 arg9 harg9 hc0 x0 x1 x2 x3 x4 xo7 xo8 = k0_pay3 (k0_pay6 x0 x1 x2) (k0_pay8 x3) (k0_pay9 x3) x4 := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 xo7 xo8)]
  unfold kernelRun0_B
  dsimp only
  sl_unfold_words
  rw [View.canon_unit_zero (S := S256x1024) hz]
  simp only [View.readAt_eq_ld, harg1.read_unread, harg2.read_unread, harg3.read_unread, harg4.read_unread, harg5.read_unread, harg8.read_unread, harg9.read_unread, View.ld_unit_zero (S := S256x5632) hz, View.ld_unit_zero (S := S5632x1024) hz, View.ld_unit_zero (S := S256x1024) hz, View.ld_unit_zero (S := S1x1024) hz]

/-- A later point adds its part of the gain's gradient to what the point before left. -/
theorem later_gain (c : Dev nD) (i : grid0.Coords) (arg1 : Memref sig .tc .vmem S256x5632 .bf16) (harg1 : arg1.IsWhole) (arg2 : Memref sig .tc .vmem S5632x1024 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1x1024 .f32) (harg9 : arg9.IsWhole) (hc0 : ¬cond0_0 i)
    (x0 : Vec F S256x5632 .bf16) (x1 : Vec F S5632x1024 .bf16) (x2 x3 : Vec F S256x1024 .f32) (x4 : Vec F S1x1024 .f32) (xo7 xo8 : Vec F S1x1024 .f32) : out0_B_7 c i arg1 harg1 arg2 harg2 arg3 harg3 arg4 harg4 arg5 harg5 arg6 harg6 arg7 harg7 arg8 harg8 arg9 harg9 hc0 x0 x1 x2 x3 x4 xo7 xo8 = k0_pay10 x0 x1 x2 x3 xo7 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 xo7 xo8)]
  unfold kernelRun0_B
  dsimp only
  sl_unfold_words
  rw [View.canon_unit_zero (S := S1x1024) hz]
  simp only [View.readAt_eq_ld, harg1.read_unread, harg2.read_unread, harg3.read_unread, harg4.read_unread, harg5.read_unread, harg8.read_unread, harg9.read_unread, View.ld_unit_zero (S := S256x5632) hz, View.ld_unit_zero (S := S5632x1024) hz, View.ld_unit_zero (S := S256x1024) hz, View.ld_unit_zero (S := S1x1024) hz]

/-- A later point adds its part of the offset's gradient to what the point before left. -/
theorem later_offset (c : Dev nD) (i : grid0.Coords) (arg1 : Memref sig .tc .vmem S256x5632 .bf16) (harg1 : arg1.IsWhole) (arg2 : Memref sig .tc .vmem S5632x1024 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1x1024 .f32) (harg9 : arg9.IsWhole) (hc0 : ¬cond0_0 i)
    (x0 : Vec F S256x5632 .bf16) (x1 : Vec F S5632x1024 .bf16) (x2 x3 : Vec F S256x1024 .f32) (x4 : Vec F S1x1024 .f32) (xo7 xo8 : Vec F S1x1024 .f32) : out0_B_8 c i arg1 harg1 arg2 harg2 arg3 harg3 arg4 harg4 arg5 harg5 arg6 harg6 arg7 harg7 arg8 harg8 arg9 harg9 hc0 x0 x1 x2 x3 x4 xo7 xo8 = k0_pay1 (k0_pay6 x0 x1 x2) xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 xo7 xo8)]
  unfold kernelRun0_B
  dsimp only
  sl_unfold_words
  rw [View.canon_unit_zero (S := S1x1024) hz]
  simp only [View.readAt_eq_ld, harg1.read_unread, harg2.read_unread, harg3.read_unread, harg4.read_unread, harg5.read_unread, harg8.read_unread, harg9.read_unread, View.ld_unit_zero (S := S256x5632) hz, View.ld_unit_zero (S := S5632x1024) hz, View.ld_unit_zero (S := S256x1024) hz, View.ld_unit_zero (S := S1x1024) hz]

end Point

/-! ## A point's values at an index -/

theorem pay6_at (x0 : Vec Ideal S256x5632 .bf16) (x1 : Vec Ideal S5632x1024 .bf16) (x2 : Vec Ideal S256x1024 .f32) (r : Fin 256) (j : Fin 1024) :
    k0_pay6 x0 x1 x2 (ix2 r j) = ((∑ k : Fin 5632, x0 (ix2 r k) * x1 (ix2 k j) : EReal) + Ideal.ofBits FTy.f32 0x3F9837F0#32 * x2 (ix2 r j) : EReal) := by
  unfold k0_pay6
  pointwise

/-- Row `r` of a block. -/
def line (x3 : Vec Ideal S256x1024 .f32) (r : Fin 256) (k : Fin 1024) : EReal := x3 (ix2 r k)

theorem pay7_at (x3 : Vec Ideal S256x1024 .f32) (r : Fin 256) (j : Fin 1024) : k0_pay7 x3 (ix2 r j) = Row.centre (line x3 r) j := by
  unfold k0_pay7
  pointwise
  rfl

theorem pay8_at (x3 : Vec Ideal S256x1024 .f32) (r : Fin 256) : k0_pay8 x3 (ix2 r 0) = Row.root (line x3 r) := by
  unfold Row.root Row.width
  simp only [← pay7_at]
  unfold k0_pay8
  generalize k0_pay7 x3 = y
  pointwise

theorem pay9_at (x3 : Vec Ideal S256x1024 .f32) (r : Fin 256) (j : Fin 1024) :
    k0_pay9 x3 (ix2 r j) = Row.centre (line x3 r) j * Row.root (line x3 r) := by
  rw [← pay7_at, ← pay8_at]
  unfold k0_pay9
  generalize k0_pay7 x3 = y
  generalize k0_pay8 x3 = z
  pointwise

/-- The cotangent of a row's normalized entries. -/
def times (d : FVec Ideal S256x1024 .f32) (x4 : Vec Ideal S1x1024 .f32) (r : Fin 256) (j : Fin 1024) : EReal := d (ix2 r j) * x4 (ix2 0 j)

theorem pay2_at (d : FVec Ideal S256x1024 .f32) (x3 : Vec Ideal S256x1024 .f32) (x4 : Vec Ideal S1x1024 .f32) (r : Fin 256) (j : Fin 1024) :
    k0_pay2 d (k0_pay8 x3) (k0_pay9 x3) x4 (ix2 r j) = Row.kernelForm (line x3 r) (times d x4 r) j := by
  have e (k : Fin 1024) : Row.centre (line x3 r) k * Row.root (line x3 r) = k0_pay9 x3 (ix2 r k) := (pay9_at x3 r k).symm
  unfold Row.kernelForm
  simp only [e]
  rw [← pay8_at]
  unfold k0_pay2 times
  generalize k0_pay8 x3 = y
  generalize k0_pay9 x3 = z
  pointwise

theorem pay10_at (x0 : Vec Ideal S256x5632 .bf16) (x1 : Vec Ideal S5632x1024 .bf16) (x2 x3 : Vec Ideal S256x1024 .f32) (y : Vec Ideal S1x1024 .f32) (j : Fin 1024) :
    k0_pay10 x0 x1 x2 x3 y (ix2 0 j) = (y (ix2 0 j) + ∑ r : Fin 256, (k0_pay6 x0 x1 x2 (ix2 r j) * k0_pay9 x3 (ix2 r j) : EReal) : EReal) := by
  unfold k0_pay10
  generalize k0_pay6 x0 x1 x2 = a
  generalize k0_pay9 x3 = b
  pointwise

theorem pay1_at (d : FVec Ideal S256x1024 .f32) (y : Vec Ideal S1x1024 .f32) (j : Fin 1024) :
    k0_pay1 d y (ix2 0 j) = (y (ix2 0 j) + ∑ r : Fin 256, (d (ix2 r j) : EReal) : EReal) := by
  unfold k0_pay1
  pointwise

end Cert.Proof.Norm

end
-- ==== Proof.NormRef.lean ====
/- The reference of the layer normalization's gradient (`Reference2Ideal`), read at an index. -/
module

public import proofs.«01_k».proof.Proof.NormForm
public import proofs.«01_k».proof.Proof.Gen.Reference2Ideal.Read
public import Idealize.ShloMosaic.Lib.StableHlo.ReadAt
public import Idealize.ShloMosaic.Lib.Tactic

@[expose] public section

set_option maxRecDepth 16384

noncomputable section

namespace Cert.Proof.Norm.Reference

open Cert.Reference2Ideal Cert.Reference2Ideal.Gen Cert.Reference2Ideal.Read
open Idealize.ShloMosaic Idealize.ShloMosaic.TcCoe Idealize.ShloMosaic.Tactic

variable (x0 : (⟨S4096x5632, .f32⟩ : BufTy).Contents (Elt Ideal)) (x1 : (⟨S1024x5632, .f32⟩ : BufTy).Contents (Elt Ideal))
  (x2 x3 : (⟨S4096x1024, .f32⟩ : BufTy).Contents (Elt Ideal)) (x4 : (⟨S1024, .f32⟩ : BufTy).Contents (Elt Ideal))

theorem v6_at (i : Fin 4096) (j : Fin 1024) : val_main_v6 (F := Ideal) x3 (ix2 i j) = Row.centre (row x3 i) j := by
  unfold val_main_v6 val_main_v5 val_main_v4 val_main_v3 val_main_v2 val_main_v1 val_main_cst_0 val_main_cst_1
  pointwise
  rfl

theorem v15_at (i : Fin 4096) (j : Fin 1024) : val_main_v15 (F := Ideal) x3 (ix2 i j) = Row.centre (row x3 i) j :=
  v6_at x3 i j

theorem v17_at (i : Fin 4096) : val_main_v17 (F := Ideal) x3 (ix2 i 0) = Row.width (row x3 i) := by
  have e : ∀ y : FVec Ideal S4096x1024 .f32, (∀ k, y (ix2 i k) = Row.centre (row x3 i) k) →
      addf (Host.divf (broadcastInDim S4096x1 ![0] bcast_S4096_S4096x1_0 (Host.reduceAdd (mulf y y) (val_main_cst_3 (F := Ideal)) reducesTo_S4096x1024_S4096_d1 h_S_))
        (val_main_v12 (F := Ideal))) (val_main_v16 (F := Ideal)) (ix2 i 0) = Row.width (row x3 i) := by
    intro y hy
    unfold val_main_v12 val_main_v16 val_main_cst_3 val_main_cst_4 val_main_cst_5
    pointwise
    simp only [hy]
    rfl
  exact e _ (v6_at x3 i)

theorem v18_at (i : Fin 4096) : val_main_v18 (F := Ideal) x3 (ix2 i 0) = Row.root (row x3 i) := by
  have e : val_main_v18 (F := Ideal) x3 (ix2 i 0) = Ideal.rsqrt (val_main_v17 (F := Ideal) x3 (ix2 i 0)) := rfl
  rw [e, v17_at]; rfl

theorem v21_at (i : Fin 4096) : val_main_v21 (F := Ideal) x3 (ix2 i 0)
    = Ideal.ofBits FTy.f32 0xBF000000#32 * Ideal.div (Row.root (row x3 i)) (Row.width (row x3 i)) := by
  rw [← v18_at, ← v17_at]
  unfold val_main_v21 val_main_v20 val_main_v19 val_main_cst_6
  generalize val_main_v18 (F := Ideal) x3 = y
  generalize val_main_v17 (F := Ideal) x3 = z
  pointwise

theorem v36_at (i : Fin 4096) (j : Fin 1024) : val_main_v36 (F := Ideal) x0 x1 x2 (ix2 i j) = handed x0 x1 x2 i j := by
  unfold val_main_v36 val_main_v34 val_main_v33 val_main_v35 val_main_cst_8
  pointwise
  exact add_comm _ _

theorem v23_at (i : Fin 4096) (j : Fin 1024) : val_main_v23 (F := Ideal) x3 (ix2 i j) = normed x3 i j := by
  rw [normed, ← v15_at, ← v18_at]
  unfold val_main_v23 val_main_v22
  generalize val_main_v15 (F := Ideal) x3 = y
  generalize val_main_v18 (F := Ideal) x3 = z
  pointwise

theorem v44_at (i : Fin 4096) (j : Fin 1024) : val_main_v44 (F := Ideal) x0 x1 x2 x4 (ix2 i j) = scaled x0 x1 x2 x4 i j := by
  rw [scaled, ← v36_at]
  unfold val_main_v44 val_main_v43 val_main_v24
  generalize val_main_v36 (F := Ideal) x0 x1 x2 = y
  pointwise

theorem v50_at (i : Fin 4096) (j : Fin 1024) :
    val_main_v50 (F := Ideal) x0 x1 x2 x3 x4 (ix2 i j) = scaled x0 x1 x2 x4 i j * Row.root (row x3 i) := by
  rw [← v44_at, ← v18_at]
  unfold val_main_v50 val_main_v49
  generalize val_main_v44 (F := Ideal) x0 x1 x2 x4 = y
  generalize val_main_v18 (F := Ideal) x3 = z
  pointwise

theorem v59_at (i : Fin 4096) (j : Fin 1024) :
    val_main_v59 (F := Ideal) x0 x1 x2 x3 x4 (ix2 i j) = Row.through (row x3 i) (scaled x0 x1 x2 x4 i) j := by
  unfold Row.through
  rw [← v21_at, ← v6_at]
  simp only [← v15_at, ← v44_at]
  unfold val_main_v59 val_main_v58 val_main_v57 val_main_v56 val_main_v55 val_main_v51 val_main_v48 val_main_v47 val_main_v46 val_main_v9 val_main_v8
    val_main_cst_2 val_main_cst_13 val_main_cst_15 val_main_cst_16
  generalize val_main_v44 (F := Ideal) x0 x1 x2 x4 = y
  generalize val_main_v15 (F := Ideal) x3 = z
  generalize val_main_v21 (F := Ideal) x3 = w
  generalize val_main_v6 (F := Ideal) x3 = v
  pointwise
  simp

theorem v69_at (i : Fin 4096) (j : Fin 1024) :
    val_main_v69 (F := Ideal) x0 x1 x2 x3 x4 (ix2 i j) = Row.derivativeForm (row x3 i) (scaled x0 x1 x2 x4 i) j := by
  unfold Row.derivativeForm
  simp only [← v50_at, ← v59_at]
  unfold val_main_v69 val_main_v68 val_main_v67 val_main_v66 val_main_v65 val_main_v64 val_main_v63 val_main_v62 val_main_v61 val_main_v60 val_main_v54
    val_main_v53 val_main_v52 val_main_cst_14 val_main_cst_17 val_main_cst_18 val_main_cst_19
  generalize val_main_v50 (F := Ideal) x0 x1 x2 x3 x4 = y
  generalize val_main_v59 (F := Ideal) x0 x1 x2 x3 x4 = z
  pointwise
  simp

theorem v71_at (j : Fin 1024) : val_main_v71 (F := Ideal) x0 x1 x2 x3 (ix2 0 j) = gradGain x0 x1 x2 x3 (ix2 0 j) := by
  have e : val_main_v71 (F := Ideal) x0 x1 x2 x3 (ix2 0 j) = (∑ i : Fin 4096, (val_main_v23 (F := Ideal) x3 (ix2 i j) : EReal) * val_main_v36 (F := Ideal) x0 x1 x2 (ix2 i j) : EReal) := by
    unfold val_main_v71 val_main_v45 val_main_v42 val_main_v41 val_main_v40 val_main_cst_11 val_main_cst_12
    generalize val_main_v23 (F := Ideal) x3 = y
    generalize val_main_v36 (F := Ideal) x0 x1 x2 = z
    pointwise
    simp
  rw [e]
  refine Finset.sum_congr rfl fun i _ => ?_
  rw [v23_at, v36_at, mul_comm]
  rfl

theorem v72_at (j : Fin 1024) : val_main_v72 (F := Ideal) x0 x1 x2 (ix2 0 j) = gradOffset x0 x1 x2 (ix2 0 j) := by
  have e : val_main_v72 (F := Ideal) x0 x1 x2 (ix2 0 j) = (∑ i : Fin 4096, (val_main_v36 (F := Ideal) x0 x1 x2 (ix2 i j) : EReal) : EReal) := by
    unfold val_main_v72 val_main_v39 val_main_v38 val_main_v37 val_main_cst_9 val_main_cst_10
    generalize val_main_v36 (F := Ideal) x0 x1 x2 = z
    pointwise
    simp
  rw [e]
  exact Finset.sum_congr rfl fun i _ => v36_at x0 x1 x2 i j

end Cert.Proof.Norm.Reference

end
-- ==== Proof.Norm.lean ====
/- The layer normalization's backward pass (`Kernel2`): each of the sixteen points computes 256 rows of the input's gradient, and adds
   its rows to the gain's and the offset's gradients. The input's gradient, in the kernel's closed form, is the derivative the reference
   takes; the sums over the sixteen blocks are the sums over the 4096 rows. -/
module

public import proofs.«01_k».proof.Defs
public import proofs.«01_k».proof.Proof.Finite
public import proofs.«01_k».proof.Proof.NormRun
public import proofs.«01_k».proof.Proof.NormRef
public import proofs.«01_k».proof.Proof.Gen.Kernel2Ideal.Value
public import proofs.«01_k».proof.Proof.Gen.Reference2Ideal.Run
public import Idealize.ShloMosaic.Lib.ReduceAll
public import Idealize.ShloMosaic.Lib.Decide
public import Idealize.ShloMosaic.Lib.StableHlo.ReadAt
public import Idealize.ShloMosaic.Lib.Tactic

@[expose] public section

set_option maxRecDepth 16384

noncomputable section

/-! ## What the precondition gives -/

namespace Cert.Proof.Norm.Finite

open Cert.Pre_finite2 Idealize.ShloMosaic

/-- The shape relations of the predicate's operations. -/
instance facts : Cert.Pre_finite2.Facts where
  bcast_S_S4096x5632 := by decide
  reducesTo_S4096x5632_S_d0_1 := by decide
  h_S_ := by decide
  bcast_S_S1024x5632 := by decide
  reducesTo_S1024x5632_S_d0_1 := by decide
  bcast_S_S4096x1024 := by decide
  reducesTo_S4096x1024_S_d0_1 := by decide
  bcast_S_S1024 := by decide
  reducesTo_S1024_S_d0 := by decide

/-- When the predicate holds, every entry of the cotangents, the weight and the gain is real. -/
theorem real (x0 : FVec Ideal S4096x5632 .f32) (x1 : FVec Ideal S1024x5632 .f32) (x2 x3 : FVec Ideal S4096x1024 .f32) (x4 : FVec Ideal S1024 .f32)
    (h : Cert.Pre_finite2.fn (F := Ideal) x0 x1 x2 x3 x4 = fun _ => 1#1) :
    (∀ i, x0 i = (((x0 i : EReal).toReal : ℝ) : EReal)) ∧ (∀ i, x1 i = (((x1 i : EReal).toReal : ℝ) : EReal))
      ∧ (∀ i, x2 i = (((x2 i : EReal).toReal : ℝ) : EReal)) ∧ (∀ i, x4 i = (((x4 i : EReal).toReal : ℝ) : EReal)) := by
  have e := congrFun h (fun a => a.elim0)
  have : Subsingleton S_.Idx := ⟨fun a b => funext fun k => k.elim0⟩
  simp only [Cert.Pre_finite2.fn, Cert.Pre_finite2.fn_part1, andi, Cert.Proof.Finite.andi_one] at e
  obtain ⟨⟨⟨e0, e1⟩, e2⟩, e4⟩ := e
  exact ⟨fun i => Cert.Proof.Finite.real_of_cmp _ (Host.reduce_andi_all _ _ _ _ _ e0 i),
    fun i => Cert.Proof.Finite.real_of_cmp _ (Host.reduce_andi_all _ _ _ _ _ e1 i),
    fun i => Cert.Proof.Finite.real_of_cmp _ (Host.reduce_andi_all _ _ _ _ _ e2 i),
    fun i => Cert.Proof.Finite.real_of_cmp _ (Host.reduce_andi_all _ _ _ _ _ e4 i)⟩

end Cert.Proof.Norm.Finite

namespace Cert.Proof.Norm

open Cert.Kernel2Ideal Cert.Kernel2Ideal.Gen
open Idealize.ShloMosaic Idealize.ShloMosaic.TcCoe Idealize.ShloMosaic.Tactic Idealize.SL.Sem

/-! ## A sum over the 4096 rows, block by block -/

/-- Row `r` of block `s`. -/
def place (s : Fin 16) (r : Fin 256) : Fin 4096 := ⟨256 * s.val + r.val, by omega⟩

theorem split16 (f : Fin 4096 → EReal) : ∑ k, f k = ∑ s : Fin 16, ∑ r : Fin 256, f (place s r) := by
  rw [← Equiv.sum_comp (finProdFinEquiv (m := 16) (n := 256)) f, Fintype.sum_prod_type]
  exact Finset.sum_congr rfl fun s _ => Finset.sum_congr rfl fun k _ => congrArg f (Fin.ext (Nat.add_comm _ _))

/-- The sum over block `s`, and nothing past the last block. -/
def block (f : Fin 4096 → EReal) (s : Nat) : EReal := if h : s < 16 then ∑ r : Fin 256, f (place ⟨s, h⟩ r) else 0

theorem blocks (f : Fin 4096 → EReal) : ∑ s ∈ Finset.range 16, block f s = ∑ k, f k := by
  rw [split16, Finset.sum_range]
  exact Finset.sum_congr rfl fun s _ => dif_pos s.isLt

/-! ## The blocks -/

theorem index_0 : ∀ t : Fin cfg0.N, win0_0.index t = ![t.val, 0] := by
  exact (by decide +kernel : ∀ t : Fin grid0.N, win0_0.index t = ![t.val, 0])

theorem index_1 : ∀ t : Fin cfg0.N, win0_1.index t = ![0, 0] := by
  exact (by decide +kernel : ∀ t : Fin grid0.N, win0_1.index t = ![0, 0])

theorem index_2 : ∀ t : Fin cfg0.N, win0_2.index t = ![t.val, 0] := by
  exact (by decide +kernel : ∀ t : Fin grid0.N, win0_2.index t = ![t.val, 0])

theorem index_3 : ∀ t : Fin cfg0.N, win0_3.index t = ![t.val, 0] := by
  exact (by decide +kernel : ∀ t : Fin grid0.N, win0_3.index t = ![t.val, 0])

theorem index_4 : ∀ t : Fin cfg0.N, win0_4.index t = ![0, 0] := by
  exact (by decide +kernel : ∀ t : Fin grid0.N, win0_4.index t = ![0, 0])

theorem index_5 : ∀ t : Fin cfg0.N, win0_5.index t = ![t.val, 0] := by
  exact (by decide +kernel : ∀ t : Fin grid0.N, win0_5.index t = ![t.val, 0])

theorem index_6 : ∀ t : Fin cfg0.N, win0_6.index t = ![t.val, 0] := by
  exact (by decide +kernel : ∀ t : Fin grid0.N, win0_6.index t = ![t.val, 0])

theorem index_7 : ∀ t : Fin cfg0.N, win0_7.index t = ![0, 0] := by
  exact (by decide +kernel : ∀ t : Fin grid0.N, win0_7.index t = ![0, 0])

theorem index_8 : ∀ t : Fin cfg0.N, win0_8.index t = ![0, 0] := by
  exact (by decide +kernel : ∀ t : Fin grid0.N, win0_8.index t = ![0, 0])

variable (m : (ℓ : Loc nD τ sig) → Buf (Elt Ideal) ℓ) (c : Dev nD)

theorem cotangent_eq : V m c main_v0 = m ((c : Thread nD τ).loc main_arg0) := by
  unfold V
  after_reads_simp; clean_types; try rfl

theorem residual_eq : V m c main_arg2 = m ((c : Thread nD τ).loc main_arg2) := by
  unfold V
  after_reads_simp

theorem input_eq : V m c main_arg3 = m ((c : Thread nD τ).loc main_arg3) := by
  unfold V
  after_reads_simp

theorem weight_at (k : Fin 5632) (j : Fin 1024) : V m c main_v2 (ix2 k j) = m ((c : Thread nD τ).loc main_arg1) (ix2 j k) := by
  unfold V
  after_reads_at

theorem gain_at (j : Fin 1024) : V m c main_v3 (ix2 0 j) = m ((c : Thread nD τ).loc main_arg4) (ix1 j) := by
  unfold V
  after_reads_at

/-- The row of the arguments which row `r` of the block of point `t` is. -/
def from_ (t : Fin cfg0.N) (r : Fin 256) : Fin 4096 := ⟨256 * t.val + r.val, by have : t.val < 16 := t.isLt; omega⟩

theorem block_0 (t : Fin cfg0.N) (r : Fin 256) (k : Fin 5632) : iblk m c 0 t (ix2 r k) = V m c main_v0 (ix2 (from_ t r) k) := by
  blk_simp [iblk]
  blk_ext [index_0, from_]

theorem block_1 (t : Fin cfg0.N) (k : Fin 5632) (j : Fin 1024) : iblk m c 1 t (ix2 k j) = V m c main_v2 (ix2 k j) := by
  blk_simp [iblk]
  blk_ext [index_1]

theorem block_2 (t : Fin cfg0.N) (r : Fin 256) (j : Fin 1024) : iblk m c 2 t (ix2 r j) = V m c main_arg2 (ix2 (from_ t r) j) := by
  blk_simp [iblk]
  blk_ext [index_2, from_]

theorem block_3 (t : Fin cfg0.N) (r : Fin 256) (j : Fin 1024) : iblk m c 3 t (ix2 r j) = V m c main_arg3 (ix2 (from_ t r) j) := by
  blk_simp [iblk]
  blk_ext [index_3, from_]

theorem block_4 (t : Fin cfg0.N) (j : Fin 1024) : iblk m c 4 t (ix2 0 j) = V m c main_v3 (ix2 0 j) := by
  blk_simp [iblk]
  blk_ext [index_4]

/-! ## What a point computes, of the arguments -/

/-- The arguments' arrays. -/
abbrev A0 : Wide.Idx → EReal := m ((c : Thread nD τ).loc main_arg0)
abbrev A1 : Weight.Idx → EReal := m ((c : Thread nD τ).loc main_arg1)
abbrev A2 : Rows.Idx → EReal := m ((c : Thread nD τ).loc main_arg2)
abbrev A3 : Rows.Idx → EReal := m ((c : Thread nD τ).loc main_arg3)
abbrev A4 : Gain.Idx → EReal := m ((c : Thread nD τ).loc main_arg4)

theorem handed_at (t : Fin cfg0.N) (r : Fin 256) (j : Fin 1024) :
    k0_pay6 (iblk m c 0 t) (iblk m c 1 t) (iblk m c 2 t) (ix2 r j) = handed (A0 m c) (A1 m c) (A2 m c) (from_ t r) j := by
  refine (pay6_at _ _ _ r j).trans ?_
  refine congrArg₂ (fun a b : EReal => a + Ideal.ofBits FTy.f32 0x3F9837F0#32 * b) (Finset.sum_congr rfl fun k _ => ?_) ?_
  · rw [block_0, block_1, cotangent_eq, weight_at]
  · rw [block_2, residual_eq]

theorem line_eq (t : Fin cfg0.N) (r : Fin 256) : line (iblk m c 3 t) r = row (A3 m c) (from_ t r) := by
  funext k
  exact (block_3 m c t r k).trans (congrFun (input_eq m c) _)

theorem normed_at (t : Fin cfg0.N) (r : Fin 256) (j : Fin 1024) : k0_pay9 (iblk m c 3 t) (ix2 r j) = normed (A3 m c) (from_ t r) j := by
  rw [pay9_at, line_eq]
  rfl

theorem times_eq (t : Fin cfg0.N) (r : Fin 256) :
    times (k0_pay6 (iblk m c 0 t) (iblk m c 1 t) (iblk m c 2 t)) (iblk m c 4 t) r = scaled (A0 m c) (A1 m c) (A2 m c) (A4 m c) (from_ t r) := by
  funext j
  exact congrArg₂ (fun a b : EReal => a * b) (handed_at m c t r j) ((block_4 m c t j).trans (gain_at m c j))

/-- The rows of the input's gradient a point leaves. -/
def rows (t : Fin cfg0.N) : FVec Ideal S256x1024 .f32 :=
  k0_pay2 (k0_pay6 (iblk m c 0 t) (iblk m c 1 t) (iblk m c 2 t)) (k0_pay8 (iblk m c 3 t)) (k0_pay9 (iblk m c 3 t)) (iblk m c 4 t)

theorem rows_at (t : Fin cfg0.N) (r : Fin 256) (j : Fin 1024) :
    rows m c t (ix2 r j) = gradInput (A0 m c) (A1 m c) (A2 m c) (A3 m c) (A4 m c) (ix2 (from_ t r) j) := by
  unfold rows
  rw [pay2_at, line_eq, times_eq]
  rfl

theorem left_input (t : Fin cfg0.N) : (outsAt0 m c t.val t.isLt).1 = rows m c t := by
  by_cases h : t.val % 16 = 0
  · rw [outsAt0_A m c t h]
    dsimp only
    rw [first_input]; rfl
  · rw [outsAt0_B m c t h]
    dsimp only
    rw [later_input]; rfl

theorem left_copy (t : Fin cfg0.N) : (outsAt0 m c t.val t.isLt).2.1 = truncf .bf16 (rows m c t) bitsLt_bf16_f32 := by
  by_cases h : t.val % 16 = 0
  · rw [outsAt0_A m c t h]
    dsimp only
    rw [first_copy]; rfl
  · rw [outsAt0_B m c t h]
    dsimp only
    rw [later_copy]; rfl

theorem gain_first (t : Fin cfg0.N) (h : t.val % 16 = 0) :
    (outsAt0 m c t.val t.isLt).2.2.1 = k0_pay10 (iblk m c 0 t) (iblk m c 1 t) (iblk m c 2 t) (iblk m c 3 t) (k0_pay4 (F := Ideal)) := by
  rw [outsAt0_A m c t h]
  dsimp only
  rw [first_gain]

theorem gain_later (t : Fin cfg0.N) (h : ¬t.val % 16 = 0) :
    (outsAt0 m c t.val t.isLt).2.2.1 = k0_pay10 (iblk m c 0 t) (iblk m c 1 t) (iblk m c 2 t) (iblk m c 3 t)
      (outsAt0 m c (t.val - 1) (Nat.lt_of_le_of_lt (Nat.sub_le _ _) t.isLt)).2.2.1 := by
  rw [outsAt0_B m c t h]
  dsimp only
  rw [later_gain]

theorem offset_first (t : Fin cfg0.N) (h : t.val % 16 = 0) :
    (outsAt0 m c t.val t.isLt).2.2.2 = k0_pay1 (k0_pay6 (iblk m c 0 t) (iblk m c 1 t) (iblk m c 2 t)) (k0_pay5 (F := Ideal)) := by
  rw [outsAt0_A m c t h]
  dsimp only
  rw [first_offset]

theorem offset_later (t : Fin cfg0.N) (h : ¬t.val % 16 = 0) :
    (outsAt0 m c t.val t.isLt).2.2.2 = k0_pay1 (k0_pay6 (iblk m c 0 t) (iblk m c 1 t) (iblk m c 2 t))
      (outsAt0 m c (t.val - 1) (Nat.lt_of_le_of_lt (Nat.sub_le _ _) t.isLt)).2.2.2 := by
  rw [outsAt0_B m c t h]
  dsimp only
  rw [later_offset]

/-- What row `i` brings to the gain's gradient. -/
def toGain (j : Fin 1024) (i : Fin 4096) : EReal := handed (A0 m c) (A1 m c) (A2 m c) i j * normed (A3 m c) i j

/-- What row `i` brings to the offset's gradient. -/
def toOffset (j : Fin 1024) (i : Fin 4096) : EReal := handed (A0 m c) (A1 m c) (A2 m c) i j

theorem gain_part (t : Fin cfg0.N) (y : Vec Ideal S1x1024 .f32) (j : Fin 1024) :
    k0_pay10 (iblk m c 0 t) (iblk m c 1 t) (iblk m c 2 t) (iblk m c 3 t) y (ix2 0 j) = (y (ix2 0 j) + block (toGain m c j) t.val : EReal) := by
  refine (pay10_at _ _ _ _ y j).trans (congrArg (fun a : EReal => y (ix2 0 j) + a) ?_)
  rw [block, dif_pos (show t.val < 16 from t.isLt)]
  exact Finset.sum_congr rfl fun r _ => congrArg₂ (fun a b : EReal => a * b) (handed_at m c t r j) (normed_at m c t r j)

theorem offset_part (t : Fin cfg0.N) (y : Vec Ideal S1x1024 .f32) (j : Fin 1024) :
    k0_pay1 (k0_pay6 (iblk m c 0 t) (iblk m c 1 t) (iblk m c 2 t)) y (ix2 0 j) = (y (ix2 0 j) + block (toOffset m c j) t.val : EReal) := by
  refine (pay1_at _ y j).trans (congrArg (fun a : EReal => y (ix2 0 j) + a) ?_)
  rw [block, dif_pos (show t.val < 16 from t.isLt)]
  exact Finset.sum_congr rfl fun r _ => handed_at m c t r j

theorem zero_word : Ideal.ofBits FTy.f32 0x00000000#32 = (0 : EReal) := by
  simp [Ideal.ofBits, Ideal.ieee]

theorem gain_sum (j : Fin 1024) : ∀ (n : Nat) (h : n < cfg0.N),
    (outsAt0 m c n h).2.2.1 (ix2 0 j) = ∑ s ∈ Finset.range (n + 1), block (toGain m c j) s
  | 0, h => by
    refine ((congrFun (gain_first m c ⟨0, h⟩ rfl) (ix2 0 j)).trans (gain_part m c ⟨0, h⟩ _ j)).trans ?_
    rw [Finset.sum_range_one]
    refine (congrArg (fun a : EReal => a + block (toGain m c j) 0) zero_word).trans (zero_add _)
  | n + 1, h => by
    have h' : n + 1 < 16 := h
    refine ((congrFun (gain_later m c ⟨n + 1, h⟩ (show ¬(n + 1) % 16 = 0 by omega)) (ix2 0 j)).trans (gain_part m c ⟨n + 1, h⟩ _ j)).trans ?_
    rw [Finset.sum_range_succ]
    exact congrArg (fun a : EReal => a + block (toGain m c j) (n + 1)) (gain_sum j n (Nat.lt_of_succ_lt h))

theorem offset_sum (j : Fin 1024) : ∀ (n : Nat) (h : n < cfg0.N),
    (outsAt0 m c n h).2.2.2 (ix2 0 j) = ∑ s ∈ Finset.range (n + 1), block (toOffset m c j) s
  | 0, h => by
    refine ((congrFun (offset_first m c ⟨0, h⟩ rfl) (ix2 0 j)).trans (offset_part m c ⟨0, h⟩ _ j)).trans ?_
    rw [Finset.sum_range_one]
    refine (congrArg (fun a : EReal => a + block (toOffset m c j) 0) zero_word).trans (zero_add _)
  | n + 1, h => by
    have h' : n + 1 < 16 := h
    refine ((congrFun (offset_later m c ⟨n + 1, h⟩ (show ¬(n + 1) % 16 = 0 by omega)) (ix2 0 j)).trans (offset_part m c ⟨n + 1, h⟩ _ j)).trans ?_
    rw [Finset.sum_range_succ]
    exact congrArg (fun a : EReal => a + block (toOffset m c j) (n + 1)) (offset_sum j n (Nat.lt_of_succ_lt h))

/-! ## The arrays after the run -/

theorem array_5 : (dats m 0 c).arrAt 5 cfg0.N = gradInput (A0 m c) (A1 m c) (A2 m c) (A3 m c) (A4 m c) := by
  refine (dats m 0 c).arrAt_eq_of_covers 5 _ (by decide +kernel) fun t hf y => ?_
  blk_simp
  rw [after0_5]
  idx_vars y
  have e : ((cfg0.win 5).blk t).view.emb (ix2 y0 y1) = ix2 (from_ t y0) y1 := by
    blk_ext [index_5, from_]
  rw [e, left_input]
  exact rows_at m c t y0 y1

theorem array_6 : (dats m 0 c).arrAt 6 cfg0.N = gradInput (A0 m c) (A1 m c) (A2 m c) (A3 m c) (A4 m c) := by
  refine (dats m 0 c).arrAt_eq_of_covers 6 _ (by decide +kernel) fun t hf y => ?_
  blk_simp
  rw [after0_6]
  idx_vars y
  have e : ((cfg0.win 6).blk t).view.emb (ix2 y0 y1) = ix2 (from_ t y0) y1 := by
    blk_ext [index_6, from_]
  rw [e, left_copy]
  exact rows_at m c t y0 y1

theorem array_7 : (dats m 0 c).arrAt 7 cfg0.N = gradGain (A0 m c) (A1 m c) (A2 m c) (A3 m c) := by
  refine (dats m 0 c).arrAt_eq_of_covers 7 _ (by decide +kernel) fun t hf y => ?_
  have h : t.val % 16 = 15 := (flush0_7 t).mp hf
  have h' : t.val + 1 = 16 := by have : t.val < 16 := t.isLt; omega
  blk_simp
  rw [after0_7]
  idx_vars y
  obtain rfl : y0 = 0 := Subsingleton.elim _ _
  have e : ((cfg0.win 7).blk t).view.emb (ix2 0 y1) = ix2 0 y1 := by
    blk_ext [index_7]
  rw [e]
  refine (gain_sum m c y1 t.val t.isLt).trans ?_
  rw [h']
  exact blocks _

theorem array_8 : (dats m 0 c).arrAt 8 cfg0.N = gradOffset (A0 m c) (A1 m c) (A2 m c) := by
  refine (dats m 0 c).arrAt_eq_of_covers 8 _ (by decide +kernel) fun t hf y => ?_
  have h : t.val % 16 = 15 := (flush0_8 t).mp hf
  have h' : t.val + 1 = 16 := by have : t.val < 16 := t.isLt; omega
  blk_simp
  rw [after0_8]
  idx_vars y
  obtain rfl : y0 = 0 := Subsingleton.elim _ _
  have e : ((cfg0.win 8).blk t).view.emb (ix2 0 y1) = ix2 0 y1 := by
    blk_ext [index_8]
  rw [e]
  refine (offset_sum m c y1 t.val t.isLt).trans ?_
  rw [h']
  exact blocks _

/-! ## The reference's results -/

section Reference

open Cert.Reference2Ideal.Read

variable (x0 : Wide.Idx → EReal) (x1 : Weight.Idx → EReal) (x2 x3 : Rows.Idx → EReal) (x4 : Gain.Idx → EReal)

theorem reference_input (h0 : ∀ i, x0 i = (((x0 i).toReal : ℝ) : EReal)) (h1 : ∀ i, x1 i = (((x1 i).toReal : ℝ) : EReal))
    (h2 : ∀ i, x2 i = (((x2 i).toReal : ℝ) : EReal)) (h4 : ∀ i, x4 i = (((x4 i).toReal : ℝ) : EReal)) :
    val_main_v69 (F := Ideal) x0 x1 x2 x3 x4 = gradInput x0 x1 x2 x3 x4 := by
  funext y
  idx_vars y
  rw [Reference.v69_at]
  exact (Row.forms _ _ (scaled_real x0 x1 x2 x4 h0 h1 h2 h4 y0) y1).symm

theorem reference_gain : val_main_v71 (F := Ideal) x0 x1 x2 x3 = gradGain x0 x1 x2 x3 := by
  funext y
  idx_vars y
  obtain rfl : y0 = 0 := Subsingleton.elim _ _
  exact Reference.v71_at x0 x1 x2 x3 y1

theorem reference_offset : val_main_v72 (F := Ideal) x0 x1 x2 = gradOffset x0 x1 x2 := by
  funext y
  idx_vars y
  obtain rfl : y0 = 0 := Subsingleton.elim _ _
  exact Reference.v72_at x0 x1 x2 y1

end Reference

/-- The two programs end with the same gradients. -/
theorem algebraic : Cert.algebraic_Kernel2Ideal_Reference2Ideal_pre_finite2 := by
  intro m g m' g' hp hm
  refine ⟨fun c => gradInput (A0 m c) (A1 m c) (A2 m c) (A3 m c) (A4 m c), fun c => gradInput (A0 m c) (A1 m c) (A2 m c) (A3 m c) (A4 m c),
    fun c => gradGain (A0 m c) (A1 m c) (A2 m c) (A3 m c), fun c => gradOffset (A0 m c) (A1 m c) (A2 m c), ?_, ?_⟩
  · refine (θ_run defs _ _).mono (fun r h c => ?_) (Value.run_blocks m g)
    obtain ⟨r5, r6, r7, r8, rest⟩ := h c
    exact ⟨r5.trans (array_5 m c), r6.trans (array_6 m c), r7.trans (array_7 m c), r8.trans (array_8 m c), rest⟩
  · refine (θ_run Cert.Reference2Ideal.defs _ _).mono (fun r h c => ?_) (Cert.Reference2Ideal.Value.run m' g')
    obtain ⟨r69, r70, r71, r72, rest⟩ := h c
    obtain ⟨e0, e1, e2, e3, e4⟩ := hm c
    obtain ⟨f0, f1, f2, f4⟩ := Finite.real _ _ _ _ _ (hp c)
    have f := reference_input (A0 m c) (A1 m c) (A2 m c) (A3 m c) (A4 m c) f0 f1 f2 f4
    refine ⟨r69.trans ?_, r70.trans ?_, r71.trans ?_, r72.trans ?_, rest⟩
    · rw [Cert.Reference2Ideal.Read.val_main_v69_eq, e0, e1, e2, e3, e4]
      exact f
    · rw [Cert.Reference2Ideal.Read.val_main_v70_eq, e0, e1, e2, e3, e4]
      exact f
    · rw [Cert.Reference2Ideal.Read.val_main_v71_eq, e0, e1, e2, e3]
      exact reference_gain (A0 m c) (A1 m c) (A2 m c) (A3 m c)
    · rw [Cert.Reference2Ideal.Read.val_main_v72_eq, e0, e1, e2]
      exact reference_offset (A0 m c) (A1 m c) (A2 m c)

end Cert.Proof.Norm

end
-- ==== Proof.Sums.lean ====
/- A sum over 4096 positions as the sum of its two halves, of its four quarters. -/
module

public import Mathlib.Algebra.BigOperators.Fin
public import Mathlib.Data.EReal.Operations

@[expose] public section

noncomputable section

namespace Cert.Proof.Sums

/-- Position `k` of half `j`. -/
def half (j : Fin 2) (k : Fin 2048) : Fin 4096 := ⟨2048 * j.val + k.val, by omega⟩

/-- Position `k` of quarter `j`. -/
def quarter (j : Fin 4) (k : Fin 1024) : Fin 4096 := ⟨1024 * j.val + k.val, by omega⟩

theorem split2 (f : Fin 4096 → EReal) : ∑ k, f k = (∑ k, f (half 0 k)) + ∑ k, f (half 1 k) := by
  rw [← Equiv.sum_comp (finProdFinEquiv (m := 2) (n := 2048)) f, Fintype.sum_prod_type, Fin.sum_univ_two]
  refine congrArg₂ (· + ·) ?_ ?_ <;>
    exact Finset.sum_congr rfl fun k _ => congrArg f (Fin.ext (Nat.add_comm _ _))

theorem split4 (f : Fin 4096 → EReal) :
    ∑ k, f k = (((∑ k, f (quarter 0 k)) + ∑ k, f (quarter 1 k)) + ∑ k, f (quarter 2 k)) + ∑ k, f (quarter 3 k) := by
  rw [← Equiv.sum_comp (finProdFinEquiv (m := 4) (n := 1024)) f, Fintype.sum_prod_type, Fin.sum_univ_four]
  refine congrArg₂ (· + ·) (congrArg₂ (· + ·) (congrArg₂ (· + ·) ?_ ?_) ?_) ?_ <;>
    exact Finset.sum_congr rfl fun k _ => congrArg f (Fin.ext (Nat.add_comm _ _))

end Cert.Proof.Sums

end
-- ==== Proof.DwUp.lean ====
/- The up-projection's weight gradient `duᵀ · x` (`Kernel3`): each tile of 1408 rows is accumulated over two blocks of 2048
   positions; the sum of the two is the sum over the 4096, which is the gradient the reference takes. -/
module

public import proofs.«01_k».proof.Defs
public import proofs.«01_k».proof.Proof.Sums
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit.Geometry
public import Idealize.ShloMosaic.Lib.Pointwise
public import Idealize.ShloMosaic.Lib.StableHlo.ReadAt
public import Idealize.ShloMosaic.Lib.Tactic

@[expose] public section

set_option maxRecDepth 16384

noncomputable section

namespace Cert.Proof.DwUp

open Cert.Kernel3Ideal Cert.Kernel3Ideal.Gen
open Idealize.ShloMosaic Idealize.ShloMosaic.TcCoe Idealize.ShloMosaic.Tactic Idealize.SL.Sem

theorem hz : (![0, 0] : Fin 2 → Nat) = fun _ => 0 := funext fun a => by fin_cases a <;> rfl

theorem index_0 : ∀ t : Fin cfg0.N, win0_0.index t = ![t.val % 2, t.val / 2] := by
  exact (by decide +kernel : ∀ t : Fin grid0.N, win0_0.index t = ![t.val % 2, t.val / 2])

theorem index_1 : ∀ t : Fin cfg0.N, win0_1.index t = ![t.val % 2, 0] := by
  exact (by decide +kernel : ∀ t : Fin grid0.N, win0_1.index t = ![t.val % 2, 0])

theorem index_2 : ∀ t : Fin cfg0.N, win0_2.index t = ![t.val / 2, 0] := by
  exact (by decide +kernel : ∀ t : Fin grid0.N, win0_2.index t = ![t.val / 2, 0])

/-! ## What one grid point leaves -/

section Point

variable {F : FTy → Type} [FloatOps F]

/-- The first point of a tile leaves its product in the accumulator. -/
theorem first (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .bf16) (harg5 : arg5.IsWhole) (arg6 : Memref sig .tc .vmem S1408x1024 .f32) (harg6 : arg6.IsWhole) (hc0 : cond0_0 i) (hc1 : ¬cond0_1 i) (hc2 : ¬cond0_2 i)
    (x0 : Vec F S2048x1408 .bf16) (x1 : Vec F S2048x1024 .bf16) : sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz]
  unfold k0_pay2
  simp only [View.readAt_eq_ld, harg3.read_unread, harg4.read_unread, harg6.read_unread, View.ld_unit_zero (S := S2048x1408) hz, View.ld_unit_zero (S := S2048x1024) hz, View.ld_unit_zero (S := S1408x1024) hz, shapeCast_self]

/-- The last point of a tile stores the accumulator with its product added. -/
theorem last (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .bf16) (harg5 : arg5.IsWhole) (arg6 : Memref sig .tc .vmem S1408x1024 .f32) (harg6 : arg6.IsWhole) (hc0 : ¬cond0_0 i) (hc1 : cond0_1 i) (hc2 : cond0_2 i)
    (x0 : Vec F S2048x1408 .bf16) (x1 : Vec F S2048x1024 .bf16) (xs0 : Vec F S1408x1024 .f32) :
    out0_B_2 c i arg3 harg3 arg4 harg4 arg5 harg5 arg6 harg6 hc0 hc1 hc2 x0 x1 xs0 = truncf .bf16 (addf xs0 (k0_pay1 x0 x1)) bitsLt_bf16_f32 := by
  unfold out0_B_2
  rw [View.read_writes_eq_canon _ _ _ (cover0_B_2 c i arg3 harg3 arg4 harg4 arg5 harg5 arg6 harg6 hc0 hc1 hc2 x0 x1 xs0)]
  unfold kernelRun0_B
  dsimp only
  sl_unfold_words
  rw [View.canon_unit_zero (S := S1408x1024) hz, View.readCov_unit_zero (S := S1408x1024) _ hz]
  unfold k0_pay4 k0_pay3
  simp only [View.readAt_eq_ld, harg3.read_unread, harg4.read_unread, harg6.read_unread, View.ld_unit_zero (S := S2048x1408) hz, View.ld_unit_zero (S := S2048x1024) hz, View.ld_unit_zero (S := S1408x1024) hz, shapeCast_self]

end Point

/-! ## The tiles -/

/-- A point's product, entry by entry. -/
theorem part (x0 : Vec Ideal S2048x1408 .bf16) (x1 : Vec Ideal S2048x1024 .bf16) (n : Fin 1408) (p : Fin 1024) :
    k0_pay1 x0 x1 (ix2 n p) = ∑ k : Fin 2048, x0 (ix2 k n) * x1 (ix2 k p) := by
  unfold k0_pay1
  pointwise

variable (m : (ℓ : Loc nD τ sig) → Buf (Elt Ideal) ℓ) (c : Dev nD)

theorem left_eq : V m c main_v0 = m ((c : Thread nD τ).loc main_arg0) := by
  unfold V
  after_reads_simp; clean_types; try rfl

theorem right_eq : V m c main_v1 = m ((c : Thread nD τ).loc main_arg1) := by
  unfold V
  after_reads_simp; clean_types; try rfl

/-- The row of the arguments which row `k` of the block of point `t` is. -/
def from_ (t : Fin cfg0.N) (k : Fin 2048) : Fin 4096 := ⟨2048 * (t.val % 2) + k.val, by omega⟩

/-- The row of the result which row `n` of the tile of point `t` is. -/
def to_ (t : Fin cfg0.N) (n : Fin 1408) : Fin 5632 := ⟨1408 * (t.val / 2) + n.val, by have : t.val < 8 := t.isLt; omega⟩

theorem block_0 (t : Fin cfg0.N) (k : Fin 2048) (n : Fin 1408) : iblk m c 0 t (ix2 k n) = V m c main_v0 (ix2 (from_ t k) (to_ t n)) := by
  blk_simp [iblk]
  blk_ext [index_0, from_, to_]

theorem block_1 (t : Fin cfg0.N) (k : Fin 2048) (p : Fin 1024) : iblk m c 1 t (ix2 k p) = V m c main_v1 (ix2 (from_ t k) p) := by
  blk_simp [iblk]
  blk_ext [index_1, from_]

/-- What position `k` brings to entry (`n`, `p`) of the product. -/
def term (x0 : S4096x5632.Idx → EReal) (x1 : S4096x1024.Idx → EReal) (n : Fin 5632) (p : Fin 1024) (k : Fin 4096) : EReal :=
  x0 (ix2 k n) * x1 (ix2 k p)

/-- The product of the transpose of the first argument with the second. -/
def product (x0 : S4096x5632.Idx → EReal) (x1 : S4096x1024.Idx → EReal) (y : S5632x1024.Idx) : EReal :=
  ∑ k : Fin 4096, term x0 x1 (y 0) (y 1) k

/-- What point `t` adds, of the arguments. -/
theorem adds (t : Fin cfg0.N) (n : Fin 1408) (p : Fin 1024) :
    k0_pay1 (iblk m c 0 t) (iblk m c 1 t) (ix2 n p)
      = ∑ k : Fin 2048, term (m ((c : Thread nD τ).loc main_arg0)) (m ((c : Thread nD τ).loc main_arg1)) (to_ t n) p (from_ t k) := by
  refine (part _ _ n p).trans (Finset.sum_congr rfl fun k _ => ?_)
  rw [block_0, block_1, left_eq, right_eq]; rfl

theorem held_first (t : Fin cfg0.N) (h : t.val % 2 = 0) : (outsAt0 m c t.val t.isLt).2 = k0_pay1 (iblk m c 0 t) (iblk m c 1 t) := by
  rw [outsAt0_A m c t h (by omega) (by omega)]
  dsimp only
  rw [first]

theorem stored (t : Fin cfg0.N) (h : t.val % 2 = 1) :
    (outsAt0 m c t.val t.isLt).1 = truncf .bf16 (addf (outsAt0 m c (t.val - 1) (Nat.lt_of_le_of_lt (Nat.sub_le _ _) t.isLt)).2 (k0_pay1 (iblk m c 0 t) (iblk m c 1 t))) bitsLt_bf16_f32 := by
  rw [outsAt0_B m c t (by omega) h h]
  dsimp only
  rw [last]

/-- The point `j` before `t`. -/
def back (t : Fin cfg0.N) (j : Nat) : Fin cfg0.N := ⟨t.val - j, Nat.lt_of_le_of_lt (Nat.sub_le _ _) t.isLt⟩

/-- A tile's last point stores the sum of its two products. -/
theorem sum_stored (t : Fin cfg0.N) (h : t.val % 2 = 1) (n : Fin 1408) (p : Fin 1024) :
    (outsAt0 m c t.val t.isLt).1 (ix2 n p)
      = (k0_pay1 (iblk m c 0 (back t 1)) (iblk m c 1 (back t 1)) (ix2 n p) + k0_pay1 (iblk m c 0 t) (iblk m c 1 t) (ix2 n p) : EReal) := by
  have e1 := held_first m c (back t 1) (show (t.val - 1) % 2 = 0 by omega)
  refine (congrFun (stored m c t h) (ix2 n p)).trans ?_
  exact congrArg (fun z : EReal => z + k0_pay1 (iblk m c 0 t) (iblk m c 1 t) (ix2 n p)) (congrFun e1 (ix2 n p))

theorem tile (t : Fin cfg0.N) (h : t.val % 2 = 1) (n : Fin 1408) (p : Fin 1024) :
    (outsAt0 m c t.val t.isLt).1 (ix2 n p) = product (m ((c : Thread nD τ).loc main_arg0)) (m ((c : Thread nD τ).loc main_arg1)) (ix2 (to_ t n) p) := by
  refine (sum_stored m c t h n p).trans ?_
  unfold product
  rw [Cert.Proof.Sums.split2, adds, adds]
  have r (j : Nat) (hj : j < 2) : to_ (back t (1 - j)) n = to_ t n := Fin.ext (show 1408 * ((t.val - (1 - j)) / 2) + n.val = 1408 * (t.val / 2) + n.val by omega)
  have s (j : Fin 2) (k : Fin 2048) : from_ (back t (1 - j.val)) k = Cert.Proof.Sums.half j k :=
    Fin.ext (show 2048 * ((t.val - (1 - j.val)) % 2) + k.val = 2048 * j.val + k.val by have := j.isLt; omega)
  have e (j : Fin 2) : ∑ k : Fin 2048, term (m ((c : Thread nD τ).loc main_arg0)) (m ((c : Thread nD τ).loc main_arg1)) (to_ (back t (1 - j.val)) n) p (from_ (back t (1 - j.val)) k)
      = ∑ k : Fin 2048, term (m ((c : Thread nD τ).loc main_arg0)) (m ((c : Thread nD τ).loc main_arg1)) (to_ t n) p (Cert.Proof.Sums.half j k) := by
    refine Finset.sum_congr rfl fun k _ => ?_
    rw [s, r j.val j.isLt]
  exact congrArg₂ (fun a b : EReal => a + b) (e 0) (e 1)

theorem array : (dats m 0 c).arrAt 2 cfg0.N = product (m ((c : Thread nD τ).loc main_arg0)) (m ((c : Thread nD τ).loc main_arg1)) := by
  refine (dats m 0 c).arrAt_eq_of_covers 2 _ (by decide +kernel) fun t hf y => ?_
  have h : t.val % 2 = 1 := (flush0_2 t).mp hf
  blk_simp
  rw [after0_2]
  idx_vars y
  have e : ((cfg0.win 2).blk t).view.emb (ix2 y0 y1) = ix2 (to_ t y0) y1 := by
    blk_ext [index_2, to_]
  rw [e]
  exact tile m c t h y0 y1

/-- The reference's gradient is the product. -/
theorem gradient (x0 : (⟨S4096x5632, .f32⟩ : BufTy).Contents (Elt Ideal)) (x1 : (⟨S4096x1024, .f32⟩ : BufTy).Contents (Elt Ideal)) :
    Cert.Reference3Ideal.Read.val_main_v6 (F := Ideal) x0 x1 = product x0 x1 := by
  funext y
  idx_vars y
  refine Eq.trans ?_ ((Cert.Reference3Ideal.Read.val_main_v3_apply x0 x1 (ix2 y0 y1)).trans (Finset.sum_congr rfl fun k _ =>
    (congrArg₂ (fun a b => (x0 a * x1 b : EReal)) (funext fun a => by fin_cases a <;> rfl) (funext fun a => by fin_cases a <;> rfl))))
  exact congrArg (Cert.Reference3Ideal.Read.val_main_v3 (F := Ideal) x0 x1) (funext fun a => by fin_cases a <;> rfl)

/-- The two programs end with the same product. -/
theorem algebraic : Cert.algebraic_Kernel3Ideal_Reference3Ideal := by
  intro m g m' g' _ hm
  refine ⟨fun c => product (m ((c : Thread nD τ).loc main_arg0)) (m ((c : Thread nD τ).loc main_arg1)), ?_, ?_⟩
  · refine (θ_run defs _ _).mono (fun r h c => ?_) (Value.run_blocks m g)
    exact ⟨(h c).1.trans (array m c), (h c).2⟩
  · refine (θ_run Cert.Reference3Ideal.defs _ _).mono (fun r h c => ?_) (Cert.Reference3Ideal.Value.run m' g')
    refine ⟨(h c).1.trans ?_, (h c).2⟩
    rw [Cert.Reference3Ideal.Read.val_main_v6_eq, gradient]
    exact congrArg₂ product (hm c).1 (hm c).2

end Cert.Proof.DwUp

end
-- ==== Proof.Act.lean ====
/- The down-projection's product `dz · wᵀ` (`Kernel4`): the kernel's array, tile by tile of 1024 rows, is the sum over the
   1024 columns, and so is the gradient the reference takes. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit.Geometry
public import Idealize.ShloMosaic.Lib.Pointwise
public import Idealize.ShloMosaic.Lib.StableHlo.ReadAt

@[expose] public section

set_option maxRecDepth 16384

noncomputable section

namespace Cert.Proof.Act

open Cert.Kernel4Ideal Cert.Kernel4Ideal.Gen
open Idealize.ShloMosaic Idealize.ShloMosaic.TcCoe Idealize.ShloMosaic.Tactic Idealize.SL.Sem

theorem index_0 : ∀ t : Fin cfg0.N, win0_0.index t = ![t.val, 0] := by
  exact (by decide +kernel : ∀ t : Fin grid0.N, win0_0.index t = ![t.val, 0])

theorem index_1 : ∀ t : Fin cfg0.N, win0_1.index t = ![0, 0] := by
  exact (by decide +kernel : ∀ t : Fin grid0.N, win0_1.index t = ![0, 0])

theorem index_2 : ∀ t : Fin cfg0.N, win0_2.index t = ![t.val, 0] := by
  exact (by decide +kernel : ∀ t : Fin grid0.N, win0_2.index t = ![t.val, 0])

/-- The row of the whole array which row `n` of tile `t` is. -/
def at_ (t : Fin cfg0.N) (n : Fin 1024) : Fin 4096 := ⟨1024 * t.val + n.val, by have : t.val < 4 := t.isLt; omega⟩

variable (m : (ℓ : Loc nD τ sig) → Buf (Elt Ideal) ℓ) (c : Dev nD)

theorem left_eq : V m c main_v0 = m ((c : Thread nD τ).loc main_arg0) := by
  unfold V
  after_reads_simp; clean_types; try rfl

theorem right_eq : V m c main_v1 = m ((c : Thread nD τ).loc main_arg1) := by
  unfold V
  after_reads_simp; clean_types; try rfl

theorem block_0 (t : Fin cfg0.N) (n : Fin 1024) (k : Fin 1024) : iblk m c 0 t (ix2 n k) = V m c main_v0 (ix2 (at_ t n) k) := by
  blk_simp [iblk]
  blk_ext [index_0, at_]

theorem block_1 (t : Fin cfg0.N) (p : Fin 2816) (k : Fin 1024) : iblk m c 1 t (ix2 p k) = V m c main_v1 (ix2 p k) := by
  blk_simp [iblk]
  blk_ext [index_1]

/-- The tile the kernel stores is the product of its two blocks. -/
theorem tile (x0 : Vec Ideal S1024x1024 .bf16) (x1 : Vec Ideal S2816x1024 .bf16) (n : Fin 1024) (p : Fin 2816) :
    out0_2 x0 x1 (ix2 n p) = ∑ k : Fin 1024, x0 (ix2 n k) * x1 (ix2 p k) := by
  have hz : (![0, 0] : Fin 2 → Nat) = fun _ => 0 := funext fun a => by fin_cases a <;> rfl
  unfold out0_2
  rw [View.canon_unit_zero hz]
  simp only [View.ld_unit_zero (S := S1024x1024) hz, View.ld_unit_zero (S := S2816x1024) hz]
  unfold k0_pay1
  pointwise

/-- The product. -/
def product (x0 : S4096x1024.Idx → EReal) (x1 : S2816x1024.Idx → EReal) (y : S4096x2816.Idx) : EReal :=
  ∑ k : Fin 1024, x0 (ix2 (y 0) k) * x1 (ix2 (y 1) k)

theorem array : (dats m 0 c).arrAt 2 cfg0.N = product (m ((c : Thread nD τ).loc main_arg0)) (m ((c : Thread nD τ).loc main_arg1)) := by
  refine (dats m 0 c).arrAt_eq_of_covers 2 _ (by decide +kernel) fun t hf y => ?_
  blk_simp
  rw [after0_2]
  idx_vars y
  have e : ((cfg0.win 2).blk t).view.emb (ix2 y0 y1) = ix2 (at_ t y0) y1 := by
    blk_ext [index_2, at_]
  rw [e]
  refine (tile _ _ y0 y1).trans (Finset.sum_congr rfl fun k _ => ?_)
  rw [block_0, block_1, left_eq, right_eq]; rfl

/-- The reference's gradient is the product. -/
theorem gradient (x0 : (⟨S4096x1024, .f32⟩ : BufTy).Contents (Elt Ideal)) (x1 : (⟨S2816x1024, .f32⟩ : BufTy).Contents (Elt Ideal)) :
    Cert.Reference4Ideal.Read.val_main_v3 (F := Ideal) x0 x1 = product x0 x1 := by
  funext y
  exact (Cert.Reference4Ideal.Read.val_main_v2_apply x0 x1 y).trans (Finset.sum_congr rfl fun k _ =>
    congrArg₂ (fun a b => x0 a * x1 b) (funext fun a => by fin_cases a <;> rfl) (funext fun a => by fin_cases a <;> rfl))

/-- The two programs end with the same product. -/
theorem algebraic : Cert.algebraic_Kernel4Ideal_Reference4Ideal := by
  intro m g m' g' _ hm
  refine ⟨fun c => product (m ((c : Thread nD τ).loc main_arg0)) (m ((c : Thread nD τ).loc main_arg1)), ?_, ?_⟩
  · refine (θ_run defs _ _).mono (fun r h c => ?_) (Value.run_blocks m g)
    exact ⟨(h c).1.trans (array m c), (h c).2⟩
  · refine (θ_run Cert.Reference4Ideal.defs _ _).mono (fun r h c => ?_) (Cert.Reference4Ideal.Value.run m' g')
    refine ⟨(h c).1.trans ?_, (h c).2⟩
    rw [Cert.Reference4Ideal.Read.val_main_v3_eq, gradient]
    exact congrArg₂ product (hm c).1 (hm c).2

end Cert.Proof.Act

end
-- ==== Proof.DwDown.lean ====
/- The down-projection's weight gradient `actᵀ · dz` (`Kernel5`): each tile of 1408 rows is accumulated over four blocks of 1024
   positions; the sum of the four is the sum over the 4096, which is the gradient the reference takes. -/
module

public import proofs.«01_k».proof.Defs
public import proofs.«01_k».proof.Proof.Sums
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit.Geometry
public import Idealize.ShloMosaic.Lib.Pointwise
public import Idealize.ShloMosaic.Lib.StableHlo.ReadAt
public import Idealize.ShloMosaic.Lib.Tactic

@[expose] public section

set_option maxRecDepth 16384

noncomputable section

namespace Cert.Proof.DwDown

open Cert.Kernel5Ideal Cert.Kernel5Ideal.Gen
open Idealize.ShloMosaic Idealize.ShloMosaic.TcCoe Idealize.ShloMosaic.Tactic Idealize.SL.Sem

theorem hz : (![0, 0] : Fin 2 → Nat) = fun _ => 0 := funext fun a => by fin_cases a <;> rfl

theorem index_0 : ∀ t : Fin cfg0.N, win0_0.index t = ![t.val % 4, t.val / 4] := by
  exact (by decide +kernel : ∀ t : Fin grid0.N, win0_0.index t = ![t.val % 4, t.val / 4])

theorem index_1 : ∀ t : Fin cfg0.N, win0_1.index t = ![t.val % 4, 0] := by
  exact (by decide +kernel : ∀ t : Fin grid0.N, win0_1.index t = ![t.val % 4, 0])

theorem index_2 : ∀ t : Fin cfg0.N, win0_2.index t = ![t.val / 4, 0] := by
  exact (by decide +kernel : ∀ t : Fin grid0.N, win0_2.index t = ![t.val / 4, 0])

/-! ## What one grid point leaves -/

section Point

variable {F : FTy → Type} [FloatOps F]

/-- The first point of a tile leaves its product in the accumulator. -/
theorem first (c : Dev nD) (i : grid0.Coords) (arg3 : Memref sig .tc .vmem S1024x1408 .bf16) (harg3 : arg3.IsWhole) (arg4 : Memref sig .tc .vmem S1024x1024 .bf16) (harg4 : arg4.IsWhole) (arg5 : Memref sig .tc .vmem S1408x1024 .bf16) (harg5 : arg5.IsWhole) (arg6 : Memref sig .tc .vmem S1408x1024 .f32) (harg6 : arg6.IsWhole) (hc0 : cond0_0 i) (hc1 : ¬cond0_1 i) (hc2 : ¬cond0_2 i)
    (x0 : Vec F S1024x1408 .bf16) (x1 : Vec F S1024x1024 .bf16) : sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz]
  unfold k0_pay2
  simp only [View.readAt_eq_ld, harg3.read_unread, harg4.read_unread, harg6.read_unread, View.ld_unit_zero (S := S1024x1408) hz, View.ld_unit_zero (S := S1024x1024) hz, View.ld_unit_zero (S := S1408x1024) hz, shapeCast_self]

/-- A later point adds its product to the accumulator. -/
theorem next (c : Dev nD) (i : grid0.Coords) (arg3 : Memref sig .tc .vmem S1024x1408 .bf16) (harg3 : arg3.IsWhole) (arg4 : Memref sig .tc .vmem S1024x1024 .bf16) (harg4 : arg4.IsWhole) (arg5 : Memref sig .tc .vmem S1408x1024 .bf16) (harg5 : arg5.IsWhole) (arg6 : Memref sig .tc .vmem S1408x1024 .f32) (harg6 : arg6.IsWhole) (hc0 : ¬cond0_0 i) (hc1 : cond0_1 i) (hc2 : ¬cond0_2 i)
    (x0 : Vec F S1024x1408 .bf16) (x1 : Vec F S1024x1024 .bf16) (xs0 : Vec F S1408x1024 .f32) : sout0_B_0 c i arg3 harg3 arg4 harg4 arg5 harg5 arg6 harg6 hc0 hc1 hc2 x0 x1 xs0 = addf xs0 (k0_pay1 x0 x1) := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  rw [View.canon_unit_zero hz]
  unfold k0_pay3
  simp only [View.readAt_eq_ld, harg3.read_unread, harg4.read_unread, harg6.read_unread, View.ld_unit_zero (S := S1024x1408) hz, View.ld_unit_zero (S := S1024x1024) hz, View.ld_unit_zero (S := S1408x1024) hz, shapeCast_self]

/-- The last point of a tile stores the accumulator with its product added. -/
theorem last (c : Dev nD) (i : grid0.Coords) (arg3 : Memref sig .tc .vmem S1024x1408 .bf16) (harg3 : arg3.IsWhole) (arg4 : Memref sig .tc .vmem S1024x1024 .bf16) (harg4 : arg4.IsWhole) (arg5 : Memref sig .tc .vmem S1408x1024 .bf16) (harg5 : arg5.IsWhole) (arg6 : Memref sig .tc .vmem S1408x1024 .f32) (harg6 : arg6.IsWhole) (hc0 : ¬cond0_0 i) (hc1 : cond0_1 i) (hc2 : cond0_2 i)
    (x0 : Vec F S1024x1408 .bf16) (x1 : Vec F S1024x1024 .bf16) (xs0 : Vec F S1408x1024 .f32) :
    out0_C_2 c i arg3 harg3 arg4 harg4 arg5 harg5 arg6 harg6 hc0 hc1 hc2 x0 x1 xs0 = truncf .bf16 (addf xs0 (k0_pay1 x0 x1)) bitsLt_bf16_f32 := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero (S := S1408x1024) hz, View.readCov_unit_zero (S := S1408x1024) _ hz]
  unfold k0_pay4 k0_pay3
  simp only [View.readAt_eq_ld, harg3.read_unread, harg4.read_unread, harg6.read_unread, View.ld_unit_zero (S := S1024x1408) hz, View.ld_unit_zero (S := S1024x1024) hz, View.ld_unit_zero (S := S1408x1024) hz, shapeCast_self]

end Point

/-! ## The tiles -/

/-- A point's product, entry by entry. -/
theorem part (x0 : Vec Ideal S1024x1408 .bf16) (x1 : Vec Ideal S1024x1024 .bf16) (n : Fin 1408) (p : Fin 1024) :
    k0_pay1 x0 x1 (ix2 n p) = ∑ k : Fin 1024, x0 (ix2 k n) * x1 (ix2 k p) := by
  unfold k0_pay1
  pointwise

variable (m : (ℓ : Loc nD τ sig) → Buf (Elt Ideal) ℓ) (c : Dev nD)

theorem left_eq : V m c main_v0 = m ((c : Thread nD τ).loc main_arg0) := by
  unfold V
  after_reads_simp; clean_types; try rfl

theorem right_eq : V m c main_v1 = m ((c : Thread nD τ).loc main_arg1) := by
  unfold V
  after_reads_simp; clean_types; try rfl

/-- The row of the arguments which row `k` of the block of point `t` is. -/
def from_ (t : Fin cfg0.N) (k : Fin 1024) : Fin 4096 := ⟨1024 * (t.val % 4) + k.val, by omega⟩

/-- The row of the result which row `n` of the tile of point `t` is. -/
def to_ (t : Fin cfg0.N) (n : Fin 1408) : Fin 2816 := ⟨1408 * (t.val / 4) + n.val, by have : t.val < 8 := t.isLt; omega⟩

theorem block_0 (t : Fin cfg0.N) (k : Fin 1024) (n : Fin 1408) : iblk m c 0 t (ix2 k n) = V m c main_v0 (ix2 (from_ t k) (to_ t n)) := by
  blk_simp [iblk]
  blk_ext [index_0, from_, to_]

theorem block_1 (t : Fin cfg0.N) (k : Fin 1024) (p : Fin 1024) : iblk m c 1 t (ix2 k p) = V m c main_v1 (ix2 (from_ t k) p) := by
  blk_simp [iblk]
  blk_ext [index_1, from_]

/-- What position `k` brings to entry (`n`, `p`) of the product. -/
def term (x0 : S4096x2816.Idx → EReal) (x1 : S4096x1024.Idx → EReal) (n : Fin 2816) (p : Fin 1024) (k : Fin 4096) : EReal :=
  x0 (ix2 k n) * x1 (ix2 k p)

/-- The product of the transpose of the first argument with the second. -/
def product (x0 : S4096x2816.Idx → EReal) (x1 : S4096x1024.Idx → EReal) (y : S2816x1024.Idx) : EReal :=
  ∑ k : Fin 4096, term x0 x1 (y 0) (y 1) k

/-- What point `t` adds, of the arguments. -/
theorem adds (t : Fin cfg0.N) (n : Fin 1408) (p : Fin 1024) :
    k0_pay1 (iblk m c 0 t) (iblk m c 1 t) (ix2 n p)
      = ∑ k : Fin 1024, term (m ((c : Thread nD τ).loc main_arg0)) (m ((c : Thread nD τ).loc main_arg1)) (to_ t n) p (from_ t k) := by
  refine (part _ _ n p).trans (Finset.sum_congr rfl fun k _ => ?_)
  rw [block_0, block_1, left_eq, right_eq]; rfl

theorem held_first (t : Fin cfg0.N) (h : t.val % 4 = 0) : (outsAt0 m c t.val t.isLt).2 = k0_pay1 (iblk m c 0 t) (iblk m c 1 t) := by
  rw [outsAt0_A m c t h (by omega) (by omega)]
  dsimp only
  rw [first]

theorem held_next (t : Fin cfg0.N) (h : t.val % 4 = 1 ∨ t.val % 4 = 2) :
    (outsAt0 m c t.val t.isLt).2 = addf (outsAt0 m c (t.val - 1) (Nat.lt_of_le_of_lt (Nat.sub_le _ _) t.isLt)).2 (k0_pay1 (iblk m c 0 t) (iblk m c 1 t)) := by
  rw [outsAt0_B m c t (by omega) (by omega) (by omega)]
  dsimp only
  rw [next]

theorem stored (t : Fin cfg0.N) (h : t.val % 4 = 3) :
    (outsAt0 m c t.val t.isLt).1 = truncf .bf16 (addf (outsAt0 m c (t.val - 1) (Nat.lt_of_le_of_lt (Nat.sub_le _ _) t.isLt)).2 (k0_pay1 (iblk m c 0 t) (iblk m c 1 t))) bitsLt_bf16_f32 := by
  rw [outsAt0_C m c t (by omega) (by omega) h]
  dsimp only
  rw [last]

/-- The point `j` before `t`. -/
def back (t : Fin cfg0.N) (j : Nat) : Fin cfg0.N := ⟨t.val - j, Nat.lt_of_le_of_lt (Nat.sub_le _ _) t.isLt⟩

/-- A tile's last point stores the sum of its four products. -/
theorem sum_stored (t : Fin cfg0.N) (h : t.val % 4 = 3) (n : Fin 1408) (p : Fin 1024) :
    (outsAt0 m c t.val t.isLt).1 (ix2 n p)
      = ((k0_pay1 (iblk m c 0 (back t 3)) (iblk m c 1 (back t 3)) (ix2 n p) + k0_pay1 (iblk m c 0 (back t 2)) (iblk m c 1 (back t 2)) (ix2 n p)
          + k0_pay1 (iblk m c 0 (back t 1)) (iblk m c 1 (back t 1)) (ix2 n p)) + k0_pay1 (iblk m c 0 t) (iblk m c 1 t) (ix2 n p) : EReal) := by
  have e1 := held_next m c (back t 1) (Or.inr (show (t.val - 1) % 4 = 2 by omega))
  have e2 := held_next m c (back t 2) (Or.inl (show (t.val - 2) % 4 = 1 by omega))
  have e3 := held_first m c (back t 3) (show (t.val - 3) % 4 = 0 by omega)
  have f1 : (outsAt0 m c (t.val - 1) (Nat.lt_of_le_of_lt (Nat.sub_le _ _) t.isLt)).2 (ix2 n p) = ((k0_pay1 (iblk m c 0 (back t 3)) (iblk m c 1 (back t 3)) (ix2 n p) + k0_pay1 (iblk m c 0 (back t 2)) (iblk m c 1 (back t 2)) (ix2 n p)
          + k0_pay1 (iblk m c 0 (back t 1)) (iblk m c 1 (back t 1)) (ix2 n p)) : EReal) := by
    refine (congrFun e1 (ix2 n p)).trans ?_
    refine congrArg (fun z : EReal => z + k0_pay1 (iblk m c 0 (back t 1)) (iblk m c 1 (back t 1)) (ix2 n p)) ?_
    refine (congrFun e2 (ix2 n p)).trans ?_
    refine congrArg (fun z : EReal => z + k0_pay1 (iblk m c 0 (back t 2)) (iblk m c 1 (back t 2)) (ix2 n p)) ?_
    exact congrFun e3 (ix2 n p)
  refine (congrFun (stored m c t h) (ix2 n p)).trans ?_
  exact congrArg (fun z : EReal => z + k0_pay1 (iblk m c 0 t) (iblk m c 1 t) (ix2 n p)) f1

theorem tile (t : Fin cfg0.N) (h : t.val % 4 = 3) (n : Fin 1408) (p : Fin 1024) :
    (outsAt0 m c t.val t.isLt).1 (ix2 n p) = product (m ((c : Thread nD τ).loc main_arg0)) (m ((c : Thread nD τ).loc main_arg1)) (ix2 (to_ t n) p) := by
  refine (sum_stored m c t h n p).trans ?_
  unfold product
  rw [Cert.Proof.Sums.split4, adds, adds, adds, adds]
  have r (j : Nat) (hj : j < 4) : to_ (back t (3 - j)) n = to_ t n := Fin.ext (show 1408 * ((t.val - (3 - j)) / 4) + n.val = 1408 * (t.val / 4) + n.val by omega)
  have s (j : Fin 4) (k : Fin 1024) : from_ (back t (3 - j.val)) k = Cert.Proof.Sums.quarter j k :=
    Fin.ext (show 1024 * ((t.val - (3 - j.val)) % 4) + k.val = 1024 * j.val + k.val by have := j.isLt; omega)
  have e (j : Fin 4) : ∑ k : Fin 1024, term (m ((c : Thread nD τ).loc main_arg0)) (m ((c : Thread nD τ).loc main_arg1)) (to_ (back t (3 - j.val)) n) p (from_ (back t (3 - j.val)) k)
      = ∑ k : Fin 1024, term (m ((c : Thread nD τ).loc main_arg0)) (m ((c : Thread nD τ).loc main_arg1)) (to_ t n) p (Cert.Proof.Sums.quarter j k) := by
    refine Finset.sum_congr rfl fun k _ => ?_
    rw [s, r j.val j.isLt]
  exact congrArg₂ (fun a b : EReal => a + b) (congrArg₂ (fun a b : EReal => a + b) (congrArg₂ (fun a b : EReal => a + b) (e 0) (e 1)) (e 2)) (e 3)

theorem array : (dats m 0 c).arrAt 2 cfg0.N = product (m ((c : Thread nD τ).loc main_arg0)) (m ((c : Thread nD τ).loc main_arg1)) := by
  refine (dats m 0 c).arrAt_eq_of_covers 2 _ (by decide +kernel) fun t hf y => ?_
  have h : t.val % 4 = 3 := (flush0_2 t).mp hf
  blk_simp
  rw [after0_2]
  idx_vars y
  have e : ((cfg0.win 2).blk t).view.emb (ix2 y0 y1) = ix2 (to_ t y0) y1 := by
    blk_ext [index_2, to_]
  rw [e]
  exact tile m c t h y0 y1

/-- The reference's gradient is the product. -/
theorem gradient (x0 : (⟨S4096x2816, .f32⟩ : BufTy).Contents (Elt Ideal)) (x1 : (⟨S4096x1024, .f32⟩ : BufTy).Contents (Elt Ideal)) :
    Cert.Reference5Ideal.Read.val_main_v4 (F := Ideal) x0 x1 = product x0 x1 := by
  funext y
  idx_vars y
  refine Eq.trans ?_ ((Cert.Reference5Ideal.Read.val_main_v2_apply x0 x1 (ix2 y1 y0)).trans (Finset.sum_congr rfl fun k _ => (mul_comm _ _).trans
    (congrArg₂ (fun a b => (x0 a * x1 b : EReal)) (funext fun a => by fin_cases a <;> rfl) (funext fun a => by fin_cases a <;> rfl))))
  exact congrArg (Cert.Reference5Ideal.Read.val_main_v2 (F := Ideal) x0 x1) (funext fun a => by fin_cases a <;> rfl)

/-- The two programs end with the same product. -/
theorem algebraic : Cert.algebraic_Kernel5Ideal_Reference5Ideal := by
  intro m g m' g' _ hm
  refine ⟨fun c => product (m ((c : Thread nD τ).loc main_arg0)) (m ((c : Thread nD τ).loc main_arg1)), ?_, ?_⟩
  · refine (θ_run defs _ _).mono (fun r h c => ?_) (Value.run_blocks m g)
    exact ⟨(h c).1.trans (array m c), (h c).2⟩
  · refine (θ_run Cert.Reference5Ideal.defs _ _).mono (fun r h c => ?_) (Cert.Reference5Ideal.Value.run m' g')
    refine ⟨(h c).1.trans ?_, (h c).2⟩
    rw [Cert.Reference5Ideal.Read.val_main_v4_eq, gradient]
    exact congrArg₂ product (hm c).1 (hm c).2

end Cert.Proof.DwDown

end
-- ==== Proof.DownForm.lean ====
/- The second layer normalization, its loss and the gradients (`Kernel6`), as functions of the arguments. -/
module

public import proofs.«01_k».proof.Proof.Row
public import Idealize.ShloMosaic.Lib.Pipeline.ValueKit.Geometry
public import Idealize.ShloMosaic.Lib.Pointwise

@[expose] public section

noncomputable section

open Idealize.ShloMosaic

namespace Cert.Proof.Down

abbrev Wide : Shape := ⟨2, ![4096, 2816]⟩
abbrev Weight : Shape := ⟨2, ![2816, 1024]⟩
abbrev Rows : Shape := ⟨2, ![4096, 1024]⟩
abbrev Gain : Shape := ⟨1, ![1024]⟩
abbrev Line : Shape := ⟨2, ![1, 1024]⟩
abbrev Lanes : Shape := ⟨2, ![1, 128]⟩

variable (x0 : Wide.Idx → EReal) (x1 : Weight.Idx → EReal) (x2 x3 : Rows.Idx → EReal) (x4 x5 : Gain.Idx → EReal)

/-- Row `i` of the normalization's input: the residual times its factor, and the down-projection. -/
def row (i : Fin 4096) (j : Fin 1024) : EReal :=
  Ideal.ofBits FTy.f32 0x3F9837F0#32 * x2 (ix2 i j) + ∑ k : Fin 2816, x0 (ix2 i k) * x1 (ix2 k j)

/-- The normalized rows. -/
def normed (i : Fin 4096) (j : Fin 1024) : EReal := Row.centre (row x0 x1 x2 i) j * Row.root (row x0 x1 x2 i)

/-- The output less the target. -/
def error (i : Fin 4096) (j : Fin 1024) : EReal := (normed x0 x1 x2 i j * x4 (ix1 j) + x5 (ix1 j)) - x3 (ix2 i j)

/-- The cotangent of the output, as the kernel computes it. -/
def handed (i : Fin 4096) (j : Fin 1024) : EReal := error x0 x1 x2 x3 x4 x5 i j * Ideal.ofBits FTy.f32 0x3A800000#32

/-- The cotangent of the normalized rows. -/
def scaled (i : Fin 4096) (j : Fin 1024) : EReal := handed x0 x1 x2 x3 x4 x5 i j * x4 (ix1 j)

/-- The mean squared error of row `i`. -/
def meanSquare (i : Fin 4096) : EReal :=
  Ideal.div (∑ j, error x0 x1 x2 x3 x4 x5 i j * error x0 x1 x2 x3 x4 x5 i j) (Ideal.ofBits FTy.f32 0x44800000#32)

/-- The gradient of the normalization's input. -/
def gradInput (y : Rows.Idx) : EReal := Row.kernelForm (row x0 x1 x2 (y 0)) (scaled x0 x1 x2 x3 x4 x5 (y 0)) (y 1)

/-- The loss, along a row of 128. -/
def loss (y : Lanes.Idx) : EReal := Ideal.ofBits FTy.f32 0x3F000000#32 * ∑ i, meanSquare x0 x1 x2 x3 x4 x5 i

/-- The gradient of the gain. -/
def gradGain (y : Line.Idx) : EReal := ∑ i, handed x0 x1 x2 x3 x4 x5 i (y 1) * normed x0 x1 x2 i (y 1)

/-- The gradient of the offset. -/
def gradOffset (y : Line.Idx) : EReal := ∑ i, handed x0 x1 x2 x3 x4 x5 i (y 1)

/-! ## The constants -/

theorem inverse_word : Ideal.ofBits FTy.f32 0x3A800000#32 = ((1 / 1024 : ℝ) : EReal) := by
  simp [Ideal.ofBits, Ideal.ieee, -EReal.coe_mul]; norm_num

theorem half_word : Ideal.ofBits FTy.f32 0x3F000000#32 = ((1 / 2 : ℝ) : EReal) := by
  simp [Ideal.ofBits, Ideal.ieee, -EReal.coe_mul]; norm_num

theorem one_word : Ideal.ofBits FTy.f32 0x3F800000#32 = ((1 : ℝ) : EReal) := by
  simp [Ideal.ofBits, Ideal.ieee, -EReal.coe_mul]; norm_num

/-- The factor of the squared error's derivative, as the reference computes it. -/
theorem factor_eq (r : ℝ) :
    Ideal.div (Ideal.ofBits FTy.f32 0x3F000000#32 * Ideal.ofBits FTy.f32 0x3F800000#32) (Ideal.ofBits FTy.f32 0x44800000#32)
      * (Ideal.ofBits FTy.f32 0x40000000#32 * (r : EReal)) = (r : EReal) * Ideal.ofBits FTy.f32 0x3A800000#32 := by
  rw [half_word, one_word, Row.count_word, Row.two_word, inverse_word, ← EReal.coe_mul, Attn.div_coe _ _ (by norm_num), ← EReal.coe_mul,
    ← EReal.coe_mul, ← EReal.coe_mul]
  exact congrArg _ (by ring)

/-! ## Where the values are real -/

theorem normed_real (i : Fin 4096) (j : Fin 1024) : ∃ r : ℝ, normed x0 x1 x2 i j = (r : EReal) := by
  unfold normed
  generalize row x0 x1 x2 i = x
  by_cases h : ∃ k, x k = ⊥ ∨ x k = ⊤
  · obtain ⟨k, hk⟩ := h
    exact ⟨0, by rw [(Row.root_infinite x k hk).2, mul_zero, EReal.coe_zero]⟩
  · have hx : ∀ k, ∃ r : ℝ, x k = (r : EReal) := fun k => by
      rcases Row.real_or (x k) with h' | h' | h'
      · exact absurd ⟨k, Or.inl h'⟩ h
      · exact absurd ⟨k, Or.inr h'⟩ h
      · exact h'
    choose z hz using hx
    obtain rfl : x = fun k => (z k : EReal) := funext hz
    exact ⟨Row.centred z j * Row.scale z, by rw [Row.centre_coe, Row.root_coe, EReal.coe_mul]⟩

section Real

variable (h3 : ∀ i, x3 i = (((x3 i).toReal : ℝ) : EReal)) (h4 : ∀ i, x4 i = (((x4 i).toReal : ℝ) : EReal))
  (h5 : ∀ i, x5 i = (((x5 i).toReal : ℝ) : EReal))

include h3 h4 h5

theorem error_real (i : Fin 4096) (j : Fin 1024) : ∃ r : ℝ, error x0 x1 x2 x3 x4 x5 i j = (r : EReal) := by
  obtain ⟨n, hn⟩ := normed_real x0 x1 x2 i j
  refine ⟨(n * (x4 (ix1 j)).toReal + (x5 (ix1 j)).toReal) - (x3 (ix2 i j)).toReal, ?_⟩
  unfold error
  rw [hn, h3 (ix2 i j), h4 (ix1 j), h5 (ix1 j), ← EReal.coe_mul, ← EReal.coe_add, ← EReal.coe_sub]
  simp only [EReal.toReal_coe]

theorem scaled_real (i : Fin 4096) (j : Fin 1024) : ∃ r : ℝ, scaled x0 x1 x2 x3 x4 x5 i j = (r : EReal) := by
  obtain ⟨n, hn⟩ := error_real x0 x1 x2 x3 x4 x5 h3 h4 h5 i j
  refine ⟨n * (1 / 1024) * (x4 (ix1 j)).toReal, ?_⟩
  unfold scaled handed
  rw [hn, inverse_word, h4 (ix1 j), ← EReal.coe_mul, ← EReal.coe_mul]
  simp only [EReal.toReal_coe]

theorem meanSquare_real (i : Fin 4096) : ∃ r : ℝ, meanSquare x0 x1 x2 x3 x4 x5 i = (r : EReal) := by
  choose n hn using error_real x0 x1 x2 x3 x4 x5 h3 h4 h5 i
  refine ⟨(∑ j, n j * n j) / 1024, ?_⟩
  unfold meanSquare
  simp only [hn, ← EReal.coe_mul, ← Attn.coe_sum]
  rw [Row.count_word, Attn.div_coe _ _ (by norm_num)]

end Real

/-- A real factor goes into a sum of sums of real numbers. -/
theorem factor_into {ι κ : Type} (s : Finset ι) (u : Finset κ) (q : ℝ) (f : ι → κ → EReal) (h : ∀ i k, ∃ r : ℝ, f i k = (r : EReal)) :
    ∑ i ∈ s, (q : EReal) * ∑ k ∈ u, f i k = (q : EReal) * ∑ i ∈ s, ∑ k ∈ u, f i k := by
  choose n hn using h
  have coe {α : Type} (w : Finset α) (g : α → ℝ) : ∑ a ∈ w, (g a : EReal) = ((∑ a ∈ w, g a : ℝ) : EReal) := by
    classical
    induction w using Finset.induction_on with
    | empty => rw [Finset.sum_empty, Finset.sum_empty, EReal.coe_zero]
    | insert a w ha e => rw [Finset.sum_insert ha, Finset.sum_insert ha, e, EReal.coe_add]
  simp only [hn, coe, ← EReal.coe_mul]
  rw [Finset.mul_sum]

end Cert.Proof.Down

end
-- ==== Proof.DownRun.lean ====
/- The second layer normalization's kernel (`Kernel6Ideal`), one grid point: what it leaves in its five outputs, and its values read at an
   index. -/
module

public import proofs.«01_k».proof.Proof.DownForm
public import proofs.«01_k».proof.Proof.Gen.Kernel6Ideal.Value
public import Idealize.ShloMosaic.Lib.Tactic

@[expose] public section

set_option maxRecDepth 16384

noncomputable section

namespace Cert.Proof.Down

open Cert.Kernel6Ideal Cert.Kernel6Ideal.Gen
open Idealize.ShloMosaic Idealize.ShloMosaic.TcCoe Idealize.ShloMosaic.Tactic Idealize.SL.Sem

theorem hz : (![0, 0] : Fin 2 → Nat) = fun _ => 0 := funext fun a => by fin_cases a <;> rfl

/-! ## What one grid point leaves -/

section Point

variable {F : FTy → Type} [FloatOps F]

/-- The first point leaves the gradient of its rows of the input. -/
theorem first_input (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1024 .f32) (harg11 : arg11.IsWhole) (hc0 : cond0_0 i)
    (x0 : Vec F S512x2816 .bf16) (x1 : Vec F S2816x1024 .bf16) (x2 : Vec F S512x1024 .f32) (x3 : Vec F S512x1024 .f32) (x4 : Vec F S1x1024 .f32) (x5 : Vec F S1x1024 .f32) : out0_A_6 c i arg1 harg1 arg2 harg2 arg3 harg3 arg4 harg4 arg5 harg5 arg6 harg6 arg7 harg7 arg8 harg8 arg9 harg9 arg10 harg10 arg11 harg11 hc0 x0 x1 x2 x3 x4 x5 = k0_pay1 (k0_pay8 x2 x0 x1) (k0_pay9 x2 x0 x1) (k0_pay16 (k0_pay6 x4) (k0_pay10 x4 x2 x0 x1 x5) x3) (k0_pay17 (k0_pay6 x4) (k0_pay10 x4 x2 x0 x1 x5) x3) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_unit_zero (S := S512x1024) hz]
  simp only [View.readAt_eq_ld, harg1.read_unread, harg2.read_unread, harg3.read_unread, harg4.read_unread, harg5.read_unread, harg6.read_unread, harg9.read_unread, harg10.read_unread, harg11.read_unread, View.ld_unit_zero (S := S512x2816) hz, View.ld_unit_zero (S := S2816x1024) hz, View.ld_unit_zero (S := S512x1024) hz, View.ld_unit_zero (S := S1x1024) hz, View.ld_unit_zero (S := S1x128) hz]

/-- The first point leaves the copy of that gradient. -/
theorem first_copy (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1024 .f32) (harg11 : arg11.IsWhole) (hc0 : cond0_0 i)
    (x0 : Vec F S512x2816 .bf16) (x1 : Vec F S2816x1024 .bf16) (x2 : Vec F S512x1024 .f32) (x3 : Vec F S512x1024 .f32) (x4 : Vec F S1x1024 .f32) (x5 : Vec F S1x1024 .f32) : out0_A_7 c i arg1 harg1 arg2 harg2 arg3 harg3 arg4 harg4 arg5 harg5 arg6 harg6 arg7 harg7 arg8 harg8 arg9 harg9 arg10 harg10 arg11 harg11 hc0 x0 x1 x2 x3 x4 x5 = k0_pay2 (k0_pay8 x2 x0 x1) (k0_pay9 x2 x0 x1) (k0_pay16 (k0_pay6 x4) (k0_pay10 x4 x2 x0 x1 x5) x3) (k0_pay17 (k0_pay6 x4) (k0_pay10 x4 x2 x0 x1 x5) x3) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_unit_zero (S := S512x1024) hz]
  simp only [View.readAt_eq_ld, harg1.read_unread, harg2.read_unread, harg3.read_unread, harg4.read_unread, harg5.read_unread, harg6.read_unread, harg9.read_unread, harg10.read_unread, harg11.read_unread, View.ld_unit_zero (S := S512x2816) hz, View.ld_unit_zero (S := S2816x1024) hz, View.ld_unit_zero (S := S512x1024) hz, View.ld_unit_zero (S := S1x1024) hz, View.ld_unit_zero (S := S1x128) hz]

/-- The first point leaves its part of the loss, added to zero. -/
theorem first_loss (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1024 .f32) (harg11 : arg11.IsWhole) (hc0 : cond0_0 i)
    (x0 : Vec F S512x2816 .bf16) (x1 : Vec F S2816x1024 .bf16) (x2 : Vec F S512x1024 .f32) (x3 : Vec F S512x1024 .f32) (x4 : Vec F S1x1024 .f32) (x5 : Vec F S1x1024 .f32) : out0_A_8 c i arg1 harg1 arg2 harg2 arg3 harg3 arg4 harg4 arg5 harg5 arg6 harg6 arg7 harg7 arg8 harg8 arg9 harg9 arg10 harg10 arg11 harg11 hc0 x0 x1 x2 x3 x4 x5 = k0_pay12 (k0_pay10 x4 x2 x0 x1 x5) x3 k0_pay3 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, harg9.read_unread, harg10.read_unread, harg11.read_unread, View.ld_unit_zero (S := S512x2816) hz, View.ld_unit_zero (S := S2816x1024) hz, View.ld_unit_zero (S := S512x1024) hz, View.ld_unit_zero (S := S1x1024) hz, View.ld_unit_zero (S := S1x128) hz]

/-- The first point leaves its part of the gain's gradient, added to zero. -/
theorem first_gain (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1024 .f32) (harg11 : arg11.IsWhole) (hc0 : cond0_0 i)
    (x0 : Vec F S512x2816 .bf16) (x1 : Vec F S2816x1024 .bf16) (x2 : Vec F S512x1024 .f32) (x3 : Vec F S512x1024 .f32) (x4 : Vec F S1x1024 .f32) (x5 : Vec F S1x1024 .f32) : out0_A_9 c i arg1 harg1 arg2 harg2 arg3 harg3 arg4 harg4 arg5 harg5 arg6 harg6 arg7 harg7 arg8 harg8 arg9 harg9 arg10 harg10 arg11 harg11 hc0 x0 x1 x2 x3 x4 x5 = k0_pay14 (k0_pay9 x2 x0 x1) (k0_pay10 x4 x2 x0 x1 x5) x3 k0_pay4 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_cons_unit_zero (S := S1x1024) hz, View.readCov_unit_zero (S := S1x1024) _ hz]
  simp only [View.readAt_eq_ld, harg1.read_unread, harg2.read_unread, harg3.read_unread, harg4.read_unread, harg5.read_unread, harg6.read_unread, harg9.read_unread, harg10.read_unread, harg11.read_unread, View.ld_unit_zero (S := S512x2816) hz, View.ld_unit_zero (S := S2816x1024) hz, View.ld_unit_zero (S := S512x1024) hz, View.ld_unit_zero (S := S1x1024) hz, View.ld_unit_zero (S := S1x128) hz]

/-- The first point leaves its part of the offset's gradient, added to zero. -/
theorem first_offset (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1024 .f32) (harg11 : arg11.IsWhole) (hc0 : cond0_0 i)
    (x0 : Vec F S512x2816 .bf16) (x1 : Vec F S2816x1024 .bf16) (x2 : Vec F S512x1024 .f32) (x3 : Vec F S512x1024 .f32) (x4 : Vec F S1x1024 .f32) (x5 : Vec F S1x1024 .f32) : out0_A_10 c i arg1 harg1 arg2 harg2 arg3 harg3 arg4 harg4 arg5 harg5 arg6 harg6 arg7 harg7 arg8 harg8 arg9 harg9 arg10 harg10 arg11 harg11 hc0 x0 x1 x2 x3 x4 x5 = k0_pay15 (k0_pay10 x4 x2 x0 x1 x5) x3 k0_pay5 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_cons_unit_zero (S := S1x1024) hz, View.readCov_unit_zero (S := S1x1024) _ hz]
  simp only [View.readAt_eq_ld, harg1.read_unread, harg2.read_unread, harg3.read_unread, harg4.read_unread, harg5.read_unread, harg6.read_unread, harg9.read_unread, harg10.read_unread, harg11.read_unread, View.ld_unit_zero (S := S512x2816) hz, View.ld_unit_zero (S := S2816x1024) hz, View.ld_unit_zero (S := S512x1024) hz, View.ld_unit_zero (S := S1x1024) hz, View.ld_unit_zero (S := S1x128) hz]

/-- A later point leaves the gradient of its rows of the input. -/
theorem later_input (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1024 .f32) (harg11 : arg11.IsWhole) (hc0 : ¬cond0_0 i)
    (x0 : Vec F S512x2816 .bf16) (x1 : Vec F S2816x1024 .bf16) (x2 : Vec F S512x1024 .f32) (x3 : Vec F S512x1024 .f32) (x4 : Vec F S1x1024 .f32) (x5 : Vec F S1x1024 .f32) (xo8 : Vec F S1x128 .f32) (xo9 xo10 : Vec F S1x1024 .f32) : out0_B_6 c i arg1 harg1 arg2 harg2 arg3 harg3 arg4 harg4 arg5 harg5 arg6 harg6 arg7 harg7 arg8 harg8 arg9 harg9 arg10 harg10 arg11 harg11 hc0 x0 x1 x2 x3 x4 x5 xo8 xo9 xo10 = k0_pay1 (k0_pay8 x2 x0 x1) (k0_pay9 x2 x0 x1) (k0_pay16 (k0_pay6 x4) (k0_pay10 x4 x2 x0 x1 x5) x3) (k0_pay17 (k0_pay6 x4) (k0_pay10 x4 x2 x0 x1 x5) x3) := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 hc0 x0 x1 x2 x3 x4 x5 xo8 xo9 xo10)]
  unfold kernelRun0_B
  dsimp only
  sl_unfold_words
  rw [View.canon_unit_zero (S := S512x1024) hz]
  simp only [View.readAt_eq_ld, harg1.read_unread, harg2.read_unread, harg3.read_unread, harg4.read_unread, harg5.read_unread, harg6.read_unread, harg9.read_unread, harg10.read_unread, harg11.read_unread, View.ld_unit_zero (S := S512x2816) hz, View.ld_unit_zero (S := S2816x1024) hz, View.ld_unit_zero (S := S512x1024) hz, View.ld_unit_zero (S := S1x1024) hz, View.ld_unit_zero (S := S1x128) hz]

/-- A later point leaves the copy of that gradient. -/
theorem later_copy (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1024 .f32) (harg11 : arg11.IsWhole) (hc0 : ¬cond0_0 i)
    (x0 : Vec F S512x2816 .bf16) (x1 : Vec F S2816x1024 .bf16) (x2 : Vec F S512x1024 .f32) (x3 : Vec F S512x1024 .f32) (x4 : Vec F S1x1024 .f32) (x5 : Vec F S1x1024 .f32) (xo8 : Vec F S1x128 .f32) (xo9 xo10 : Vec F S1x1024 .f32) : out0_B_7 c i arg1 harg1 arg2 harg2 arg3 harg3 arg4 harg4 arg5 harg5 arg6 harg6 arg7 harg7 arg8 harg8 arg9 harg9 arg10 harg10 arg11 harg11 hc0 x0 x1 x2 x3 x4 x5 xo8 xo9 xo10 = k0_pay2 (k0_pay8 x2 x0 x1) (k0_pay9 x2 x0 x1) (k0_pay16 (k0_pay6 x4) (k0_pay10 x4 x2 x0 x1 x5) x3) (k0_pay17 (k0_pay6 x4) (k0_pay10 x4 x2 x0 x1 x5) x3) := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 hc0 x0 x1 x2 x3 x4 x5 xo8 xo9 xo10)]
  unfold kernelRun0_B
  dsimp only
  sl_unfold_words
  rw [View.canon_unit_zero (S := S512x1024) hz]
  simp only [View.readAt_eq_ld, harg1.read_unread, harg2.read_unread, harg3.read_unread, harg4.read_unread, harg5.read_unread, harg6.read_unread, harg9.read_unread, harg10.read_unread, harg11.read_unread, View.ld_unit_zero (S := S512x2816) hz, View.ld_unit_zero (S := S2816x1024) hz, View.ld_unit_zero (S := S512x1024) hz, View.ld_unit_zero (S := S1x1024) hz, View.ld_unit_zero (S := S1x128) hz]

/-- A later point adds its part of the loss to what the point before left. -/
theorem later_loss (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1024 .f32) (harg11 : arg11.IsWhole) (hc0 : ¬cond0_0 i)
    (x0 : Vec F S512x2816 .bf16) (x1 : Vec F S2816x1024 .bf16) (x2 : Vec F S512x1024 .f32) (x3 : Vec F S512x1024 .f32) (x4 : Vec F S1x1024 .f32) (x5 : Vec F S1x1024 .f32) (xo8 : Vec F S1x128 .f32) (xo9 xo10 : Vec F S1x1024 .f32) : out0_B_8 c i arg1 harg1 arg2 harg2 arg3 harg3 arg4 harg4 arg5 harg5 arg6 harg6 arg7 harg7 arg8 harg8 arg9 harg9 arg10 harg10 arg11 harg11 hc0 x0 x1 x2 x3 x4 x5 xo8 xo9 xo10 = k0_pay12 (k0_pay10 x4 x2 x0 x1 x5) x3 xo8 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 x0 x1 x2 x3 x4 x5 xo8 xo9 xo10)]
  unfold kernelRun0_B
  dsimp only
  sl_unfold_words
  rw [View.canon_unit_zero (S := S1x128) hz]
  simp only [View.readAt_eq_ld, harg1.read_unread, harg2.read_unread, harg3.read_unread, harg4.read_unread, harg5.read_unread, harg6.read_unread, harg9.read_unread, harg10.read_unread, harg11.read_unread, View.ld_unit_zero (S := S512x2816) hz, View.ld_unit_zero (S := S2816x1024) hz, View.ld_unit_zero (S := S512x1024) hz, View.ld_unit_zero (S := S1x1024) hz, View.ld_unit_zero (S := S1x128) hz]

/-- A later point adds its part of the gain's gradient to what the point before left. -/
theorem later_gain (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1024 .f32) (harg11 : arg11.IsWhole) (hc0 : ¬cond0_0 i)
    (x0 : Vec F S512x2816 .bf16) (x1 : Vec F S2816x1024 .bf16) (x2 : Vec F S512x1024 .f32) (x3 : Vec F S512x1024 .f32) (x4 : Vec F S1x1024 .f32) (x5 : Vec F S1x1024 .f32) (xo8 : Vec F S1x128 .f32) (xo9 xo10 : Vec F S1x1024 .f32) : out0_B_9 c i arg1 harg1 arg2 harg2 arg3 harg3 arg4 harg4 arg5 harg5 arg6 harg6 arg7 harg7 arg8 harg8 arg9 harg9 arg10 harg10 arg11 harg11 hc0 x0 x1 x2 x3 x4 x5 xo8 xo9 xo10 = k0_pay14 (k0_pay9 x2 x0 x1) (k0_pay10 x4 x2 x0 x1 x5) x3 xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 x0 x1 x2 x3 x4 x5 xo8 xo9 xo10)]
  unfold kernelRun0_B
  dsimp only
  sl_unfold_words
  rw [View.canon_unit_zero (S := S1x1024) hz]
  simp only [View.readAt_eq_ld, harg1.read_unread, harg2.read_unread, harg3.read_unread, harg4.read_unread, harg5.read_unread, harg6.read_unread, harg9.read_unread, harg10.read_unread, harg11.read_unread, View.ld_unit_zero (S := S512x2816) hz, View.ld_unit_zero (S := S2816x1024) hz, View.ld_unit_zero (S := S512x1024) hz, View.ld_unit_zero (S := S1x1024) hz, View.ld_unit_zero (S := S1x128) hz]

/-- A later point adds its part of the offset's gradient to what the point before left. -/
theorem later_offset (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1024 .f32) (harg11 : arg11.IsWhole) (hc0 : ¬cond0_0 i)
    (x0 : Vec F S512x2816 .bf16) (x1 : Vec F S2816x1024 .bf16) (x2 : Vec F S512x1024 .f32) (x3 : Vec F S512x1024 .f32) (x4 : Vec F S1x1024 .f32) (x5 : Vec F S1x1024 .f32) (xo8 : Vec F S1x128 .f32) (xo9 xo10 : Vec F S1x1024 .f32) : out0_B_10 c i arg1 harg1 arg2 harg2 arg3 harg3 arg4 harg4 arg5 harg5 arg6 harg6 arg7 harg7 arg8 harg8 arg9 harg9 arg10 harg10 arg11 harg11 hc0 x0 x1 x2 x3 x4 x5 xo8 xo9 xo10 = k0_pay15 (k0_pay10 x4 x2 x0 x1 x5) x3 xo10 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 hc0 x0 x1 x2 x3 x4 x5 xo8 xo9 xo10)]
  unfold kernelRun0_B
  dsimp only
  sl_unfold_words
  rw [View.canon_unit_zero (S := S1x1024) hz]
  simp only [View.readAt_eq_ld, harg1.read_unread, harg2.read_unread, harg3.read_unread, harg4.read_unread, harg5.read_unread, harg6.read_unread, harg9.read_unread, harg10.read_unread, harg11.read_unread, View.ld_unit_zero (S := S512x2816) hz, View.ld_unit_zero (S := S2816x1024) hz, View.ld_unit_zero (S := S512x1024) hz, View.ld_unit_zero (S := S1x1024) hz, View.ld_unit_zero (S := S1x128) hz]

end Point

/-! ## A point's values at an index -/

section Values

variable (x0 : Vec Ideal S512x2816 .bf16) (x1 : Vec Ideal S2816x1024 .bf16) (x2 x3 : Vec Ideal S512x1024 .f32) (x4 x5 : Vec Ideal S1x1024 .f32)

/-- Row `r` of a block of the normalization's input. -/
def line (r : Fin 512) (j : Fin 1024) : EReal :=
  Ideal.ofBits FTy.f32 0x3F9837F0#32 * x2 (ix2 r j) + ∑ k : Fin 2816, x0 (ix2 r k) * x1 (ix2 k j)

theorem pay7_at (r : Fin 512) (j : Fin 1024) : k0_pay7 x2 x0 x1 (ix2 r j) = Row.centre (line x0 x1 x2 r) j := by
  unfold k0_pay7
  pointwise
  rfl

theorem pay8_at (r : Fin 512) : k0_pay8 x2 x0 x1 (ix2 r 0) = Row.root (line x0 x1 x2 r) := by
  unfold Row.root Row.width
  simp only [← pay7_at]
  unfold k0_pay8
  generalize k0_pay7 x2 x0 x1 = y
  pointwise

theorem pay9_at (r : Fin 512) (j : Fin 1024) :
    k0_pay9 x2 x0 x1 (ix2 r j) = Row.centre (line x0 x1 x2 r) j * Row.root (line x0 x1 x2 r) := by
  rw [← pay7_at, ← pay8_at]
  unfold k0_pay9
  generalize k0_pay7 x2 x0 x1 = y
  generalize k0_pay8 x2 x0 x1 = z
  pointwise

/-- The normalized rows of a block times the gain, and the offset, less the target. -/
def off (r : Fin 512) (j : Fin 1024) : EReal :=
  ((Row.centre (line x0 x1 x2 r) j * Row.root (line x0 x1 x2 r)) * x4 (ix2 0 j) + x5 (ix2 0 j)) - x3 (ix2 r j)

theorem pay11_at (r : Fin 512) (j : Fin 1024) : k0_pay11 (k0_pay10 x4 x2 x0 x1 x5) x3 (ix2 r j) = off x0 x1 x2 x3 x4 x5 r j := by
  unfold off
  rw [← pay9_at]
  unfold k0_pay11 k0_pay10 k0_pay6
  generalize k0_pay9 x2 x0 x1 = y
  pointwise

theorem pay13_at (r : Fin 512) (j : Fin 1024) :
    k0_pay13 (k0_pay10 x4 x2 x0 x1 x5) x3 (ix2 r j) = (off x0 x1 x2 x3 x4 x5 r j * Ideal.ofBits FTy.f32 0x3A800000#32 : EReal) := by
  rw [← pay11_at]
  unfold k0_pay13
  generalize k0_pay11 (k0_pay10 x4 x2 x0 x1 x5) x3 = y
  pointwise

/-- The cotangent of a row's normalized entries. -/
def times (r : Fin 512) (j : Fin 1024) : EReal := (off x0 x1 x2 x3 x4 x5 r j * Ideal.ofBits FTy.f32 0x3A800000#32) * x4 (ix2 0 j)

theorem pay16_at (r : Fin 512) (j : Fin 1024) :
    k0_pay16 (k0_pay6 x4) (k0_pay10 x4 x2 x0 x1 x5) x3 (ix2 r j) = times x0 x1 x2 x3 x4 x5 r j := by
  unfold times
  rw [← pay13_at]
  unfold k0_pay16 k0_pay6
  generalize k0_pay13 (k0_pay10 x4 x2 x0 x1 x5) x3 = y
  pointwise

theorem pay1_at (r : Fin 512) (j : Fin 1024) :
    k0_pay1 (k0_pay8 x2 x0 x1) (k0_pay9 x2 x0 x1) (k0_pay16 (k0_pay6 x4) (k0_pay10 x4 x2 x0 x1 x5) x3)
      (k0_pay17 (k0_pay6 x4) (k0_pay10 x4 x2 x0 x1 x5) x3) (ix2 r j) = Row.kernelForm (line x0 x1 x2 r) (times x0 x1 x2 x3 x4 x5 r) j := by
  have e (k : Fin 1024) : Row.centre (line x0 x1 x2 r) k * Row.root (line x0 x1 x2 r) = k0_pay9 x2 x0 x1 (ix2 r k) :=
    (pay9_at x0 x1 x2 r k).symm
  unfold Row.kernelForm
  simp only [e, ← pay16_at]
  rw [← pay8_at]
  unfold k0_pay1 k0_pay17
  generalize k0_pay8 x2 x0 x1 = y
  generalize k0_pay9 x2 x0 x1 = z
  generalize k0_pay16 (k0_pay6 x4) (k0_pay10 x4 x2 x0 x1 x5) x3 = w
  pointwise

theorem pay12_at (y : Vec Ideal S1x128 .f32) (l : Fin 128) :
    k0_pay12 (k0_pay10 x4 x2 x0 x1 x5) x3 y (ix2 0 l) = (y (ix2 0 l) + Ideal.ofBits FTy.f32 0x3F000000#32 * ∑ r : Fin 512,
      Ideal.div (∑ j, off x0 x1 x2 x3 x4 x5 r j * off x0 x1 x2 x3 x4 x5 r j) (Ideal.ofBits FTy.f32 0x44800000#32) : EReal) := by
  simp only [← pay11_at]
  unfold k0_pay12
  generalize k0_pay11 (k0_pay10 x4 x2 x0 x1 x5) x3 = w
  pointwise

theorem pay14_at (y : Vec Ideal S1x1024 .f32) (j : Fin 1024) :
    k0_pay14 (k0_pay9 x2 x0 x1) (k0_pay10 x4 x2 x0 x1 x5) x3 y (ix2 0 j) = (y (ix2 0 j) + ∑ r : Fin 512,
      (off x0 x1 x2 x3 x4 x5 r j * Ideal.ofBits FTy.f32 0x3A800000#32) * (Row.centre (line x0 x1 x2 r) j * Row.root (line x0 x1 x2 r)) : EReal) := by
  simp only [← pay13_at, ← pay9_at]
  unfold k0_pay14
  generalize k0_pay13 (k0_pay10 x4 x2 x0 x1 x5) x3 = a
  generalize k0_pay9 x2 x0 x1 = b
  pointwise

theorem pay15_at (y : Vec Ideal S1x1024 .f32) (j : Fin 1024) :
    k0_pay15 (k0_pay10 x4 x2 x0 x1 x5) x3 y (ix2 0 j) = (y (ix2 0 j) + ∑ r : Fin 512,
      off x0 x1 x2 x3 x4 x5 r j * Ideal.ofBits FTy.f32 0x3A800000#32 : EReal) := by
  simp only [← pay13_at]
  unfold k0_pay15
  generalize k0_pay13 (k0_pay10 x4 x2 x0 x1 x5) x3 = a
  pointwise

end Values

end Cert.Proof.Down

end
-- ==== Proof.DownRef.lean ====
/- The reference of the second layer normalization, its loss and the gradients (`Reference6Ideal`), read at an index. -/
module

public import proofs.«01_k».proof.Proof.DownForm
public import proofs.«01_k».proof.Proof.Gen.Reference6Ideal.Read
public import Idealize.ShloMosaic.Lib.StableHlo.ReadAt
public import Idealize.ShloMosaic.Lib.Tactic

@[expose] public section

set_option maxRecDepth 16384

noncomputable section

namespace Cert.Proof.Down.Reference

open Cert.Reference6Ideal Cert.Reference6Ideal.Gen Cert.Reference6Ideal.Read
open Idealize.ShloMosaic Idealize.ShloMosaic.TcCoe Idealize.ShloMosaic.Tactic

variable (x0 : (⟨S4096x2816, .f32⟩ : BufTy).Contents (Elt Ideal)) (x1 : (⟨S2816x1024, .f32⟩ : BufTy).Contents (Elt Ideal))
  (x2 x3 : (⟨S4096x1024, .f32⟩ : BufTy).Contents (Elt Ideal)) (x4 x5 : (⟨S1024, .f32⟩ : BufTy).Contents (Elt Ideal))

theorem v3_at (i : Fin 4096) (j : Fin 1024) : val_main_v3 (F := Ideal) x0 x1 x2 (ix2 i j) = row x0 x1 x2 i j := by
  unfold val_main_v3 val_main_v2 val_main_v1 val_main_v0 val_main_cst
  pointwise
  rfl

theorem v9_at (i : Fin 4096) (j : Fin 1024) : val_main_v9 (F := Ideal) x0 x1 x2 (ix2 i j) = Row.centre (row x0 x1 x2 i) j := by
  unfold Row.centre
  simp only [← v3_at]
  unfold val_main_v9 val_main_v8 val_main_v7 val_main_v6 val_main_v5 val_main_v4 val_main_cst_0 val_main_cst_1
  generalize val_main_v3 (F := Ideal) x0 x1 x2 = y
  pointwise

theorem v18_at (i : Fin 4096) (j : Fin 1024) : val_main_v18 (F := Ideal) x0 x1 x2 (ix2 i j) = Row.centre (row x0 x1 x2 i) j :=
  v9_at x0 x1 x2 i j

theorem v20_at (i : Fin 4096) : val_main_v20 (F := Ideal) x0 x1 x2 (ix2 i 0) = Row.width (row x0 x1 x2 i) := by
  unfold Row.width
  simp only [← v9_at]
  unfold val_main_v20 val_main_v19 val_main_v16 val_main_v15 val_main_v14 val_main_v13 val_main_v10 val_main_cst_3 val_main_cst_4 val_main_cst_5
  generalize val_main_v9 (F := Ideal) x0 x1 x2 = y
  pointwise

theorem v21_at (i : Fin 4096) : val_main_v21 (F := Ideal) x0 x1 x2 (ix2 i 0) = Row.root (row x0 x1 x2 i) := by
  have e : val_main_v21 (F := Ideal) x0 x1 x2 (ix2 i 0) = Ideal.rsqrt (val_main_v20 (F := Ideal) x0 x1 x2 (ix2 i 0)) := rfl
  rw [e, v20_at]; rfl

theorem v24_at (i : Fin 4096) : val_main_v24 (F := Ideal) x0 x1 x2 (ix2 i 0)
    = Ideal.ofBits FTy.f32 0xBF000000#32 * Ideal.div (Row.root (row x0 x1 x2 i)) (Row.width (row x0 x1 x2 i)) := by
  rw [← v21_at, ← v20_at]
  unfold val_main_v24 val_main_v23 val_main_v22 val_main_cst_6
  generalize val_main_v21 (F := Ideal) x0 x1 x2 = y
  generalize val_main_v20 (F := Ideal) x0 x1 x2 = z
  pointwise

theorem v26_at (i : Fin 4096) (j : Fin 1024) : val_main_v26 (F := Ideal) x0 x1 x2 (ix2 i j) = normed x0 x1 x2 i j := by
  rw [normed, ← v18_at, ← v21_at]
  unfold val_main_v26 val_main_v25
  generalize val_main_v18 (F := Ideal) x0 x1 x2 = y
  generalize val_main_v21 (F := Ideal) x0 x1 x2 = z
  pointwise

theorem v33_at (i : Fin 4096) (j : Fin 1024) : val_main_v33 (F := Ideal) x0 x1 x2 x3 x4 x5 (ix2 i j) = error x0 x1 x2 x3 x4 x5 i j := by
  rw [error, ← v26_at]
  unfold val_main_v33 val_main_v32 val_main_v31 val_main_v30 val_main_v29 val_main_v28 val_main_v27
  generalize val_main_v26 (F := Ideal) x0 x1 x2 = y
  pointwise

theorem v39_at (i : Fin 4096) : val_main_v39 (F := Ideal) x0 x1 x2 x3 x4 x5 (ix1 i) = meanSquare x0 x1 x2 x3 x4 x5 i := by
  unfold meanSquare
  simp only [← v33_at]
  unfold val_main_v39 val_main_v38 val_main_v37 val_main_v34 val_main_cst_8 val_main_cst_9
  generalize val_main_v33 (F := Ideal) x0 x1 x2 x3 x4 x5 = y
  pointwise

theorem v82_at (l : Fin 128) : val_main_v82 (F := Ideal) x0 x1 x2 x3 x4 x5 (ix2 0 l) = loss x0 x1 x2 x3 x4 x5 (ix2 0 l) := by
  unfold loss
  simp only [← v39_at]
  unfold val_main_v82 val_main_v41 val_main_v40 val_main_cst_10 val_main_cst_11
  generalize val_main_v39 (F := Ideal) x0 x1 x2 x3 x4 x5 = y
  pointwise

section Real

variable (h3 : ∀ i, x3 i = (((x3 i : EReal).toReal : ℝ) : EReal)) (h4 : ∀ i, x4 i = (((x4 i : EReal).toReal : ℝ) : EReal))
  (h5 : ∀ i, x5 i = (((x5 i : EReal).toReal : ℝ) : EReal))

include h3 h4 h5

theorem v47_at (i : Fin 4096) (j : Fin 1024) : val_main_v47 (F := Ideal) x0 x1 x2 x3 x4 x5 (ix2 i j) = handed x0 x1 x2 x3 x4 x5 i j := by
  have e : val_main_v47 (F := Ideal) x0 x1 x2 x3 x4 x5 (ix2 i j)
      = (Ideal.div (Ideal.ofBits FTy.f32 0x3F000000#32 * Ideal.ofBits FTy.f32 0x3F800000#32) (Ideal.ofBits FTy.f32 0x44800000#32)
        * (Ideal.ofBits FTy.f32 0x40000000#32 * val_main_v33 (F := Ideal) x0 x1 x2 x3 x4 x5 (ix2 i j)) : EReal) := by
    unfold val_main_v47 val_main_v46 val_main_v45 val_main_v44 val_main_v43 val_main_v42 val_main_v36 val_main_v35 val_main_cst_7 val_main_cst_12
      val_main_cst_13 val_main_cst_14
    generalize val_main_v33 (F := Ideal) x0 x1 x2 x3 x4 x5 = y
    pointwise
  obtain ⟨r, hr⟩ := error_real x0 x1 x2 x3 x4 x5 h3 h4 h5 i j
  rw [e, v33_at, handed, hr]
  exact factor_eq r

theorem v55_at (i : Fin 4096) (j : Fin 1024) : val_main_v55 (F := Ideal) x0 x1 x2 x3 x4 x5 (ix2 i j) = scaled x0 x1 x2 x3 x4 x5 i j := by
  rw [scaled, ← v47_at x0 x1 x2 x3 x4 x5 h3 h4 h5]
  unfold val_main_v55 val_main_v54 val_main_v27
  generalize val_main_v47 (F := Ideal) x0 x1 x2 x3 x4 x5 = y
  pointwise

theorem v61_at (i : Fin 4096) (j : Fin 1024) :
    val_main_v61 (F := Ideal) x0 x1 x2 x3 x4 x5 (ix2 i j) = scaled x0 x1 x2 x3 x4 x5 i j * Row.root (row x0 x1 x2 i) := by
  rw [← v55_at x0 x1 x2 x3 x4 x5 h3 h4 h5, ← v21_at]
  unfold val_main_v61 val_main_v60
  generalize val_main_v55 (F := Ideal) x0 x1 x2 x3 x4 x5 = y
  generalize val_main_v21 (F := Ideal) x0 x1 x2 = z
  pointwise

theorem v70_at (i : Fin 4096) (j : Fin 1024) :
    val_main_v70 (F := Ideal) x0 x1 x2 x3 x4 x5 (ix2 i j) = Row.through (row x0 x1 x2 i) (scaled x0 x1 x2 x3 x4 x5 i) j := by
  unfold Row.through
  rw [← v24_at, ← v9_at]
  simp only [← v18_at, ← v55_at x0 x1 x2 x3 x4 x5 h3 h4 h5]
  unfold val_main_v70 val_main_v69 val_main_v68 val_main_v67 val_main_v66 val_main_v62 val_main_v59 val_main_v58 val_main_v57 val_main_v12 val_main_v11
    val_main_cst_2 val_main_cst_19 val_main_cst_21 val_main_cst_22
  generalize val_main_v55 (F := Ideal) x0 x1 x2 x3 x4 x5 = y
  generalize val_main_v18 (F := Ideal) x0 x1 x2 = z
  generalize val_main_v24 (F := Ideal) x0 x1 x2 = w
  generalize val_main_v9 (F := Ideal) x0 x1 x2 = v
  pointwise
  simp

theorem v80_at (i : Fin 4096) (j : Fin 1024) :
    val_main_v80 (F := Ideal) x0 x1 x2 x3 x4 x5 (ix2 i j) = Row.derivativeForm (row x0 x1 x2 i) (scaled x0 x1 x2 x3 x4 x5 i) j := by
  unfold Row.derivativeForm
  simp only [← v61_at x0 x1 x2 x3 x4 x5 h3 h4 h5, ← v70_at x0 x1 x2 x3 x4 x5 h3 h4 h5]
  unfold val_main_v80 val_main_v79 val_main_v78 val_main_v77 val_main_v76 val_main_v75 val_main_v74 val_main_v73 val_main_v72 val_main_v71 val_main_v65
    val_main_v64 val_main_v63 val_main_cst_20 val_main_cst_23 val_main_cst_24 val_main_cst_25
  generalize val_main_v61 (F := Ideal) x0 x1 x2 x3 x4 x5 = y
  generalize val_main_v70 (F := Ideal) x0 x1 x2 x3 x4 x5 = z
  pointwise
  simp

theorem v83_at (j : Fin 1024) : val_main_v83 (F := Ideal) x0 x1 x2 x3 x4 x5 (ix2 0 j) = gradGain x0 x1 x2 x3 x4 x5 (ix2 0 j) := by
  have e : val_main_v83 (F := Ideal) x0 x1 x2 x3 x4 x5 (ix2 0 j)
      = (∑ i : Fin 4096, (val_main_v26 (F := Ideal) x0 x1 x2 (ix2 i j) : EReal) * val_main_v47 (F := Ideal) x0 x1 x2 x3 x4 x5 (ix2 i j) : EReal) := by
    unfold val_main_v83 val_main_v56 val_main_v53 val_main_v52 val_main_v51 val_main_cst_17 val_main_cst_18
    generalize val_main_v26 (F := Ideal) x0 x1 x2 = y
    generalize val_main_v47 (F := Ideal) x0 x1 x2 x3 x4 x5 = z
    pointwise
    simp
  rw [e]
  refine Finset.sum_congr rfl fun i _ => ?_
  rw [v26_at, v47_at x0 x1 x2 x3 x4 x5 h3 h4 h5, mul_comm]
  rfl

theorem v84_at (j : Fin 1024) : val_main_v84 (F := Ideal) x0 x1 x2 x3 x4 x5 (ix2 0 j) = gradOffset x0 x1 x2 x3 x4 x5 (ix2 0 j) := by
  have e : val_main_v84 (F := Ideal) x0 x1 x2 x3 x4 x5 (ix2 0 j)
      = (∑ i : Fin 4096, (val_main_v47 (F := Ideal) x0 x1 x2 x3 x4 x5 (ix2 i j) : EReal) : EReal) := by
    unfold val_main_v84 val_main_v50 val_main_v49 val_main_v48 val_main_cst_15 val_main_cst_16
    generalize val_main_v47 (F := Ideal) x0 x1 x2 x3 x4 x5 = z
    pointwise
    simp
  rw [e]
  exact Finset.sum_congr rfl fun i _ => v47_at x0 x1 x2 x3 x4 x5 h3 h4 h5 i j

end Real

end Cert.Proof.Down.Reference

end
-- ==== Proof.Down.lean ====
/- The down-projection with the second layer normalization, its loss and their gradients (`Kernel6`): each of the eight points computes 512
   rows, and adds their parts of the loss and of the gain's and the offset's gradients. The input's gradient, in the kernel's closed form, is
   the derivative the reference takes; the sums over the eight blocks are the sums over the 4096 rows. -/
module

public import proofs.«01_k».proof.Defs
public import proofs.«01_k».proof.Proof.Finite
public import proofs.«01_k».proof.Proof.DownRun
public import proofs.«01_k».proof.Proof.DownRef
public import proofs.«01_k».proof.Proof.Gen.Kernel6Ideal.Value
public import proofs.«01_k».proof.Proof.Gen.Reference6Ideal.Run
public import Idealize.ShloMosaic.Lib.ReduceAll
public import Idealize.ShloMosaic.Lib.Decide
public import Idealize.ShloMosaic.Lib.StableHlo.ReadAt
public import Idealize.ShloMosaic.Lib.Tactic

@[expose] public section

set_option maxRecDepth 16384

noncomputable section

/-! ## What the precondition gives -/

namespace Cert.Proof.Down.Finite

open Cert.Pre_finite6 Idealize.ShloMosaic

/-- The shape relations of the predicate's operations. -/
instance facts : Cert.Pre_finite6.Facts where
  bcast_S_S4096x1024 := by decide
  reducesTo_S4096x1024_S_d0_1 := by decide
  h_S_ := by decide
  bcast_S_S1024 := by decide
  reducesTo_S1024_S_d0 := by decide

/-- When the predicate holds, every entry of the target, the gain and the offset is real. -/
theorem real (x0 : FVec Ideal S4096x2816 .f32) (x1 : FVec Ideal S2816x1024 .f32) (x2 x3 : FVec Ideal S4096x1024 .f32) (x4 x5 : FVec Ideal S1024 .f32)
    (h : Cert.Pre_finite6.fn (F := Ideal) x0 x1 x2 x3 x4 x5 = fun _ => 1#1) :
    (∀ i, x3 i = (((x3 i : EReal).toReal : ℝ) : EReal)) ∧ (∀ i, x4 i = (((x4 i : EReal).toReal : ℝ) : EReal))
      ∧ (∀ i, x5 i = (((x5 i : EReal).toReal : ℝ) : EReal)) := by
  have e := congrFun h (fun a => a.elim0)
  have : Subsingleton S_.Idx := ⟨fun a b => funext fun k => k.elim0⟩
  simp only [Cert.Pre_finite6.fn, andi, Cert.Proof.Finite.andi_one] at e
  obtain ⟨⟨e3, e4⟩, e5⟩ := e
  exact ⟨fun i => Cert.Proof.Finite.real_of_cmp _ (Host.reduce_andi_all _ _ _ _ _ e3 i),
    fun i => Cert.Proof.Finite.real_of_cmp _ (Host.reduce_andi_all _ _ _ _ _ e4 i),
    fun i => Cert.Proof.Finite.real_of_cmp _ (Host.reduce_andi_all _ _ _ _ _ e5 i)⟩

end Cert.Proof.Down.Finite

namespace Cert.Proof.Down

open Cert.Kernel6Ideal Cert.Kernel6Ideal.Gen
open Idealize.ShloMosaic Idealize.ShloMosaic.TcCoe Idealize.ShloMosaic.Tactic Idealize.SL.Sem

/-! ## A sum over the 4096 rows, block by block -/

/-- Row `r` of block `s`. -/
def place (s : Fin 8) (r : Fin 512) : Fin 4096 := ⟨512 * s.val + r.val, by omega⟩

theorem split8 (f : Fin 4096 → EReal) : ∑ k, f k = ∑ s : Fin 8, ∑ r : Fin 512, f (place s r) := by
  rw [← Equiv.sum_comp (finProdFinEquiv (m := 8) (n := 512)) f, Fintype.sum_prod_type]
  exact Finset.sum_congr rfl fun s _ => Finset.sum_congr rfl fun k _ => congrArg f (Fin.ext (Nat.add_comm _ _))

/-- The sum over block `s`, and nothing past the last block. -/
def block (f : Fin 4096 → EReal) (s : Nat) : EReal := if h : s < 8 then ∑ r : Fin 512, f (place ⟨s, h⟩ r) else 0

theorem blocks (f : Fin 4096 → EReal) : ∑ s ∈ Finset.range 8, block f s = ∑ k, f k := by
  rw [split8, Finset.sum_range]
  exact Finset.sum_congr rfl fun s _ => dif_pos s.isLt

/-- A real factor of each block's sum is a factor of the whole. -/
theorem blocks_times (q : ℝ) (f : Fin 4096 → EReal) (h : ∀ i, ∃ r : ℝ, f i = (r : EReal)) :
    ∑ s ∈ Finset.range 8, (q : EReal) * block f s = (q : EReal) * ∑ k, f k := by
  rw [split8, ← factor_into Finset.univ Finset.univ q (fun s r => f (place s r)) (fun s r => h _), Finset.sum_range]
  exact Finset.sum_congr rfl fun s _ => congrArg (fun a : EReal => (q : EReal) * a) (dif_pos s.isLt)

/-! ## The blocks -/

theorem index_0 : ∀ t : Fin cfg0.N, win0_0.index t = ![t.val, 0] := by
  exact (by decide +kernel : ∀ t : Fin grid0.N, win0_0.index t = ![t.val, 0])

theorem index_1 : ∀ t : Fin cfg0.N, win0_1.index t = ![0, 0] := by
  exact (by decide +kernel : ∀ t : Fin grid0.N, win0_1.index t = ![0, 0])

theorem index_2 : ∀ t : Fin cfg0.N, win0_2.index t = ![t.val, 0] := by
  exact (by decide +kernel : ∀ t : Fin grid0.N, win0_2.index t = ![t.val, 0])

theorem index_3 : ∀ t : Fin cfg0.N, win0_3.index t = ![t.val, 0] := by
  exact (by decide +kernel : ∀ t : Fin grid0.N, win0_3.index t = ![t.val, 0])

theorem index_4 : ∀ t : Fin cfg0.N, win0_4.index t = ![0, 0] := by
  exact (by decide +kernel : ∀ t : Fin grid0.N, win0_4.index t = ![0, 0])

theorem index_5 : ∀ t : Fin cfg0.N, win0_5.index t = ![0, 0] := by
  exact (by decide +kernel : ∀ t : Fin grid0.N, win0_5.index t = ![0, 0])

theorem index_6 : ∀ t : Fin cfg0.N, win0_6.index t = ![t.val, 0] := by
  exact (by decide +kernel : ∀ t : Fin grid0.N, win0_6.index t = ![t.val, 0])

theorem index_7 : ∀ t : Fin cfg0.N, win0_7.index t = ![t.val, 0] := by
  exact (by decide +kernel : ∀ t : Fin grid0.N, win0_7.index t = ![t.val, 0])

theorem index_8 : ∀ t : Fin cfg0.N, win0_8.index t = ![0, 0] := by
  exact (by decide +kernel : ∀ t : Fin grid0.N, win0_8.index t = ![0, 0])

theorem index_9 : ∀ t : Fin cfg0.N, win0_9.index t = ![0, 0] := by
  exact (by decide +kernel : ∀ t : Fin grid0.N, win0_9.index t = ![0, 0])

theorem index_10 : ∀ t : Fin cfg0.N, win0_10.index t = ![0, 0] := by
  exact (by decide +kernel : ∀ t : Fin grid0.N, win0_10.index t = ![0, 0])

variable (m : (ℓ : Loc nD τ sig) → Buf (Elt Ideal) ℓ) (c : Dev nD)

theorem act_eq : V m c main_v0 = m ((c : Thread nD τ).loc main_arg0) := by
  unfold V
  after_reads_simp; clean_types; try rfl

theorem weight_eq : V m c main_v1 = m ((c : Thread nD τ).loc main_arg1) := by
  unfold V
  after_reads_simp; clean_types; try rfl

theorem residual_eq : V m c main_arg2 = m ((c : Thread nD τ).loc main_arg2) := by
  unfold V
  after_reads_simp

theorem target_eq : V m c main_arg3 = m ((c : Thread nD τ).loc main_arg3) := by
  unfold V
  after_reads_simp

theorem gain_at (j : Fin 1024) : V m c main_v2 (ix2 0 j) = m ((c : Thread nD τ).loc main_arg4) (ix1 j) := by
  unfold V
  after_reads_at

theorem offset_at (j : Fin 1024) : V m c main_v3 (ix2 0 j) = m ((c : Thread nD τ).loc main_arg5) (ix1 j) := by
  unfold V
  after_reads_at

/-- The row of the arguments which row `r` of the block of point `t` is. -/
def from_ (t : Fin cfg0.N) (r : Fin 512) : Fin 4096 := ⟨512 * t.val + r.val, by have : t.val < 8 := t.isLt; omega⟩

theorem block_0 (t : Fin cfg0.N) (r : Fin 512) (k : Fin 2816) : iblk m c 0 t (ix2 r k) = V m c main_v0 (ix2 (from_ t r) k) := by
  blk_simp [iblk]
  blk_ext [index_0, from_]

theorem block_1 (t : Fin cfg0.N) (k : Fin 2816) (j : Fin 1024) : iblk m c 1 t (ix2 k j) = V m c main_v1 (ix2 k j) := by
  blk_simp [iblk]
  blk_ext [index_1]

theorem block_2 (t : Fin cfg0.N) (r : Fin 512) (j : Fin 1024) : iblk m c 2 t (ix2 r j) = V m c main_arg2 (ix2 (from_ t r) j) := by
  blk_simp [iblk]
  blk_ext [index_2, from_]

theorem block_3 (t : Fin cfg0.N) (r : Fin 512) (j : Fin 1024) : iblk m c 3 t (ix2 r j) = V m c main_arg3 (ix2 (from_ t r) j) := by
  blk_simp [iblk]
  blk_ext [index_3, from_]

theorem block_4 (t : Fin cfg0.N) (j : Fin 1024) : iblk m c 4 t (ix2 0 j) = V m c main_v2 (ix2 0 j) := by
  blk_simp [iblk]
  blk_ext [index_4]

theorem block_5 (t : Fin cfg0.N) (j : Fin 1024) : iblk m c 5 t (ix2 0 j) = V m c main_v3 (ix2 0 j) := by
  blk_simp [iblk]
  blk_ext [index_5]

/-! ## What a point computes, of the arguments -/

/-- The arguments' arrays. -/
abbrev A0 : Wide.Idx → EReal := m ((c : Thread nD τ).loc main_arg0)
abbrev A1 : Weight.Idx → EReal := m ((c : Thread nD τ).loc main_arg1)
abbrev A2 : Rows.Idx → EReal := m ((c : Thread nD τ).loc main_arg2)
abbrev A3 : Rows.Idx → EReal := m ((c : Thread nD τ).loc main_arg3)
abbrev A4 : Gain.Idx → EReal := m ((c : Thread nD τ).loc main_arg4)
abbrev A5 : Gain.Idx → EReal := m ((c : Thread nD τ).loc main_arg5)

theorem line_eq (t : Fin cfg0.N) (r : Fin 512) : line (iblk m c 0 t) (iblk m c 1 t) (iblk m c 2 t) r = row (A0 m c) (A1 m c) (A2 m c) (from_ t r) := by
  funext j
  refine congrArg₂ (fun a b : EReal => Ideal.ofBits FTy.f32 0x3F9837F0#32 * a + b) ?_ (Finset.sum_congr rfl fun k _ => ?_)
  · rw [block_2, residual_eq]
  · rw [block_0, block_1, act_eq, weight_eq]

theorem off_at (t : Fin cfg0.N) (r : Fin 512) (j : Fin 1024) :
    off (iblk m c 0 t) (iblk m c 1 t) (iblk m c 2 t) (iblk m c 3 t) (iblk m c 4 t) (iblk m c 5 t) r j = error (A0 m c) (A1 m c) (A2 m c) (A3 m c) (A4 m c) (A5 m c) (from_ t r) j := by
  unfold off
  rw [line_eq, block_3, block_4, block_5, target_eq, gain_at, offset_at]
  rfl

theorem times_eq (t : Fin cfg0.N) (r : Fin 512) :
    times (iblk m c 0 t) (iblk m c 1 t) (iblk m c 2 t) (iblk m c 3 t) (iblk m c 4 t) (iblk m c 5 t) r = scaled (A0 m c) (A1 m c) (A2 m c) (A3 m c) (A4 m c) (A5 m c) (from_ t r) := by
  funext j
  unfold times
  rw [off_at, block_4, gain_at]
  rfl

/-- The rows of the input's gradient a point leaves. -/
def rows (t : Fin cfg0.N) : FVec Ideal S512x1024 .f32 :=
  k0_pay1 (k0_pay8 (iblk m c 2 t) (iblk m c 0 t) (iblk m c 1 t)) (k0_pay9 (iblk m c 2 t) (iblk m c 0 t) (iblk m c 1 t))
    (k0_pay16 (k0_pay6 (iblk m c 4 t)) (k0_pay10 (iblk m c 4 t) (iblk m c 2 t) (iblk m c 0 t) (iblk m c 1 t) (iblk m c 5 t)) (iblk m c 3 t))
    (k0_pay17 (k0_pay6 (iblk m c 4 t)) (k0_pay10 (iblk m c 4 t) (iblk m c 2 t) (iblk m c 0 t) (iblk m c 1 t) (iblk m c 5 t)) (iblk m c 3 t))

theorem rows_at (t : Fin cfg0.N) (r : Fin 512) (j : Fin 1024) :
    rows m c t (ix2 r j) = gradInput (A0 m c) (A1 m c) (A2 m c) (A3 m c) (A4 m c) (A5 m c) (ix2 (from_ t r) j) := by
  unfold rows
  rw [pay1_at, line_eq, times_eq]
  rfl

theorem left_input (t : Fin cfg0.N) : (outsAt0 m c t.val t.isLt).1 = rows m c t := by
  by_cases h : t.val % 8 = 0
  · rw [outsAt0_A m c t h]
    dsimp only
    rw [first_input]; rfl
  · rw [outsAt0_B m c t h]
    dsimp only
    rw [later_input]; rfl

theorem left_copy (t : Fin cfg0.N) : (outsAt0 m c t.val t.isLt).2.1 = truncf .bf16 (rows m c t) bitsLt_bf16_f32 := by
  by_cases h : t.val % 8 = 0
  · rw [outsAt0_A m c t h]
    dsimp only
    rw [first_copy]; rfl
  · rw [outsAt0_B m c t h]
    dsimp only
    rw [later_copy]; rfl

theorem loss_first (t : Fin cfg0.N) (h : t.val % 8 = 0) : (outsAt0 m c t.val t.isLt).2.2.1 = k0_pay12 (k0_pay10 (iblk m c 4 t) (iblk m c 2 t) (iblk m c 0 t) (iblk m c 1 t) (iblk m c 5 t)) (iblk m c 3 t) (k0_pay3 (F := Ideal)) := by
  rw [outsAt0_A m c t h]
  dsimp only
  rw [first_loss]

theorem loss_later (t : Fin cfg0.N) (h : ¬t.val % 8 = 0) : (outsAt0 m c t.val t.isLt).2.2.1 = k0_pay12 (k0_pay10 (iblk m c 4 t) (iblk m c 2 t) (iblk m c 0 t) (iblk m c 1 t) (iblk m c 5 t)) (iblk m c 3 t)
    (outsAt0 m c (t.val - 1) (Nat.lt_of_le_of_lt (Nat.sub_le _ _) t.isLt)).2.2.1 := by
  rw [outsAt0_B m c t h]
  dsimp only
  rw [later_loss]

theorem gain_first (t : Fin cfg0.N) (h : t.val % 8 = 0) : (outsAt0 m c t.val t.isLt).2.2.2.1 = k0_pay14 (k0_pay9 (iblk m c 2 t) (iblk m c 0 t) (iblk m c 1 t)) (k0_pay10 (iblk m c 4 t) (iblk m c 2 t) (iblk m c 0 t) (iblk m c 1 t) (iblk m c 5 t)) (iblk m c 3 t) (k0_pay4 (F := Ideal)) := by
  rw [outsAt0_A m c t h]
  dsimp only
  rw [first_gain]

theorem gain_later (t : Fin cfg0.N) (h : ¬t.val % 8 = 0) : (outsAt0 m c t.val t.isLt).2.2.2.1 = k0_pay14 (k0_pay9 (iblk m c 2 t) (iblk m c 0 t) (iblk m c 1 t)) (k0_pay10 (iblk m c 4 t) (iblk m c 2 t) (iblk m c 0 t) (iblk m c 1 t) (iblk m c 5 t)) (iblk m c 3 t)
    (outsAt0 m c (t.val - 1) (Nat.lt_of_le_of_lt (Nat.sub_le _ _) t.isLt)).2.2.2.1 := by
  rw [outsAt0_B m c t h]
  dsimp only
  rw [later_gain]

theorem offset_first (t : Fin cfg0.N) (h : t.val % 8 = 0) : (outsAt0 m c t.val t.isLt).2.2.2.2 = k0_pay15 (k0_pay10 (iblk m c 4 t) (iblk m c 2 t) (iblk m c 0 t) (iblk m c 1 t) (iblk m c 5 t)) (iblk m c 3 t) (k0_pay5 (F := Ideal)) := by
  rw [outsAt0_A m c t h]
  dsimp only
  rw [first_offset]

theorem offset_later (t : Fin cfg0.N) (h : ¬t.val % 8 = 0) : (outsAt0 m c t.val t.isLt).2.2.2.2 = k0_pay15 (k0_pay10 (iblk m c 4 t) (iblk m c 2 t) (iblk m c 0 t) (iblk m c 1 t) (iblk m c 5 t)) (iblk m c 3 t)
    (outsAt0 m c (t.val - 1) (Nat.lt_of_le_of_lt (Nat.sub_le _ _) t.isLt)).2.2.2.2 := by
  rw [outsAt0_B m c t h]
  dsimp only
  rw [later_offset]

/-- What row `i` brings to the loss, but for its factor. -/
def toLoss (i : Fin 4096) : EReal := meanSquare (A0 m c) (A1 m c) (A2 m c) (A3 m c) (A4 m c) (A5 m c) i

/-- What row `i` brings to the gain's gradient. -/
def toGain (j : Fin 1024) (i : Fin 4096) : EReal := handed (A0 m c) (A1 m c) (A2 m c) (A3 m c) (A4 m c) (A5 m c) i j * normed (A0 m c) (A1 m c) (A2 m c) i j

/-- What row `i` brings to the offset's gradient. -/
def toOffset (j : Fin 1024) (i : Fin 4096) : EReal := handed (A0 m c) (A1 m c) (A2 m c) (A3 m c) (A4 m c) (A5 m c) i j

theorem zero_word : Ideal.ofBits FTy.f32 0x00000000#32 = (0 : EReal) := by
  simp [Ideal.ofBits, Ideal.ieee]

theorem loss_part (t : Fin cfg0.N) (y : Vec Ideal S1x128 .f32) (j : Fin 128) :
    k0_pay12 (k0_pay10 (iblk m c 4 t) (iblk m c 2 t) (iblk m c 0 t) (iblk m c 1 t) (iblk m c 5 t)) (iblk m c 3 t) y (ix2 0 j) = (y (ix2 0 j) + Ideal.ofBits FTy.f32 0x3F000000#32 * block (toLoss m c) t.val : EReal) := by
  refine (pay12_at (iblk m c 0 t) (iblk m c 1 t) (iblk m c 2 t) (iblk m c 3 t) (iblk m c 4 t) (iblk m c 5 t) y j).trans (congrArg (fun a : EReal => y (ix2 0 j) + a) ?_)
  refine congrArg (fun a : EReal => Ideal.ofBits FTy.f32 0x3F000000#32 * a) ?_
  rw [block, dif_pos (show t.val < 8 from t.isLt)]
  refine Finset.sum_congr rfl fun r _ => ?_
  simp only [off_at]
  rfl

theorem loss_sum (j : Fin 128) : ∀ (n : Nat) (h : n < cfg0.N),
    (outsAt0 m c n h).2.2.1 (ix2 0 j) = ∑ s ∈ Finset.range (n + 1), Ideal.ofBits FTy.f32 0x3F000000#32 * block (toLoss m c) s
  | 0, h => by
    refine ((congrFun (loss_first m c ⟨0, h⟩ rfl) (ix2 0 j)).trans (loss_part m c ⟨0, h⟩ _ j)).trans ?_
    rw [Finset.sum_range_one]
    refine (congrArg (fun a : EReal => a + Ideal.ofBits FTy.f32 0x3F000000#32 * block (toLoss m c) 0) zero_word).trans (zero_add _)
  | n + 1, h => by
    have h' : n + 1 < 8 := h
    refine ((congrFun (loss_later m c ⟨n + 1, h⟩ (show ¬(n + 1) % 8 = 0 by omega)) (ix2 0 j)).trans (loss_part m c ⟨n + 1, h⟩ _ j)).trans ?_
    rw [Finset.sum_range_succ]
    exact congrArg (fun a : EReal => a + Ideal.ofBits FTy.f32 0x3F000000#32 * block (toLoss m c) (n + 1)) (loss_sum j n (Nat.lt_of_succ_lt h))

theorem gain_part (t : Fin cfg0.N) (y : Vec Ideal S1x1024 .f32) (j : Fin 1024) :
    k0_pay14 (k0_pay9 (iblk m c 2 t) (iblk m c 0 t) (iblk m c 1 t)) (k0_pay10 (iblk m c 4 t) (iblk m c 2 t) (iblk m c 0 t) (iblk m c 1 t) (iblk m c 5 t)) (iblk m c 3 t) y (ix2 0 j) = (y (ix2 0 j) + block (toGain m c j) t.val : EReal) := by
  refine (pay14_at (iblk m c 0 t) (iblk m c 1 t) (iblk m c 2 t) (iblk m c 3 t) (iblk m c 4 t) (iblk m c 5 t) y j).trans (congrArg (fun a : EReal => y (ix2 0 j) + a) ?_)
  rw [block, dif_pos (show t.val < 8 from t.isLt)]
  refine Finset.sum_congr rfl fun r _ => ?_
  rw [off_at, line_eq]
  rfl

theorem gain_sum (j : Fin 1024) : ∀ (n : Nat) (h : n < cfg0.N),
    (outsAt0 m c n h).2.2.2.1 (ix2 0 j) = ∑ s ∈ Finset.range (n + 1), block (toGain m c j) s
  | 0, h => by
    refine ((congrFun (gain_first m c ⟨0, h⟩ rfl) (ix2 0 j)).trans (gain_part m c ⟨0, h⟩ _ j)).trans ?_
    rw [Finset.sum_range_one]
    refine (congrArg (fun a : EReal => a + block (toGain m c j) 0) zero_word).trans (zero_add _)
  | n + 1, h => by
    have h' : n + 1 < 8 := h
    refine ((congrFun (gain_later m c ⟨n + 1, h⟩ (show ¬(n + 1) % 8 = 0 by omega)) (ix2 0 j)).trans (gain_part m c ⟨n + 1, h⟩ _ j)).trans ?_
    rw [Finset.sum_range_succ]
    exact congrArg (fun a : EReal => a + block (toGain m c j) (n + 1)) (gain_sum j n (Nat.lt_of_succ_lt h))

theorem offset_part (t : Fin cfg0.N) (y : Vec Ideal S1x1024 .f32) (j : Fin 1024) :
    k0_pay15 (k0_pay10 (iblk m c 4 t) (iblk m c 2 t) (iblk m c 0 t) (iblk m c 1 t) (iblk m c 5 t)) (iblk m c 3 t) y (ix2 0 j) = (y (ix2 0 j) + block (toOffset m c j) t.val : EReal) := by
  refine (pay15_at (iblk m c 0 t) (iblk m c 1 t) (iblk m c 2 t) (iblk m c 3 t) (iblk m c 4 t) (iblk m c 5 t) y j).trans (congrArg (fun a : EReal => y (ix2 0 j) + a) ?_)
  rw [block, dif_pos (show t.val < 8 from t.isLt)]
  refine Finset.sum_congr rfl fun r _ => ?_
  rw [off_at]
  rfl

theorem offset_sum (j : Fin 1024) : ∀ (n : Nat) (h : n < cfg0.N),
    (outsAt0 m c n h).2.2.2.2 (ix2 0 j) = ∑ s ∈ Finset.range (n + 1), block (toOffset m c j) s
  | 0, h => by
    refine ((congrFun (offset_first m c ⟨0, h⟩ rfl) (ix2 0 j)).trans (offset_part m c ⟨0, h⟩ _ j)).trans ?_
    rw [Finset.sum_range_one]
    refine (congrArg (fun a : EReal => a + block (toOffset m c j) 0) zero_word).trans (zero_add _)
  | n + 1, h => by
    have h' : n + 1 < 8 := h
    refine ((congrFun (offset_later m c ⟨n + 1, h⟩ (show ¬(n + 1) % 8 = 0 by omega)) (ix2 0 j)).trans (offset_part m c ⟨n + 1, h⟩ _ j)).trans ?_
    rw [Finset.sum_range_succ]
    exact congrArg (fun a : EReal => a + block (toOffset m c j) (n + 1)) (offset_sum j n (Nat.lt_of_succ_lt h))

/-! ## The arrays after the run -/

/-- The loss as the kernel adds it up. -/
def lossParts (y : Lanes.Idx) : EReal := ∑ s ∈ Finset.range 8, Ideal.ofBits FTy.f32 0x3F000000#32 * block (toLoss m c) s

theorem array_6 : (dats m 0 c).arrAt 6 cfg0.N = gradInput (A0 m c) (A1 m c) (A2 m c) (A3 m c) (A4 m c) (A5 m c) := by
  refine (dats m 0 c).arrAt_eq_of_covers 6 _ (by decide +kernel) fun t hf y => ?_
  blk_simp
  rw [after0_6]
  idx_vars y
  have e : ((cfg0.win 6).blk t).view.emb (ix2 y0 y1) = ix2 (from_ t y0) y1 := by
    blk_ext [index_6, from_]
  rw [e, left_input]
  exact rows_at m c t y0 y1

theorem array_7 : (dats m 0 c).arrAt 7 cfg0.N = gradInput (A0 m c) (A1 m c) (A2 m c) (A3 m c) (A4 m c) (A5 m c) := by
  refine (dats m 0 c).arrAt_eq_of_covers 7 _ (by decide +kernel) fun t hf y => ?_
  blk_simp
  rw [after0_7]
  idx_vars y
  have e : ((cfg0.win 7).blk t).view.emb (ix2 y0 y1) = ix2 (from_ t y0) y1 := by
    blk_ext [index_7, from_]
  rw [e, left_copy]
  exact rows_at m c t y0 y1

theorem array_8 : (dats m 0 c).arrAt 8 cfg0.N = lossParts m c := by
  refine (dats m 0 c).arrAt_eq_of_covers 8 _ (by decide +kernel) fun t hf y => ?_
  have h : t.val % 8 = 7 := (flush0_8 t).mp hf
  have h' : t.val + 1 = 8 := by have : t.val < 8 := t.isLt; omega
  blk_simp
  rw [after0_8]
  idx_vars y
  obtain rfl : y0 = 0 := Subsingleton.elim _ _
  have e : ((cfg0.win 8).blk t).view.emb (ix2 0 y1) = ix2 0 y1 := by
    blk_ext [index_8]
  rw [e]
  refine (loss_sum m c y1 t.val t.isLt).trans ?_
  rw [h']
  rfl

theorem array_9 : (dats m 0 c).arrAt 9 cfg0.N = gradGain (A0 m c) (A1 m c) (A2 m c) (A3 m c) (A4 m c) (A5 m c) := by
  refine (dats m 0 c).arrAt_eq_of_covers 9 _ (by decide +kernel) fun t hf y => ?_
  have h : t.val % 8 = 7 := (flush0_9 t).mp hf
  have h' : t.val + 1 = 8 := by have : t.val < 8 := t.isLt; omega
  blk_simp
  rw [after0_9]
  idx_vars y
  obtain rfl : y0 = 0 := Subsingleton.elim _ _
  have e : ((cfg0.win 9).blk t).view.emb (ix2 0 y1) = ix2 0 y1 := by
    blk_ext [index_9]
  rw [e]
  refine (gain_sum m c y1 t.val t.isLt).trans ?_
  rw [h']
  exact blocks _

theorem array_10 : (dats m 0 c).arrAt 10 cfg0.N = gradOffset (A0 m c) (A1 m c) (A2 m c) (A3 m c) (A4 m c) (A5 m c) := by
  refine (dats m 0 c).arrAt_eq_of_covers 10 _ (by decide +kernel) fun t hf y => ?_
  have h : t.val % 8 = 7 := (flush0_10 t).mp hf
  have h' : t.val + 1 = 8 := by have : t.val < 8 := t.isLt; omega
  blk_simp
  rw [after0_10]
  idx_vars y
  obtain rfl : y0 = 0 := Subsingleton.elim _ _
  have e : ((cfg0.win 10).blk t).view.emb (ix2 0 y1) = ix2 0 y1 := by
    blk_ext [index_10]
  rw [e]
  refine (offset_sum m c y1 t.val t.isLt).trans ?_
  rw [h']
  exact blocks _

theorem lossParts_eq (h3 : ∀ i, A3 m c i = (((A3 m c i).toReal : ℝ) : EReal)) (h4 : ∀ i, A4 m c i = (((A4 m c i).toReal : ℝ) : EReal))
    (h5 : ∀ i, A5 m c i = (((A5 m c i).toReal : ℝ) : EReal)) : lossParts m c = loss (A0 m c) (A1 m c) (A2 m c) (A3 m c) (A4 m c) (A5 m c) := by
  funext y
  unfold lossParts loss
  rw [half_word]
  exact blocks_times (1 / 2) (toLoss m c) (meanSquare_real _ _ _ _ _ _ h3 h4 h5)

/-! ## The reference's results -/

section Reference

open Cert.Reference6Ideal.Read

variable (x0 : Wide.Idx → EReal) (x1 : Weight.Idx → EReal) (x2 x3 : Rows.Idx → EReal) (x4 x5 : Gain.Idx → EReal)

theorem reference_loss : val_main_v82 (F := Ideal) x0 x1 x2 x3 x4 x5 = loss x0 x1 x2 x3 x4 x5 := by
  funext y
  idx_vars y
  obtain rfl : y0 = 0 := Subsingleton.elim _ _
  exact Reference.v82_at x0 x1 x2 x3 x4 x5 y1

variable (h3 : ∀ i, x3 i = (((x3 i).toReal : ℝ) : EReal)) (h4 : ∀ i, x4 i = (((x4 i).toReal : ℝ) : EReal))
  (h5 : ∀ i, x5 i = (((x5 i).toReal : ℝ) : EReal))

include h3 h4 h5

theorem reference_input : val_main_v80 (F := Ideal) x0 x1 x2 x3 x4 x5 = gradInput x0 x1 x2 x3 x4 x5 := by
  funext y
  idx_vars y
  rw [Reference.v80_at x0 x1 x2 x3 x4 x5 h3 h4 h5]
  exact (Row.forms _ _ (scaled_real x0 x1 x2 x3 x4 x5 h3 h4 h5 y0) y1).symm

theorem reference_gain : val_main_v83 (F := Ideal) x0 x1 x2 x3 x4 x5 = gradGain x0 x1 x2 x3 x4 x5 := by
  funext y
  idx_vars y
  obtain rfl : y0 = 0 := Subsingleton.elim _ _
  exact Reference.v83_at x0 x1 x2 x3 x4 x5 h3 h4 h5 y1

theorem reference_offset : val_main_v84 (F := Ideal) x0 x1 x2 x3 x4 x5 = gradOffset x0 x1 x2 x3 x4 x5 := by
  funext y
  idx_vars y
  obtain rfl : y0 = 0 := Subsingleton.elim _ _
  exact Reference.v84_at x0 x1 x2 x3 x4 x5 h3 h4 h5 y1

end Reference

/-- The two programs end with the same loss and the same gradients. -/
theorem algebraic : Cert.algebraic_Kernel6Ideal_Reference6Ideal_pre_finite6 := by
  intro m g m' g' hp hm
  refine ⟨fun c => gradInput (A0 m c) (A1 m c) (A2 m c) (A3 m c) (A4 m c) (A5 m c), fun c => gradInput (A0 m c) (A1 m c) (A2 m c) (A3 m c) (A4 m c) (A5 m c), fun c => loss (A0 m c) (A1 m c) (A2 m c) (A3 m c) (A4 m c) (A5 m c), fun c => gradGain (A0 m c) (A1 m c) (A2 m c) (A3 m c) (A4 m c) (A5 m c), fun c => gradOffset (A0 m c) (A1 m c) (A2 m c) (A3 m c) (A4 m c) (A5 m c), ?_, ?_⟩
  · refine (θ_run defs _ _).mono (fun r h c => ?_) (Value.run_blocks m g)
    obtain ⟨r6, r7, r8, r9, r10, rest⟩ := h c
    obtain ⟨f3, f4, f5⟩ := Finite.real _ _ _ _ _ _ (hp c)
    exact ⟨r6.trans (array_6 m c), r7.trans (array_7 m c), (r8.trans (array_8 m c)).trans (lossParts_eq m c f3 f4 f5), r9.trans (array_9 m c),
      r10.trans (array_10 m c), rest⟩
  · refine (θ_run Cert.Reference6Ideal.defs _ _).mono (fun r h c => ?_) (Cert.Reference6Ideal.Value.run m' g')
    obtain ⟨r80, r81, r82, r83, r84, rest⟩ := h c
    obtain ⟨e0, e1, e2, e3, e4, e5⟩ := hm c
    obtain ⟨f3, f4, f5⟩ := Finite.real _ _ _ _ _ _ (hp c)
    have f := reference_input (A0 m c) (A1 m c) (A2 m c) (A3 m c) (A4 m c) (A5 m c) f3 f4 f5
    refine ⟨r80.trans ?_, r81.trans ?_, r82.trans ?_, r83.trans ?_, r84.trans ?_, rest⟩
    · rw [Cert.Reference6Ideal.Read.val_main_v80_eq, e0, e1, e2, e3, e4, e5]
      exact f
    · rw [Cert.Reference6Ideal.Read.val_main_v81_eq, e0, e1, e2, e3, e4, e5]
      exact f
    · rw [Cert.Reference6Ideal.Read.val_main_v82_eq, e0, e1, e2, e3, e4, e5]
      exact reference_loss (A0 m c) (A1 m c) (A2 m c) (A3 m c) (A4 m c) (A5 m c)
    · rw [Cert.Reference6Ideal.Read.val_main_v83_eq, e0, e1, e2, e3, e4, e5]
      exact reference_gain (A0 m c) (A1 m c) (A2 m c) (A3 m c) (A4 m c) (A5 m c) f3 f4 f5
    · rw [Cert.Reference6Ideal.Read.val_main_v84_eq, e0, e1, e2, e3, e4, e5]
      exact reference_offset (A0 m c) (A1 m c) (A2 m c) (A3 m c) (A4 m c) (A5 m c) f3 f4 f5

end Cert.Proof.Down

end
-- ==== Proof.Padded.lean ====
/- The padded layout of the input projection's 1952 columns in 2048: 384, 64 zeros, 32, 32 zeros, 1536. -/
module

public import Mathlib.Data.EReal.Operations
public import Mathlib.Algebra.BigOperators.Fin
public import Mathlib.Data.Fintype.BigOperators

@[expose] public section

noncomputable section

namespace Cert.Proof.Padded

/-- Where column `j` lies. -/
def place (j : Fin 1952) : Fin 2048 := ⟨if j.val < 384 then j.val else if j.val < 416 then j.val + 64 else j.val + 96, by split_ifs <;> omega⟩

theorem place_injective : Function.Injective place := by
  intro i j h
  have h := congrArg Fin.val h
  simp only [place] at h
  apply Fin.ext
  split_ifs at h <;> omega

/-- A row of 1952 entries laid out in 2048. -/
def padded (x : Fin 1952 → EReal) (k : Fin 2048) : EReal :=
  if h₀ : k.val < 384 then x ⟨k.val, by omega⟩
  else if k.val < 448 then 0
  else if h₁ : k.val < 480 then x ⟨k.val - 64, by omega⟩
  else if k.val < 512 then 0
  else x ⟨k.val - 96, by omega⟩

theorem padded_place (x : Fin 1952 → EReal) (j : Fin 1952) : padded x (place j) = x j := by
  have hj := j.isLt
  unfold padded place
  dsimp only
  by_cases h₁ : j.val < 384
  · simp only [h₁, if_true, dif_pos]
  · by_cases h₂ : j.val < 416
    · simp only [h₁, h₂, if_true, if_false]
      rw [dif_neg (by omega), if_neg (by omega), dif_pos (by omega)]
      exact congrArg x (Fin.ext (by simp))
    · simp only [h₁, h₂, if_false]
      rw [dif_neg (by omega), if_neg (by omega), dif_neg (by omega), if_neg (by omega)]
      exact congrArg x (Fin.ext (by simp))

theorem padded_of_not_range (x : Fin 1952 → EReal) (k : Fin 2048) (h : k ∉ Set.range place) : padded x k = 0 := by
  have hk := k.isLt
  unfold padded
  split_ifs with a b c d
  · refine absurd ⟨⟨k.val, by omega⟩, Fin.ext ?_⟩ h
    simp only [place]; split_ifs; rfl
  · rfl
  · refine absurd ⟨⟨k.val - 64, by omega⟩, Fin.ext ?_⟩ h
    simp only [place]; split_ifs <;> omega
  · rfl
  · refine absurd ⟨⟨k.val - 96, by omega⟩, Fin.ext ?_⟩ h
    simp only [place]; split_ifs <;> omega

theorem padded_low (x : Fin 1952 → EReal) (k : Fin 2048) (j : Fin 1952) (h : k.val < 384) (e : j.val = k.val) : padded x k = x j := by
  unfold padded; rw [dif_pos h]; exact congrArg x (Fin.ext e.symm)

theorem padded_gap₀ (x : Fin 1952 → EReal) (k : Fin 2048) (h : 384 ≤ k.val) (h' : k.val < 448) : padded x k = 0 := by
  unfold padded; rw [dif_neg (by omega), if_pos h']

theorem padded_middle (x : Fin 1952 → EReal) (k : Fin 2048) (j : Fin 1952) (h : 448 ≤ k.val) (h' : k.val < 480) (e : j.val + 64 = k.val) : padded x k = x j := by
  unfold padded; rw [dif_neg (by omega), if_neg (by omega), dif_pos h']; exact congrArg x (Fin.ext (by dsimp only; omega))

theorem padded_gap₁ (x : Fin 1952 → EReal) (k : Fin 2048) (h : 480 ≤ k.val) (h' : k.val < 512) : padded x k = 0 := by
  unfold padded; rw [dif_neg (by omega), if_neg (by omega), dif_neg (by omega), if_pos h']

theorem padded_high (x : Fin 1952 → EReal) (k : Fin 2048) (j : Fin 1952) (h : 512 ≤ k.val) (e : j.val + 96 = k.val) : padded x k = x j := by
  unfold padded; rw [dif_neg (by omega), if_neg (by omega), dif_neg (by omega), if_neg (by omega)]; exact congrArg x (Fin.ext (by dsimp only; omega))

/-- The padded row as five pieces laid end to end. -/
theorem pieces (x : Fin 1952 → EReal) (k : Fin 2048) :
    (if h : k.val < 384 then x ⟨k.val, by omega⟩
      else if h₁ : k.val - 384 < 64 then 0
      else if h₂ : k.val - 384 - 64 < 32 then x ⟨384 + (k.val - 384 - 64), by omega⟩
      else if h₃ : k.val - 384 - 64 - 32 < 32 then 0
      else x ⟨416 + (k.val - 384 - 64 - 32 - 32), by omega⟩) = padded x k := by
  have hk := k.isLt
  split_ifs
  · exact (padded_low x k ⟨k.val, by omega⟩ (by omega) rfl).symm
  · exact (padded_gap₀ x k (by omega) (by omega)).symm
  · exact (padded_middle x k ⟨384 + (k.val - 384 - 64), by omega⟩ (by omega) (by omega) (by dsimp only; omega)).symm
  · exact (padded_gap₁ x k (by omega) (by omega)).symm
  · exact (padded_high x k ⟨416 + (k.val - 384 - 64 - 32 - 32), by omega⟩ (by omega) (by dsimp only; omega)).symm

/-- A combination of padded rows is the padded combination. -/
theorem combine_padded (a : Fin 1024 → EReal) (x : Fin 1024 → Fin 1952 → EReal) (k : Fin 2048) :
    ∑ p, a p * padded (x p) k = padded (fun j => ∑ p, a p * x p j) k := by
  unfold padded
  split_ifs
  · rfl
  · simp only [mul_zero, Finset.sum_const_zero]
  · rfl
  · simp only [mul_zero, Finset.sum_const_zero]
  · rfl

/-- The padding adds nothing to a sum of products. -/
theorem sum_padded (x y : Fin 1952 → EReal) : ∑ k : Fin 2048, padded x k * padded y k = ∑ j : Fin 1952, x j * y j := by
  refine (Fintype.sum_of_injective place place_injective _ _ (fun k h => ?_) fun j => ?_).symm
  · rw [padded_of_not_range x k h, zero_mul]
  · rw [padded_place, padded_place]

/-- Column `k` of the `q`-th of four equal parts. -/
def quarter (q : Fin 4) (k : Fin 512) : Fin 2048 := ⟨512 * q.val + k.val, by omega⟩

theorem quarter_zero (k : Fin 512) : quarter 0 k = ⟨k.val, by omega⟩ := Fin.ext (by simp [quarter])

/-- A sum over the four parts. -/
theorem sum_quarters (f : Fin 2048 → EReal) :
    ∑ k : Fin 2048, f k = ∑ k : Fin 512, f (quarter 0 k) + ∑ k : Fin 512, f (quarter 1 k) + ∑ k : Fin 512, f (quarter 2 k) + ∑ k : Fin 512, f (quarter 3 k) := by
  rw [← Equiv.sum_comp (finProdFinEquiv (m := 4) (n := 512)) f, Fintype.sum_prod_type, Fin.sum_univ_four]
  refine congrArg₂ (· + ·) (congrArg₂ (· + ·) (congrArg₂ (· + ·) ?_ ?_) ?_) ?_ <;>
    exact Finset.sum_congr rfl fun k _ => congrArg f (Fin.ext (Nat.add_comm _ _))

end Cert.Proof.Padded

end
-- ==== Proof.Dx0.lean ====
/- The input's gradient `dh · w_inᵀ + α dz` (`Kernel7`): the kernel's four products, over the four padded parts of the
   1952 columns, add up to the sum over those columns, which is what the reference takes. -/
module

public import proofs.«01_k».proof.Defs
public import proofs.«01_k».proof.Proof.Padded
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit.Geometry
public import Idealize.ShloMosaic.Lib.Pointwise
public import Idealize.ShloMosaic.Lib.StableHlo.ReadAt

@[expose] public section

set_option maxRecDepth 16384

noncomputable section

namespace Cert.Proof.Dx0

open Cert.Kernel7Ideal Cert.Kernel7Ideal.Gen Cert.Proof.Padded
open Idealize.ShloMosaic Idealize.ShloMosaic.TcCoe Idealize.ShloMosaic.Tactic Idealize.SL.Sem

theorem index_0 : ∀ t : Fin cfg0.N, win0_0.index t = ![t.val, 0] := by
  exact (by decide +kernel : ∀ t : Fin grid0.N, win0_0.index t = ![t.val, 0])

theorem index_1 : ∀ t : Fin cfg0.N, win0_1.index t = ![t.val, 0] := by
  exact (by decide +kernel : ∀ t : Fin grid0.N, win0_1.index t = ![t.val, 0])

theorem index_2 : ∀ t : Fin cfg0.N, win0_2.index t = ![t.val, 0] := by
  exact (by decide +kernel : ∀ t : Fin grid0.N, win0_2.index t = ![t.val, 0])

theorem index_3 : ∀ t : Fin cfg0.N, win0_3.index t = ![t.val, 0] := by
  exact (by decide +kernel : ∀ t : Fin grid0.N, win0_3.index t = ![t.val, 0])

theorem index_4 : ∀ t : Fin cfg0.N, win0_4.index t = ![0, 0] := by
  exact (by decide +kernel : ∀ t : Fin grid0.N, win0_4.index t = ![0, 0])

theorem index_5 : ∀ t : Fin cfg0.N, win0_5.index t = ![t.val, 0] := by
  exact (by decide +kernel : ∀ t : Fin grid0.N, win0_5.index t = ![t.val, 0])

theorem index_6 : ∀ t : Fin cfg0.N, win0_6.index t = ![t.val, 0] := by
  exact (by decide +kernel : ∀ t : Fin grid0.N, win0_6.index t = ![t.val, 0])

/-- The row of the whole array which row `n` of tile `t` is. -/
def at_ (t : Fin cfg0.N) (n : Fin 1024) : Fin 4096 := ⟨1024 * t.val + n.val, by have : t.val < 4 := t.isLt; omega⟩

/-- Row `n` of the cotangent. -/
def cot (x0 : S4096x1952.Idx → EReal) (n : Fin 4096) (j : Fin 1952) : EReal := x0 (ix2 n j)

/-- Row `p` of the weight. -/
def wt (x1 : S1024x1952.Idx → EReal) (p : Fin 1024) (j : Fin 1952) : EReal := x1 (ix2 p j)

variable (m : (ℓ : Loc nD τ sig) → Buf (Elt Ideal) ℓ) (c : Dev nD)

/-! ## The padded arguments -/

theorem part_0 (n : Fin 4096) (k : Fin 512) : V m c main_v8 (ix2 n k) = padded (cot (m ((c : Thread nD τ).loc main_arg0)) n) (quarter 0 k) := by
  have hk := k.isLt
  rw [quarter_zero]
  unfold V
  after_reads_at
  by_cases h0 : k.val < 384
  · rw [dif_pos h0]
    after_reads_at
    exact Eq.trans rfl (padded_low (cot (m ((c : Thread nD τ).loc main_arg0)) n) ⟨k.val, by omega⟩ ⟨k.val, by omega⟩ (by dsimp only; omega) rfl).symm
  rw [dif_neg h0]
  by_cases h1 : k.val - 384 < 64
  · rw [dif_pos h1]
    after_reads_at
    exact Eq.trans rfl (padded_gap₀ (cot (m ((c : Thread nD τ).loc main_arg0)) n) ⟨k.val, by omega⟩ (by dsimp only; omega) (by dsimp only; omega)).symm
  rw [dif_neg h1]
  by_cases h2 : k.val - 384 - 64 < 32
  · rw [dif_pos h2]
    after_reads_at
    exact Eq.trans rfl (padded_middle (cot (m ((c : Thread nD τ).loc main_arg0)) n) ⟨k.val, by omega⟩ ⟨384 + (k.val - 384 - 64), by omega⟩ (by dsimp only; omega) (by dsimp only; omega) (by dsimp only; omega)).symm
  rw [dif_neg h2]
  after_reads_at
  exact Eq.trans rfl (padded_gap₁ (cot (m ((c : Thread nD τ).loc main_arg0)) n) ⟨k.val, by omega⟩ (by dsimp only; omega) (by dsimp only; omega)).symm

theorem part_1 (n : Fin 4096) (k : Fin 512) : V m c main_v9 (ix2 n k) = padded (cot (m ((c : Thread nD τ).loc main_arg0)) n) (quarter 1 k) := by
  have hq : (quarter 1 k).val = 512 * 1 + k.val := rfl
  unfold V
  after_reads_at
  exact Eq.trans rfl (padded_high (cot (m ((c : Thread nD τ).loc main_arg0)) n) (quarter 1 k) ⟨416 + k.val, by omega⟩ (by omega) (by dsimp only; omega)).symm

theorem part_2 (n : Fin 4096) (k : Fin 512) : V m c main_v10 (ix2 n k) = padded (cot (m ((c : Thread nD τ).loc main_arg0)) n) (quarter 2 k) := by
  have hq : (quarter 2 k).val = 512 * 2 + k.val := rfl
  unfold V
  after_reads_at
  exact Eq.trans rfl (padded_high (cot (m ((c : Thread nD τ).loc main_arg0)) n) (quarter 2 k) ⟨928 + k.val, by omega⟩ (by omega) (by dsimp only; omega)).symm

theorem part_3 (n : Fin 4096) (k : Fin 512) : V m c main_v11 (ix2 n k) = padded (cot (m ((c : Thread nD τ).loc main_arg0)) n) (quarter 3 k) := by
  have hq : (quarter 3 k).val = 512 * 3 + k.val := rfl
  unfold V
  after_reads_at
  exact Eq.trans rfl (padded_high (cot (m ((c : Thread nD τ).loc main_arg0)) n) (quarter 3 k) ⟨1440 + k.val, by omega⟩ (by omega) (by dsimp only; omega)).symm

theorem weight (k : Fin 2048) (p : Fin 1024) : V m c main_v19 (ix2 k p) = padded (wt (m ((c : Thread nD τ).loc main_arg1)) p) k := by
  have hk := k.isLt
  unfold V
  after_reads_at
  by_cases h0 : k.val < 384
  · rw [dif_pos h0]
    after_reads_at
    exact Eq.trans rfl (padded_low (wt (m ((c : Thread nD τ).loc main_arg1)) p) k ⟨k.val, by omega⟩ (by omega) rfl).symm
  rw [dif_neg h0]
  by_cases h1 : k.val - 384 < 64
  · rw [dif_pos h1]
    after_reads_at
    exact Eq.trans rfl (padded_gap₀ (wt (m ((c : Thread nD τ).loc main_arg1)) p) k (by omega) (by omega)).symm
  rw [dif_neg h1]
  by_cases h2 : k.val - 384 - 64 < 32
  · rw [dif_pos h2]
    after_reads_at
    exact Eq.trans rfl (padded_middle (wt (m ((c : Thread nD τ).loc main_arg1)) p) k ⟨384 + (k.val - 384 - 64), by omega⟩ (by omega) (by omega) (by dsimp only; omega)).symm
  rw [dif_neg h2]
  by_cases h3 : k.val - 384 - 64 - 32 < 32
  · rw [dif_pos h3]
    after_reads_at
    exact Eq.trans rfl (padded_gap₁ (wt (m ((c : Thread nD τ).loc main_arg1)) p) k (by omega) (by omega)).symm
  rw [dif_neg h3]
  after_reads_at
  exact Eq.trans rfl (padded_high (wt (m ((c : Thread nD τ).loc main_arg1)) p) k ⟨416 + (k.val - 384 - 64 - 32 - 32), by omega⟩ (by omega) (by dsimp only; omega)).symm

theorem block_0 (t : Fin cfg0.N) (n : Fin 1024) (k : Fin 512) : iblk m c 0 t (ix2 n k) = V m c main_v8 (ix2 (at_ t n) k) := by
  blk_simp [iblk]
  blk_ext [index_0, at_]

theorem block_1 (t : Fin cfg0.N) (n : Fin 1024) (k : Fin 512) : iblk m c 1 t (ix2 n k) = V m c main_v9 (ix2 (at_ t n) k) := by
  blk_simp [iblk]
  blk_ext [index_1, at_]

theorem block_2 (t : Fin cfg0.N) (n : Fin 1024) (k : Fin 512) : iblk m c 2 t (ix2 n k) = V m c main_v10 (ix2 (at_ t n) k) := by
  blk_simp [iblk]
  blk_ext [index_2, at_]

theorem block_3 (t : Fin cfg0.N) (n : Fin 1024) (k : Fin 512) : iblk m c 3 t (ix2 n k) = V m c main_v11 (ix2 (at_ t n) k) := by
  blk_simp [iblk]
  blk_ext [index_3, at_]

theorem block_4 (t : Fin cfg0.N) (k : Fin 2048) (p : Fin 1024) : iblk m c 4 t (ix2 k p) = V m c main_v19 (ix2 k p) := by
  blk_simp [iblk]
  blk_ext [index_4]

theorem block_5 (t : Fin cfg0.N) (n : Fin 1024) (p : Fin 1024) : iblk m c 5 t (ix2 n p) = m ((c : Thread nD τ).loc main_arg2) (ix2 (at_ t n) p) := by
  blk_simp [iblk]
  blk_ext [index_5, at_]

/-! ## The tiles -/

/-- The tile the kernel stores, of its six blocks. -/
theorem tile (x0 x1 x2 x3 : Vec Ideal S1024x512 .bf16) (x4 : Vec Ideal S2048x1024 .bf16) (x5 : Vec Ideal S1024x1024 .f32) (n p : Fin 1024) :
    out0_6 x0 x1 x2 x3 x4 x5 (ix2 n p)
      = ((((∑ k : Fin 512, x0 (ix2 n k) * x4 (ix2 (quarter 0 k) p)) + ∑ k : Fin 512, x1 (ix2 n k) * x4 (ix2 (quarter 1 k) p))
          + ∑ k : Fin 512, x2 (ix2 n k) * x4 (ix2 (quarter 2 k) p)) + ∑ k : Fin 512, x3 (ix2 n k) * x4 (ix2 (quarter 3 k) p))
        + (Scalar.ofBits (F := Ideal) .f32 0x3F9837F0#32 : EReal) * x5 (ix2 n p) := by
  have hz : (![0, 0] : Fin 2 → Nat) = fun _ => 0 := funext fun a => by fin_cases a <;> rfl
  unfold out0_6
  rw [View.canon_unit_zero hz]
  simp only [View.ld_unit_zero (S := S1024x512) hz, View.ld_unit_zero (S := S1024x1024) hz]
  unfold k0_pay1
  pointwise
  simp only [quarter_zero]
  rfl

/-- The product with the residual's share, at row `n` and column `p`. -/
def entry (x0 : S4096x1952.Idx → EReal) (x1 : S1024x1952.Idx → EReal) (x2 : S4096x1024.Idx → EReal) (n : Fin 4096) (p : Fin 1024) : EReal :=
  (∑ j : Fin 1952, cot x0 n j * wt x1 p j) + Ideal.ofBits .f32 0x3F9837F0#32 * x2 (ix2 n p)

def product (x0 : S4096x1952.Idx → EReal) (x1 : S1024x1952.Idx → EReal) (x2 : S4096x1024.Idx → EReal) (y : S4096x1024.Idx) : EReal :=
  entry x0 x1 x2 (y 0) (y 1)

theorem stored (t : Fin cfg0.N) (n p : Fin 1024) :
    out0_6 (iblk m c 0 t) (iblk m c 1 t) (iblk m c 2 t) (iblk m c 3 t) (iblk m c 4 t) (iblk m c 5 t) (ix2 n p)
      = entry (m ((c : Thread nD τ).loc main_arg0)) (m ((c : Thread nD τ).loc main_arg1)) (m ((c : Thread nD τ).loc main_arg2)) (at_ t n) p := by
  refine (tile _ _ _ _ _ _ n p).trans ?_
  unfold entry
  rw [← sum_padded, sum_quarters]
  refine congrArg₂ (fun a b : EReal => a + b) (congrArg₂ (fun a b : EReal => a + b) (congrArg₂ (fun a b : EReal => a + b) (congrArg₂ (fun a b : EReal => a + b) ?_ ?_) ?_) ?_) ?_
  · exact Finset.sum_congr rfl fun k _ => by rw [block_0, block_4, part_0, weight]
  · exact Finset.sum_congr rfl fun k _ => by rw [block_1, block_4, part_1, weight]
  · exact Finset.sum_congr rfl fun k _ => by rw [block_2, block_4, part_2, weight]
  · exact Finset.sum_congr rfl fun k _ => by rw [block_3, block_4, part_3, weight]
  · rw [block_5]; rfl

theorem array : (dats m 0 c).arrAt 6 cfg0.N
    = product (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  idx_vars y
  have e : ((cfg0.win 6).blk t).view.emb (ix2 y0 y1) = ix2 (at_ t y0) y1 := by
    blk_ext [index_6, at_]
  rw [e]
  exact stored m c t y0 y1

/-- The reference's gradient is the product. -/
theorem gradient (x0 : (⟨S4096x1952, .f32⟩ : BufTy).Contents (Elt Ideal)) (x1 : (⟨S1024x1952, .f32⟩ : BufTy).Contents (Elt Ideal)) (x2 : (⟨S4096x1024, .f32⟩ : BufTy).Contents (Elt Ideal)) :
    Cert.Reference7Ideal.Read.val_main_v7 (F := Ideal) x0 x1 x2 = product x0 x1 x2 := by
  funext y
  refine (add_comm (Ideal.ofBits .f32 0x3F9837F0#32 * x2 y : EReal) (Cert.Reference7Ideal.Read.val_main_v6 (F := Ideal) x0 x1 y)).trans ?_
  refine congrArg₂ (fun a b : EReal => a + b) ?_ (congrArg (fun i => (Ideal.ofBits .f32 0x3F9837F0#32 * x2 i : EReal)) (funext fun a => by fin_cases a <;> rfl))
  exact (Cert.Reference7Ideal.Read.val_main_v6_apply x0 x1 y).trans (Finset.sum_congr rfl fun k _ =>
    congrArg₂ (fun a b => x0 a * x1 b) (funext fun a => by fin_cases a <;> rfl) (funext fun a => by fin_cases a <;> rfl))

/-- The two programs end with the same gradient. -/
theorem algebraic : Cert.algebraic_Kernel7Ideal_Reference7Ideal := by
  intro m g m' g' _ hm
  refine ⟨fun c => product (m ((c : Thread nD τ).loc main_arg0)) (m ((c : Thread nD τ).loc main_arg1)) (m ((c : Thread nD τ).loc main_arg2)), ?_, ?_⟩
  · refine (θ_run defs _ _).mono (fun r h c => ?_) (Value.run_blocks m g)
    exact ⟨(h c).1.trans (array m c), (h c).2⟩
  · refine (θ_run Cert.Reference7Ideal.defs _ _).mono (fun r h c => ?_) (Cert.Reference7Ideal.Value.run m' g')
    refine ⟨(h c).1.trans ?_, (h c).2⟩
    rw [Cert.Reference7Ideal.Read.val_main_v7_eq, gradient]
    rw [(hm c).1, (hm c).2.1, (hm c).2.2]

end Cert.Proof.Dx0

end
-- ==== Proof.Proj.lean ====
/- The input projection `x · w_in` (`Kernel9`): the kernel's rows, of 2048 columns, are those of the product with the 1952
   columns spread out by zeros, which is the array the reference lays out. -/
module

public import proofs.«01_k».proof.Defs
public import proofs.«01_k».proof.Proof.Padded
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit.Geometry
public import Idealize.ShloMosaic.Lib.Pointwise
public import Idealize.ShloMosaic.Lib.StableHlo.ReadAt

@[expose] public section

set_option maxRecDepth 16384

noncomputable section

namespace Cert.Proof.Proj

open Cert.Kernel9Ideal Cert.Kernel9Ideal.Gen Cert.Proof.Padded
open Idealize.ShloMosaic Idealize.ShloMosaic.TcCoe Idealize.ShloMosaic.Tactic Idealize.SL.Sem

theorem index_0 : ∀ t : Fin cfg0.N, win0_0.index t = ![t.val, 0] := by
  exact (by decide +kernel : ∀ t : Fin grid0.N, win0_0.index t = ![t.val, 0])

theorem index_1 : ∀ t : Fin cfg0.N, win0_1.index t = ![0, 0] := by
  exact (by decide +kernel : ∀ t : Fin grid0.N, win0_1.index t = ![0, 0])

theorem index_2 : ∀ t : Fin cfg0.N, win0_2.index t = ![t.val, 0] := by
  exact (by decide +kernel : ∀ t : Fin grid0.N, win0_2.index t = ![t.val, 0])

/-- The row of the whole array which row `n` of tile `t` is. -/
def at_ (t : Fin cfg0.N) (n : Fin 1024) : Fin 4096 := ⟨1024 * t.val + n.val, by have : t.val < 4 := t.isLt; omega⟩

/-- Row `p` of the weight. -/
def wt (x1 : S1024x1952.Idx → EReal) (p : Fin 1024) (j : Fin 1952) : EReal := x1 (ix2 p j)

variable (m : (ℓ : Loc nD τ sig) → Buf (Elt Ideal) ℓ) (c : Dev nD)

/-! ## The arguments -/

theorem weight (k : Fin 2048) (p : Fin 1024) : V m c main_v7 (ix2 k p) = padded (wt (m ((c : Thread nD τ).loc main_arg1)) p) k := by
  have hk := k.isLt
  unfold V
  after_reads_at
  by_cases h0 : k.val < 384
  · rw [dif_pos h0]
    after_reads_at
    exact Eq.trans rfl (padded_low (wt (m ((c : Thread nD τ).loc main_arg1)) p) k ⟨k.val, by omega⟩ (by omega) rfl).symm
  rw [dif_neg h0]
  by_cases h1 : k.val - 384 < 64
  · rw [dif_pos h1]
    after_reads_at
    exact Eq.trans rfl (padded_gap₀ (wt (m ((c : Thread nD τ).loc main_arg1)) p) k (by omega) (by omega)).symm
  rw [dif_neg h1]
  by_cases h2 : k.val - 384 - 64 < 32
  · rw [dif_pos h2]
    after_reads_at
    exact Eq.trans rfl (padded_middle (wt (m ((c : Thread nD τ).loc main_arg1)) p) k ⟨384 + (k.val - 384 - 64), by omega⟩ (by omega) (by omega) (by dsimp only; omega)).symm
  rw [dif_neg h2]
  by_cases h3 : k.val - 384 - 64 - 32 < 32
  · rw [dif_pos h3]
    after_reads_at
    exact Eq.trans rfl (padded_gap₁ (wt (m ((c : Thread nD τ).loc main_arg1)) p) k (by omega) (by omega)).symm
  rw [dif_neg h3]
  after_reads_at
  exact Eq.trans rfl (padded_high (wt (m ((c : Thread nD τ).loc main_arg1)) p) k ⟨416 + (k.val - 384 - 64 - 32 - 32), by omega⟩ (by omega) (by dsimp only; omega)).symm

theorem block_0 (t : Fin cfg0.N) (n p : Fin 1024) : iblk m c 0 t (ix2 n p) = m ((c : Thread nD τ).loc main_arg0) (ix2 (at_ t n) p) := by
  blk_simp [iblk]
  blk_ext [index_0, at_]

theorem block_1 (t : Fin cfg0.N) (k : Fin 2048) (p : Fin 1024) : iblk m c 1 t (ix2 k p) = V m c main_v7 (ix2 k p) := by
  blk_simp [iblk]
  blk_ext [index_1]

/-! ## The tiles -/

/-- The tile the kernel stores is the product of its two blocks. -/
theorem tile (x0 : Vec Ideal S1024x1024 .f32) (x1 : Vec Ideal S2048x1024 .bf16) (n : Fin 1024) (k : Fin 2048) :
    out0_2 x0 x1 (ix2 n k) = ∑ p : Fin 1024, x0 (ix2 n p) * x1 (ix2 k p) := by
  have hz : (![0, 0] : Fin 2 → Nat) = fun _ => 0 := funext fun a => by fin_cases a <;> rfl
  unfold out0_2
  rw [View.canon_unit_zero hz]
  simp only [View.ld_unit_zero (S := S1024x1024) hz, View.ld_unit_zero (S := S2048x1024) hz]
  unfold k0_pay1
  pointwise

/-- Row `n` of the product. -/
def row (x0 : S4096x1024.Idx → EReal) (x1 : S1024x1952.Idx → EReal) (n : Fin 4096) (j : Fin 1952) : EReal :=
  ∑ p : Fin 1024, x0 (ix2 n p) * wt x1 p j

/-- The product, its rows padded. -/
def product (x0 : S4096x1024.Idx → EReal) (x1 : S1024x1952.Idx → EReal) (y : S4096x2048.Idx) : EReal :=
  padded (row x0 x1 (y 0)) (y 1)

theorem stored (t : Fin cfg0.N) (n : Fin 1024) (k : Fin 2048) :
    out0_2 (iblk m c 0 t) (iblk m c 1 t) (ix2 n k) = padded (row (m ((c : Thread nD τ).loc main_arg0)) (m ((c : Thread nD τ).loc main_arg1)) (at_ t n)) k := by
  refine (tile _ _ n k).trans ?_
  unfold row
  rw [← combine_padded (fun p => m ((c : Thread nD τ).loc main_arg0) (ix2 (at_ t n) p)) (wt (m ((c : Thread nD τ).loc main_arg1))) k]
  exact Finset.sum_congr rfl fun p _ => by rw [block_0, block_1, weight]

theorem array : (dats m 0 c).arrAt 2 cfg0.N = product (m ((c : Thread nD τ).loc main_arg0)) (m ((c : Thread nD τ).loc main_arg1)) := by
  refine (dats m 0 c).arrAt_eq_of_covers 2 _ (by decide +kernel) fun t hf y => ?_
  blk_simp
  rw [after0_2]
  idx_vars y
  have e : ((cfg0.win 2).blk t).view.emb (ix2 y0 y1) = ix2 (at_ t y0) y1 := by
    blk_ext [index_2, at_]
  rw [e]
  exact stored m c t y0 y1

/-- The reference's product, before its rows are padded. -/
theorem plain (x0 : (⟨S4096x1024, .f32⟩ : BufTy).Contents (Elt Ideal)) (x1 : (⟨S1024x1952, .f32⟩ : BufTy).Contents (Elt Ideal)) (n : Fin 4096) (j : Fin 1952) :
    Cert.Reference9Ideal.Read.val_main_v0 (F := Ideal) x0 x1 (ix2 n j) = row x0 x1 n j :=
  (Cert.Reference9Ideal.Read.val_main_v0_apply x0 x1 (ix2 n j)).trans (Finset.sum_congr rfl fun k _ =>
    congrArg₂ (fun a b => x0 a * x1 b) (funext fun a => by fin_cases a <;> rfl) (funext fun a => by fin_cases a <;> rfl))

/-- The reference's array. -/
theorem result (x0 : (⟨S4096x1024, .f32⟩ : BufTy).Contents (Elt Ideal)) (x1 : (⟨S1024x1952, .f32⟩ : BufTy).Contents (Elt Ideal)) :
    Cert.Reference9Ideal.Read.val_main_v6 (F := Ideal) x0 x1 = product x0 x1 := by
  funext y
  idx_vars y
  show _ = padded (row x0 x1 y0) y1
  have e := plain x0 x1 y0
  have hk := y1.isLt
  unfold Cert.Reference9Ideal.Read.val_main_v6 Cert.Reference9Ideal.Read.val_main_v1 Cert.Reference9Ideal.Read.val_main_v2 Cert.Reference9Ideal.Read.val_main_v3 Cert.Reference9Ideal.Read.val_main_v4 Cert.Reference9Ideal.Read.val_main_v5 Cert.Reference9Ideal.Read.val_main_cst Cert.Reference9Ideal.Read.val_main_cst_0
  generalize Cert.Reference9Ideal.Read.val_main_v0 (F := Ideal) x0 x1 = h at e ⊢
  pointwise
  simp only [e]
  exact pieces (row x0 x1 y0) y1

/-- The two programs end with the same array. -/
theorem algebraic : Cert.algebraic_Kernel9Ideal_Reference9Ideal := by
  intro m g m' g' _ hm
  refine ⟨fun c => product (m ((c : Thread nD τ).loc main_arg0)) (m ((c : Thread nD τ).loc main_arg1)), ?_, ?_⟩
  · refine (θ_run defs _ _).mono (fun r h c => ?_) (Value.run_blocks m g)
    exact ⟨(h c).1.trans (array m c), (h c).2⟩
  · refine (θ_run Cert.Reference9Ideal.defs _ _).mono (fun r h c => ?_) (Cert.Reference9Ideal.Value.run m' g')
    refine ⟨(h c).1.trans ?_, (h c).2⟩
    rw [Cert.Reference9Ideal.Read.val_main_v6_eq, result]
    exact congrArg₂ product (hm c).1 (hm c).2

end Cert.Proof.Proj

end
-- ==== Proof.lean ====
/- The claims, assembled. For the latent attention's backward call: the frames of the kernel and of the reference, the
   idealization's two named constants, and, where the arguments are real, the equality of the two programs' results.
   For each further call: its frames, and the equality proved in its own module. -/
module

public import proofs.«01_k».proof.Defs
public import proofs.«01_k».proof.Proof.Kernel.Launch
public import proofs.«01_k».proof.Proof.KernelIdeal.Launch
public import proofs.«01_k».proof.Proof.KernelIdeal.Out
public import proofs.«01_k».proof.Proof.Ref
public import proofs.«01_k».proof.Proof.Finite
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel9.Frame
public import proofs.«01_k».proof.Proof.Norm
public import proofs.«01_k».proof.Proof.DwUp
public import proofs.«01_k».proof.Proof.Act
public import proofs.«01_k».proof.Proof.DwDown
public import proofs.«01_k».proof.Proof.Down
public import proofs.«01_k».proof.Proof.Dx0
public import proofs.«01_k».proof.Proof.Proj

@[expose] public section

noncomputable section

open Idealize.ShloMosaic Idealize.ShloMosaic.TcCoe

namespace Cert.Proof

/-- The frame of the kernel at the machine's floats. -/
theorem frame_kernel : Cert.quiescent_Kernel := fun m ρ _ => Cert.Proof.Kernel.frame m ρ

/-- The frame of the kernel over the extended reals. -/
theorem frame_kernelIdeal : Cert.quiescent_KernelIdeal := fun m ρ _ => Cert.Proof.KernelIdeal.frame m ρ

/-- The frame of the reference, which has no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩) (Cert.ReferenceIdeal.Value.run m ρ)

/-- The two named constants are what the kernel's words stand for. -/
theorem preserves : Cert.preserves_Kernel_KernelIdeal :=
  ⟨IdealRules.named_const.statement Cert.KernelIdeal.κ "scale_log2" .f32 0x3E16C740#32 (((3424635 / 33554432) * (Real.log 2)⁻¹ : ℝ) : EReal) rfl,
    IdealRules.named_const.statement Cert.KernelIdeal.κ "neg" .f32 0xF149F2CA#32 ⊥ rfl⟩

section Equality

open Idealize.ShloMosaic.Tactic Cert.Proof.KernelIdeal

variable (m : (ℓ : Loc Cert.KernelIdeal.nD Cert.KernelIdeal.τ Cert.KernelIdeal.sig) → Buf (Elt Ideal) ℓ)

/-- The queries, as real numbers. -/
def queries (c : Dev Cert.KernelIdeal.nD) (h : Fin 8) (i : Fin 4096) (x : Fin 96) : ℝ :=
  EReal.toReal (m (c.tc.loc Cert.KernelIdeal.main_arg0) (ix3 i h x))

/-- The keys, as real numbers. -/
def keys (c : Dev Cert.KernelIdeal.nD) (h : Fin 8) (i : Fin 4096) (x : Fin 96) : ℝ :=
  EReal.toReal (m (c.tc.loc Cert.KernelIdeal.main_arg1) (ix3 i h x))

/-- The values, as real numbers. -/
def values (c : Dev Cert.KernelIdeal.nD) (h : Fin 8) (i : Fin 4096) (x : Fin 64) : ℝ :=
  EReal.toReal (m (c.tc.loc Cert.KernelIdeal.main_arg2) (ix3 i h x))

/-- The gradient handed in, as real numbers. -/
def given (c : Dev Cert.KernelIdeal.nD) (h : Fin 8) (i : Fin 4096) (x : Fin 64) : ℝ :=
  EReal.toReal (m (c.tc.loc Cert.KernelIdeal.main_arg3) (ix3 i h x))

/-- Where the arguments are real, the two programs end with the same three gradients. -/
theorem algebraic : Cert.algebraic_KernelIdeal_ReferenceIdeal_pre_finite := by
  intro m g m' g' hpre hm
  have real (c : Dev Cert.KernelIdeal.nD) := Cert.Proof.Finite.real _ _ _ _ (hpre c)
  refine ⟨fun c => gradQ (queries m c) (keys m c) (values m c) (given m c), fun c => gradK (queries m c) (keys m c) (values m c) (given m c),
    fun c => gradV (queries m c) (keys m c) (given m c), ?_, ?_⟩
  · refine (θ_run Cert.KernelIdeal.defs _ _).mono (fun r h c => ?_) (θ_run_and (run_main m g) (Cert.Proof.KernelIdeal.frame m g))
    have e0 : ∀ i h x, m (c, Proc.tc.devRef Cert.KernelIdeal.main_arg0) (ix3 i h x) = ((queries m c h i x : ℝ) : EReal) := fun i h x => (real c).1 (ix3 i h x)
    have e1 : ∀ i h x, m (c, Proc.tc.devRef Cert.KernelIdeal.main_arg1) (ix3 i h x) = ((keys m c h i x : ℝ) : EReal) := fun i h x => (real c).2.1 (ix3 i h x)
    have e2 : ∀ i h x, m (c, Proc.tc.devRef Cert.KernelIdeal.main_arg2) (ix3 i h x) = ((values m c h i x : ℝ) : EReal) := fun i h x => (real c).2.2.1 (ix3 i h x)
    have e3 : ∀ i h x, m (c, Proc.tc.devRef Cert.KernelIdeal.main_arg3) (ix3 i h x) = ((given m c h i x : ℝ) : EReal) := fun i h x => (real c).2.2.2 (ix3 i h x)
    exact ⟨(h.1.1.out_eq c 6).trans (array_6 m c _ _ _ _ e0 e1 e2 e3), (h.1.1.out_eq c 7).trans (array_7 m c _ _ _ _ e0 e1 e2 e3),
      (h.1.1.out_eq c 8).trans (array_8 m c _ _ _ _ e0 e1 e2 e3), h.2.1 c⟩
  · refine (θ_run Cert.ReferenceIdeal.defs _ _).mono (fun r h c => ?_) (Cert.ReferenceIdeal.Value.run m' g')
    have e0 : ∀ i h x, m' (c.tc.loc Cert.ReferenceIdeal.main_arg0) (ix3 i h x) = ((queries m c h i x : ℝ) : EReal) := fun i h x =>
      (congrFun (hm c).1 (ix3 i h x)).trans ((real c).1 (ix3 i h x))
    have e1 : ∀ i h x, m' (c.tc.loc Cert.ReferenceIdeal.main_arg1) (ix3 i h x) = ((keys m c h i x : ℝ) : EReal) := fun i h x =>
      (congrFun (hm c).2.1 (ix3 i h x)).trans ((real c).2.1 (ix3 i h x))
    have e2 : ∀ i h x, m' (c.tc.loc Cert.ReferenceIdeal.main_arg2) (ix3 i h x) = ((values m c h i x : ℝ) : EReal) := fun i h x =>
      (congrFun (hm c).2.2.1 (ix3 i h x)).trans ((real c).2.2.1 (ix3 i h x))
    have e3 : ∀ i h x, m' (c.tc.loc Cert.ReferenceIdeal.main_arg3) (ix3 i h x) = ((given m c h i x : ℝ) : EReal) := fun i h x =>
      (congrFun (hm c).2.2.2 (ix3 i h x)).trans ((real c).2.2.2 (ix3 i h x))
    refine ⟨(h c).1.trans ?_, (h c).2.1.trans ?_, (h c).2.2.1.trans ?_, (h c).2.2.2⟩
    · rw [Cert.ReferenceIdeal.Read.val_main_v65_eq]
      funext y; idx_vars y
      exact Cert.Proof.ReferenceIdeal.v65_at _ _ _ _ _ _ _ _ e0 e1 e2 e3 y0 y1 y2
    · rw [Cert.ReferenceIdeal.Read.val_main_v67_eq]
      funext y; idx_vars y
      exact Cert.Proof.ReferenceIdeal.v67_at _ _ _ _ _ _ _ _ e0 e1 e2 e3 y0 y1 y2
    · rw [Cert.ReferenceIdeal.Read.val_main_v69_eq]
      funext y; idx_vars y
      exact Cert.Proof.ReferenceIdeal.v69_at _ _ _ _ _ _ e0 e1 e3 y0 y1 y2

end Equality

/-! The call of the layer normalization's gradient: its frames, and that its idealization changes nothing. -/

theorem frame_kernel2 : Cert.quiescent_Kernel2 := fun m ρ _ => Cert.Kernel2.Gen.frame m ρ

theorem frame_kernel2Ideal : Cert.quiescent_Kernel2Ideal := fun m ρ _ => Cert.Kernel2Ideal.Gen.frame m ρ

theorem frame_reference2 : Cert.quiescent_Reference2Ideal := fun m ρ _ =>
  (θ_run Cert.Reference2Ideal.defs _ _).mono (fun r h => ⟨fun c => (h c).2.2.2.2, sem_eq_zero_of_no_sems (by decide) r.2⟩) (Cert.Reference2Ideal.Value.run m ρ)

theorem preserves2 : Cert.preserves_Kernel2_Kernel2Ideal := trivial

/-! The call of the up-projection's weight gradient: its frames, and that its idealization changes nothing. -/

theorem frame_kernel3 : Cert.quiescent_Kernel3 := fun m ρ _ => Cert.Kernel3.Gen.frame m ρ

theorem frame_kernel3Ideal : Cert.quiescent_Kernel3Ideal := fun m ρ _ => Cert.Kernel3Ideal.Gen.frame m ρ

theorem frame_reference3 : Cert.quiescent_Reference3Ideal := fun m ρ _ =>
  (θ_run Cert.Reference3Ideal.defs _ _).mono (fun r h => ⟨fun c => (h c).2, sem_eq_zero_of_no_sems (by decide) r.2⟩) (Cert.Reference3Ideal.Value.run m ρ)

theorem preserves3 : Cert.preserves_Kernel3_Kernel3Ideal := trivial

/-! The call of the activation's gradient: its frames, and that its idealization changes nothing. -/

theorem frame_kernel4 : Cert.quiescent_Kernel4 := fun m ρ _ => Cert.Kernel4.Gen.frame m ρ

theorem frame_kernel4Ideal : Cert.quiescent_Kernel4Ideal := fun m ρ _ => Cert.Kernel4Ideal.Gen.frame m ρ

theorem frame_reference4 : Cert.quiescent_Reference4Ideal := fun m ρ _ =>
  (θ_run Cert.Reference4Ideal.defs _ _).mono (fun r h => ⟨fun c => (h c).2, sem_eq_zero_of_no_sems (by decide) r.2⟩) (Cert.Reference4Ideal.Value.run m ρ)

theorem preserves4 : Cert.preserves_Kernel4_Kernel4Ideal := trivial

/-! The call of the down-projection's weight gradient: its frames, and that its idealization changes nothing. -/

theorem frame_kernel5 : Cert.quiescent_Kernel5 := fun m ρ _ => Cert.Kernel5.Gen.frame m ρ

theorem frame_kernel5Ideal : Cert.quiescent_Kernel5Ideal := fun m ρ _ => Cert.Kernel5Ideal.Gen.frame m ρ

theorem frame_reference5 : Cert.quiescent_Reference5Ideal := fun m ρ _ =>
  (θ_run Cert.Reference5Ideal.defs _ _).mono (fun r h => ⟨fun c => (h c).2, sem_eq_zero_of_no_sems (by decide) r.2⟩) (Cert.Reference5Ideal.Value.run m ρ)

theorem preserves5 : Cert.preserves_Kernel5_Kernel5Ideal := trivial

/-! The call of the down-projection, the second layer normalization and the loss: its frames, and that its idealization changes nothing. -/

theorem frame_kernel6 : Cert.quiescent_Kernel6 := fun m ρ _ => Cert.Kernel6.Gen.frame m ρ

theorem frame_kernel6Ideal : Cert.quiescent_Kernel6Ideal := fun m ρ _ => Cert.Kernel6Ideal.Gen.frame m ρ

theorem frame_reference6 : Cert.quiescent_Reference6Ideal := fun m ρ _ =>
  (θ_run Cert.Reference6Ideal.defs _ _).mono (fun r h => ⟨fun c => (h c).2.2.2.2.2, sem_eq_zero_of_no_sems (by decide) r.2⟩) (Cert.Reference6Ideal.Value.run m ρ)

theorem preserves6 : Cert.preserves_Kernel6_Kernel6Ideal := trivial

/-! The call of the input's gradient: its frames, and that its idealization changes nothing. -/

theorem frame_kernel7 : Cert.quiescent_Kernel7 := fun m ρ _ => Cert.Kernel7.Gen.frame m ρ

theorem frame_kernel7Ideal : Cert.quiescent_Kernel7Ideal := fun m ρ _ => Cert.Kernel7Ideal.Gen.frame m ρ

theorem frame_reference7 : Cert.quiescent_Reference7Ideal := fun m ρ _ =>
  (θ_run Cert.Reference7Ideal.defs _ _).mono (fun r h => ⟨fun c => (h c).2, sem_eq_zero_of_no_sems (by decide) r.2⟩) (Cert.Reference7Ideal.Value.run m ρ)

theorem preserves7 : Cert.preserves_Kernel7_Kernel7Ideal := trivial

/-! The call of the input projection: its frames, and that its idealization changes nothing. -/

theorem frame_kernel9 : Cert.quiescent_Kernel9 := fun m ρ _ => Cert.Kernel9.Gen.frame m ρ

theorem frame_kernel9Ideal : Cert.quiescent_Kernel9Ideal := fun m ρ _ => Cert.Kernel9Ideal.Gen.frame m ρ

theorem frame_reference9 : Cert.quiescent_Reference9Ideal := fun m ρ _ =>
  (θ_run Cert.Reference9Ideal.defs _ _).mono (fun r h => ⟨fun c => (h c).2, sem_eq_zero_of_no_sems (by decide) r.2⟩) (Cert.Reference9Ideal.Value.run m ρ)

theorem preserves9 : Cert.preserves_Kernel9_Kernel9Ideal := trivial

/-- Everything claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel9.Gen.facts, Cert.Kernel9Ideal.Gen.facts, Cert.Reference9Ideal.Gen.facts,
    Cert.Proof.Finite.facts, Cert.Proof.Norm.Finite.facts, Cert.Proof.Down.Finite.facts,
    frame_kernel, frame_kernelIdeal, fun m ρ _ => frame_kernelIdeal m ρ trivial, frame_reference, fun m ρ _ => frame_reference m ρ trivial,
    frame_kernel2, frame_kernel2Ideal, fun m ρ _ => frame_kernel2Ideal m ρ trivial, frame_reference2, fun m ρ _ => frame_reference2 m ρ trivial, frame_kernel3, frame_kernel3Ideal, frame_reference3, frame_kernel4, frame_kernel4Ideal, frame_reference4, frame_kernel5, frame_kernel5Ideal, frame_reference5, frame_kernel6, frame_kernel6Ideal, fun m ρ _ => frame_kernel6Ideal m ρ trivial, frame_reference6, fun m ρ _ => frame_reference6 m ρ trivial, frame_kernel7, frame_kernel7Ideal, frame_reference7, frame_kernel9, frame_kernel9Ideal, frame_reference9,
    preserves, algebraic,
    preserves2, Cert.Proof.Norm.algebraic, preserves3, Cert.Proof.DwUp.algebraic, preserves4, Cert.Proof.Act.algebraic, preserves5, Cert.Proof.DwDown.algebraic, preserves6, Cert.Proof.Down.algebraic, preserves7, Cert.Proof.Dx0.algebraic, preserves9, Cert.Proof.Proj.algebraic⟩

end Cert.Proof

end
